-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_have_area [hPre_boxes_have_area : Cert.Pre_boxes_have_area.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_have_area.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_boxes_have_area.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_boxes_have_area.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_boxes_have_area.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_have_area [hPre_boxes_have_area : Cert.Pre_boxes_have_area.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_have_area.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_boxes_have_area.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_boxes_have_area.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_boxes_have_area.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boxes_have_area [hKernelIdeal : Cert.KernelIdeal.Facts] [hPre_boxes_have_area : Cert.Pre_boxes_have_area.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_have_area m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boxes_have_area [hReferenceIdeal : Cert.ReferenceIdeal.Facts] [hPre_boxes_have_area : Cert.Pre_boxes_have_area.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_have_area m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boxes_have_area [hKernelIdeal : Cert.KernelIdeal.Facts] [hReferenceIdeal : Cert.ReferenceIdeal.Facts] [hPre_boxes_have_area : Cert.Pre_boxes_have_area.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_have_area m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v10_3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boxes_have_area : Cert.Pre_boxes_have_area.Facts),
    quiescent_Kernel (hKernel := hKernel)
    ∧ quiescent_KernelIdeal (hKernelIdeal := hKernelIdeal)
    ∧ quiescent_KernelIdeal_pre_boxes_have_area (hKernelIdeal := hKernelIdeal) (hPre_boxes_have_area := hPre_boxes_have_area)
    ∧ quiescent_ReferenceIdeal (hReferenceIdeal := hReferenceIdeal)
    ∧ quiescent_ReferenceIdeal_pre_boxes_have_area (hReferenceIdeal := hReferenceIdeal) (hPre_boxes_have_area := hPre_boxes_have_area)
    ∧ preserves_Kernel_KernelIdeal
    ∧ algebraic_KernelIdeal_ReferenceIdeal_pre_boxes_have_area (hKernelIdeal := hKernelIdeal) (hReferenceIdeal := hReferenceIdeal) (hPre_boxes_have_area := hPre_boxes_have_area)
-- ==== Pre_boxes_have_area.lean ====
abbrev S20000x4 : Shape := ⟨2, ![20000, 4]⟩
abbrev S20000 : Shape := ⟨1, ![20000]⟩
abbrev S20000x1 : Shape := ⟨2, ![20000, 1]⟩
abbrev S_ : Shape := ⟨0, ![]⟩

class Facts : Prop where
  slices_S20000x4_S20000x1_0_2 : S20000x4.Slices ![0, 2] S20000x1
  shapeCasts_S20000x1_S20000 : S20000x1.ShapeCasts S20000
  slices_S20000x4_S20000x1_0_0 : S20000x4.Slices ![0, 0] S20000x1
  slices_S20000x4_S20000x1_0_3 : S20000x4.Slices ![0, 3] S20000x1
  slices_S20000x4_S20000x1_0_1 : S20000x4.Slices ![0, 1] S20000x1
  bcast_S_S20000 : S_.BroadcastsInDim S20000 (![] : Fin 0 → Fin S20000.rank)
  bcast_S_S20000x4 : S_.BroadcastsInDim S20000x4 (![] : Fin 0 → Fin S20000x4.rank)

variable [Facts]

def fn {F : FTy → Type} [FloatOps F] (main_arg0 : FVec F S20000x4 .f32) (main_arg1 : FVec F S20000 .f32) (main_arg2 : IVec S20000 32) : IVec S20000 1 × IVec S20000 1 × IVec S20000 1 × IVec S20000x4 1 :=
  let main_v0 : FVec F S20000x1 .f32 := (extractStridedSlice S20000x1 ![0, 2] · slices_S20000x4_S20000x1_0_2) main_arg0
  let main_v1 : FVec F S20000 .f32 := shapeCast S20000 main_v0 shapeCasts_S20000x1_S20000
  let main_v2 : FVec F S20000x1 .f32 := (extractStridedSlice S20000x1 ![0, 0] · slices_S20000x4_S20000x1_0_0) main_arg0
  let main_v3 : FVec F S20000 .f32 := shapeCast S20000 main_v2 shapeCasts_S20000x1_S20000
  let main_v4 : FVec F S20000 .f32 := subf main_v1 main_v3
  let main_v5 : FVec F S20000x1 .f32 := (extractStridedSlice S20000x1 ![0, 3] · slices_S20000x4_S20000x1_0_3) main_arg0
  let main_v6 : FVec F S20000 .f32 := shapeCast S20000 main_v5 shapeCasts_S20000x1_S20000
  let main_v7 : FVec F S20000x1 .f32 := (extractStridedSlice S20000x1 ![0, 1] · slices_S20000x4_S20000x1_0_1) main_arg0
  let main_v8 : FVec F S20000 .f32 := shapeCast S20000 main_v7 shapeCasts_S20000x1_S20000
  let main_v9 : FVec F S20000 .f32 := subf main_v6 main_v8
  let main_cst : FVec F S_ .f32 := constant S_ .f32 0x00000000#32
  let main_v10 : FVec F S20000 .f32 := broadcastInDim S20000 ![] bcast_S_S20000 main_cst
  let main_v11 : IVec S20000 1 := cmpf .ogt main_v4 main_v10
  let main_cst_0 : FVec F S_ .f32 := constant S_ .f32 0x00000000#32
  let main_v12 : FVec F S20000 .f32 := broadcastInDim S20000 ![] bcast_S_S20000 main_cst_0
  let main_v13 : IVec S20000 1 := cmpf .ogt main_v9 main_v12
  let main_v14 : FVec F S20000 .f32 := mulf main_v4 main_v9
  let main_cst_1 : FVec F S_ .f32 := constant S_ .f32 0x322BCC77#32
  let main_v15 : FVec F S20000 .f32 := broadcastInDim S20000 ![] bcast_S_S20000 main_cst_1
  let main_v16 : IVec S20000 1 := cmpf .oge main_v14 main_v15
  let main_v17 : FVec F S20000x4 .f32 := Host.absf main_arg0
  let main_cst_2 : FVec F S_ .f32 := constant S_ .f32 0x7F800000#32
  let main_v18 : FVec F S20000x4 .f32 := broadcastInDim S20000x4 ![] bcast_S_S20000x4 main_cst_2
  let main_v19 : IVec S20000x4 1 := cmpf .olt main_v17 main_v18
  (main_v11, main_v13, main_v16, main_v19)
-- ==== Kernel.lean ====
abbrev S20000x4 : Shape := ⟨2, ![20000, 4]⟩
abbrev S20000 : Shape := ⟨1, ![20000]⟩
abbrev S_ : Shape := ⟨0, ![]⟩
abbrev S480 : Shape := ⟨1, ![480]⟩
abbrev S20480 : Shape := ⟨1, ![20480]⟩
abbrev S160x128 : Shape := ⟨2, ![160, 128]⟩
abbrev S20000x1 : Shape := ⟨2, ![20000, 1]⟩
abbrev S8x128 : Shape := ⟨2, ![8, 128]⟩
abbrev S1x100 : Shape := ⟨2, ![1, 100]⟩
abbrev S100 : Shape := ⟨1, ![100]⟩
abbrev S100x1 : Shape := ⟨2, ![100, 1]⟩
abbrev S100x5 : Shape := ⟨2, ![100, 5]⟩
abbrev S1x128 : Shape := ⟨2, ![1, 128]⟩
abbrev S1x8x128 : Shape := ⟨3, ![1, 8, 128]⟩
abbrev S1 : Shape := ⟨1, ![1]⟩
abbrev S1x1x1 : Shape := ⟨3, ![1, 1, 1]⟩
abbrev S1x1 : Shape := ⟨2, ![1, 1]⟩

abbrev nBuf : Space → Nat
  | .hbm => 78
  | .vmem => 15
  | .smem => 0
  | _ => 0

abbrev bufTy : (tb : Table) → Fin (tcTables nBuf tb) → BufTy
  | .hbm, ⟨0, _⟩ => ⟨S20000x4, .f32⟩
  | .hbm, ⟨1, _⟩ => ⟨S20000, .f32⟩
  | .hbm, ⟨2, _⟩ => ⟨S20000, .i32⟩
  | .hbm, ⟨3, _⟩ => ⟨S20000, .f32⟩
  | .hbm, ⟨4, _⟩ => ⟨S_, .f32⟩
  | .hbm, ⟨5, _⟩ => ⟨S20000, .f32⟩
  | .hbm, ⟨6, _⟩ => ⟨S20000, .f32⟩
  | .hbm, ⟨7, _⟩ => ⟨S_, .f32⟩
  | .hbm, ⟨8, _⟩ => ⟨S20000, .f32⟩
  | .hbm, ⟨9, _⟩ => ⟨S20000, .i1⟩
  | .hbm, ⟨10, _⟩ => ⟨S_, .f32⟩
  | .hbm, ⟨11, _⟩ => ⟨S_, .f32⟩
  | .hbm, ⟨12, _⟩ => ⟨S20000, .f32⟩
  | .hbm, ⟨13, _⟩ => ⟨S20000, .f32⟩
  | .hbm, ⟨14, _⟩ => ⟨S_, .f32⟩
  | .hbm, ⟨15, _⟩ => ⟨S480, .f32⟩
  | .hbm, ⟨16, _⟩ => ⟨S20480, .f32⟩
  | .hbm, ⟨17, _⟩ => ⟨S160x128, .f32⟩
  | .hbm, ⟨18, _⟩ => ⟨S_, .f32⟩
  | .hbm, ⟨19, _⟩ => ⟨S480, .f32⟩
  | .hbm, ⟨20, _⟩ => ⟨S20480, .f32⟩
  | .hbm, ⟨21, _⟩ => ⟨S20000x1, .f32⟩
  | .hbm, ⟨22, _⟩ => ⟨S20000, .f32⟩
  | .hbm, ⟨23, _⟩ => ⟨S_, .f32⟩
  | .hbm, ⟨24, _⟩ => ⟨S480, .f32⟩
  | .hbm, ⟨25, _⟩ => ⟨S20480, .f32⟩
  | .hbm, ⟨26, _⟩ => ⟨S20000x1, .f32⟩
  | .hbm, ⟨27, _⟩ => ⟨S20000, .f32⟩
  | .hbm, ⟨28, _⟩ => ⟨S_, .f32⟩
  | .hbm, ⟨29, _⟩ => ⟨S480, .f32⟩
  | .hbm, ⟨30, _⟩ => ⟨S20480, .f32⟩
  | .hbm, ⟨31, _⟩ => ⟨S20000x1, .f32⟩
  | .hbm, ⟨32, _⟩ => ⟨S20000, .f32⟩
  | .hbm, ⟨33, _⟩ => ⟨S_, .f32⟩
  | .hbm, ⟨34, _⟩ => ⟨S480, .f32⟩
  | .hbm, ⟨35, _⟩ => ⟨S20480, .f32⟩
  | .hbm, ⟨36, _⟩ => ⟨S20000x1, .f32⟩
  | .hbm, ⟨37, _⟩ => ⟨S20000, .f32⟩
  | .hbm, ⟨38, _⟩ => ⟨S_, .f32⟩
  | .hbm, ⟨39, _⟩ => ⟨S480, .f32⟩
  | .hbm, ⟨40, _⟩ => ⟨S20480, .f32⟩
  | .hbm, ⟨41, _⟩ => ⟨S20480, .f32⟩
  | .hbm, ⟨42, _⟩ => ⟨S160x128, .f32⟩
  | .hbm, ⟨43, _⟩ => ⟨S20480, .f32⟩
  | .hbm, ⟨44, _⟩ => ⟨S160x128, .f32⟩
  | .hbm, ⟨45, _⟩ => ⟨S20480, .f32⟩
  | .hbm, ⟨46, _⟩ => ⟨S160x128, .f32⟩
  | .hbm, ⟨47, _⟩ => ⟨S20480, .f32⟩
  | .hbm, ⟨48, _⟩ => ⟨S160x128, .f32⟩
  | .hbm, ⟨49, _⟩ => ⟨S160x128, .f32⟩
  | .hbm, ⟨50, _⟩ => ⟨S160x128, .f32⟩
  | .hbm, ⟨51, _⟩ => ⟨S160x128, .f32⟩
  | .hbm, ⟨52, _⟩ => ⟨S160x128, .f32⟩
  | .hbm, ⟨53, _⟩ => ⟨S_, .f32⟩
  | .hbm, ⟨54, _⟩ => ⟨S480, .f32⟩
  | .hbm, ⟨55, _⟩ => ⟨S20480, .f32⟩
  | .hbm, ⟨56, _⟩ => ⟨S160x128, .f32⟩
  | .hbm, ⟨57, _⟩ => ⟨S160x128, .f32⟩
  | .hbm, ⟨58, _⟩ => ⟨S8x128, .f32⟩
  | .hbm, ⟨59, _⟩ => ⟨S8x128, .i32⟩
  | .hbm, ⟨60, _⟩ => ⟨S1x100, .i32⟩
  | .hbm, ⟨61, _⟩ => ⟨S100, .i32⟩
  | .hbm, ⟨62, _⟩ => ⟨S1x100, .f32⟩
  | .hbm, ⟨63, _⟩ => ⟨S100, .f32⟩
  | .hbm, ⟨64, _⟩ => ⟨S1x100, .f32⟩
  | .hbm, ⟨65, _⟩ => ⟨S100, .f32⟩
  | .hbm, ⟨66, _⟩ => ⟨S1x100, .f32⟩
  | .hbm, ⟨67, _⟩ => ⟨S100, .f32⟩
  | .hbm, ⟨68, _⟩ => ⟨S1x100, .f32⟩
  | .hbm, ⟨69, _⟩ => ⟨S100, .f32⟩
  | .hbm, ⟨70, _⟩ => ⟨S1x100, .f32⟩
  | .hbm, ⟨71, _⟩ => ⟨S100, .f32⟩
  | .hbm, ⟨72, _⟩ => ⟨S100x1, .f32⟩
  | .hbm, ⟨73, _⟩ => ⟨S100x1, .f32⟩
  | .hbm, ⟨74, _⟩ => ⟨S100x1, .f32⟩
  | .hbm, ⟨75, _⟩ => ⟨S100x1, .f32⟩
  | .hbm, ⟨76, _⟩ => ⟨S100x1, .f32⟩
  | .hbm, ⟨77, _⟩ => ⟨S100x5, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | .local _ .vmem, ⟨7, _⟩ => ⟨S160x128, .f32⟩
  | .local _ .vmem, ⟨8, _⟩ => ⟨S160x128, .f32⟩
  | .local _ .vmem, ⟨9, _⟩ => ⟨S160x128, .f32⟩
  | .local _ .vmem, ⟨10, _⟩ => ⟨S160x128, .f32⟩
  | .local _ .vmem, ⟨11, _⟩ => ⟨S8x128, .f32⟩
  | .local _ .vmem, ⟨12, _⟩ => ⟨S8x128, .i32⟩
  | .local _ .vmem, ⟨13, _⟩ => ⟨S160x128, .f32⟩
  | .local _ .vmem, ⟨14, _⟩ => ⟨S160x128, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_cst_0 : Ref sig .tc := ⟨.hbm, 7, rfl⟩
abbrev main_call0_v3 : Ref sig .tc := ⟨.hbm, 8, rfl⟩
abbrev main_call0_v4 : Ref sig .tc := ⟨.hbm, 9, rfl⟩
abbrev main_call0_cst_1 : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_v5 : Ref sig .tc := ⟨.hbm, 13, rfl⟩
abbrev main_call0_cst_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_cst_3 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_cst_4 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_cst_5 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_cst_6 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_cst_7 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_v30 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_call0_v36 : Ref sig .tc := ⟨.hbm, 50, rfl⟩
abbrev main_call0_v37 : Ref sig .tc := ⟨.hbm, 51, rfl⟩
abbrev main_call0_v38 : Ref sig .tc := ⟨.hbm, 52, rfl⟩
abbrev main_call0_cst_8 : Ref sig .tc := ⟨.hbm, 53, rfl⟩
abbrev main_call0_v39 : Ref sig .tc := ⟨.hbm, 54, rfl⟩
abbrev main_call0_v40 : Ref sig .tc := ⟨.hbm, 55, rfl⟩
abbrev main_call0_v41 : Ref sig .tc := ⟨.hbm, 56, rfl⟩
abbrev main_call0_v42 : Ref sig .tc := ⟨.hbm, 57, rfl⟩
abbrev main_call0_v43_0 : Ref sig .tc := ⟨.hbm, 58, rfl⟩
abbrev main_call0_v43_1 : Ref sig .tc := ⟨.hbm, 59, rfl⟩
abbrev main_call0_v44 : Ref sig .tc := ⟨.hbm, 60, rfl⟩
abbrev main_v0_1 : Ref sig .tc := ⟨.hbm, 61, rfl⟩
abbrev main_call0_v46 : Ref sig .tc := ⟨.hbm, 62, rfl⟩
abbrev main_call0_v47 : Ref sig .tc := ⟨.hbm, 63, rfl⟩
abbrev main_call0_v48 : Ref sig .tc := ⟨.hbm, 64, rfl⟩
abbrev main_call0_v49 : Ref sig .tc := ⟨.hbm, 65, rfl⟩
abbrev main_call0_v50 : Ref sig .tc := ⟨.hbm, 66, rfl⟩
abbrev main_call0_v51 : Ref sig .tc := ⟨.hbm, 67, rfl⟩
abbrev main_call0_v52 : Ref sig .tc := ⟨.hbm, 68, rfl⟩
abbrev main_call0_v53 : Ref sig .tc := ⟨.hbm, 69, rfl⟩
abbrev main_call0_v54 : Ref sig .tc := ⟨.hbm, 70, rfl⟩
abbrev main_call0_v55 : Ref sig .tc := ⟨.hbm, 71, rfl⟩
abbrev main_call0_v56 : Ref sig .tc := ⟨.hbm, 72, rfl⟩
abbrev main_call0_v57 : Ref sig .tc := ⟨.hbm, 73, rfl⟩
abbrev main_call0_v58 : Ref sig .tc := ⟨.hbm, 74, rfl⟩
abbrev main_call0_v59 : Ref sig .tc := ⟨.hbm, 75, rfl⟩
abbrev main_call0_v60 : Ref sig .tc := ⟨.hbm, 76, rfl⟩
abbrev main_v0_0 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32_279 : BitVec 32 := 0#32
  let c100_i32 : BitVec 32 := 100#32
  let v510 : BitVec 32 := Scalar.addi c0_i32_279 c100_i32
  let c1_i32 : BitVec 32 := 1#32
  ⟨c0_i32_279, v510, c1_i32⟩
abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S160x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S160x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S160x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S160x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x128 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S20000x1 : Shape := ⟨2, ![20000, 1]⟩
abbrev S_ : Shape := ⟨0, ![]⟩
abbrev S100 : Shape := ⟨1, ![100]⟩
abbrev S1x4 : Shape := ⟨2, ![1, 4]⟩
abbrev S4 : Shape := ⟨1, ![4]⟩
abbrev S1 : Shape := ⟨1, ![1]⟩
abbrev S100x1 : Shape := ⟨2, ![100, 1]⟩
abbrev S100x4 : Shape := ⟨2, ![100, 4]⟩
abbrev S100x5 : Shape := ⟨2, ![100, 5]⟩

abbrev nBuf : Space → Nat
  | .hbm => 149
  | .vmem => 0
  | .smem => 0
  | _ => 0

abbrev hbmTy0_0 (i : Nat) : BufTy := match i % 128 with
  | 0 => ⟨S20000x4, .f32⟩
  | 1 => ⟨S20000, .f32⟩
  | 2 => ⟨S20000, .i32⟩
  | 3 => ⟨S20000, .f32⟩
  | 4 => ⟨S20000x1, .f32⟩
  | 5 => ⟨S_, .f32⟩
  | 6 => ⟨S20000x1, .f32⟩
  | 7 => ⟨S20000x1, .f32⟩
  | 8 => ⟨S20000x4, .f32⟩
  | 9 => ⟨S20000x4, .f32⟩
  | 10 => ⟨S_, .f32⟩
  | 11 => ⟨S20000, .f32⟩
  | 12 => ⟨S20000, .i1⟩
  | 13 => ⟨S_, .f32⟩
  | 14 => ⟨S_, .f32⟩
  | 15 => ⟨S20000, .f32⟩
  | 16 => ⟨S20000, .f32⟩
  | 17 => ⟨S_, .i32⟩
  | 18 => ⟨S100, .i32⟩
  | 19 => ⟨S_, .i32⟩
  | 20 => ⟨S20000x4, .f32⟩
  | 21 => ⟨S_, .i32⟩
  | 22 => ⟨S20000, .f32⟩
  | 23 => ⟨S100, .i32⟩
  | 24 => ⟨S_, .i32⟩
  | 25 => ⟨S_, .i1⟩
  | 26 => ⟨S20000, .i32⟩
  | 27 => ⟨S_, .f32⟩
  | 28 => ⟨S_, .i32⟩
  | 29 => ⟨S_, .f32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S1x4, .f32⟩
  | 45 => ⟨S4, .f32⟩
  | 46 => ⟨S1, .f32⟩
  | 47 => ⟨S_, .f32⟩
  | 48 => ⟨S20000x1, .f32⟩
  | 49 => ⟨S20000, .f32⟩
  | 50 => ⟨S20000, .f32⟩
  | 51 => ⟨S20000, .f32⟩
  | 52 => ⟨S1, .f32⟩
  | 53 => ⟨S_, .f32⟩
  | 54 => ⟨S20000x1, .f32⟩
  | 55 => ⟨S20000, .f32⟩
  | 56 => ⟨S20000, .f32⟩
  | 57 => ⟨S20000, .f32⟩
  | 58 => ⟨S1, .f32⟩
  | 59 => ⟨S_, .f32⟩
  | 60 => ⟨S20000x1, .f32⟩
  | 61 => ⟨S20000, .f32⟩
  | 62 => ⟨S20000, .f32⟩
  | 63 => ⟨S20000, .f32⟩
  | 64 => ⟨S1, .f32⟩
  | 65 => ⟨S_, .f32⟩
  | 66 => ⟨S20000x1, .f32⟩
  | 67 => ⟨S20000, .f32⟩
  | 68 => ⟨S20000, .f32⟩
  | 69 => ⟨S20000, .f32⟩
  | 70 => ⟨S20000, .f32⟩
  | 71 => ⟨S_, .f32⟩
  | 72 => ⟨S_, .f32⟩
  | 73 => ⟨S20000, .f32⟩
  | 74 => ⟨S20000, .f32⟩
  | 75 => ⟨S20000, .f32⟩
  | 76 => ⟨S_, .f32⟩
  | 77 => ⟨S_, .f32⟩
  | 78 => ⟨S20000, .f32⟩
  | 79 => ⟨S20000, .f32⟩
  | 80 => ⟨S20000, .f32⟩
  | 81 => ⟨S1, .f32⟩
  | 82 => ⟨S_, .f32⟩
  | 83 => ⟨S1, .f32⟩
  | 84 => ⟨S_, .f32⟩
  | 85 => ⟨S_, .f32⟩
  | 86 => ⟨S1, .f32⟩
  | 87 => ⟨S_, .f32⟩
  | 88 => ⟨S1, .f32⟩
  | 89 => ⟨S_, .f32⟩
  | 90 => ⟨S_, .f32⟩
  | 91 => ⟨S_, .f32⟩
  | 92 => ⟨S20000x1, .f32⟩
  | 93 => ⟨S20000, .f32⟩
  | 94 => ⟨S20000x1, .f32⟩
  | 95 => ⟨S20000, .f32⟩
  | 96 => ⟨S20000, .f32⟩
  | 97 => ⟨S20000x1, .f32⟩
  | 98 => ⟨S20000, .f32⟩
  | 99 => ⟨S20000x1, .f32⟩
  | 100 => ⟨S20000, .f32⟩
  | 101 => ⟨S20000, .f32⟩
  | 102 => ⟨S20000, .f32⟩
  | 103 => ⟨S20000, .f32⟩
  | 104 => ⟨S20000, .f32⟩
  | 105 => ⟨S20000, .f32⟩
  | 106 => ⟨S_, .f32⟩
  | 107 => ⟨S20000, .f32⟩
  | 108 => ⟨S20000, .f32⟩
  | 109 => ⟨S20000, .f32⟩
  | 110 => ⟨S_, .f32⟩
  | 111 => ⟨S20000, .f32⟩
  | 112 => ⟨S20000, .i1⟩
  | 113 => ⟨S_, .f32⟩
  | 114 => ⟨S_, .f32⟩
  | 115 => ⟨S20000, .f32⟩
  | 116 => ⟨S20000, .f32⟩
  | 117 => ⟨S_, .i32⟩
  | 118 => ⟨S_, .i1⟩
  | 119 => ⟨S_, .i32⟩
  | 120 => ⟨S_, .i32⟩
  | 121 => ⟨S_, .i32⟩
  | 122 => ⟨S1, .i32⟩
  | 123 => ⟨S_, .f32⟩
  | 124 => ⟨S20000, .f32⟩
  | 125 => ⟨S1, .i32⟩
  | 126 => ⟨S100, .i32⟩
  | 127 => ⟨S_, .i32⟩
  | _ => ⟨S20000x4, .f32⟩

abbrev hbmTy0_1 (i : Nat) : BufTy := match i % 128 with
  | 0 => ⟨S_, .i32⟩
  | 1 => ⟨S_, .i32⟩
  | 2 => ⟨S100, .i32⟩
  | 3 => ⟨S100, .i1⟩
  | 4 => ⟨S_, .i32⟩
  | 5 => ⟨S100, .i32⟩
  | 6 => ⟨S100, .i32⟩
  | 7 => ⟨S100, .i32⟩
  | 8 => ⟨S100x1, .i32⟩
  | 9 => ⟨S100x4, .f32⟩
  | 10 => ⟨S_, .i32⟩
  | 11 => ⟨S100, .i32⟩
  | 12 => ⟨S100, .i1⟩
  | 13 => ⟨S_, .i32⟩
  | 14 => ⟨S100, .i32⟩
  | 15 => ⟨S100, .i32⟩
  | 16 => ⟨S100, .i32⟩
  | 17 => ⟨S100x1, .i32⟩
  | 18 => ⟨S100, .f32⟩
  | 19 => ⟨S100x1, .f32⟩
  | 20 => ⟨S100x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_c_2 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev main_v10_3 : Ref sig .tc := ⟨.hbm, 23, rfl⟩
abbrev main_while0c_c_10 : Ref sig .tc := ⟨.hbm, 24, rfl⟩
abbrev main_while0c_v27 : Ref sig .tc := ⟨.hbm, 25, rfl⟩
abbrev main_while0b_call1_v0 : Ref sig .tc := ⟨.hbm, 26, rfl⟩
abbrev main_while0b_call1_cst : Ref sig .tc := ⟨.hbm, 27, rfl⟩
abbrev main_while0b_call1_c : Ref sig .tc := ⟨.hbm, 28, rfl⟩
abbrev main_while0b_call1_v1_0 : Ref sig .tc := ⟨.hbm, 29, rfl⟩
abbrev main_while0b_v27 : Ref sig .tc := ⟨.hbm, 30, rfl⟩
abbrev main_while0b_c_10 : Ref sig .tc := ⟨.hbm, 31, rfl⟩
abbrev main_while0b_v28 : Ref sig .tc := ⟨.hbm, 32, rfl⟩
abbrev main_while0b_c_11 : Ref sig .tc := ⟨.hbm, 33, rfl⟩
abbrev main_while0b_v29 : Ref sig .tc := ⟨.hbm, 34, rfl⟩
abbrev main_while0b_v30 : Ref sig .tc := ⟨.hbm, 35, rfl⟩
abbrev main_while0b_c_12 : Ref sig .tc := ⟨.hbm, 36, rfl⟩
abbrev main_while0b_c_13 : Ref sig .tc := ⟨.hbm, 37, rfl⟩
abbrev main_while0b_v31 : Ref sig .tc := ⟨.hbm, 38, rfl⟩
abbrev main_while0b_c_14 : Ref sig .tc := ⟨.hbm, 39, rfl⟩
abbrev main_while0b_c_15 : Ref sig .tc := ⟨.hbm, 40, rfl⟩
abbrev main_while0b_v32 : Ref sig .tc := ⟨.hbm, 41, rfl⟩
abbrev main_while0b_c_16 : Ref sig .tc := ⟨.hbm, 42, rfl⟩
abbrev main_while0b_v33 : Ref sig .tc := ⟨.hbm, 43, rfl⟩
abbrev main_while0b_v34 : Ref sig .tc := ⟨.hbm, 44, rfl⟩
abbrev main_while0b_v35 : Ref sig .tc := ⟨.hbm, 45, rfl⟩
abbrev main_while0b_v36 : Ref sig .tc := ⟨.hbm, 46, rfl⟩
abbrev main_while0b_v37 : Ref sig .tc := ⟨.hbm, 47, rfl⟩
abbrev main_while0b_v38 : Ref sig .tc := ⟨.hbm, 48, rfl⟩
abbrev main_while0b_v39 : Ref sig .tc := ⟨.hbm, 49, rfl⟩
abbrev main_while0b_v40 : Ref sig .tc := ⟨.hbm, 50, rfl⟩
abbrev main_while0b_v41 : Ref sig .tc := ⟨.hbm, 51, rfl⟩
abbrev main_while0b_v42 : Ref sig .tc := ⟨.hbm, 52, rfl⟩
abbrev main_while0b_v43 : Ref sig .tc := ⟨.hbm, 53, rfl⟩
abbrev main_while0b_v44 : Ref sig .tc := ⟨.hbm, 54, rfl⟩
abbrev main_while0b_v45 : Ref sig .tc := ⟨.hbm, 55, rfl⟩
abbrev main_while0b_v46 : Ref sig .tc := ⟨.hbm, 56, rfl⟩
abbrev main_while0b_v47 : Ref sig .tc := ⟨.hbm, 57, rfl⟩
abbrev main_while0b_v48 : Ref sig .tc := ⟨.hbm, 58, rfl⟩
abbrev main_while0b_v49 : Ref sig .tc := ⟨.hbm, 59, rfl⟩
abbrev main_while0b_v50 : Ref sig .tc := ⟨.hbm, 60, rfl⟩
abbrev main_while0b_v51 : Ref sig .tc := ⟨.hbm, 61, rfl⟩
abbrev main_while0b_v52 : Ref sig .tc := ⟨.hbm, 62, rfl⟩
abbrev main_while0b_v53 : Ref sig .tc := ⟨.hbm, 63, rfl⟩
abbrev main_while0b_v54 : Ref sig .tc := ⟨.hbm, 64, rfl⟩
abbrev main_while0b_v55 : Ref sig .tc := ⟨.hbm, 65, rfl⟩
abbrev main_while0b_v56 : Ref sig .tc := ⟨.hbm, 66, rfl⟩
abbrev main_while0b_v57 : Ref sig .tc := ⟨.hbm, 67, rfl⟩
abbrev main_while0b_v58 : Ref sig .tc := ⟨.hbm, 68, rfl⟩
abbrev main_while0b_v59 : Ref sig .tc := ⟨.hbm, 69, rfl⟩
abbrev main_while0b_v60 : Ref sig .tc := ⟨.hbm, 70, rfl⟩
abbrev main_while0b_cst_17 : Ref sig .tc := ⟨.hbm, 71, rfl⟩
abbrev main_while0b_call2_v0 : Ref sig .tc := ⟨.hbm, 72, rfl⟩
abbrev main_while0b_call2_v1 : Ref sig .tc := ⟨.hbm, 73, rfl⟩
abbrev main_while0b_v61 : Ref sig .tc := ⟨.hbm, 74, rfl⟩
abbrev main_while0b_v62 : Ref sig .tc := ⟨.hbm, 75, rfl⟩
abbrev main_while0b_cst_18 : Ref sig .tc := ⟨.hbm, 76, rfl⟩
abbrev main_while0b_call3_v0 : Ref sig .tc := ⟨.hbm, 77, rfl⟩
abbrev main_while0b_call3_v1 : Ref sig .tc := ⟨.hbm, 78, rfl⟩
abbrev main_while0b_v63 : Ref sig .tc := ⟨.hbm, 79, rfl⟩
abbrev main_while0b_v64 : Ref sig .tc := ⟨.hbm, 80, rfl⟩
abbrev main_while0b_v65 : Ref sig .tc := ⟨.hbm, 81, rfl⟩
abbrev main_while0b_v66 : Ref sig .tc := ⟨.hbm, 82, rfl⟩
abbrev main_while0b_v67 : Ref sig .tc := ⟨.hbm, 83, rfl⟩
abbrev main_while0b_v68 : Ref sig .tc := ⟨.hbm, 84, rfl⟩
abbrev main_while0b_v69 : Ref sig .tc := ⟨.hbm, 85, rfl⟩
abbrev main_while0b_v70 : Ref sig .tc := ⟨.hbm, 86, rfl⟩
abbrev main_while0b_v71 : Ref sig .tc := ⟨.hbm, 87, rfl⟩
abbrev main_while0b_v72 : Ref sig .tc := ⟨.hbm, 88, rfl⟩
abbrev main_while0b_v73 : Ref sig .tc := ⟨.hbm, 89, rfl⟩
abbrev main_while0b_v74 : Ref sig .tc := ⟨.hbm, 90, rfl⟩
abbrev main_while0b_v75 : Ref sig .tc := ⟨.hbm, 91, rfl⟩
abbrev main_while0b_v76 : Ref sig .tc := ⟨.hbm, 92, rfl⟩
abbrev main_while0b_v77 : Ref sig .tc := ⟨.hbm, 93, rfl⟩
abbrev main_while0b_v78 : Ref sig .tc := ⟨.hbm, 94, rfl⟩
abbrev main_while0b_v79 : Ref sig .tc := ⟨.hbm, 95, rfl⟩
abbrev main_while0b_v80 : Ref sig .tc := ⟨.hbm, 96, rfl⟩
abbrev main_while0b_v81 : Ref sig .tc := ⟨.hbm, 97, rfl⟩
abbrev main_while0b_v82 : Ref sig .tc := ⟨.hbm, 98, rfl⟩
abbrev main_while0b_v83 : Ref sig .tc := ⟨.hbm, 99, rfl⟩
abbrev main_while0b_v84 : Ref sig .tc := ⟨.hbm, 100, rfl⟩
abbrev main_while0b_v85 : Ref sig .tc := ⟨.hbm, 101, rfl⟩
abbrev main_while0b_v86 : Ref sig .tc := ⟨.hbm, 102, rfl⟩
abbrev main_while0b_v87 : Ref sig .tc := ⟨.hbm, 103, rfl⟩
abbrev main_while0b_v88 : Ref sig .tc := ⟨.hbm, 104, rfl⟩
abbrev main_while0b_v89 : Ref sig .tc := ⟨.hbm, 105, rfl⟩
abbrev main_while0b_cst_19 : Ref sig .tc := ⟨.hbm, 106, rfl⟩
abbrev main_while0b_v90 : Ref sig .tc := ⟨.hbm, 107, rfl⟩
abbrev main_while0b_v91 : Ref sig .tc := ⟨.hbm, 108, rfl⟩
abbrev main_while0b_v92 : Ref sig .tc := ⟨.hbm, 109, rfl⟩
abbrev main_while0b_cst_20 : Ref sig .tc := ⟨.hbm, 110, rfl⟩
abbrev main_while0b_v93 : Ref sig .tc := ⟨.hbm, 111, rfl⟩
abbrev main_while0b_v94 : Ref sig .tc := ⟨.hbm, 112, rfl⟩
abbrev main_while0b_cst_21 : Ref sig .tc := ⟨.hbm, 113, rfl⟩
abbrev main_while0b_call4_v0 : Ref sig .tc := ⟨.hbm, 114, rfl⟩
abbrev main_while0b_call4_v1 : Ref sig .tc := ⟨.hbm, 115, rfl⟩
abbrev main_while0b_v95 : Ref sig .tc := ⟨.hbm, 116, rfl⟩
abbrev main_while0b_c_22 : Ref sig .tc := ⟨.hbm, 117, rfl⟩
abbrev main_while0b_v96 : Ref sig .tc := ⟨.hbm, 118, rfl⟩
abbrev main_while0b_c_23 : Ref sig .tc := ⟨.hbm, 119, rfl⟩
abbrev main_while0b_v97 : Ref sig .tc := ⟨.hbm, 120, rfl⟩
abbrev main_while0b_v98 : Ref sig .tc := ⟨.hbm, 121, rfl⟩
abbrev main_while0b_v99 : Ref sig .tc := ⟨.hbm, 122, rfl⟩
abbrev main_while0b_cst_24 : Ref sig .tc := ⟨.hbm, 123, rfl⟩
abbrev main_while0b_v100 : Ref sig .tc := ⟨.hbm, 124, rfl⟩
abbrev main_while0b_call5_v0 : Ref sig .tc := ⟨.hbm, 125, rfl⟩
abbrev main_while0b_v101 : Ref sig .tc := ⟨.hbm, 126, rfl⟩
abbrev main_while0b_c_25 : Ref sig .tc := ⟨.hbm, 127, rfl⟩
abbrev main_while0b_v102 : Ref sig .tc := ⟨.hbm, 128, rfl⟩
abbrev main_c_3 : Ref sig .tc := ⟨.hbm, 129, rfl⟩
abbrev main_v11 : Ref sig .tc := ⟨.hbm, 130, rfl⟩
abbrev main_v12 : Ref sig .tc := ⟨.hbm, 131, rfl⟩
abbrev main_c_4 : Ref sig .tc := ⟨.hbm, 132, rfl⟩
abbrev main_v13 : Ref sig .tc := ⟨.hbm, 133, rfl⟩
abbrev main_v14 : Ref sig .tc := ⟨.hbm, 134, rfl⟩
abbrev main_v15 : Ref sig .tc := ⟨.hbm, 135, rfl⟩
abbrev main_v16 : Ref sig .tc := ⟨.hbm, 136, rfl⟩
abbrev main_v17 : Ref sig .tc := ⟨.hbm, 137, rfl⟩
abbrev main_c_5 : Ref sig .tc := ⟨.hbm, 138, rfl⟩
abbrev main_v18 : Ref sig .tc := ⟨.hbm, 139, rfl⟩
abbrev main_v19 : Ref sig .tc := ⟨.hbm, 140, rfl⟩
abbrev main_c_6 : Ref sig .tc := ⟨.hbm, 141, rfl⟩
abbrev main_v20 : Ref sig .tc := ⟨.hbm, 142, rfl⟩
abbrev main_v21 : Ref sig .tc := ⟨.hbm, 143, rfl⟩
abbrev main_v22 : Ref sig .tc := ⟨.hbm, 144, rfl⟩
abbrev main_v23 : Ref sig .tc := ⟨.hbm, 145, rfl⟩
abbrev main_v24 : Ref sig .tc := ⟨.hbm, 146, rfl⟩
abbrev main_v25 : Ref sig .tc := ⟨.hbm, 147, rfl⟩
abbrev main_v26 : Ref sig .tc := ⟨.hbm, 148, rfl⟩

abbrev nD : Nat := 1
abbrev τ : Topo := Topo.v7x

variable {F : FTy → Type} [FloatOps F]

abbrev main_while0_count : Scf.Loop 32 := ⟨0#32, 100#32, 1#32⟩
-- ==== Proof.RefOps.lean ====
/-
  The reference's host program, laid out for its run. @main is three stretches of host operations, one counted loop
  of 100 trips and one stretch after it; here are the stretches as lists of operations, @main and the loop's body as
  chains of them (`main_chain`, `while0_body_chain`), what each stretch writes, the loop counter before every trip
  (`atK_ctr`), the condition's specification (`cond_spec`), and the run as a fold over those lists (`run_fold`).
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's `::` list and the decided enumerations over the program's references recurse past the default depth
set_option maxRecDepth 1108

noncomputable section

namespace Cert.ReferenceIdeal.Ops

open Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 11 host operations of @main, in order. -/
abbrev hostOps0 : List (HloOp τ sig (Elt F)) :=
  [ StableHlo.unary main_arg2 main_v0 (sitofp .f32 : (⟨S20000, .i32⟩ : BufTy).Contents (Elt F) → (⟨S20000, .f32⟩ : BufTy).Contents (Elt F)),
    StableHlo.unary main_v0 main_v1 (broadcastInDim S20000x1 ![0] bcast_S20000_S20000x1_0 : (⟨S20000, .f32⟩ : BufTy).Contents (Elt F) → (⟨S20000x1, .f32⟩ : BufTy).Contents (Elt F)),
    StableHlo.nullary main_cst (constant S_ .f32 0x457A0000#32),
    StableHlo.unary main_cst main_v2 (broadcastInDim S20000x1 ![] bcast_S_S20000x1 : (⟨S_, .f32⟩ : BufTy).Contents (Elt F) → (⟨S20000x1, .f32⟩ : BufTy).Contents (Elt F)),
    StableHlo.binary main_v1 main_v2 main_v3 (mulf : (⟨S20000x1, .f32⟩ : BufTy).Contents (Elt F) → (⟨S20000x1, .f32⟩ : BufTy).Contents (Elt F) → (⟨S20000x1, .f32⟩ : BufTy).Contents (Elt F)),
    StableHlo.unary main_v3 main_v4 (broadcastInDim S20000x4 ![0, 1] bcast_S20000x1_S20000x4_0_1 : (⟨S20000x1, .f32⟩ : BufTy).Contents (Elt F) → (⟨S20000x4, .f32⟩ : BufTy).Contents (Elt F)),
    StableHlo.binary main_arg0 main_v4 main_v5 (addf : (⟨S20000x4, .f32⟩ : BufTy).Contents (Elt F) → (⟨S20000x4, .f32⟩ : BufTy).Contents (Elt F) → (⟨S20000x4, .f32⟩ : BufTy).Contents (Elt F)),
    StableHlo.nullary main_cst_0 (constant S_ .f32 0x3DCCCCCD#32),
    StableHlo.unary main_cst_0 main_v6 (broadcastInDim S20000 ![] bcast_S_S20000 : (⟨S_, .f32⟩ : BufTy).Contents (Elt F) → (⟨S20000, .f32⟩ : BufTy).Contents (Elt F)),
    StableHlo.binary main_arg1 main_v6 main_v7 (cmpf .ogt : (⟨S20000, .f32⟩ : BufTy).Contents (Elt F) → (⟨S20000, .f32⟩ : BufTy).Contents (Elt F) → (⟨S20000, .i1⟩ : BufTy).Contents (Elt F)),
    StableHlo.nullary main_cst_1 (constant S_ .f32 0xCE6E6B28#32) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub ..⟩
/-- 3 host operations of @_where (main_call0), in order. -/
abbrev hostOps0_1 : List (HloOp τ sig (Elt F)) :=
  [ StableHlo.TRef.unary (.of main_cst_1 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S20000, .f32⟩) (broadcastInDim S20000 ![] bcast_S_S20000),
    StableHlo.TRef.ternary (.of main_v7 : StableHlo.TRef sig ⟨S20000, .i1⟩) (.of main_arg1 : StableHlo.TRef sig ⟨S20000, .f32⟩) (.of main_call0_v1 : StableHlo.TRef sig ⟨S20000, .f32⟩) (.of main_v8 : StableHlo.TRef sig ⟨S20000, .f32⟩) select ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub .., StableHlo.ternary_bufs_sub ..⟩
/-- 7 host operations of @main, in order. -/
abbrev hostOps0_2 : List (HloOp τ sig (Elt F)) :=
  [ StableHlo.nullary main_c (constantI S_ 32 0#32),
    StableHlo.unary main_c main_v9 (broadcastInDim S100 ![] bcast_S_S100 : (⟨S_, .i32⟩ : BufTy).Contents (Elt F) → (⟨S100, .i32⟩ : BufTy).Contents (Elt F)),
    StableHlo.nullary main_c_2 (constantI S_ 32 0#32),
    StableHlo.unary main_v5 main_v10_0 id,
    StableHlo.unary main_c_2 main_v10_1 id,
    StableHlo.unary main_v8 main_v10_2 id,
    StableHlo.unary main_v9 main_v10_3 id ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- 20 host operations of @main, in order. -/
abbrev hostOps0_3 : List (HloOp τ sig (Elt F)) :=
  [ StableHlo.nullary main_c_3 (constantI S_ 32 0#32),
    StableHlo.unary main_c_3 main_v11 (broadcastInDim S100 ![] bcast_S_S100 : (⟨S_, .i32⟩ : BufTy).Contents (Elt F) → (⟨S100, .i32⟩ : BufTy).Contents (Elt F)),
    StableHlo.binary main_v10_3 main_v11 main_v12 (cmpi .slt : (⟨S100, .i32⟩ : BufTy).Contents (Elt F) → (⟨S100, .i32⟩ : BufTy).Contents (Elt F) → (⟨S100, .i1⟩ : BufTy).Contents (Elt F)),
    StableHlo.nullary main_c_4 (constantI S_ 32 20000#32),
    StableHlo.unary main_c_4 main_v13 (broadcastInDim S100 ![] bcast_S_S100 : (⟨S_, .i32⟩ : BufTy).Contents (Elt F) → (⟨S100, .i32⟩ : BufTy).Contents (Elt F)),
    StableHlo.binary main_v10_3 main_v13 main_v14 (addi : (⟨S100, .i32⟩ : BufTy).Contents (Elt F) → (⟨S100, .i32⟩ : BufTy).Contents (Elt F) → (⟨S100, .i32⟩ : BufTy).Contents (Elt F)),
    StableHlo.ternary main_v12 main_v14 main_v10_3 main_v15 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v15 main_v16 (broadcastInDim S100x1 ![0] bcast_S100_S100x1_0 : (⟨S100, .i32⟩ : BufTy).Contents (Elt F) → (⟨S100x1, .i32⟩ : BufTy).Contents (Elt F)),
    StableHlo.binary main_arg0 main_v16 main_v17 ((fun x i => Host.gather gather_S20000x4_S100x1_S100x4_1_0_n_n_0_1_14 x i) : (⟨S20000x4, .f32⟩ : BufTy).Contents (Elt F) → (⟨S100x1, .i32⟩ : BufTy).Contents (Elt F) → (⟨S100x4, .f32⟩ : BufTy).Contents (Elt F)),
    StableHlo.nullary main_c_5 (constantI S_ 32 0#32),
    StableHlo.unary main_c_5 main_v18 (broadcastInDim S100 ![] bcast_S_S100 : (⟨S_, .i32⟩ : BufTy).Contents (Elt F) → (⟨S100, .i32⟩ : BufTy).Contents (Elt F)),
    StableHlo.binary main_v10_3 main_v18 main_v19 (cmpi .slt : (⟨S100, .i32⟩ : BufTy).Contents (Elt F) → (⟨S100, .i32⟩ : BufTy).Contents (Elt F) → (⟨S100, .i1⟩ : BufTy).Contents (Elt F)),
    StableHlo.nullary main_c_6 (constantI S_ 32 20000#32),
    StableHlo.unary main_c_6 main_v20 (broadcastInDim S100 ![] bcast_S_S100 : (⟨S_, .i32⟩ : BufTy).Contents (Elt F) → (⟨S100, .i32⟩ : BufTy).Contents (Elt F)),
    StableHlo.binary main_v10_3 main_v20 main_v21 (addi : (⟨S100, .i32⟩ : BufTy).Contents (Elt F) → (⟨S100, .i32⟩ : BufTy).Contents (Elt F) → (⟨S100, .i32⟩ : BufTy).Contents (Elt F)),
    StableHlo.ternary main_v19 main_v21 main_v10_3 main_v22 (select : (⟨S100, .i1⟩ : BufTy).Contents (Elt F) → (⟨S100, .i32⟩ : BufTy).Contents (Elt F) → (⟨S100, .i32⟩ : BufTy).Contents (Elt F) → (⟨S100, .i32⟩ : BufTy).Contents (Elt F)),
    StableHlo.unary main_v22 main_v23 (broadcastInDim S100x1 ![0] bcast_S100_S100x1_0 : (⟨S100, .i32⟩ : BufTy).Contents (Elt F) → (⟨S100x1, .i32⟩ : BufTy).Contents (Elt F)),
    StableHlo.binary main_arg1 main_v23 main_v24 ((fun x i => Host.gather gather_S20000_S100x1_S100_n_0_n_n_0_1_1 x i) : (⟨S20000, .f32⟩ : BufTy).Contents (Elt F) → (⟨S100x1, .i32⟩ : BufTy).Contents (Elt F) → (⟨S100, .f32⟩ : BufTy).Contents (Elt F)),
    StableHlo.unary main_v24 main_v25 (broadcastInDim S100x1 ![0] bcast_S100_S100x1_0 : (⟨S100, .f32⟩ : BufTy).Contents (Elt F) → (⟨S100x1, .f32⟩ : BufTy).Contents (Elt F)),
    StableHlo.binary main_v17 main_v25 main_v26 ((fun a b => concatenate S100x5 1 [⟨S100x4, a⟩, ⟨S100x1, b⟩] concatenates_S100x4_S100x1_S100x5_d1) : (⟨S100x4, .f32⟩ : BufTy).Contents (Elt F) → (⟨S100x1, .f32⟩ : BufTy).Contents (Elt F) → (⟨S100x5, .f32⟩ : BufTy).Contents (Elt F)) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub ..⟩
/-- `main` is the chain of its items (`Pipeline.chain`): operation stretches, regions, loops and branches in
    order. -/
theorem main_chain (c : Dev nD) : main (F := F) c = (Pipeline.chain
  [ StableHlo.seq hostOps0,
    StableHlo.seq hostOps0_1,
    StableHlo.seq hostOps0_2,
    HostLoop.enter 0,
    StableHlo.seq hostOps0_3 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

-- no `main_segs` (the loop-free kit's `Seg.run` equation) for this @main: it has a host loop; a certificate takes `main_chain` (Lib/Pipeline/RegionsLoop.lean)

/-- 5 host operations of @argmax (main_while0b_call1), in order. -/
abbrev while0Ops0 : List (HloOp τ sig (Elt F)) :=
  [ StableHlo.TRef.nullary (.of main_while0b_call1_v0 : StableHlo.TRef sig ⟨S20000, .i32⟩) (iotaInDim S20000 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_v10_2 : StableHlo.TRef sig ⟨S20000, .f32⟩) (.of main_while0b_call1_v0 : StableHlo.TRef sig ⟨S20000, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S20000_S_d0 h_S_ j).1),
    StableHlo.TRef.quaternary (.of main_v10_2 : StableHlo.TRef sig ⟨S20000, .f32⟩) (.of main_while0b_call1_v0 : StableHlo.TRef sig ⟨S20000, .i32⟩) (.of main_while0b_call1_cst : StableHlo.TRef sig ⟨S_, .f32⟩) (.of main_while0b_call1_c : StableHlo.TRef sig ⟨S_, .i32⟩) (.of main_while0b_v27 : StableHlo.TRef sig ⟨S_, .i32⟩) (fun x y u v j => (Host.argReduce reducer_argmax_f32_i32 x y u v reducesTo_S20000_S_d0 h_S_ j).2) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 41 host operations of host loop 0's body region, in order. -/
abbrev while0Ops0_1 : List (HloOp τ sig (Elt F)) :=
  ( StableHlo.nullary main_while0b_c_10 (constantI S_ 32 0#32)
  :: StableHlo.binary main_while0b_v27 main_while0b_c_10 main_while0b_v28 (cmpi .slt : (⟨S_, .i32⟩ : BufTy).Contents (Elt F) → (⟨S_, .i32⟩ : BufTy).Contents (Elt F) → (⟨S_, .i1⟩ : BufTy).Contents (Elt F))
  :: StableHlo.nullary main_while0b_c_11 (constantI S_ 32 20000#32)
  :: StableHlo.binary main_while0b_v27 main_while0b_c_11 main_while0b_v29 (addi : (⟨S_, .i32⟩ : BufTy).Contents (Elt F) → (⟨S_, .i32⟩ : BufTy).Contents (Elt F) → (⟨S_, .i32⟩ : BufTy).Contents (Elt F))
  :: StableHlo.ternary main_while0b_v28 main_while0b_v29 main_while0b_v27 main_while0b_v30 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_while0b_c_12 (constantI S_ 32 0#32)
  :: StableHlo.nullary main_while0b_c_13 (constantI S_ 32 0#32)
  :: StableHlo.binary main_while0b_c_12 main_while0b_c_13 main_while0b_v31 (cmpi .slt : (⟨S_, .i32⟩ : BufTy).Contents (Elt F) → (⟨S_, .i32⟩ : BufTy).Contents (Elt F) → (⟨S_, .i1⟩ : BufTy).Contents (Elt F))
  :: StableHlo.nullary main_while0b_c_14 (constantI S_ 32 0#32)
  :: StableHlo.nullary main_while0b_c_15 (constantI S_ 32 4#32)
  :: StableHlo.binary main_while0b_c_14 main_while0b_c_15 main_while0b_v32 (addi : (⟨S_, .i32⟩ : BufTy).Contents (Elt F) → (⟨S_, .i32⟩ : BufTy).Contents (Elt F) → (⟨S_, .i32⟩ : BufTy).Contents (Elt F))
  :: StableHlo.nullary main_while0b_c_16 (constantI S_ 32 0#32)
  :: StableHlo.ternary main_while0b_v31 main_while0b_v32 main_while0b_c_16 main_while0b_v33 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_v10_0 ![main_while0b_v30, main_while0b_v33] ⟨S_, .i32⟩ main_while0b_v34 ((fun x i => Host.dynamicSlice S1x4 x (fun k => (i k (Shape.Idx.first h_S_)).toInt) sliceFits_S20000x4_S1x4) : (⟨S20000x4, .f32⟩ : BufTy).Contents (Elt F) → (Fin 2 → (⟨S_, .i32⟩ : BufTy).Contents (Elt F)) → (⟨S1x4, .f32⟩ : BufTy).Contents (Elt F))
  :: StableHlo.reshape main_while0b_v34 main_while0b_v35 (rfl : (.f32 : EltTy) = .f32) shapeCasts_S1x4_S4
  :: StableHlo.unary main_while0b_v35 main_while0b_v36 ((extractStridedSlice S1 ![0] · slices_S4_S1_0) : (⟨S4, .f32⟩ : BufTy).Contents (Elt F) → (⟨S1, .f32⟩ : BufTy).Contents (Elt F))
  :: StableHlo.reshape main_while0b_v36 main_while0b_v37 (rfl : (.f32 : EltTy) = .f32) shapeCasts_S1_S_
  :: StableHlo.unary main_v10_0 main_while0b_v38 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_while0b_v38 main_while0b_v39 (rfl : (.f32 : EltTy) = .f32) shapeCasts_S20000x1_S20000
  :: StableHlo.unary main_while0b_v37 main_while0b_v40 (broadcastInDim S20000 ![] bcast_S_S20000 : (⟨S_, .f32⟩ : BufTy).Contents (Elt F) → (⟨S20000, .f32⟩ : BufTy).Contents (Elt F))
  :: StableHlo.binary main_while0b_v40 main_while0b_v39 main_while0b_v41 (maximumf : (⟨S20000, .f32⟩ : BufTy).Contents (Elt F) → (⟨S20000, .f32⟩ : BufTy).Contents (Elt F) → (⟨S20000, .f32⟩ : BufTy).Contents (Elt F))
  :: StableHlo.unary main_while0b_v35 main_while0b_v42 ((extractStridedSlice S1 ![1] · slices_S4_S1_1) : (⟨S4, .f32⟩ : BufTy).Contents (Elt F) → (⟨S1, .f32⟩ : BufTy).Contents (Elt F))
  :: StableHlo.reshape main_while0b_v42 main_while0b_v43 (rfl : (.f32 : EltTy) = .f32) shapeCasts_S1_S_
  :: StableHlo.unary main_v10_0 main_while0b_v44 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_while0b_v44 main_while0b_v45 (rfl : (.f32 : EltTy) = .f32) shapeCasts_S20000x1_S20000
  :: StableHlo.unary main_while0b_v43 main_while0b_v46 (broadcastInDim S20000 ![] bcast_S_S20000 : (⟨S_, .f32⟩ : BufTy).Contents (Elt F) → (⟨S20000, .f32⟩ : BufTy).Contents (Elt F))
  :: StableHlo.binary main_while0b_v46 main_while0b_v45 main_while0b_v47 (maximumf : (⟨S20000, .f32⟩ : BufTy).Contents (Elt F) → (⟨S20000, .f32⟩ : BufTy).Contents (Elt F) → (⟨S20000, .f32⟩ : BufTy).Contents (Elt F))
  :: StableHlo.unary main_while0b_v35 main_while0b_v48 ((extractStridedSlice S1 ![2] · slices_S4_S1_2) : (⟨S4, .f32⟩ : BufTy).Contents (Elt F) → (⟨S1, .f32⟩ : BufTy).Contents (Elt F))
  :: StableHlo.reshape main_while0b_v48 main_while0b_v49 (rfl : (.f32 : EltTy) = .f32) shapeCasts_S1_S_
  :: StableHlo.unary main_v10_0 main_while0b_v50 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_while0b_v50 main_while0b_v51 (rfl : (.f32 : EltTy) = .f32) shapeCasts_S20000x1_S20000
  :: StableHlo.unary main_while0b_v49 main_while0b_v52 (broadcastInDim S20000 ![] bcast_S_S20000 : (⟨S_, .f32⟩ : BufTy).Contents (Elt F) → (⟨S20000, .f32⟩ : BufTy).Contents (Elt F))
  :: StableHlo.binary main_while0b_v52 main_while0b_v51 main_while0b_v53 (minimumf : (⟨S20000, .f32⟩ : BufTy).Contents (Elt F) → (⟨S20000, .f32⟩ : BufTy).Contents (Elt F) → (⟨S20000, .f32⟩ : BufTy).Contents (Elt F))
  :: StableHlo.unary main_while0b_v35 main_while0b_v54 ((extractStridedSlice S1 ![3] · slices_S4_S1_3) : (⟨S4, .f32⟩ : BufTy).Contents (Elt F) → (⟨S1, .f32⟩ : BufTy).Contents (Elt F))
  :: StableHlo.reshape main_while0b_v54 main_while0b_v55 (rfl : (.f32 : EltTy) = .f32) shapeCasts_S1_S_
  :: StableHlo.unary main_v10_0 main_while0b_v56 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_while0b_v56 main_while0b_v57 (rfl : (.f32 : EltTy) = .f32) shapeCasts_S20000x1_S20000
  :: StableHlo.unary main_while0b_v55 main_while0b_v58 (broadcastInDim S20000 ![] bcast_S_S20000 : (⟨S_, .f32⟩ : BufTy).Contents (Elt F) → (⟨S20000, .f32⟩ : BufTy).Contents (Elt F))
  :: StableHlo.binary main_while0b_v58 main_while0b_v57 main_while0b_v59 (minimumf : (⟨S20000, .f32⟩ : BufTy).Contents (Elt F) → (⟨S20000, .f32⟩ : BufTy).Contents (Elt F) → (⟨S20000, .f32⟩ : BufTy).Contents (Elt F))
  :: StableHlo.binary main_while0b_v53 main_while0b_v41 main_while0b_v60 (subf : (⟨S20000, .f32⟩ : BufTy).Contents (Elt F) → (⟨S20000, .f32⟩ : BufTy).Contents (Elt F) → (⟨S20000, .f32⟩ : BufTy).Contents (Elt F))
  :: StableHlo.nullary main_while0b_cst_17 (constant S_ .f32 0x00000000#32)
  :: [] )
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.nullary_bufs_sub .., StableHlo.nullary_bufs_sub .., StableHlo.binary_bufs_sub .., StableHlo.nullary_bufs_sub .., StableHlo.nullary_bufs_sub .., StableHlo.binary_bufs_sub .., StableHlo.nullary_bufs_sub .., StableHlo.ternary_bufs_sub .., StableHlo.unaryIndexed_bufs_sub .., StableHlo.reshape_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.unary_bufs_sub .., StableHlo.binary_bufs_sub .., StableHlo.binary_bufs_sub .., StableHlo.nullary_bufs_sub ..⟩
/-- 3 host operations of @clip (main_while0b_call2), in order. -/
abbrev while0Ops0_2 : List (HloOp τ sig (Elt F)) :=
  [ StableHlo.TRef.unary (.of main_while0b_cst_17 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S20000, .f32⟩) (broadcastInDim S20000 ![] bcast_S_S20000),
    StableHlo.TRef.binary (.of main_while0b_call2_v1 : StableHlo.TRef sig ⟨S20000, .f32⟩) (.of main_while0b_v60 : StableHlo.TRef sig ⟨S20000, .f32⟩) (.of main_while0b_v61 : StableHlo.TRef sig ⟨S20000, .f32⟩) maximumf ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.unary_bufs_sub .., StableHlo.binary_bufs_sub ..⟩
/-- 2 host operations of host loop 0's body region, in order. -/
abbrev while0Ops0_3 : List (HloOp τ sig (Elt F)) :=
  [ StableHlo.binary main_while0b_v59 main_while0b_v47 main_while0b_v62 (subf : (⟨S20000, .f32⟩ : BufTy).Contents (Elt F) → (⟨S20000, .f32⟩ : BufTy).Contents (Elt F) → (⟨S20000, .f32⟩ : BufTy).Contents (Elt F)),
    StableHlo.nullary main_while0b_cst_18 (constant S_ .f32 0x00000000#32) ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.binary_bufs_sub .., StableHlo.nullary_bufs_sub ..⟩
/-- 3 host operations of @clip (main_while0b_call3), in order. -/
abbrev while0Ops0_4 : List (HloOp τ sig (Elt F)) :=
  [ StableHlo.TRef.unary (.of main_while0b_cst_18 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S20000, .f32⟩) (broadcastInDim S20000 ![] bcast_S_S20000),
    StableHlo.TRef.binary (.of main_while0b_call3_v1 : StableHlo.TRef sig ⟨S20000, .f32⟩) (.of main_while0b_v62 : StableHlo.TRef sig ⟨S20000, .f32⟩) (.of main_while0b_v63 : StableHlo.TRef sig ⟨S20000, .f32⟩) maximumf ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.unary_bufs_sub .., StableHlo.binary_bufs_sub ..⟩
/-- 34 host operations of host loop 0's body region, in order. -/
abbrev while0Ops0_5 : List (HloOp τ sig (Elt F)) :=
  ( StableHlo.binary main_while0b_v61 main_while0b_v63 main_while0b_v64 (mulf : (⟨S20000, .f32⟩ : BufTy).Contents (Elt F) → (⟨S20000, .f32⟩ : BufTy).Contents (Elt F) → (⟨S20000, .f32⟩ : BufTy).Contents (Elt F))
  :: StableHlo.unary main_while0b_v35 main_while0b_v65 ((extractStridedSlice S1 ![2] · slices_S4_S1_2) : (⟨S4, .f32⟩ : BufTy).Contents (Elt F) → (⟨S1, .f32⟩ : BufTy).Contents (Elt F))
  :: StableHlo.reshape main_while0b_v65 main_while0b_v66 (rfl : (.f32 : EltTy) = .f32) shapeCasts_S1_S_
  :: StableHlo.unary main_while0b_v35 main_while0b_v67 ((extractStridedSlice S1 ![0] · slices_S4_S1_0) : (⟨S4, .f32⟩ : BufTy).Contents (Elt F) → (⟨S1, .f32⟩ : BufTy).Contents (Elt F))
  :: StableHlo.reshape main_while0b_v67 main_while0b_v68 (rfl : (.f32 : EltTy) = .f32) shapeCasts_S1_S_
  :: StableHlo.binary main_while0b_v66 main_while0b_v68 main_while0b_v69 (subf : (⟨S_, .f32⟩ : BufTy).Contents (Elt F) → (⟨S_, .f32⟩ : BufTy).Contents (Elt F) → (⟨S_, .f32⟩ : BufTy).Contents (Elt F))
  :: StableHlo.unary main_while0b_v35 main_while0b_v70 ((extractStridedSlice S1 ![3] · slices_S4_S1_3) : (⟨S4, .f32⟩ : BufTy).Contents (Elt F) → (⟨S1, .f32⟩ : BufTy).Contents (Elt F))
  :: StableHlo.reshape main_while0b_v70 main_while0b_v71 (rfl : (.f32 : EltTy) = .f32) shapeCasts_S1_S_
  :: StableHlo.unary main_while0b_v35 main_while0b_v72 ((extractStridedSlice S1 ![1] · slices_S4_S1_1) : (⟨S4, .f32⟩ : BufTy).Contents (Elt F) → (⟨S1, .f32⟩ : BufTy).Contents (Elt F))
  :: StableHlo.reshape main_while0b_v72 main_while0b_v73 (rfl : (.f32 : EltTy) = .f32) shapeCasts_S1_S_
  :: StableHlo.binary main_while0b_v71 main_while0b_v73 main_while0b_v74 (subf : (⟨S_, .f32⟩ : BufTy).Contents (Elt F) → (⟨S_, .f32⟩ : BufTy).Contents (Elt F) → (⟨S_, .f32⟩ : BufTy).Contents (Elt F))
  :: StableHlo.binary main_while0b_v69 main_while0b_v74 main_while0b_v75 (mulf : (⟨S_, .f32⟩ : BufTy).Contents (Elt F) → (⟨S_, .f32⟩ : BufTy).Contents (Elt F) → (⟨S_, .f32⟩ : BufTy).Contents (Elt F))
  :: StableHlo.unary main_v10_0 main_while0b_v76 ((extractStridedSlice S20000x1 ![0, 2] · slices_S20000x4_S20000x1_0_2) : (⟨S20000x4, .f32⟩ : BufTy).Contents (Elt F) → (⟨S20000x1, .f32⟩ : BufTy).Contents (Elt F))
  :: StableHlo.reshape main_while0b_v76 main_while0b_v77 (rfl : (.f32 : EltTy) = .f32) shapeCasts_S20000x1_S20000
  :: StableHlo.unary main_v10_0 main_while0b_v78 ((extractStridedSlice S20000x1 ![0, 0] · slices_S20000x4_S20000x1_0_0) : (⟨S20000x4, .f32⟩ : BufTy).Contents (Elt F) → (⟨S20000x1, .f32⟩ : BufTy).Contents (Elt F))
  :: StableHlo.reshape main_while0b_v78 main_while0b_v79 (rfl : (.f32 : EltTy) = .f32) shapeCasts_S20000x1_S20000
  :: StableHlo.binary main_while0b_v77 main_while0b_v79 main_while0b_v80 (subf : (⟨S20000, .f32⟩ : BufTy).Contents (Elt F) → (⟨S20000, .f32⟩ : BufTy).Contents (Elt F) → (⟨S20000, .f32⟩ : BufTy).Contents (Elt F))
  :: StableHlo.unary main_v10_0 main_while0b_v81 ((extractStridedSlice S20000x1 ![0, 3] · slices_S20000x4_S20000x1_0_3) : (⟨S20000x4, .f32⟩ : BufTy).Contents (Elt F) → (⟨S20000x1, .f32⟩ : BufTy).Contents (Elt F))
  :: StableHlo.reshape main_while0b_v81 main_while0b_v82 (rfl : (.f32 : EltTy) = .f32) shapeCasts_S20000x1_S20000
  :: StableHlo.unary main_v10_0 main_while0b_v83 ((extractStridedSlice S20000x1 ![0, 1] · slices_S20000x4_S20000x1_0_1) : (⟨S20000x4, .f32⟩ : BufTy).Contents (Elt F) → (⟨S20000x1, .f32⟩ : BufTy).Contents (Elt F))
  :: StableHlo.reshape main_while0b_v83 main_while0b_v84 (rfl : (.f32 : EltTy) = .f32) shapeCasts_S20000x1_S20000
  :: StableHlo.binary main_while0b_v82 main_while0b_v84 main_while0b_v85 (subf : (⟨S20000, .f32⟩ : BufTy).Contents (Elt F) → (⟨S20000, .f32⟩ : BufTy).Contents (Elt F) → (⟨S20000, .f32⟩ : BufTy).Contents (Elt F))
  :: StableHlo.binary main_while0b_v80 main_while0b_v85 main_while0b_v86 (mulf : (⟨S20000, .f32⟩ : BufTy).Contents (Elt F) → (⟨S20000, .f32⟩ : BufTy).Contents (Elt F) → (⟨S20000, .f32⟩ : BufTy).Contents (Elt F))
  :: StableHlo.unary main_while0b_v75 main_while0b_v87 (broadcastInDim S20000 ![] bcast_S_S20000 : (⟨S_, .f32⟩ : BufTy).Contents (Elt F) → (⟨S20000, .f32⟩ : BufTy).Contents (Elt F))
  :: StableHlo.binary main_while0b_v87 main_while0b_v86 main_while0b_v88 (addf : (⟨S20000, .f32⟩ : BufTy).Contents (Elt F) → (⟨S20000, .f32⟩ : BufTy).Contents (Elt F) → (⟨S20000, .f32⟩ : BufTy).Contents (Elt F))
  :: StableHlo.binary main_while0b_v88 main_while0b_v64 main_while0b_v89 (subf : (⟨S20000, .f32⟩ : BufTy).Contents (Elt F) → (⟨S20000, .f32⟩ : BufTy).Contents (Elt F) → (⟨S20000, .f32⟩ : BufTy).Contents (Elt F))
  :: StableHlo.nullary main_while0b_cst_19 (constant S_ .f32 0x3089705F#32)
  :: StableHlo.unary main_while0b_cst_19 main_while0b_v90 (broadcastInDim S20000 ![] bcast_S_S20000 : (⟨S_, .f32⟩ : BufTy).Contents (Elt F) → (⟨S20000, .f32⟩ : BufTy).Contents (Elt F))
  :: StableHlo.binary main_while0b_v89 main_while0b_v90 main_while0b_v91 (addf : (⟨S20000, .f32⟩ : BufTy).Contents (Elt F) → (⟨S20000, .f32⟩ : BufTy).Contents (Elt F) → (⟨S20000, .f32⟩ : BufTy).Contents (Elt F))
  :: StableHlo.binary main_while0b_v64 main_while0b_v91 main_while0b_v92 (Host.divf : (⟨S20000, .f32⟩ : BufTy).Contents (Elt F) → (⟨S20000, .f32⟩ : BufTy).Contents (Elt F) → (⟨S20000, .f32⟩ : BufTy).Contents (Elt F))
  :: StableHlo.nullary main_while0b_cst_20 (constant S_ .f32 0x3F19999A#32)
  :: StableHlo.unary main_while0b_cst_20 main_while0b_v93 (broadcastInDim S20000 ![] bcast_S_S20000 : (⟨S_, .f32⟩ : BufTy).Contents (Elt F) → (⟨S20000, .f32⟩ : BufTy).Contents (Elt F))
  :: StableHlo.binary main_while0b_v92 main_while0b_v93 main_while0b_v94 (cmpf .ogt : (⟨S20000, .f32⟩ : BufTy).Contents (Elt F) → (⟨S20000, .f32⟩ : BufTy).Contents (Elt F) → (⟨S20000, .i1⟩ : BufTy).Contents (Elt F))
  :: StableHlo.nullary main_while0b_cst_21 (constant S_ .f32 0xCE6E6B28#32)
  :: [] )
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩
/-- 3 host operations of @_where_0 (main_while0b_call4), in order. -/
abbrev while0Ops0_6 : List (HloOp τ sig (Elt F)) :=
  [ StableHlo.TRef.unary (.of main_while0b_cst_21 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S20000, .f32⟩) (broadcastInDim S20000 ![] bcast_S_S20000),
    StableHlo.TRef.ternary (.of main_while0b_v94 : StableHlo.TRef sig ⟨S20000, .i1⟩) (.of main_while0b_call4_v1 : StableHlo.TRef sig ⟨S20000, .f32⟩) (.of main_v10_2 : StableHlo.TRef sig ⟨S20000, .f32⟩) (.of main_while0b_v95 : StableHlo.TRef sig ⟨S20000, .f32⟩) select ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.unary_bufs_sub .., StableHlo.unary_bufs_sub .., StableHlo.ternary_bufs_sub ..⟩
/-- 8 host operations of host loop 0's body region, in order. -/
abbrev while0Ops0_7 : List (HloOp τ sig (Elt F)) :=
  [ StableHlo.nullary main_while0b_c_22 (constantI S_ 32 0#32),
    StableHlo.binary main_while0b_v27 main_while0b_c_22 main_while0b_v96 (cmpi .slt : (⟨S_, .i32⟩ : BufTy).Contents (Elt F) → (⟨S_, .i32⟩ : BufTy).Contents (Elt F) → (⟨S_, .i1⟩ : BufTy).Contents (Elt F)),
    StableHlo.nullary main_while0b_c_23 (constantI S_ 32 20000#32),
    StableHlo.binary main_while0b_v27 main_while0b_c_23 main_while0b_v97 (addi : (⟨S_, .i32⟩ : BufTy).Contents (Elt F) → (⟨S_, .i32⟩ : BufTy).Contents (Elt F) → (⟨S_, .i32⟩ : BufTy).Contents (Elt F)),
    StableHlo.ternary main_while0b_v96 main_while0b_v97 main_while0b_v27 main_while0b_v98 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v98 main_while0b_v99 (broadcastInDim S1 ![] bcast_S_S1 : (⟨S_, .i32⟩ : BufTy).Contents (Elt F) → (⟨S1, .i32⟩ : BufTy).Contents (Elt F)),
    StableHlo.nullary main_while0b_cst_24 (constant S_ .f32 0xCE6E6B28#32),
    StableHlo.ternary main_while0b_v95 main_while0b_v99 main_while0b_cst_24 main_while0b_v100 ((fun x i u => Host.scatter scatter_S20000_S1_S__n_0_0_0 (fun _ b => b) x i u) : (⟨S20000, .f32⟩ : BufTy).Contents (Elt F) → (⟨S1, .i32⟩ : BufTy).Contents (Elt F) → (⟨S_, .f32⟩ : BufTy).Contents (Elt F) → (⟨S20000, .f32⟩ : BufTy).Contents (Elt F)) ]
/-- Each touches TensorCore references only (`HostSeg.ofOps` over `StableHlo.tcRefs`, or a subset by `sub_ucRefs`). -/
theorem while0Ops0_7_sub : (while0Ops0_7 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.nullary_bufs_sub .., StableHlo.ternary_bufs_sub ..⟩
/-- 2 host operations of @dynamic_update_index_in_dim (main_while0b_call5), in order. -/
abbrev while0Ops0_8 : List (HloOp τ sig (Elt F)) :=
  [ StableHlo.TRef.unary (.of main_while0b_v27 : StableHlo.TRef sig ⟨S_, .i32⟩) (.of main_while0b_call5_v0 : StableHlo.TRef sig ⟨S1, .i32⟩) (broadcastInDim S1 ![] bcast_S_S1),
    StableHlo.TRef.binaryIndexed (.of main_v10_3 : StableHlo.TRef sig ⟨S100, .i32⟩) (.of main_while0b_call5_v0 : StableHlo.TRef sig ⟨S1, .i32⟩) ![(.of main_v10_1 : StableHlo.TRef sig ⟨S_, .i32⟩)] (.of main_while0b_v101 : StableHlo.TRef sig ⟨S100, .i32⟩) (fun x u i => Host.dynamicUpdateSlice x u (fun k => (i k (Shape.Idx.first h_S_)).toInt) updateFits_S100_S1) ]
/-- Each touches TensorCore references only (`HostSeg.ofOps` over `StableHlo.tcRefs`, or a subset by `sub_ucRefs`). -/
theorem while0Ops0_8_sub : (while0Ops0_8 : List (HloOp τ sig (Elt F))).Forall fun op => op.bufs ⊆ StableHlo.tcRefs τ sig :=
  ⟨StableHlo.unary_bufs_sub .., StableHlo.binaryIndexed_bufs_sub ..⟩
/-- 5 host operations of host loop 0's body region, in order. -/
abbrev while0Ops0_9 : List (HloOp τ sig (Elt F)) :=
  [ StableHlo.nullary main_while0b_c_25 (constantI S_ 32 1#32),
    StableHlo.binary main_v10_1 main_while0b_c_25 main_while0b_v102 (addi : (⟨S_, .i32⟩ : BufTy).Contents (Elt F) → (⟨S_, .i32⟩ : BufTy).Contents (Elt F) → (⟨S_, .i32⟩ : BufTy).Contents (Elt F)),
    StableHlo.unary main_while0b_v102 main_v10_1 id,
    StableHlo.unary main_while0b_v100 main_v10_2 id,
    StableHlo.unary main_while0b_v101 main_v10_3 id ]
/-- Each touches TensorCore references only (`HostSeg.ofOps` over `StableHlo.tcRefs`, or a subset by `sub_ucRefs`). -/
theorem while0Ops0_9_sub : (while0Ops0_9 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, StableHlo.chain_seq_cons, Pipeline.chain_cons, StableHlo.chain_seq_cons, Pipeline.chain_cons, StableHlo.chain_seq_cons]
  chain_rfl

end Cert.ReferenceIdeal.Ops

namespace Cert.ReferenceIdeal.Run

open Cert.ReferenceIdeal Cert.ReferenceIdeal.Gen Cert.ReferenceIdeal.Ops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_cst, main_v2, main_v3, main_v4, main_v5, main_cst_0, main_v6, main_v7, main_cst_1]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_v1, main_v8]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_c, main_v9, main_c_2, main_v10_0, main_v10_1, main_v10_2, main_v10_3]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call1_v0, main_while0b_call1_cst, main_while0b_call1_c, main_while0b_call1_v1_0, main_while0b_v27]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_c_10, main_while0b_v28, main_while0b_c_11, main_while0b_v29, main_while0b_v30, main_while0b_c_12, main_while0b_c_13, main_while0b_v31, main_while0b_c_14, main_while0b_c_15, main_while0b_v32, main_while0b_c_16, main_while0b_v33, main_while0b_v34, main_while0b_v35, main_while0b_v36, main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_cst_17]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call2_v0, main_while0b_call2_v1, main_while0b_v61]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_v62, main_while0b_cst_18]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call3_v0, main_while0b_call3_v1, main_while0b_v63]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_v64, main_while0b_v65, main_while0b_v66, main_while0b_v67, main_while0b_v68, main_while0b_v69, main_while0b_v70, main_while0b_v71, main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87, main_while0b_v88, main_while0b_v89, main_while0b_cst_19, main_while0b_v90, main_while0b_v91, main_while0b_v92, main_while0b_cst_20, main_while0b_v93, main_while0b_v94, main_while0b_cst_21]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_call4_v0, main_while0b_call4_v1, main_while0b_v95]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `while0Ops0_7` allocates a buffer. -/
theorem while0Ops0_7_fresh : (while0Ops0_7 : List (HloOp τ sig (Elt F))).Forall fun op => op.fresh = ∅ :=
  StableHlo.forall_fresh_of_map rfl
/-- The reference each operation of `while0Ops0_7` writes, in order. -/
abbrev while0Ops0_7_W : List (Ref sig .tc) := [main_while0b_c_22, main_while0b_v96, main_while0b_c_23, main_while0b_v97, main_while0b_v98, main_while0b_v99, main_while0b_cst_24, main_while0b_v100]
theorem while0Ops0_7_writes : (while0Ops0_7 : List (HloOp τ sig (Elt F))).Forall fun op => op.writes ⊆ (while0Ops0_7_W.map (Proc.devRef (τ := τ) .tc)).toFinset :=
  StableHlo.forall_writes_sub_of_map rfl
/-- No operation of `while0Ops0_8` allocates a buffer. -/
theorem while0Ops0_8_fresh : (while0Ops0_8 : List (HloOp τ sig (Elt F))).Forall fun op => op.fresh = ∅ :=
  StableHlo.forall_fresh_of_map rfl
/-- The reference each operation of `while0Ops0_8` writes, in order. -/
abbrev while0Ops0_8_W : List (Ref sig .tc) := [main_while0b_call5_v0, main_while0b_v101]
theorem while0Ops0_8_writes : (while0Ops0_8 : List (HloOp τ sig (Elt F))).Forall fun op => op.writes ⊆ (while0Ops0_8_W.map (Proc.devRef (τ := τ) .tc)).toFinset :=
  StableHlo.forall_writes_sub_of_map rfl
/-- No operation of `while0Ops0_9` allocates a buffer. -/
theorem while0Ops0_9_fresh : (while0Ops0_9 : List (HloOp τ sig (Elt F))).Forall fun op => op.fresh = ∅ :=
  StableHlo.forall_fresh_of_map rfl
/-- The reference each operation of `while0Ops0_9` writes, in order. -/
abbrev while0Ops0_9_W : List (Ref sig .tc) := [main_while0b_c_25, main_while0b_v102, main_v10_1, main_v10_2, main_v10_3]
theorem while0Ops0_9_writes : (while0Ops0_9 : List (HloOp τ sig (Elt F))).Forall fun op => op.writes ⊆ (while0Ops0_9_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_c_3, main_v11, main_v12, main_c_4, main_v13, main_v14, main_v15, main_v16, main_v17, main_c_5, main_v18, main_v19, main_c_6, main_v20, main_v21, main_v22, main_v23, main_v24, main_v25, main_v26]
theorem hostOps0_3_writes : (hostOps0_3 : List (HloOp τ sig (Elt F))).Forall fun op => op.writes ⊆ (hostOps0_3_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_10 (constantI S_ 32 100#32),
    StableHlo.binary main_v10_1 main_while0c_c_10 main_while0c_v27 (cmpi .slt) ]

/-- @main's stretches before the loop, the loop body's, and @main's after the loop. -/
abbrev preI : List (List (HloOp τ sig (Elt F))) := [hostOps0, hostOps0_1, hostOps0_2]
abbrev bodyI : List (List (HloOp τ sig (Elt F))) := [while0Ops0, while0Ops0_1, while0Ops0_2, while0Ops0_3, while0Ops0_4, while0Ops0_5, while0Ops0_6, while0Ops0_7, while0Ops0_8, while0Ops0_9]
abbrev postI : List (List (HloOp τ sig (Elt F))) := [hostOps0_3]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.nil)))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.nil))))))))))
theorem hpost : Plain (postI (F := F)) := .cons hostOps0_3_sub (hf := List.forall_iff_forall_mem.mp hostOps0_3_fresh) (.nil)

/-- The reference each operation of `condOps` writes, in order. -/
abbrev condOps_W : List (Ref sig .tc) := [main_while0c_c_10, main_while0c_v27]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v10_1`) is written by one stretch of the body, `while0Ops0_9`: not by the condition, nor by the
    body's other stretches. -/
theorem ctr_cond (V : Valuation τ sig (Elt F)) : after condOps V (Proc.devRef .tc main_v10_1) = V (Proc.devRef .tc main_v10_1) :=
  after_of_writes_sub condOps V condOps_writes (by decide +kernel)
theorem ctr_while0Ops0 (V : Valuation τ sig (Elt F)) : after while0Ops0 V (Proc.devRef .tc main_v10_1) = V (Proc.devRef .tc main_v10_1) :=
  after_of_writes_sub while0Ops0 V while0Ops0_writes (by decide +kernel)
theorem ctr_while0Ops0_1 (V : Valuation τ sig (Elt F)) : after while0Ops0_1 V (Proc.devRef .tc main_v10_1) = V (Proc.devRef .tc main_v10_1) :=
  after_of_writes_sub while0Ops0_1 V while0Ops0_1_writes (by decide +kernel)
theorem ctr_while0Ops0_2 (V : Valuation τ sig (Elt F)) : after while0Ops0_2 V (Proc.devRef .tc main_v10_1) = V (Proc.devRef .tc main_v10_1) :=
  after_of_writes_sub while0Ops0_2 V while0Ops0_2_writes (by decide +kernel)
theorem ctr_while0Ops0_3 (V : Valuation τ sig (Elt F)) : after while0Ops0_3 V (Proc.devRef .tc main_v10_1) = V (Proc.devRef .tc main_v10_1) :=
  after_of_writes_sub while0Ops0_3 V while0Ops0_3_writes (by decide +kernel)
theorem ctr_while0Ops0_4 (V : Valuation τ sig (Elt F)) : after while0Ops0_4 V (Proc.devRef .tc main_v10_1) = V (Proc.devRef .tc main_v10_1) :=
  after_of_writes_sub while0Ops0_4 V while0Ops0_4_writes (by decide +kernel)
theorem ctr_while0Ops0_5 (V : Valuation τ sig (Elt F)) : after while0Ops0_5 V (Proc.devRef .tc main_v10_1) = V (Proc.devRef .tc main_v10_1) :=
  after_of_writes_sub while0Ops0_5 V while0Ops0_5_writes (by decide +kernel)
theorem ctr_while0Ops0_6 (V : Valuation τ sig (Elt F)) : after while0Ops0_6 V (Proc.devRef .tc main_v10_1) = V (Proc.devRef .tc main_v10_1) :=
  after_of_writes_sub while0Ops0_6 V while0Ops0_6_writes (by decide +kernel)
theorem ctr_while0Ops0_7 (V : Valuation τ sig (Elt F)) : after while0Ops0_7 V (Proc.devRef .tc main_v10_1) = V (Proc.devRef .tc main_v10_1) :=
  after_of_writes_sub while0Ops0_7 V while0Ops0_7_writes (by decide +kernel)
theorem ctr_while0Ops0_8 (V : Valuation τ sig (Elt F)) : after while0Ops0_8 V (Proc.devRef .tc main_v10_1) = V (Proc.devRef .tc main_v10_1) :=
  after_of_writes_sub while0Ops0_8 V while0Ops0_8_writes (by decide +kernel)

set_option maxRecDepth 100000 in
/-- `while0Ops0_9` leaves the counter one step on. -/
theorem ctr_step (X : Valuation τ sig (Elt F)) :
    after while0Ops0_9 X (Proc.devRef .tc main_v10_1) = addi (X (Proc.devRef .tc main_v10_1)) (constantI S_ 32 1#32) := by
  after_results
  rfl

/-- The counter is the loop's lower bound at the loop's entry: its last writer before the loop read back. -/
theorem ctr_entry (c : Dev nD) : entryContents preI m c (Proc.devRef .tc main_v10_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v10_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_8, ctr_while0Ops0_7, ctr_while0Ops0_6, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v10_1 HostLoop.idx0)
        (HloOp.result _ (atK m k c) main_while0c_c_10 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 100 m ρ (cond_spec m)

end Cert.ReferenceIdeal.Run

end
-- ==== Proof.RefTrip.lean ====
/-
  One trip of the reference's loop, from any contents: the value each operation of the body leaves, one window of
  operations after another, what no trip changes, and the run: each result is the trip's step (`STEP`) iterated on
  what @main leaves before the loop.
-/
module

public import proofs.«01_k».proof.Proof.RefOps

@[expose] public section

-- a long stretch's `::` list and the decided enumerations over the program's references recurse past the default depth
set_option maxRecDepth 1108

noncomputable section

namespace Cert.ReferenceIdeal.Run

open Cert.ReferenceIdeal Cert.ReferenceIdeal.Gen Cert.ReferenceIdeal.Ops
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-! ## One trip's values -/

/-- The body's operations 1 … 5 of 106. -/
abbrev trip_w0 : List (HloOp τ sig (Elt F)) :=
  [ StableHlo.TRef.nullary (.of main_while0b_call1_v0 : StableHlo.TRef sig ⟨S20000, .i32⟩) (iotaInDim S20000 32 0),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_v10_2 : StableHlo.TRef sig ⟨S20000, .f32⟩) (.of main_while0b_call1_v0 : StableHlo.TRef sig ⟨S20000, .i32⟩) (.of main_while0b_call1_cst : StableHlo.TRef sig ⟨S_, .f32⟩) (.of main_while0b_call1_c : StableHlo.TRef sig ⟨S_, .i32⟩) (.of main_while0b_call1_v1_0 : StableHlo.TRef sig ⟨S_, .f32⟩) (fun x y u v j => (Host.argReduce reducer_argmax_f32_i32 x y u v reducesTo_S20000_S_d0 h_S_ j).1),
    StableHlo.TRef.quaternary (.of main_v10_2 : StableHlo.TRef sig ⟨S20000, .f32⟩) (.of main_while0b_call1_v0 : StableHlo.TRef sig ⟨S20000, .i32⟩) (.of main_while0b_call1_cst : StableHlo.TRef sig ⟨S_, .f32⟩) (.of main_while0b_call1_c : StableHlo.TRef sig ⟨S_, .i32⟩) (.of main_while0b_v27 : StableHlo.TRef sig ⟨S_, .i32⟩) (fun x y u v j => (Host.argReduce reducer_argmax_f32_i32 x y u v reducesTo_S20000_S_d0 h_S_ j).2) ]

/-- The body's operations 6 … 19 of 106. -/
abbrev trip_w1 : List (HloOp τ sig (Elt F)) :=
  [ StableHlo.nullary main_while0b_c_10 (constantI S_ 32 0#32),
    StableHlo.binary main_while0b_v27 main_while0b_c_10 main_while0b_v28 (cmpi .slt : (⟨S_, .i32⟩ : BufTy).Contents (Elt F) → (⟨S_, .i32⟩ : BufTy).Contents (Elt F) → (⟨S_, .i1⟩ : BufTy).Contents (Elt F)),
    StableHlo.nullary main_while0b_c_11 (constantI S_ 32 20000#32),
    StableHlo.binary main_while0b_v27 main_while0b_c_11 main_while0b_v29 (addi : (⟨S_, .i32⟩ : BufTy).Contents (Elt F) → (⟨S_, .i32⟩ : BufTy).Contents (Elt F) → (⟨S_, .i32⟩ : BufTy).Contents (Elt F)),
    StableHlo.ternary main_while0b_v28 main_while0b_v29 main_while0b_v27 main_while0b_v30 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_12 (constantI S_ 32 0#32),
    StableHlo.nullary main_while0b_c_13 (constantI S_ 32 0#32),
    StableHlo.binary main_while0b_c_12 main_while0b_c_13 main_while0b_v31 (cmpi .slt : (⟨S_, .i32⟩ : BufTy).Contents (Elt F) → (⟨S_, .i32⟩ : BufTy).Contents (Elt F) → (⟨S_, .i1⟩ : BufTy).Contents (Elt F)),
    StableHlo.nullary main_while0b_c_14 (constantI S_ 32 0#32),
    StableHlo.nullary main_while0b_c_15 (constantI S_ 32 4#32),
    StableHlo.binary main_while0b_c_14 main_while0b_c_15 main_while0b_v32 (addi : (⟨S_, .i32⟩ : BufTy).Contents (Elt F) → (⟨S_, .i32⟩ : BufTy).Contents (Elt F) → (⟨S_, .i32⟩ : BufTy).Contents (Elt F)),
    StableHlo.nullary main_while0b_c_16 (constantI S_ 32 0#32),
    StableHlo.ternary main_while0b_v31 main_while0b_v32 main_while0b_c_16 main_while0b_v33 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unaryIndexed main_v10_0 ![main_while0b_v30, main_while0b_v33] ⟨S_, .i32⟩ main_while0b_v34 ((fun x i => Host.dynamicSlice S1x4 x (fun k => (i k (Shape.Idx.first h_S_)).toInt) sliceFits_S20000x4_S1x4) : (⟨S20000x4, .f32⟩ : BufTy).Contents (Elt F) → (Fin 2 → (⟨S_, .i32⟩ : BufTy).Contents (Elt F)) → (⟨S1x4, .f32⟩ : BufTy).Contents (Elt F)) ]

/-- The body's operations 20 … 43 of 106. -/
abbrev trip_w2 : List (HloOp τ sig (Elt F)) :=
  [ StableHlo.reshape main_while0b_v34 main_while0b_v35 (rfl : (.f32 : EltTy) = .f32) shapeCasts_S1x4_S4,
    StableHlo.unary main_while0b_v35 main_while0b_v36 ((extractStridedSlice S1 ![0] · slices_S4_S1_0) : (⟨S4, .f32⟩ : BufTy).Contents (Elt F) → (⟨S1, .f32⟩ : BufTy).Contents (Elt F)),
    StableHlo.reshape main_while0b_v36 main_while0b_v37 (rfl : (.f32 : EltTy) = .f32) shapeCasts_S1_S_,
    StableHlo.unary main_v10_0 main_while0b_v38 ((extractStridedSlice S20000x1 ![0, 0] · slices_S20000x4_S20000x1_0_0) : (⟨S20000x4, .f32⟩ : BufTy).Contents (Elt F) → (⟨S20000x1, .f32⟩ : BufTy).Contents (Elt F)),
    StableHlo.reshape main_while0b_v38 main_while0b_v39 (rfl : (.f32 : EltTy) = .f32) shapeCasts_S20000x1_S20000,
    StableHlo.unary main_while0b_v37 main_while0b_v40 (broadcastInDim S20000 ![] bcast_S_S20000 : (⟨S_, .f32⟩ : BufTy).Contents (Elt F) → (⟨S20000, .f32⟩ : BufTy).Contents (Elt F)),
    StableHlo.binary main_while0b_v40 main_while0b_v39 main_while0b_v41 (maximumf : (⟨S20000, .f32⟩ : BufTy).Contents (Elt F) → (⟨S20000, .f32⟩ : BufTy).Contents (Elt F) → (⟨S20000, .f32⟩ : BufTy).Contents (Elt F)),
    StableHlo.unary main_while0b_v35 main_while0b_v42 ((extractStridedSlice S1 ![1] · slices_S4_S1_1) : (⟨S4, .f32⟩ : BufTy).Contents (Elt F) → (⟨S1, .f32⟩ : BufTy).Contents (Elt F)),
    StableHlo.reshape main_while0b_v42 main_while0b_v43 (rfl : (.f32 : EltTy) = .f32) shapeCasts_S1_S_,
    StableHlo.unary main_v10_0 main_while0b_v44 ((extractStridedSlice S20000x1 ![0, 1] · slices_S20000x4_S20000x1_0_1) : (⟨S20000x4, .f32⟩ : BufTy).Contents (Elt F) → (⟨S20000x1, .f32⟩ : BufTy).Contents (Elt F)),
    StableHlo.reshape main_while0b_v44 main_while0b_v45 (rfl : (.f32 : EltTy) = .f32) shapeCasts_S20000x1_S20000,
    StableHlo.unary main_while0b_v43 main_while0b_v46 (broadcastInDim S20000 ![] bcast_S_S20000 : (⟨S_, .f32⟩ : BufTy).Contents (Elt F) → (⟨S20000, .f32⟩ : BufTy).Contents (Elt F)),
    StableHlo.binary main_while0b_v46 main_while0b_v45 main_while0b_v47 (maximumf : (⟨S20000, .f32⟩ : BufTy).Contents (Elt F) → (⟨S20000, .f32⟩ : BufTy).Contents (Elt F) → (⟨S20000, .f32⟩ : BufTy).Contents (Elt F)),
    StableHlo.unary main_while0b_v35 main_while0b_v48 ((extractStridedSlice S1 ![2] · slices_S4_S1_2) : (⟨S4, .f32⟩ : BufTy).Contents (Elt F) → (⟨S1, .f32⟩ : BufTy).Contents (Elt F)),
    StableHlo.reshape main_while0b_v48 main_while0b_v49 (rfl : (.f32 : EltTy) = .f32) shapeCasts_S1_S_,
    StableHlo.unary main_v10_0 main_while0b_v50 ((extractStridedSlice S20000x1 ![0, 2] · slices_S20000x4_S20000x1_0_2) : (⟨S20000x4, .f32⟩ : BufTy).Contents (Elt F) → (⟨S20000x1, .f32⟩ : BufTy).Contents (Elt F)),
    StableHlo.reshape main_while0b_v50 main_while0b_v51 (rfl : (.f32 : EltTy) = .f32) shapeCasts_S20000x1_S20000,
    StableHlo.unary main_while0b_v49 main_while0b_v52 (broadcastInDim S20000 ![] bcast_S_S20000 : (⟨S_, .f32⟩ : BufTy).Contents (Elt F) → (⟨S20000, .f32⟩ : BufTy).Contents (Elt F)),
    StableHlo.binary main_while0b_v52 main_while0b_v51 main_while0b_v53 (minimumf : (⟨S20000, .f32⟩ : BufTy).Contents (Elt F) → (⟨S20000, .f32⟩ : BufTy).Contents (Elt F) → (⟨S20000, .f32⟩ : BufTy).Contents (Elt F)),
    StableHlo.unary main_while0b_v35 main_while0b_v54 ((extractStridedSlice S1 ![3] · slices_S4_S1_3) : (⟨S4, .f32⟩ : BufTy).Contents (Elt F) → (⟨S1, .f32⟩ : BufTy).Contents (Elt F)),
    StableHlo.reshape main_while0b_v54 main_while0b_v55 (rfl : (.f32 : EltTy) = .f32) shapeCasts_S1_S_,
    StableHlo.unary main_v10_0 main_while0b_v56 ((extractStridedSlice S20000x1 ![0, 3] · slices_S20000x4_S20000x1_0_3) : (⟨S20000x4, .f32⟩ : BufTy).Contents (Elt F) → (⟨S20000x1, .f32⟩ : BufTy).Contents (Elt F)),
    StableHlo.reshape main_while0b_v56 main_while0b_v57 (rfl : (.f32 : EltTy) = .f32) shapeCasts_S20000x1_S20000,
    StableHlo.unary main_while0b_v55 main_while0b_v58 (broadcastInDim S20000 ![] bcast_S_S20000 : (⟨S_, .f32⟩ : BufTy).Contents (Elt F) → (⟨S20000, .f32⟩ : BufTy).Contents (Elt F)) ]

/-- The body's operations 44 … 46 of 106. -/
abbrev trip_w3 : List (HloOp τ sig (Elt F)) :=
  [ StableHlo.binary main_while0b_v58 main_while0b_v57 main_while0b_v59 (minimumf : (⟨S20000, .f32⟩ : BufTy).Contents (Elt F) → (⟨S20000, .f32⟩ : BufTy).Contents (Elt F) → (⟨S20000, .f32⟩ : BufTy).Contents (Elt F)),
    StableHlo.binary main_while0b_v53 main_while0b_v41 main_while0b_v60 (subf : (⟨S20000, .f32⟩ : BufTy).Contents (Elt F) → (⟨S20000, .f32⟩ : BufTy).Contents (Elt F) → (⟨S20000, .f32⟩ : BufTy).Contents (Elt F)),
    StableHlo.nullary main_while0b_cst_17 (constant S_ .f32 0x00000000#32) ]

/-- The body's operations 47 … 49 of 106. -/
abbrev trip_w4 : List (HloOp τ sig (Elt F)) :=
  [ StableHlo.TRef.unary (.of main_while0b_cst_17 : StableHlo.TRef sig ⟨S_, .f32⟩) (.of main_while0b_call2_v0 : StableHlo.TRef sig ⟨S_, .f32⟩) id,
    StableHlo.TRef.unary (.of main_while0b_call2_v0 : StableHlo.TRef sig ⟨S_, .f32⟩) (.of main_while0b_call2_v1 : StableHlo.TRef sig ⟨S20000, .f32⟩) (broadcastInDim S20000 ![] bcast_S_S20000),
    StableHlo.TRef.binary (.of main_while0b_call2_v1 : StableHlo.TRef sig ⟨S20000, .f32⟩) (.of main_while0b_v60 : StableHlo.TRef sig ⟨S20000, .f32⟩) (.of main_while0b_v61 : StableHlo.TRef sig ⟨S20000, .f32⟩) maximumf ]

/-- The body's operations 50 … 51 of 106. -/
abbrev trip_w5 : List (HloOp τ sig (Elt F)) :=
  [ StableHlo.binary main_while0b_v59 main_while0b_v47 main_while0b_v62 (subf : (⟨S20000, .f32⟩ : BufTy).Contents (Elt F) → (⟨S20000, .f32⟩ : BufTy).Contents (Elt F) → (⟨S20000, .f32⟩ : BufTy).Contents (Elt F)),
    StableHlo.nullary main_while0b_cst_18 (constant S_ .f32 0x00000000#32) ]

/-- The body's operations 52 … 54 of 106. -/
abbrev trip_w6 : List (HloOp τ sig (Elt F)) :=
  [ StableHlo.TRef.unary (.of main_while0b_cst_18 : StableHlo.TRef sig ⟨S_, .f32⟩) (.of main_while0b_call3_v0 : StableHlo.TRef sig ⟨S_, .f32⟩) id,
    StableHlo.TRef.unary (.of main_while0b_call3_v0 : StableHlo.TRef sig ⟨S_, .f32⟩) (.of main_while0b_call3_v1 : StableHlo.TRef sig ⟨S20000, .f32⟩) (broadcastInDim S20000 ![] bcast_S_S20000),
    StableHlo.TRef.binary (.of main_while0b_call3_v1 : StableHlo.TRef sig ⟨S20000, .f32⟩) (.of main_while0b_v62 : StableHlo.TRef sig ⟨S20000, .f32⟩) (.of main_while0b_v63 : StableHlo.TRef sig ⟨S20000, .f32⟩) maximumf ]

/-- The body's operations 55 … 78 of 106. -/
abbrev trip_w7 : List (HloOp τ sig (Elt F)) :=
  [ StableHlo.binary main_while0b_v61 main_while0b_v63 main_while0b_v64 (mulf : (⟨S20000, .f32⟩ : BufTy).Contents (Elt F) → (⟨S20000, .f32⟩ : BufTy).Contents (Elt F) → (⟨S20000, .f32⟩ : BufTy).Contents (Elt F)),
    StableHlo.unary main_while0b_v35 main_while0b_v65 ((extractStridedSlice S1 ![2] · slices_S4_S1_2) : (⟨S4, .f32⟩ : BufTy).Contents (Elt F) → (⟨S1, .f32⟩ : BufTy).Contents (Elt F)),
    StableHlo.reshape main_while0b_v65 main_while0b_v66 (rfl : (.f32 : EltTy) = .f32) shapeCasts_S1_S_,
    StableHlo.unary main_while0b_v35 main_while0b_v67 ((extractStridedSlice S1 ![0] · slices_S4_S1_0) : (⟨S4, .f32⟩ : BufTy).Contents (Elt F) → (⟨S1, .f32⟩ : BufTy).Contents (Elt F)),
    StableHlo.reshape main_while0b_v67 main_while0b_v68 (rfl : (.f32 : EltTy) = .f32) shapeCasts_S1_S_,
    StableHlo.binary main_while0b_v66 main_while0b_v68 main_while0b_v69 (subf : (⟨S_, .f32⟩ : BufTy).Contents (Elt F) → (⟨S_, .f32⟩ : BufTy).Contents (Elt F) → (⟨S_, .f32⟩ : BufTy).Contents (Elt F)),
    StableHlo.unary main_while0b_v35 main_while0b_v70 ((extractStridedSlice S1 ![3] · slices_S4_S1_3) : (⟨S4, .f32⟩ : BufTy).Contents (Elt F) → (⟨S1, .f32⟩ : BufTy).Contents (Elt F)),
    StableHlo.reshape main_while0b_v70 main_while0b_v71 (rfl : (.f32 : EltTy) = .f32) shapeCasts_S1_S_,
    StableHlo.unary main_while0b_v35 main_while0b_v72 ((extractStridedSlice S1 ![1] · slices_S4_S1_1) : (⟨S4, .f32⟩ : BufTy).Contents (Elt F) → (⟨S1, .f32⟩ : BufTy).Contents (Elt F)),
    StableHlo.reshape main_while0b_v72 main_while0b_v73 (rfl : (.f32 : EltTy) = .f32) shapeCasts_S1_S_,
    StableHlo.binary main_while0b_v71 main_while0b_v73 main_while0b_v74 (subf : (⟨S_, .f32⟩ : BufTy).Contents (Elt F) → (⟨S_, .f32⟩ : BufTy).Contents (Elt F) → (⟨S_, .f32⟩ : BufTy).Contents (Elt F)),
    StableHlo.binary main_while0b_v69 main_while0b_v74 main_while0b_v75 (mulf : (⟨S_, .f32⟩ : BufTy).Contents (Elt F) → (⟨S_, .f32⟩ : BufTy).Contents (Elt F) → (⟨S_, .f32⟩ : BufTy).Contents (Elt F)),
    StableHlo.unary main_v10_0 main_while0b_v76 ((extractStridedSlice S20000x1 ![0, 2] · slices_S20000x4_S20000x1_0_2) : (⟨S20000x4, .f32⟩ : BufTy).Contents (Elt F) → (⟨S20000x1, .f32⟩ : BufTy).Contents (Elt F)),
    StableHlo.reshape main_while0b_v76 main_while0b_v77 (rfl : (.f32 : EltTy) = .f32) shapeCasts_S20000x1_S20000,
    StableHlo.unary main_v10_0 main_while0b_v78 ((extractStridedSlice S20000x1 ![0, 0] · slices_S20000x4_S20000x1_0_0) : (⟨S20000x4, .f32⟩ : BufTy).Contents (Elt F) → (⟨S20000x1, .f32⟩ : BufTy).Contents (Elt F)),
    StableHlo.reshape main_while0b_v78 main_while0b_v79 (rfl : (.f32 : EltTy) = .f32) shapeCasts_S20000x1_S20000,
    StableHlo.binary main_while0b_v77 main_while0b_v79 main_while0b_v80 (subf : (⟨S20000, .f32⟩ : BufTy).Contents (Elt F) → (⟨S20000, .f32⟩ : BufTy).Contents (Elt F) → (⟨S20000, .f32⟩ : BufTy).Contents (Elt F)),
    StableHlo.unary main_v10_0 main_while0b_v81 ((extractStridedSlice S20000x1 ![0, 3] · slices_S20000x4_S20000x1_0_3) : (⟨S20000x4, .f32⟩ : BufTy).Contents (Elt F) → (⟨S20000x1, .f32⟩ : BufTy).Contents (Elt F)),
    StableHlo.reshape main_while0b_v81 main_while0b_v82 (rfl : (.f32 : EltTy) = .f32) shapeCasts_S20000x1_S20000,
    StableHlo.unary main_v10_0 main_while0b_v83 ((extractStridedSlice S20000x1 ![0, 1] · slices_S20000x4_S20000x1_0_1) : (⟨S20000x4, .f32⟩ : BufTy).Contents (Elt F) → (⟨S20000x1, .f32⟩ : BufTy).Contents (Elt F)),
    StableHlo.reshape main_while0b_v83 main_while0b_v84 (rfl : (.f32 : EltTy) = .f32) shapeCasts_S20000x1_S20000,
    StableHlo.binary main_while0b_v82 main_while0b_v84 main_while0b_v85 (subf : (⟨S20000, .f32⟩ : BufTy).Contents (Elt F) → (⟨S20000, .f32⟩ : BufTy).Contents (Elt F) → (⟨S20000, .f32⟩ : BufTy).Contents (Elt F)),
    StableHlo.binary main_while0b_v80 main_while0b_v85 main_while0b_v86 (mulf : (⟨S20000, .f32⟩ : BufTy).Contents (Elt F) → (⟨S20000, .f32⟩ : BufTy).Contents (Elt F) → (⟨S20000, .f32⟩ : BufTy).Contents (Elt F)),
    StableHlo.unary main_while0b_v75 main_while0b_v87 (broadcastInDim S20000 ![] bcast_S_S20000 : (⟨S_, .f32⟩ : BufTy).Contents (Elt F) → (⟨S20000, .f32⟩ : BufTy).Contents (Elt F)) ]

/-- The body's operations 79 … 88 of 106. -/
abbrev trip_w8 : List (HloOp τ sig (Elt F)) :=
  [ StableHlo.binary main_while0b_v87 main_while0b_v86 main_while0b_v88 (addf : (⟨S20000, .f32⟩ : BufTy).Contents (Elt F) → (⟨S20000, .f32⟩ : BufTy).Contents (Elt F) → (⟨S20000, .f32⟩ : BufTy).Contents (Elt F)),
    StableHlo.binary main_while0b_v88 main_while0b_v64 main_while0b_v89 (subf : (⟨S20000, .f32⟩ : BufTy).Contents (Elt F) → (⟨S20000, .f32⟩ : BufTy).Contents (Elt F) → (⟨S20000, .f32⟩ : BufTy).Contents (Elt F)),
    StableHlo.nullary main_while0b_cst_19 (constant S_ .f32 0x3089705F#32),
    StableHlo.unary main_while0b_cst_19 main_while0b_v90 (broadcastInDim S20000 ![] bcast_S_S20000 : (⟨S_, .f32⟩ : BufTy).Contents (Elt F) → (⟨S20000, .f32⟩ : BufTy).Contents (Elt F)),
    StableHlo.binary main_while0b_v89 main_while0b_v90 main_while0b_v91 (addf : (⟨S20000, .f32⟩ : BufTy).Contents (Elt F) → (⟨S20000, .f32⟩ : BufTy).Contents (Elt F) → (⟨S20000, .f32⟩ : BufTy).Contents (Elt F)),
    StableHlo.binary main_while0b_v64 main_while0b_v91 main_while0b_v92 (Host.divf : (⟨S20000, .f32⟩ : BufTy).Contents (Elt F) → (⟨S20000, .f32⟩ : BufTy).Contents (Elt F) → (⟨S20000, .f32⟩ : BufTy).Contents (Elt F)),
    StableHlo.nullary main_while0b_cst_20 (constant S_ .f32 0x3F19999A#32),
    StableHlo.unary main_while0b_cst_20 main_while0b_v93 (broadcastInDim S20000 ![] bcast_S_S20000 : (⟨S_, .f32⟩ : BufTy).Contents (Elt F) → (⟨S20000, .f32⟩ : BufTy).Contents (Elt F)),
    StableHlo.binary main_while0b_v92 main_while0b_v93 main_while0b_v94 (cmpf .ogt : (⟨S20000, .f32⟩ : BufTy).Contents (Elt F) → (⟨S20000, .f32⟩ : BufTy).Contents (Elt F) → (⟨S20000, .i1⟩ : BufTy).Contents (Elt F)),
    StableHlo.nullary main_while0b_cst_21 (constant S_ .f32 0xCE6E6B28#32) ]

/-- The body's operations 89 … 91 of 106. -/
abbrev trip_w9 : List (HloOp τ sig (Elt F)) :=
  [ StableHlo.TRef.unary (.of main_while0b_cst_21 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S20000, .f32⟩) (broadcastInDim S20000 ![] bcast_S_S20000),
    StableHlo.TRef.ternary (.of main_while0b_v94 : StableHlo.TRef sig ⟨S20000, .i1⟩) (.of main_while0b_call4_v1 : StableHlo.TRef sig ⟨S20000, .f32⟩) (.of main_v10_2 : StableHlo.TRef sig ⟨S20000, .f32⟩) (.of main_while0b_v95 : StableHlo.TRef sig ⟨S20000, .f32⟩) select ]

/-- The body's operations 92 … 99 of 106. -/
abbrev trip_w10 : List (HloOp τ sig (Elt F)) :=
  [ StableHlo.nullary main_while0b_c_22 (constantI S_ 32 0#32),
    StableHlo.binary main_while0b_v27 main_while0b_c_22 main_while0b_v96 (cmpi .slt : (⟨S_, .i32⟩ : BufTy).Contents (Elt F) → (⟨S_, .i32⟩ : BufTy).Contents (Elt F) → (⟨S_, .i1⟩ : BufTy).Contents (Elt F)),
    StableHlo.nullary main_while0b_c_23 (constantI S_ 32 20000#32),
    StableHlo.binary main_while0b_v27 main_while0b_c_23 main_while0b_v97 (addi : (⟨S_, .i32⟩ : BufTy).Contents (Elt F) → (⟨S_, .i32⟩ : BufTy).Contents (Elt F) → (⟨S_, .i32⟩ : BufTy).Contents (Elt F)),
    StableHlo.ternary main_while0b_v96 main_while0b_v97 main_while0b_v27 main_while0b_v98 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v98 main_while0b_v99 (broadcastInDim S1 ![] bcast_S_S1 : (⟨S_, .i32⟩ : BufTy).Contents (Elt F) → (⟨S1, .i32⟩ : BufTy).Contents (Elt F)),
    StableHlo.nullary main_while0b_cst_24 (constant S_ .f32 0xCE6E6B28#32),
    StableHlo.ternary main_while0b_v95 main_while0b_v99 main_while0b_cst_24 main_while0b_v100 ((fun x i u => Host.scatter scatter_S20000_S1_S__n_0_0_0 (fun _ b => b) x i u) : (⟨S20000, .f32⟩ : BufTy).Contents (Elt F) → (⟨S1, .i32⟩ : BufTy).Contents (Elt F) → (⟨S_, .f32⟩ : BufTy).Contents (Elt F) → (⟨S20000, .f32⟩ : BufTy).Contents (Elt F)) ]

/-- The body's operations 100 … 101 of 106. -/
abbrev trip_w11 : List (HloOp τ sig (Elt F)) :=
  [ StableHlo.TRef.unary (.of main_while0b_v27 : StableHlo.TRef sig ⟨S_, .i32⟩) (.of main_while0b_call5_v0 : StableHlo.TRef sig ⟨S1, .i32⟩) (broadcastInDim S1 ![] bcast_S_S1),
    StableHlo.TRef.binaryIndexed (.of main_v10_3 : StableHlo.TRef sig ⟨S100, .i32⟩) (.of main_while0b_call5_v0 : StableHlo.TRef sig ⟨S1, .i32⟩) ![(.of main_v10_1 : StableHlo.TRef sig ⟨S_, .i32⟩)] (.of main_while0b_v101 : StableHlo.TRef sig ⟨S100, .i32⟩) (fun x u i => Host.dynamicUpdateSlice x u (fun k => (i k (Shape.Idx.first h_S_)).toInt) updateFits_S100_S1) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 ++ (trip_w2 ++ (trip_w3)) := rfl
set_option maxRecDepth 5000 in
/-- `while0Ops0_2` is its windows in order. -/
theorem while0Ops0_2_cut : (while0Ops0_2 : List (HloOp τ sig (Elt F))) = trip_w4 := rfl
set_option maxRecDepth 5000 in
/-- `while0Ops0_3` is its windows in order. -/
theorem while0Ops0_3_cut : (while0Ops0_3 : List (HloOp τ sig (Elt F))) = trip_w5 := rfl
set_option maxRecDepth 5000 in
/-- `while0Ops0_4` is its windows in order. -/
theorem while0Ops0_4_cut : (while0Ops0_4 : List (HloOp τ sig (Elt F))) = trip_w6 := rfl
set_option maxRecDepth 5000 in
/-- `while0Ops0_5` is its windows in order. -/
theorem while0Ops0_5_cut : (while0Ops0_5 : List (HloOp τ sig (Elt F))) = trip_w7 ++ (trip_w8) := rfl
set_option maxRecDepth 5000 in
/-- `while0Ops0_6` is its windows in order. -/
theorem while0Ops0_6_cut : (while0Ops0_6 : List (HloOp τ sig (Elt F))) = trip_w9 := rfl
set_option maxRecDepth 5000 in
/-- `while0Ops0_7` is its windows in order. -/
theorem while0Ops0_7_cut : (while0Ops0_7 : List (HloOp τ sig (Elt F))) = trip_w10 := rfl
set_option maxRecDepth 5000 in
/-- `while0Ops0_8` is its windows in order. -/
theorem while0Ops0_8_cut : (while0Ops0_8 : List (HloOp τ sig (Elt F))) = trip_w11 := rfl

set_option maxRecDepth 8192 in
/-- `main_while0b_call1_v0`'s composed term of the carried buffers (named: it is used 2 times). -/
def res_main_while0b_call1_v0 (V0 : Valuation τ sig (Elt F)) : (Proc.devRef .tc main_while0b_call1_v0 : DevRef τ sig).ty.Contents (Elt F) :=
  iotaInDim S20000 32 0

set_option maxRecDepth 8192 in
/-- `main_while0b_call1_cst`'s composed term of the carried buffers (named: it is used 2 times). -/
def res_main_while0b_call1_cst (V0 : Valuation τ sig (Elt F)) : (Proc.devRef .tc main_while0b_call1_cst : DevRef τ sig).ty.Contents (Elt F) :=
  constant S_ .f32 0xFF800000#32

set_option maxRecDepth 8192 in
/-- `main_while0b_call1_c`'s composed term of the carried buffers (named: it is used 2 times). -/
def res_main_while0b_call1_c (V0 : Valuation τ sig (Elt F)) : (Proc.devRef .tc main_while0b_call1_c : DevRef τ sig).ty.Contents (Elt F) :=
  constantI S_ 32 0#32

set_option maxRecDepth 8192 in
/-- `main_while0b_v27`'s composed term of the carried buffers (named: it is used 7 times). -/
def res_main_while0b_v27 (V0 : Valuation τ sig (Elt F)) : (Proc.devRef .tc main_while0b_v27 : DevRef τ sig).ty.Contents (Elt F) :=
  (fun j => (Host.argReduce reducer_argmax_f32_i32 (V0 (Proc.devRef .tc main_v10_2)) (res_main_while0b_call1_v0 V0) (res_main_while0b_call1_cst V0) (res_main_while0b_call1_c V0) reducesTo_S20000_S_d0 h_S_ j).2)

set_option maxRecDepth 8192 in
/-- `main_while0b_v35`'s composed term of the carried buffers (named: it is used 8 times). -/
def res_main_while0b_v35 (V0 : Valuation τ sig (Elt F)) : (Proc.devRef .tc main_while0b_v35 : DevRef τ sig).ty.Contents (Elt F) :=
  shapeCast S4 (Host.dynamicSlice S1x4 (V0 (Proc.devRef .tc main_v10_0)) (fun k => (((![select (cmpi .slt (res_main_while0b_v27 V0) (constantI S_ 32 0#32)) (addi (res_main_while0b_v27 V0) (constantI S_ 32 20000#32)) (res_main_while0b_v27 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S20000x4_S1x4) shapeCasts_S1x4_S4

set_option maxRecDepth 8192 in
/-- `main_while0b_v64`'s composed term of the carried buffers (named: it is used 2 times). -/
def res_main_while0b_v64 (V0 : Valuation τ sig (Elt F)) : (Proc.devRef .tc main_while0b_v64 : DevRef τ sig).ty.Contents (Elt F) :=
  mulf (maximumf (broadcastInDim S20000 ![] bcast_S_S20000 (id (constant S_ .f32 0x00000000#32))) (subf (minimumf (broadcastInDim S20000 ![] bcast_S_S20000 (shapeCast S_ (extractStridedSlice S1 ![2] (res_main_while0b_v35 V0) slices_S4_S1_2) shapeCasts_S1_S_)) (shapeCast S20000 (extractStridedSlice S20000x1 ![0, 2] (V0 (Proc.devRef .tc main_v10_0)) slices_S20000x4_S20000x1_0_2) shapeCasts_S20000x1_S20000)) (maximumf (broadcastInDim S20000 ![] bcast_S_S20000 (shapeCast S_ (extractStridedSlice S1 ![0] (res_main_while0b_v35 V0) slices_S4_S1_0) shapeCasts_S1_S_)) (shapeCast S20000 (extractStridedSlice S20000x1 ![0, 0] (V0 (Proc.devRef .tc main_v10_0)) slices_S20000x4_S20000x1_0_0) shapeCasts_S20000x1_S20000)))) (maximumf (broadcastInDim S20000 ![] bcast_S_S20000 (id (constant S_ .f32 0x00000000#32))) (subf (minimumf (broadcastInDim S20000 ![] bcast_S_S20000 (shapeCast S_ (extractStridedSlice S1 ![3] (res_main_while0b_v35 V0) slices_S4_S1_3) shapeCasts_S1_S_)) (shapeCast S20000 (extractStridedSlice S20000x1 ![0, 3] (V0 (Proc.devRef .tc main_v10_0)) slices_S20000x4_S20000x1_0_3) shapeCasts_S20000x1_S20000)) (maximumf (broadcastInDim S20000 ![] bcast_S_S20000 (shapeCast S_ (extractStridedSlice S1 ![1] (res_main_while0b_v35 V0) slices_S4_S1_1) shapeCasts_S1_S_)) (shapeCast S20000 (extractStridedSlice S20000x1 ![0, 1] (V0 (Proc.devRef .tc main_v10_0)) slices_S20000x4_S20000x1_0_1) shapeCasts_S20000x1_S20000))))

/-- The device's buffer contents before the body's first window. -/
def val0 (V0 : Valuation τ sig (Elt F)) : Valuation τ sig (Elt F) := V0
theorem val0_main_v10_2 (V0 : Valuation τ sig (Elt F)) : val0 V0 (no_index (Proc.devRef .tc main_v10_2)) = V0 (Proc.devRef .tc main_v10_2) := rfl
theorem val0_main_v10_0 (V0 : Valuation τ sig (Elt F)) : val0 V0 (no_index (Proc.devRef .tc main_v10_0)) = V0 (Proc.devRef .tc main_v10_0) := rfl
theorem val0_main_v10_3 (V0 : Valuation τ sig (Elt F)) : val0 V0 (no_index (Proc.devRef .tc main_v10_3)) = V0 (Proc.devRef .tc main_v10_3) := rfl
theorem val0_main_v10_1 (V0 : Valuation τ sig (Elt F)) : val0 V0 (no_index (Proc.devRef .tc main_v10_1)) = V0 (Proc.devRef .tc main_v10_1) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call1_v0, main_while0b_call1_cst, main_while0b_call1_c, main_while0b_call1_v1_0, main_while0b_v27]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v10_2 (V0 : Valuation τ sig (Elt F)) : val1 V0 (no_index (Proc.devRef .tc main_v10_2)) = V0 (Proc.devRef .tc main_v10_2) :=
  (val1_keep V0 main_v10_2 (by decide)).trans (val0_main_v10_2 V0)
theorem val1_main_v10_0 (V0 : Valuation τ sig (Elt F)) : val1 V0 (no_index (Proc.devRef .tc main_v10_0)) = V0 (Proc.devRef .tc main_v10_0) :=
  (val1_keep V0 main_v10_0 (by decide)).trans (val0_main_v10_0 V0)
theorem val1_main_v10_3 (V0 : Valuation τ sig (Elt F)) : val1 V0 (no_index (Proc.devRef .tc main_v10_3)) = V0 (Proc.devRef .tc main_v10_3) :=
  (val1_keep V0 main_v10_3 (by decide)).trans (val0_main_v10_3 V0)
theorem val1_main_v10_1 (V0 : Valuation τ sig (Elt F)) : val1 V0 (no_index (Proc.devRef .tc main_v10_1)) = V0 (Proc.devRef .tc main_v10_1) :=
  (val1_keep V0 main_v10_1 (by decide)).trans (val0_main_v10_1 V0)
set_option maxRecDepth 8192 in
theorem val1_main_while0b_v27 (V0 : Valuation τ sig (Elt F)) : val1 V0 (no_index (Proc.devRef .tc main_while0b_v27)) = res_main_while0b_v27 V0 := by
  unfold val1
  simp only [trip_w0]
  after_results_entrywise [val0_main_v10_2, res_main_while0b_call1_v0, res_main_while0b_call1_cst, res_main_while0b_call1_c, res_main_while0b_v27, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_c_10, main_while0b_v28, main_while0b_c_11, main_while0b_v29, main_while0b_v30, main_while0b_c_12, main_while0b_c_13, main_while0b_v31, main_while0b_c_14, main_while0b_c_15, main_while0b_v32, main_while0b_c_16, main_while0b_v33, main_while0b_v34]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v10_2 (V0 : Valuation τ sig (Elt F)) : val2 V0 (no_index (Proc.devRef .tc main_v10_2)) = V0 (Proc.devRef .tc main_v10_2) :=
  (val2_keep V0 main_v10_2 (by decide)).trans (val1_main_v10_2 V0)
theorem val2_main_v10_0 (V0 : Valuation τ sig (Elt F)) : val2 V0 (no_index (Proc.devRef .tc main_v10_0)) = V0 (Proc.devRef .tc main_v10_0) :=
  (val2_keep V0 main_v10_0 (by decide)).trans (val1_main_v10_0 V0)
theorem val2_main_v10_3 (V0 : Valuation τ sig (Elt F)) : val2 V0 (no_index (Proc.devRef .tc main_v10_3)) = V0 (Proc.devRef .tc main_v10_3) :=
  (val2_keep V0 main_v10_3 (by decide)).trans (val1_main_v10_3 V0)
theorem val2_main_v10_1 (V0 : Valuation τ sig (Elt F)) : val2 V0 (no_index (Proc.devRef .tc main_v10_1)) = V0 (Proc.devRef .tc main_v10_1) :=
  (val2_keep V0 main_v10_1 (by decide)).trans (val1_main_v10_1 V0)
theorem val2_main_while0b_v27 (V0 : Valuation τ sig (Elt F)) : val2 V0 (no_index (Proc.devRef .tc main_while0b_v27)) = res_main_while0b_v27 V0 :=
  (val2_keep V0 main_while0b_v27 (by decide)).trans (val1_main_while0b_v27 V0)
set_option maxRecDepth 8192 in
set_option maxHeartbeats 1400000 in
theorem val2_main_while0b_v34 (V0 : Valuation τ sig (Elt F)) : val2 V0 (no_index (Proc.devRef .tc main_while0b_v34)) = Host.dynamicSlice S1x4 (V0 (Proc.devRef .tc main_v10_0)) (fun k => (((![select (cmpi .slt (res_main_while0b_v27 V0) (constantI S_ 32 0#32)) (addi (res_main_while0b_v27 V0) (constantI S_ 32 20000#32)) (res_main_while0b_v27 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S20000x4_S1x4 := by
  unfold val2
  simp only [trip_w1]
  after_results_entrywise [val1_main_while0b_v27, val1_main_v10_0, cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_v35, main_while0b_v36, main_while0b_v37, main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v10_2 (V0 : Valuation τ sig (Elt F)) : val3 V0 (no_index (Proc.devRef .tc main_v10_2)) = V0 (Proc.devRef .tc main_v10_2) :=
  (val3_keep V0 main_v10_2 (by decide)).trans (val2_main_v10_2 V0)
theorem val3_main_v10_0 (V0 : Valuation τ sig (Elt F)) : val3 V0 (no_index (Proc.devRef .tc main_v10_0)) = V0 (Proc.devRef .tc main_v10_0) :=
  (val3_keep V0 main_v10_0 (by decide)).trans (val2_main_v10_0 V0)
theorem val3_main_v10_3 (V0 : Valuation τ sig (Elt F)) : val3 V0 (no_index (Proc.devRef .tc main_v10_3)) = V0 (Proc.devRef .tc main_v10_3) :=
  (val3_keep V0 main_v10_3 (by decide)).trans (val2_main_v10_3 V0)
theorem val3_main_v10_1 (V0 : Valuation τ sig (Elt F)) : val3 V0 (no_index (Proc.devRef .tc main_v10_1)) = V0 (Proc.devRef .tc main_v10_1) :=
  (val3_keep V0 main_v10_1 (by decide)).trans (val2_main_v10_1 V0)
theorem val3_main_while0b_v27 (V0 : Valuation τ sig (Elt F)) : val3 V0 (no_index (Proc.devRef .tc main_while0b_v27)) = res_main_while0b_v27 V0 :=
  (val3_keep V0 main_while0b_v27 (by decide)).trans (val2_main_while0b_v27 V0)
set_option maxRecDepth 8192 in
set_option maxHeartbeats 2000000 in
theorem val3_main_while0b_v35 (V0 : Valuation τ sig (Elt F)) : val3 V0 (no_index (Proc.devRef .tc main_while0b_v35)) = res_main_while0b_v35 V0 := by
  unfold val3
  simp only [trip_w2]
  after_results_entrywise [val2_main_while0b_v34, res_main_while0b_v35, cast_eq]
set_option maxRecDepth 8192 in
set_option maxHeartbeats 2000000 in
theorem val3_main_while0b_v41 (V0 : Valuation τ sig (Elt F)) : val3 V0 (no_index (Proc.devRef .tc main_while0b_v41)) = maximumf (broadcastInDim S20000 ![] bcast_S_S20000 (shapeCast S_ (extractStridedSlice S1 ![0] (res_main_while0b_v35 V0) slices_S4_S1_0) shapeCasts_S1_S_)) (shapeCast S20000 (extractStridedSlice S20000x1 ![0, 0] (V0 (Proc.devRef .tc main_v10_0)) slices_S20000x4_S20000x1_0_0) shapeCasts_S20000x1_S20000) := by
  unfold val3
  simp only [trip_w2]
  after_results_entrywise [val2_main_v10_0, val2_main_while0b_v34, res_main_while0b_v35, cast_eq]
set_option maxRecDepth 8192 in
set_option maxHeartbeats 2000000 in
theorem val3_main_while0b_v47 (V0 : Valuation τ sig (Elt F)) : val3 V0 (no_index (Proc.devRef .tc main_while0b_v47)) = maximumf (broadcastInDim S20000 ![] bcast_S_S20000 (shapeCast S_ (extractStridedSlice S1 ![1] (res_main_while0b_v35 V0) slices_S4_S1_1) shapeCasts_S1_S_)) (shapeCast S20000 (extractStridedSlice S20000x1 ![0, 1] (V0 (Proc.devRef .tc main_v10_0)) slices_S20000x4_S20000x1_0_1) shapeCasts_S20000x1_S20000) := by
  unfold val3
  simp only [trip_w2]
  after_results_entrywise [val2_main_v10_0, val2_main_while0b_v34, res_main_while0b_v35, cast_eq]
set_option maxRecDepth 8192 in
set_option maxHeartbeats 2000000 in
theorem val3_main_while0b_v53 (V0 : Valuation τ sig (Elt F)) : val3 V0 (no_index (Proc.devRef .tc main_while0b_v53)) = minimumf (broadcastInDim S20000 ![] bcast_S_S20000 (shapeCast S_ (extractStridedSlice S1 ![2] (res_main_while0b_v35 V0) slices_S4_S1_2) shapeCasts_S1_S_)) (shapeCast S20000 (extractStridedSlice S20000x1 ![0, 2] (V0 (Proc.devRef .tc main_v10_0)) slices_S20000x4_S20000x1_0_2) shapeCasts_S20000x1_S20000) := by
  unfold val3
  simp only [trip_w2]
  after_results_entrywise [val2_main_v10_0, val2_main_while0b_v34, res_main_while0b_v35, cast_eq]
set_option maxRecDepth 8192 in
set_option maxHeartbeats 2000000 in
theorem val3_main_while0b_v57 (V0 : Valuation τ sig (Elt F)) : val3 V0 (no_index (Proc.devRef .tc main_while0b_v57)) = shapeCast S20000 (extractStridedSlice S20000x1 ![0, 3] (V0 (Proc.devRef .tc main_v10_0)) slices_S20000x4_S20000x1_0_3) shapeCasts_S20000x1_S20000 := by
  unfold val3
  simp only [trip_w2]
  after_results_entrywise [val2_main_v10_0, cast_eq]
set_option maxRecDepth 8192 in
set_option maxHeartbeats 2000000 in
theorem val3_main_while0b_v58 (V0 : Valuation τ sig (Elt F)) : val3 V0 (no_index (Proc.devRef .tc main_while0b_v58)) = broadcastInDim S20000 ![] bcast_S_S20000 (shapeCast S_ (extractStridedSlice S1 ![3] (res_main_while0b_v35 V0) slices_S4_S1_3) shapeCasts_S1_S_) := by
  unfold val3
  simp only [trip_w2]
  after_results_entrywise [val2_main_while0b_v34, res_main_while0b_v35, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v59, main_while0b_v60, main_while0b_cst_17]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v10_2 (V0 : Valuation τ sig (Elt F)) : val4 V0 (no_index (Proc.devRef .tc main_v10_2)) = V0 (Proc.devRef .tc main_v10_2) :=
  (val4_keep V0 main_v10_2 (by decide)).trans (val3_main_v10_2 V0)
theorem val4_main_v10_0 (V0 : Valuation τ sig (Elt F)) : val4 V0 (no_index (Proc.devRef .tc main_v10_0)) = V0 (Proc.devRef .tc main_v10_0) :=
  (val4_keep V0 main_v10_0 (by decide)).trans (val3_main_v10_0 V0)
theorem val4_main_v10_3 (V0 : Valuation τ sig (Elt F)) : val4 V0 (no_index (Proc.devRef .tc main_v10_3)) = V0 (Proc.devRef .tc main_v10_3) :=
  (val4_keep V0 main_v10_3 (by decide)).trans (val3_main_v10_3 V0)
theorem val4_main_v10_1 (V0 : Valuation τ sig (Elt F)) : val4 V0 (no_index (Proc.devRef .tc main_v10_1)) = V0 (Proc.devRef .tc main_v10_1) :=
  (val4_keep V0 main_v10_1 (by decide)).trans (val3_main_v10_1 V0)
theorem val4_main_while0b_v27 (V0 : Valuation τ sig (Elt F)) : val4 V0 (no_index (Proc.devRef .tc main_while0b_v27)) = res_main_while0b_v27 V0 :=
  (val4_keep V0 main_while0b_v27 (by decide)).trans (val3_main_while0b_v27 V0)
theorem val4_main_while0b_v35 (V0 : Valuation τ sig (Elt F)) : val4 V0 (no_index (Proc.devRef .tc main_while0b_v35)) = res_main_while0b_v35 V0 :=
  (val4_keep V0 main_while0b_v35 (by decide)).trans (val3_main_while0b_v35 V0)
theorem val4_main_while0b_v47 (V0 : Valuation τ sig (Elt F)) : val4 V0 (no_index (Proc.devRef .tc main_while0b_v47)) = maximumf (broadcastInDim S20000 ![] bcast_S_S20000 (shapeCast S_ (extractStridedSlice S1 ![1] (res_main_while0b_v35 V0) slices_S4_S1_1) shapeCasts_S1_S_)) (shapeCast S20000 (extractStridedSlice S20000x1 ![0, 1] (V0 (Proc.devRef .tc main_v10_0)) slices_S20000x4_S20000x1_0_1) shapeCasts_S20000x1_S20000) :=
  (val4_keep V0 main_while0b_v47 (by decide)).trans (val3_main_while0b_v47 V0)
set_option maxRecDepth 8192 in
theorem val4_main_while0b_v59 (V0 : Valuation τ sig (Elt F)) : val4 V0 (no_index (Proc.devRef .tc main_while0b_v59)) = minimumf (broadcastInDim S20000 ![] bcast_S_S20000 (shapeCast S_ (extractStridedSlice S1 ![3] (res_main_while0b_v35 V0) slices_S4_S1_3) shapeCasts_S1_S_)) (shapeCast S20000 (extractStridedSlice S20000x1 ![0, 3] (V0 (Proc.devRef .tc main_v10_0)) slices_S20000x4_S20000x1_0_3) shapeCasts_S20000x1_S20000) := by
  unfold val4
  simp only [trip_w3]
  after_results_entrywise [val3_main_while0b_v57, val3_main_while0b_v58, cast_eq]
set_option maxRecDepth 8192 in
theorem val4_main_while0b_v60 (V0 : Valuation τ sig (Elt F)) : val4 V0 (no_index (Proc.devRef .tc main_while0b_v60)) = subf (minimumf (broadcastInDim S20000 ![] bcast_S_S20000 (shapeCast S_ (extractStridedSlice S1 ![2] (res_main_while0b_v35 V0) slices_S4_S1_2) shapeCasts_S1_S_)) (shapeCast S20000 (extractStridedSlice S20000x1 ![0, 2] (V0 (Proc.devRef .tc main_v10_0)) slices_S20000x4_S20000x1_0_2) shapeCasts_S20000x1_S20000)) (maximumf (broadcastInDim S20000 ![] bcast_S_S20000 (shapeCast S_ (extractStridedSlice S1 ![0] (res_main_while0b_v35 V0) slices_S4_S1_0) shapeCasts_S1_S_)) (shapeCast S20000 (extractStridedSlice S20000x1 ![0, 0] (V0 (Proc.devRef .tc main_v10_0)) slices_S20000x4_S20000x1_0_0) shapeCasts_S20000x1_S20000)) := by
  unfold val4
  simp only [trip_w3]
  after_results_entrywise [val3_main_while0b_v41, val3_main_while0b_v53, cast_eq]
set_option maxRecDepth 8192 in
theorem val4_main_while0b_cst_17 (V0 : Valuation τ sig (Elt F)) : val4 V0 (no_index (Proc.devRef .tc main_while0b_cst_17)) = constant S_ .f32 0x00000000#32 := by
  unfold val4
  simp only [trip_w3]
  after_results_entrywise [cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_call2_v0, main_while0b_call2_v1, main_while0b_v61]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v10_2 (V0 : Valuation τ sig (Elt F)) : val5 V0 (no_index (Proc.devRef .tc main_v10_2)) = V0 (Proc.devRef .tc main_v10_2) :=
  (val5_keep V0 main_v10_2 (by decide)).trans (val4_main_v10_2 V0)
theorem val5_main_v10_0 (V0 : Valuation τ sig (Elt F)) : val5 V0 (no_index (Proc.devRef .tc main_v10_0)) = V0 (Proc.devRef .tc main_v10_0) :=
  (val5_keep V0 main_v10_0 (by decide)).trans (val4_main_v10_0 V0)
theorem val5_main_v10_3 (V0 : Valuation τ sig (Elt F)) : val5 V0 (no_index (Proc.devRef .tc main_v10_3)) = V0 (Proc.devRef .tc main_v10_3) :=
  (val5_keep V0 main_v10_3 (by decide)).trans (val4_main_v10_3 V0)
theorem val5_main_v10_1 (V0 : Valuation τ sig (Elt F)) : val5 V0 (no_index (Proc.devRef .tc main_v10_1)) = V0 (Proc.devRef .tc main_v10_1) :=
  (val5_keep V0 main_v10_1 (by decide)).trans (val4_main_v10_1 V0)
theorem val5_main_while0b_v27 (V0 : Valuation τ sig (Elt F)) : val5 V0 (no_index (Proc.devRef .tc main_while0b_v27)) = res_main_while0b_v27 V0 :=
  (val5_keep V0 main_while0b_v27 (by decide)).trans (val4_main_while0b_v27 V0)
theorem val5_main_while0b_v35 (V0 : Valuation τ sig (Elt F)) : val5 V0 (no_index (Proc.devRef .tc main_while0b_v35)) = res_main_while0b_v35 V0 :=
  (val5_keep V0 main_while0b_v35 (by decide)).trans (val4_main_while0b_v35 V0)
theorem val5_main_while0b_v47 (V0 : Valuation τ sig (Elt F)) : val5 V0 (no_index (Proc.devRef .tc main_while0b_v47)) = maximumf (broadcastInDim S20000 ![] bcast_S_S20000 (shapeCast S_ (extractStridedSlice S1 ![1] (res_main_while0b_v35 V0) slices_S4_S1_1) shapeCasts_S1_S_)) (shapeCast S20000 (extractStridedSlice S20000x1 ![0, 1] (V0 (Proc.devRef .tc main_v10_0)) slices_S20000x4_S20000x1_0_1) shapeCasts_S20000x1_S20000) :=
  (val5_keep V0 main_while0b_v47 (by decide)).trans (val4_main_while0b_v47 V0)
theorem val5_main_while0b_v59 (V0 : Valuation τ sig (Elt F)) : val5 V0 (no_index (Proc.devRef .tc main_while0b_v59)) = minimumf (broadcastInDim S20000 ![] bcast_S_S20000 (shapeCast S_ (extractStridedSlice S1 ![3] (res_main_while0b_v35 V0) slices_S4_S1_3) shapeCasts_S1_S_)) (shapeCast S20000 (extractStridedSlice S20000x1 ![0, 3] (V0 (Proc.devRef .tc main_v10_0)) slices_S20000x4_S20000x1_0_3) shapeCasts_S20000x1_S20000) :=
  (val5_keep V0 main_while0b_v59 (by decide)).trans (val4_main_while0b_v59 V0)
set_option maxRecDepth 8192 in
theorem val5_main_while0b_v61 (V0 : Valuation τ sig (Elt F)) : val5 V0 (no_index (Proc.devRef .tc main_while0b_v61)) = maximumf (broadcastInDim S20000 ![] bcast_S_S20000 (id (constant S_ .f32 0x00000000#32))) (subf (minimumf (broadcastInDim S20000 ![] bcast_S_S20000 (shapeCast S_ (extractStridedSlice S1 ![2] (res_main_while0b_v35 V0) slices_S4_S1_2) shapeCasts_S1_S_)) (shapeCast S20000 (extractStridedSlice S20000x1 ![0, 2] (V0 (Proc.devRef .tc main_v10_0)) slices_S20000x4_S20000x1_0_2) shapeCasts_S20000x1_S20000)) (maximumf (broadcastInDim S20000 ![] bcast_S_S20000 (shapeCast S_ (extractStridedSlice S1 ![0] (res_main_while0b_v35 V0) slices_S4_S1_0) shapeCasts_S1_S_)) (shapeCast S20000 (extractStridedSlice S20000x1 ![0, 0] (V0 (Proc.devRef .tc main_v10_0)) slices_S20000x4_S20000x1_0_0) shapeCasts_S20000x1_S20000))) := by
  unfold val5
  simp only [trip_w4]
  after_results_entrywise [val4_main_while0b_v60, val4_main_while0b_cst_17, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_v62, main_while0b_cst_18]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v10_2 (V0 : Valuation τ sig (Elt F)) : val6 V0 (no_index (Proc.devRef .tc main_v10_2)) = V0 (Proc.devRef .tc main_v10_2) :=
  (val6_keep V0 main_v10_2 (by decide)).trans (val5_main_v10_2 V0)
theorem val6_main_v10_0 (V0 : Valuation τ sig (Elt F)) : val6 V0 (no_index (Proc.devRef .tc main_v10_0)) = V0 (Proc.devRef .tc main_v10_0) :=
  (val6_keep V0 main_v10_0 (by decide)).trans (val5_main_v10_0 V0)
theorem val6_main_v10_3 (V0 : Valuation τ sig (Elt F)) : val6 V0 (no_index (Proc.devRef .tc main_v10_3)) = V0 (Proc.devRef .tc main_v10_3) :=
  (val6_keep V0 main_v10_3 (by decide)).trans (val5_main_v10_3 V0)
theorem val6_main_v10_1 (V0 : Valuation τ sig (Elt F)) : val6 V0 (no_index (Proc.devRef .tc main_v10_1)) = V0 (Proc.devRef .tc main_v10_1) :=
  (val6_keep V0 main_v10_1 (by decide)).trans (val5_main_v10_1 V0)
theorem val6_main_while0b_v27 (V0 : Valuation τ sig (Elt F)) : val6 V0 (no_index (Proc.devRef .tc main_while0b_v27)) = res_main_while0b_v27 V0 :=
  (val6_keep V0 main_while0b_v27 (by decide)).trans (val5_main_while0b_v27 V0)
theorem val6_main_while0b_v35 (V0 : Valuation τ sig (Elt F)) : val6 V0 (no_index (Proc.devRef .tc main_while0b_v35)) = res_main_while0b_v35 V0 :=
  (val6_keep V0 main_while0b_v35 (by decide)).trans (val5_main_while0b_v35 V0)
theorem val6_main_while0b_v61 (V0 : Valuation τ sig (Elt F)) : val6 V0 (no_index (Proc.devRef .tc main_while0b_v61)) = maximumf (broadcastInDim S20000 ![] bcast_S_S20000 (id (constant S_ .f32 0x00000000#32))) (subf (minimumf (broadcastInDim S20000 ![] bcast_S_S20000 (shapeCast S_ (extractStridedSlice S1 ![2] (res_main_while0b_v35 V0) slices_S4_S1_2) shapeCasts_S1_S_)) (shapeCast S20000 (extractStridedSlice S20000x1 ![0, 2] (V0 (Proc.devRef .tc main_v10_0)) slices_S20000x4_S20000x1_0_2) shapeCasts_S20000x1_S20000)) (maximumf (broadcastInDim S20000 ![] bcast_S_S20000 (shapeCast S_ (extractStridedSlice S1 ![0] (res_main_while0b_v35 V0) slices_S4_S1_0) shapeCasts_S1_S_)) (shapeCast S20000 (extractStridedSlice S20000x1 ![0, 0] (V0 (Proc.devRef .tc main_v10_0)) slices_S20000x4_S20000x1_0_0) shapeCasts_S20000x1_S20000))) :=
  (val6_keep V0 main_while0b_v61 (by decide)).trans (val5_main_while0b_v61 V0)
set_option maxRecDepth 8192 in
theorem val6_main_while0b_v62 (V0 : Valuation τ sig (Elt F)) : val6 V0 (no_index (Proc.devRef .tc main_while0b_v62)) = subf (minimumf (broadcastInDim S20000 ![] bcast_S_S20000 (shapeCast S_ (extractStridedSlice S1 ![3] (res_main_while0b_v35 V0) slices_S4_S1_3) shapeCasts_S1_S_)) (shapeCast S20000 (extractStridedSlice S20000x1 ![0, 3] (V0 (Proc.devRef .tc main_v10_0)) slices_S20000x4_S20000x1_0_3) shapeCasts_S20000x1_S20000)) (maximumf (broadcastInDim S20000 ![] bcast_S_S20000 (shapeCast S_ (extractStridedSlice S1 ![1] (res_main_while0b_v35 V0) slices_S4_S1_1) shapeCasts_S1_S_)) (shapeCast S20000 (extractStridedSlice S20000x1 ![0, 1] (V0 (Proc.devRef .tc main_v10_0)) slices_S20000x4_S20000x1_0_1) shapeCasts_S20000x1_S20000)) := by
  unfold val6
  simp only [trip_w5]
  after_results_entrywise [val5_main_while0b_v47, val5_main_while0b_v59, cast_eq]
set_option maxRecDepth 8192 in
theorem val6_main_while0b_cst_18 (V0 : Valuation τ sig (Elt F)) : val6 V0 (no_index (Proc.devRef .tc main_while0b_cst_18)) = constant S_ .f32 0x00000000#32 := by
  unfold val6
  simp only [trip_w5]
  after_results_entrywise [cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_call3_v0, main_while0b_call3_v1, main_while0b_v63]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v10_2 (V0 : Valuation τ sig (Elt F)) : val7 V0 (no_index (Proc.devRef .tc main_v10_2)) = V0 (Proc.devRef .tc main_v10_2) :=
  (val7_keep V0 main_v10_2 (by decide)).trans (val6_main_v10_2 V0)
theorem val7_main_v10_0 (V0 : Valuation τ sig (Elt F)) : val7 V0 (no_index (Proc.devRef .tc main_v10_0)) = V0 (Proc.devRef .tc main_v10_0) :=
  (val7_keep V0 main_v10_0 (by decide)).trans (val6_main_v10_0 V0)
theorem val7_main_v10_3 (V0 : Valuation τ sig (Elt F)) : val7 V0 (no_index (Proc.devRef .tc main_v10_3)) = V0 (Proc.devRef .tc main_v10_3) :=
  (val7_keep V0 main_v10_3 (by decide)).trans (val6_main_v10_3 V0)
theorem val7_main_v10_1 (V0 : Valuation τ sig (Elt F)) : val7 V0 (no_index (Proc.devRef .tc main_v10_1)) = V0 (Proc.devRef .tc main_v10_1) :=
  (val7_keep V0 main_v10_1 (by decide)).trans (val6_main_v10_1 V0)
theorem val7_main_while0b_v27 (V0 : Valuation τ sig (Elt F)) : val7 V0 (no_index (Proc.devRef .tc main_while0b_v27)) = res_main_while0b_v27 V0 :=
  (val7_keep V0 main_while0b_v27 (by decide)).trans (val6_main_while0b_v27 V0)
theorem val7_main_while0b_v35 (V0 : Valuation τ sig (Elt F)) : val7 V0 (no_index (Proc.devRef .tc main_while0b_v35)) = res_main_while0b_v35 V0 :=
  (val7_keep V0 main_while0b_v35 (by decide)).trans (val6_main_while0b_v35 V0)
theorem val7_main_while0b_v61 (V0 : Valuation τ sig (Elt F)) : val7 V0 (no_index (Proc.devRef .tc main_while0b_v61)) = maximumf (broadcastInDim S20000 ![] bcast_S_S20000 (id (constant S_ .f32 0x00000000#32))) (subf (minimumf (broadcastInDim S20000 ![] bcast_S_S20000 (shapeCast S_ (extractStridedSlice S1 ![2] (res_main_while0b_v35 V0) slices_S4_S1_2) shapeCasts_S1_S_)) (shapeCast S20000 (extractStridedSlice S20000x1 ![0, 2] (V0 (Proc.devRef .tc main_v10_0)) slices_S20000x4_S20000x1_0_2) shapeCasts_S20000x1_S20000)) (maximumf (broadcastInDim S20000 ![] bcast_S_S20000 (shapeCast S_ (extractStridedSlice S1 ![0] (res_main_while0b_v35 V0) slices_S4_S1_0) shapeCasts_S1_S_)) (shapeCast S20000 (extractStridedSlice S20000x1 ![0, 0] (V0 (Proc.devRef .tc main_v10_0)) slices_S20000x4_S20000x1_0_0) shapeCasts_S20000x1_S20000))) :=
  (val7_keep V0 main_while0b_v61 (by decide)).trans (val6_main_while0b_v61 V0)
set_option maxRecDepth 8192 in
theorem val7_main_while0b_v63 (V0 : Valuation τ sig (Elt F)) : val7 V0 (no_index (Proc.devRef .tc main_while0b_v63)) = maximumf (broadcastInDim S20000 ![] bcast_S_S20000 (id (constant S_ .f32 0x00000000#32))) (subf (minimumf (broadcastInDim S20000 ![] bcast_S_S20000 (shapeCast S_ (extractStridedSlice S1 ![3] (res_main_while0b_v35 V0) slices_S4_S1_3) shapeCasts_S1_S_)) (shapeCast S20000 (extractStridedSlice S20000x1 ![0, 3] (V0 (Proc.devRef .tc main_v10_0)) slices_S20000x4_S20000x1_0_3) shapeCasts_S20000x1_S20000)) (maximumf (broadcastInDim S20000 ![] bcast_S_S20000 (shapeCast S_ (extractStridedSlice S1 ![1] (res_main_while0b_v35 V0) slices_S4_S1_1) shapeCasts_S1_S_)) (shapeCast S20000 (extractStridedSlice S20000x1 ![0, 1] (V0 (Proc.devRef .tc main_v10_0)) slices_S20000x4_S20000x1_0_1) shapeCasts_S20000x1_S20000))) := by
  unfold val7
  simp only [trip_w6]
  after_results_entrywise [val6_main_while0b_v62, val6_main_while0b_cst_18, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_v64, main_while0b_v65, main_while0b_v66, main_while0b_v67, main_while0b_v68, main_while0b_v69, main_while0b_v70, main_while0b_v71, main_while0b_v72, main_while0b_v73, main_while0b_v74, main_while0b_v75, main_while0b_v76, main_while0b_v77, main_while0b_v78, main_while0b_v79, main_while0b_v80, main_while0b_v81, main_while0b_v82, main_while0b_v83, main_while0b_v84, main_while0b_v85, main_while0b_v86, main_while0b_v87]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v10_2 (V0 : Valuation τ sig (Elt F)) : val8 V0 (no_index (Proc.devRef .tc main_v10_2)) = V0 (Proc.devRef .tc main_v10_2) :=
  (val8_keep V0 main_v10_2 (by decide)).trans (val7_main_v10_2 V0)
theorem val8_main_v10_0 (V0 : Valuation τ sig (Elt F)) : val8 V0 (no_index (Proc.devRef .tc main_v10_0)) = V0 (Proc.devRef .tc main_v10_0) :=
  (val8_keep V0 main_v10_0 (by decide)).trans (val7_main_v10_0 V0)
theorem val8_main_v10_3 (V0 : Valuation τ sig (Elt F)) : val8 V0 (no_index (Proc.devRef .tc main_v10_3)) = V0 (Proc.devRef .tc main_v10_3) :=
  (val8_keep V0 main_v10_3 (by decide)).trans (val7_main_v10_3 V0)
theorem val8_main_v10_1 (V0 : Valuation τ sig (Elt F)) : val8 V0 (no_index (Proc.devRef .tc main_v10_1)) = V0 (Proc.devRef .tc main_v10_1) :=
  (val8_keep V0 main_v10_1 (by decide)).trans (val7_main_v10_1 V0)
theorem val8_main_while0b_v27 (V0 : Valuation τ sig (Elt F)) : val8 V0 (no_index (Proc.devRef .tc main_while0b_v27)) = res_main_while0b_v27 V0 :=
  (val8_keep V0 main_while0b_v27 (by decide)).trans (val7_main_while0b_v27 V0)
set_option maxRecDepth 8192 in
set_option maxHeartbeats 2000000 in
theorem val8_main_while0b_v64 (V0 : Valuation τ sig (Elt F)) : val8 V0 (no_index (Proc.devRef .tc main_while0b_v64)) = res_main_while0b_v64 V0 := by
  unfold val8
  simp only [trip_w7]
  after_results_entrywise [val7_main_while0b_v63, val7_main_while0b_v61, res_main_while0b_v64, cast_eq]
set_option maxRecDepth 8192 in
set_option maxHeartbeats 2000000 in
theorem val8_main_while0b_v86 (V0 : Valuation τ sig (Elt F)) : val8 V0 (no_index (Proc.devRef .tc main_while0b_v86)) = mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)) := by
  unfold val8
  simp only [trip_w7]
  after_results_entrywise [val7_main_v10_0, cast_eq]
set_option maxRecDepth 8192 in
set_option maxHeartbeats 2000000 in
theorem val8_main_while0b_v87 (V0 : Valuation τ sig (Elt F)) : val8 V0 (no_index (Proc.devRef .tc main_while0b_v87)) = broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_))) := by
  unfold val8
  simp only [trip_w7]
  after_results_entrywise [val7_main_while0b_v35, cast_eq]

/-- The device's buffer contents after the body's first 9 windows. -/
def val9 (V0 : Valuation τ sig (Elt F)) : Valuation τ sig (Elt F) := after trip_w8 (val8 V0)
/-- The buffers that window `trip_w8`'s operations write. -/
abbrev trip_w8_W : List (Ref sig .tc) := [main_while0b_v88, main_while0b_v89, main_while0b_cst_19, main_while0b_v90, main_while0b_v91, main_while0b_v92, main_while0b_cst_20, main_while0b_v93, main_while0b_v94, main_while0b_cst_21]
set_option maxRecDepth 8192 in
theorem trip_w8_writes : (trip_w8 : List (HloOp τ sig (Elt F))).Forall fun op => op.writes ⊆ (trip_w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w8` does not write keeps its contents through it. -/
theorem val9_keep (V0 : Valuation τ sig (Elt F)) (r : Ref sig .tc) (h : r ∉ trip_w8_W) :
    val9 V0 (Proc.devRef .tc r) = val8 V0 (Proc.devRef .tc r) :=
  after_of_writes_sub trip_w8 _ trip_w8_writes h
theorem val9_main_v10_2 (V0 : Valuation τ sig (Elt F)) : val9 V0 (no_index (Proc.devRef .tc main_v10_2)) = V0 (Proc.devRef .tc main_v10_2) :=
  (val9_keep V0 main_v10_2 (by decide)).trans (val8_main_v10_2 V0)
theorem val9_main_v10_0 (V0 : Valuation τ sig (Elt F)) : val9 V0 (no_index (Proc.devRef .tc main_v10_0)) = V0 (Proc.devRef .tc main_v10_0) :=
  (val9_keep V0 main_v10_0 (by decide)).trans (val8_main_v10_0 V0)
theorem val9_main_v10_3 (V0 : Valuation τ sig (Elt F)) : val9 V0 (no_index (Proc.devRef .tc main_v10_3)) = V0 (Proc.devRef .tc main_v10_3) :=
  (val9_keep V0 main_v10_3 (by decide)).trans (val8_main_v10_3 V0)
theorem val9_main_v10_1 (V0 : Valuation τ sig (Elt F)) : val9 V0 (no_index (Proc.devRef .tc main_v10_1)) = V0 (Proc.devRef .tc main_v10_1) :=
  (val9_keep V0 main_v10_1 (by decide)).trans (val8_main_v10_1 V0)
theorem val9_main_while0b_v27 (V0 : Valuation τ sig (Elt F)) : val9 V0 (no_index (Proc.devRef .tc main_while0b_v27)) = res_main_while0b_v27 V0 :=
  (val9_keep V0 main_while0b_v27 (by decide)).trans (val8_main_while0b_v27 V0)
set_option maxRecDepth 8192 in
set_option maxHeartbeats 1000000 in
theorem val9_main_while0b_v94 (V0 : Valuation τ sig (Elt F)) : val9 V0 (no_index (Proc.devRef .tc main_while0b_v94)) = cmpf .ogt (Host.divf (res_main_while0b_v64 V0) (addf (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0)) (broadcastInDim S20000 ![] bcast_S_S20000 (constant S_ .f32 0x3089705F#32)))) (broadcastInDim S20000 ![] bcast_S_S20000 (constant S_ .f32 0x3F19999A#32)) := by
  unfold val9
  simp only [trip_w8]
  after_results_entrywise [val8_main_while0b_v86, val8_main_while0b_v87, val8_main_while0b_v64, cast_eq]
set_option maxRecDepth 8192 in
set_option maxHeartbeats 1000000 in
theorem val9_main_while0b_cst_21 (V0 : Valuation τ sig (Elt F)) : val9 V0 (no_index (Proc.devRef .tc main_while0b_cst_21)) = constant S_ .f32 0xCE6E6B28#32 := by
  unfold val9
  simp only [trip_w8]
  after_results_entrywise [cast_eq]

/-- The device's buffer contents after the body's first 10 windows. -/
def val10 (V0 : Valuation τ sig (Elt F)) : Valuation τ sig (Elt F) := after trip_w9 (val9 V0)
/-- The buffers that window `trip_w9`'s operations write. -/
abbrev trip_w9_W : List (Ref sig .tc) := [main_while0b_call4_v0, main_while0b_call4_v1, main_while0b_v95]
set_option maxRecDepth 8192 in
theorem trip_w9_writes : (trip_w9 : List (HloOp τ sig (Elt F))).Forall fun op => op.writes ⊆ (trip_w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w9` does not write keeps its contents through it. -/
theorem val10_keep (V0 : Valuation τ sig (Elt F)) (r : Ref sig .tc) (h : r ∉ trip_w9_W) :
    val10 V0 (Proc.devRef .tc r) = val9 V0 (Proc.devRef .tc r) :=
  after_of_writes_sub trip_w9 _ trip_w9_writes h
theorem val10_main_v10_2 (V0 : Valuation τ sig (Elt F)) : val10 V0 (no_index (Proc.devRef .tc main_v10_2)) = V0 (Proc.devRef .tc main_v10_2) :=
  (val10_keep V0 main_v10_2 (by decide)).trans (val9_main_v10_2 V0)
theorem val10_main_v10_0 (V0 : Valuation τ sig (Elt F)) : val10 V0 (no_index (Proc.devRef .tc main_v10_0)) = V0 (Proc.devRef .tc main_v10_0) :=
  (val10_keep V0 main_v10_0 (by decide)).trans (val9_main_v10_0 V0)
theorem val10_main_v10_3 (V0 : Valuation τ sig (Elt F)) : val10 V0 (no_index (Proc.devRef .tc main_v10_3)) = V0 (Proc.devRef .tc main_v10_3) :=
  (val10_keep V0 main_v10_3 (by decide)).trans (val9_main_v10_3 V0)
theorem val10_main_v10_1 (V0 : Valuation τ sig (Elt F)) : val10 V0 (no_index (Proc.devRef .tc main_v10_1)) = V0 (Proc.devRef .tc main_v10_1) :=
  (val10_keep V0 main_v10_1 (by decide)).trans (val9_main_v10_1 V0)
theorem val10_main_while0b_v27 (V0 : Valuation τ sig (Elt F)) : val10 V0 (no_index (Proc.devRef .tc main_while0b_v27)) = res_main_while0b_v27 V0 :=
  (val10_keep V0 main_while0b_v27 (by decide)).trans (val9_main_while0b_v27 V0)
set_option maxRecDepth 8192 in
theorem val10_main_while0b_v95 (V0 : Valuation τ sig (Elt F)) : val10 V0 (no_index (Proc.devRef .tc main_while0b_v95)) = select (cmpf .ogt (Host.divf (res_main_while0b_v64 V0) (addf (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0)) (broadcastInDim S20000 ![] bcast_S_S20000 (constant S_ .f32 0x3089705F#32)))) (broadcastInDim S20000 ![] bcast_S_S20000 (constant S_ .f32 0x3F19999A#32))) (broadcastInDim S20000 ![] bcast_S_S20000 (id (constant S_ .f32 0xCE6E6B28#32))) (V0 (Proc.devRef .tc main_v10_2)) := by
  unfold val10
  simp only [trip_w9]
  after_results_entrywise [val9_main_v10_2, val9_main_while0b_cst_21, val9_main_while0b_v94, cast_eq]

/-- The device's buffer contents after the body's first 11 windows. -/
def val11 (V0 : Valuation τ sig (Elt F)) : Valuation τ sig (Elt F) := after trip_w10 (val10 V0)
/-- The buffers that window `trip_w10`'s operations write. -/
abbrev trip_w10_W : List (Ref sig .tc) := [main_while0b_c_22, main_while0b_v96, main_while0b_c_23, main_while0b_v97, main_while0b_v98, main_while0b_v99, main_while0b_cst_24, main_while0b_v100]
set_option maxRecDepth 8192 in
theorem trip_w10_writes : (trip_w10 : List (HloOp τ sig (Elt F))).Forall fun op => op.writes ⊆ (trip_w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w10` does not write keeps its contents through it. -/
theorem val11_keep (V0 : Valuation τ sig (Elt F)) (r : Ref sig .tc) (h : r ∉ trip_w10_W) :
    val11 V0 (Proc.devRef .tc r) = val10 V0 (Proc.devRef .tc r) :=
  after_of_writes_sub trip_w10 _ trip_w10_writes h
theorem val11_main_v10_2 (V0 : Valuation τ sig (Elt F)) : val11 V0 (no_index (Proc.devRef .tc main_v10_2)) = V0 (Proc.devRef .tc main_v10_2) :=
  (val11_keep V0 main_v10_2 (by decide)).trans (val10_main_v10_2 V0)
theorem val11_main_v10_0 (V0 : Valuation τ sig (Elt F)) : val11 V0 (no_index (Proc.devRef .tc main_v10_0)) = V0 (Proc.devRef .tc main_v10_0) :=
  (val11_keep V0 main_v10_0 (by decide)).trans (val10_main_v10_0 V0)
theorem val11_main_v10_3 (V0 : Valuation τ sig (Elt F)) : val11 V0 (no_index (Proc.devRef .tc main_v10_3)) = V0 (Proc.devRef .tc main_v10_3) :=
  (val11_keep V0 main_v10_3 (by decide)).trans (val10_main_v10_3 V0)
theorem val11_main_v10_1 (V0 : Valuation τ sig (Elt F)) : val11 V0 (no_index (Proc.devRef .tc main_v10_1)) = V0 (Proc.devRef .tc main_v10_1) :=
  (val11_keep V0 main_v10_1 (by decide)).trans (val10_main_v10_1 V0)
theorem val11_main_while0b_v27 (V0 : Valuation τ sig (Elt F)) : val11 V0 (no_index (Proc.devRef .tc main_while0b_v27)) = res_main_while0b_v27 V0 :=
  (val11_keep V0 main_while0b_v27 (by decide)).trans (val10_main_while0b_v27 V0)
set_option maxRecDepth 8192 in
theorem val11_main_while0b_v100 (V0 : Valuation τ sig (Elt F)) : val11 V0 (no_index (Proc.devRef .tc main_while0b_v100)) = Host.scatter scatter_S20000_S1_S__n_0_0_0 (fun _ b => b) (select (cmpf .ogt (Host.divf (res_main_while0b_v64 V0) (addf (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0)) (broadcastInDim S20000 ![] bcast_S_S20000 (constant S_ .f32 0x3089705F#32)))) (broadcastInDim S20000 ![] bcast_S_S20000 (constant S_ .f32 0x3F19999A#32))) (broadcastInDim S20000 ![] bcast_S_S20000 (id (constant S_ .f32 0xCE6E6B28#32))) (V0 (Proc.devRef .tc main_v10_2))) (broadcastInDim S1 ![] bcast_S_S1 (select (cmpi .slt (res_main_while0b_v27 V0) (constantI S_ 32 0#32)) (addi (res_main_while0b_v27 V0) (constantI S_ 32 20000#32)) (res_main_while0b_v27 V0))) (constant S_ .f32 0xCE6E6B28#32) := by
  unfold val11
  simp only [trip_w10]
  after_results_entrywise [val10_main_while0b_v27, val10_main_while0b_v95, cast_eq]

/-- The device's buffer contents after the body's first 12 windows. -/
def val12 (V0 : Valuation τ sig (Elt F)) : Valuation τ sig (Elt F) := after trip_w11 (val11 V0)
/-- The buffers that window `trip_w11`'s operations write. -/
abbrev trip_w11_W : List (Ref sig .tc) := [main_while0b_call5_v0, main_while0b_v101]
set_option maxRecDepth 8192 in
theorem trip_w11_writes : (trip_w11 : List (HloOp τ sig (Elt F))).Forall fun op => op.writes ⊆ (trip_w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w11` does not write keeps its contents through it. -/
theorem val12_keep (V0 : Valuation τ sig (Elt F)) (r : Ref sig .tc) (h : r ∉ trip_w11_W) :
    val12 V0 (Proc.devRef .tc r) = val11 V0 (Proc.devRef .tc r) :=
  after_of_writes_sub trip_w11 _ trip_w11_writes h
theorem val12_main_v10_2 (V0 : Valuation τ sig (Elt F)) : val12 V0 (no_index (Proc.devRef .tc main_v10_2)) = V0 (Proc.devRef .tc main_v10_2) :=
  (val12_keep V0 main_v10_2 (by decide)).trans (val11_main_v10_2 V0)
theorem val12_main_v10_0 (V0 : Valuation τ sig (Elt F)) : val12 V0 (no_index (Proc.devRef .tc main_v10_0)) = V0 (Proc.devRef .tc main_v10_0) :=
  (val12_keep V0 main_v10_0 (by decide)).trans (val11_main_v10_0 V0)
theorem val12_main_v10_3 (V0 : Valuation τ sig (Elt F)) : val12 V0 (no_index (Proc.devRef .tc main_v10_3)) = V0 (Proc.devRef .tc main_v10_3) :=
  (val12_keep V0 main_v10_3 (by decide)).trans (val11_main_v10_3 V0)
theorem val12_main_v10_1 (V0 : Valuation τ sig (Elt F)) : val12 V0 (no_index (Proc.devRef .tc main_v10_1)) = V0 (Proc.devRef .tc main_v10_1) :=
  (val12_keep V0 main_v10_1 (by decide)).trans (val11_main_v10_1 V0)
theorem val12_main_while0b_v100 (V0 : Valuation τ sig (Elt F)) : val12 V0 (no_index (Proc.devRef .tc main_while0b_v100)) = Host.scatter scatter_S20000_S1_S__n_0_0_0 (fun _ b => b) (select (cmpf .ogt (Host.divf (res_main_while0b_v64 V0) (addf (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0)) (broadcastInDim S20000 ![] bcast_S_S20000 (constant S_ .f32 0x3089705F#32)))) (broadcastInDim S20000 ![] bcast_S_S20000 (constant S_ .f32 0x3F19999A#32))) (broadcastInDim S20000 ![] bcast_S_S20000 (id (constant S_ .f32 0xCE6E6B28#32))) (V0 (Proc.devRef .tc main_v10_2))) (broadcastInDim S1 ![] bcast_S_S1 (select (cmpi .slt (res_main_while0b_v27 V0) (constantI S_ 32 0#32)) (addi (res_main_while0b_v27 V0) (constantI S_ 32 20000#32)) (res_main_while0b_v27 V0))) (constant S_ .f32 0xCE6E6B28#32) :=
  (val12_keep V0 main_while0b_v100 (by decide)).trans (val11_main_while0b_v100 V0)
set_option maxRecDepth 8192 in
theorem val12_main_while0b_v101 (V0 : Valuation τ sig (Elt F)) : val12 V0 (no_index (Proc.devRef .tc main_while0b_v101)) = Host.dynamicUpdateSlice (V0 (Proc.devRef .tc main_v10_3)) (broadcastInDim S1 ![] bcast_S_S1 (res_main_while0b_v27 V0)) (fun k => (((![V0 (Proc.devRef .tc main_v10_1)] : Fin 1 → (⟨S_, .i32⟩ : BufTy).Contents (Elt F))) k (Shape.Idx.first h_S_)).toInt) updateFits_S100_S1 := by
  unfold val12
  simp only [trip_w11]
  after_results_entrywise [val11_main_v10_1, val11_main_while0b_v27, val11_main_v10_3, cast_eq]

set_option maxRecDepth 8192 in
/-- The body's stretches before `while0Ops0_9`, from any contents: their windows in order. -/
theorem trip_windows (V0 : Valuation τ sig (Elt F)) : after while0Ops0_8 (after while0Ops0_7 (after while0Ops0_6 (after while0Ops0_5 (after while0Ops0_4 (after while0Ops0_3 (after while0Ops0_2 (after while0Ops0_1 (after while0Ops0 (V0))))))))) = val12 V0 := by
  simp only [while0Ops0_cut, while0Ops0_1_cut, while0Ops0_2_cut, while0Ops0_3_cut, while0Ops0_4_cut, while0Ops0_5_cut, while0Ops0_6_cut, while0Ops0_7_cut, while0Ops0_8_cut, after_append]
  rfl

set_option maxRecDepth 8192 in
set_option maxHeartbeats 2000000 in
/-- `main_v10_0` after one trip's body, from any contents. -/
theorem trip_main_v10_0 (V0 : Valuation τ sig (Elt F)) : afterL bodyI V0 (no_index (Proc.devRef .tc main_v10_0)) = V0 (Proc.devRef .tc main_v10_0) := by
  simp only [bodyI, afterL_cons, afterL_nil, trip_windows]
  after_results
  all_goals (try simp only [val12_main_while0b_v100, val12_main_while0b_v101, val12_main_v10_0, val12_main_v10_1, val12_main_v10_2, val12_main_v10_3]) <;> rfl
set_option maxRecDepth 8192 in
set_option maxHeartbeats 2000000 in
/-- `main_v10_1` after one trip's body, from any contents. -/
theorem trip_main_v10_1 (V0 : Valuation τ sig (Elt F)) : afterL bodyI V0 (no_index (Proc.devRef .tc main_v10_1)) = id (addi (V0 (Proc.devRef .tc main_v10_1)) (constantI S_ 32 1#32)) := by
  simp only [bodyI, afterL_cons, afterL_nil, trip_windows]
  after_results
  all_goals (try simp only [val12_main_while0b_v100, val12_main_while0b_v101, val12_main_v10_0, val12_main_v10_1, val12_main_v10_2, val12_main_v10_3]) <;> rfl
set_option maxRecDepth 8192 in
set_option maxHeartbeats 2000000 in
/-- `main_v10_2` after one trip's body, from any contents. -/
theorem trip_main_v10_2 (V0 : Valuation τ sig (Elt F)) : afterL bodyI V0 (no_index (Proc.devRef .tc main_v10_2)) = id (Host.scatter scatter_S20000_S1_S__n_0_0_0 (fun _ b => b) (select (cmpf .ogt (Host.divf (res_main_while0b_v64 V0) (addf (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0)) (broadcastInDim S20000 ![] bcast_S_S20000 (constant S_ .f32 0x3089705F#32)))) (broadcastInDim S20000 ![] bcast_S_S20000 (constant S_ .f32 0x3F19999A#32))) (broadcastInDim S20000 ![] bcast_S_S20000 (id (constant S_ .f32 0xCE6E6B28#32))) (V0 (Proc.devRef .tc main_v10_2))) (broadcastInDim S1 ![] bcast_S_S1 (select (cmpi .slt (res_main_while0b_v27 V0) (constantI S_ 32 0#32)) (addi (res_main_while0b_v27 V0) (constantI S_ 32 20000#32)) (res_main_while0b_v27 V0))) (constant S_ .f32 0xCE6E6B28#32)) := by
  simp only [bodyI, afterL_cons, afterL_nil, trip_windows]
  after_results
  all_goals (try simp only [val12_main_while0b_v100, val12_main_while0b_v101, val12_main_v10_0, val12_main_v10_1, val12_main_v10_2, val12_main_v10_3]) <;> rfl
set_option maxRecDepth 8192 in
set_option maxHeartbeats 2000000 in
/-- `main_v10_3` after one trip's body, from any contents. -/
theorem trip_main_v10_3 (V0 : Valuation τ sig (Elt F)) : afterL bodyI V0 (no_index (Proc.devRef .tc main_v10_3)) = id (Host.dynamicUpdateSlice (V0 (Proc.devRef .tc main_v10_3)) (broadcastInDim S1 ![] bcast_S_S1 (res_main_while0b_v27 V0)) (fun k => (((![V0 (Proc.devRef .tc main_v10_1)] : Fin 1 → (⟨S_, .i32⟩ : BufTy).Contents (Elt F))) k (Shape.Idx.first h_S_)).toInt) updateFits_S100_S1) := by
  simp only [bodyI, afterL_cons, afterL_nil, trip_windows]
  after_results
  all_goals (try simp only [val12_main_while0b_v100, val12_main_while0b_v101, val12_main_v10_0, val12_main_v10_1, val12_main_v10_2, val12_main_v10_3]) <;> rfl

/-- The loop's carried buffers. -/
abbrev carriedRefs : List (Ref sig .tc) := [main_v10_0, main_v10_1, main_v10_2, main_v10_3]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_call1_v0_congr {V0 V0' : Valuation τ sig (Elt F)} (h : Agree V0 V0') : res_main_while0b_call1_v0 V0 = res_main_while0b_call1_v0 V0' := by
  unfold res_main_while0b_call1_v0
  rfl
set_option maxRecDepth 8192 in
theorem res_main_while0b_call1_cst_congr {V0 V0' : Valuation τ sig (Elt F)} (h : Agree V0 V0') : res_main_while0b_call1_cst V0 = res_main_while0b_call1_cst V0' := by
  unfold res_main_while0b_call1_cst
  rfl
set_option maxRecDepth 8192 in
theorem res_main_while0b_call1_c_congr {V0 V0' : Valuation τ sig (Elt F)} (h : Agree V0 V0') : res_main_while0b_call1_c V0 = res_main_while0b_call1_c V0' := by
  unfold res_main_while0b_call1_c
  rfl
set_option maxRecDepth 8192 in
theorem res_main_while0b_v27_congr {V0 V0' : Valuation τ sig (Elt F)} (h : Agree V0 V0') : res_main_while0b_v27 V0 = res_main_while0b_v27 V0' := by
  unfold res_main_while0b_v27
  rw [res_main_while0b_call1_v0_congr h, res_main_while0b_call1_cst_congr h, res_main_while0b_call1_c_congr h, h main_v10_2 (by decide)]
set_option maxRecDepth 8192 in
theorem res_main_while0b_v35_congr {V0 V0' : Valuation τ sig (Elt F)} (h : Agree V0 V0') : res_main_while0b_v35 V0 = res_main_while0b_v35 V0' := by
  unfold res_main_while0b_v35
  rw [res_main_while0b_v27_congr h, h main_v10_0 (by decide)]
set_option maxRecDepth 8192 in
theorem res_main_while0b_v64_congr {V0 V0' : Valuation τ sig (Elt F)} (h : Agree V0 V0') : res_main_while0b_v64 V0 = res_main_while0b_v64 V0' := by
  unfold res_main_while0b_v64
  rw [res_main_while0b_v35_congr h, h main_v10_0 (by decide)]

set_option maxRecDepth 8192 in
/-- `main_v10_1` after one trip, of the contents before it. -/
def step_main_v10_1 (V0 : Valuation τ sig (Elt F)) : (Proc.devRef .tc main_v10_1 : DevRef τ sig).ty.Contents (Elt F) :=
  id (addi (V0 (Proc.devRef .tc main_v10_1)) (constantI S_ 32 1#32))
set_option maxRecDepth 8192 in
theorem step_main_v10_1_congr {V0 V0' : Valuation τ sig (Elt F)} (h : Agree V0 V0') : step_main_v10_1 V0 = step_main_v10_1 V0' := by
  unfold step_main_v10_1
  rw [h main_v10_1 (by decide)]
set_option maxRecDepth 8192 in
/-- `main_v10_2` after one trip, of the contents before it. -/
def step_main_v10_2 (V0 : Valuation τ sig (Elt F)) : (Proc.devRef .tc main_v10_2 : DevRef τ sig).ty.Contents (Elt F) :=
  id (Host.scatter scatter_S20000_S1_S__n_0_0_0 (fun _ b => b) (select (cmpf .ogt (Host.divf (res_main_while0b_v64 V0) (addf (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0)) (broadcastInDim S20000 ![] bcast_S_S20000 (constant S_ .f32 0x3089705F#32)))) (broadcastInDim S20000 ![] bcast_S_S20000 (constant S_ .f32 0x3F19999A#32))) (broadcastInDim S20000 ![] bcast_S_S20000 (id (constant S_ .f32 0xCE6E6B28#32))) (V0 (Proc.devRef .tc main_v10_2))) (broadcastInDim S1 ![] bcast_S_S1 (select (cmpi .slt (res_main_while0b_v27 V0) (constantI S_ 32 0#32)) (addi (res_main_while0b_v27 V0) (constantI S_ 32 20000#32)) (res_main_while0b_v27 V0))) (constant S_ .f32 0xCE6E6B28#32))
set_option maxRecDepth 8192 in
theorem step_main_v10_2_congr {V0 V0' : Valuation τ sig (Elt F)} (h : Agree V0 V0') : step_main_v10_2 V0 = step_main_v10_2 V0' := by
  unfold step_main_v10_2
  rw [res_main_while0b_v64_congr h, res_main_while0b_v35_congr h, res_main_while0b_v27_congr h, h main_v10_0 (by decide), h main_v10_2 (by decide)]
set_option maxRecDepth 8192 in
/-- `main_v10_3` after one trip, of the contents before it. -/
def step_main_v10_3 (V0 : Valuation τ sig (Elt F)) : (Proc.devRef .tc main_v10_3 : DevRef τ sig).ty.Contents (Elt F) :=
  id (Host.dynamicUpdateSlice (V0 (Proc.devRef .tc main_v10_3)) (broadcastInDim S1 ![] bcast_S_S1 (res_main_while0b_v27 V0)) (fun k => (((![V0 (Proc.devRef .tc main_v10_1)] : Fin 1 → (⟨S_, .i32⟩ : BufTy).Contents (Elt F))) k (Shape.Idx.first h_S_)).toInt) updateFits_S100_S1)
set_option maxRecDepth 8192 in
theorem step_main_v10_3_congr {V0 V0' : Valuation τ sig (Elt F)} (h : Agree V0 V0') : step_main_v10_3 V0 = step_main_v10_3 V0' := by
  unfold step_main_v10_3
  rw [res_main_while0b_v27_congr h, h main_v10_3 (by decide), h main_v10_1 (by decide)]

/-- ONE TRIP on the carried buffers: the buffers the body writes step, everything else is as it was. -/
def STEP (V0 : Valuation τ sig (Elt F)) : Valuation τ sig (Elt F) :=
  Function.update (Function.update (Function.update (V0) (Proc.devRef .tc main_v10_1) (step_main_v10_1 V0)) (Proc.devRef .tc main_v10_2) (step_main_v10_2 V0)) (Proc.devRef .tc main_v10_3) (step_main_v10_3 V0)

theorem STEP_main_v10_0 (V0 : Valuation τ sig (Elt F)) : STEP V0 (Proc.devRef .tc main_v10_0) = V0 (Proc.devRef .tc main_v10_0) := by
  unfold STEP; rw [Function.update_of_ne (devRef_ne_of_ne (by decide))]; rw [Function.update_of_ne (devRef_ne_of_ne (by decide))]; rw [Function.update_of_ne (devRef_ne_of_ne (by decide))]
theorem STEP_main_v10_1 (V0 : Valuation τ sig (Elt F)) : STEP V0 (Proc.devRef .tc main_v10_1) = step_main_v10_1 V0 := by
  unfold STEP; rw [Function.update_of_ne (devRef_ne_of_ne (by decide))]; rw [Function.update_of_ne (devRef_ne_of_ne (by decide))]; rw [Function.update_self]
theorem STEP_main_v10_2 (V0 : Valuation τ sig (Elt F)) : STEP V0 (Proc.devRef .tc main_v10_2) = step_main_v10_2 V0 := by
  unfold STEP; rw [Function.update_of_ne (devRef_ne_of_ne (by decide))]; rw [Function.update_self]
theorem STEP_main_v10_3 (V0 : Valuation τ sig (Elt F)) : STEP V0 (Proc.devRef .tc main_v10_3) = step_main_v10_3 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v10_0 (after condOps X)).trans ((hc main_v10_0 (by decide)).trans (STEP_main_v10_0 X).symm)
  · exact (trip_main_v10_1 (after condOps X)).trans ((step_main_v10_1_congr hc).trans (STEP_main_v10_1 X).symm)
  · exact (trip_main_v10_2 (after condOps X)).trans ((step_main_v10_2_congr hc).trans (STEP_main_v10_2 X).symm)
  · exact (trip_main_v10_3 (after condOps X)).trans ((step_main_v10_3_congr hc).trans (STEP_main_v10_3 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v10_0, STEP_main_v10_0]; exact h main_v10_0 (by decide)
  · rw [STEP_main_v10_1, STEP_main_v10_1]; exact step_main_v10_1_congr h
  · rw [STEP_main_v10_2, STEP_main_v10_2]; exact step_main_v10_2_congr h
  · rw [STEP_main_v10_3, STEP_main_v10_3]; exact step_main_v10_3_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_while0Ops0_7 (V : Valuation τ sig (Elt F)) : after while0Ops0_7 V (Proc.devRef .tc main_arg0) = V (Proc.devRef .tc main_arg0) :=
  after_of_writes_sub while0Ops0_7 V while0Ops0_7_writes (by decide +kernel)
theorem keep_main_arg0_while0Ops0_8 (V : Valuation τ sig (Elt F)) : after while0Ops0_8 V (Proc.devRef .tc main_arg0) = V (Proc.devRef .tc main_arg0) :=
  after_of_writes_sub while0Ops0_8 V while0Ops0_8_writes (by decide +kernel)
theorem keep_main_arg0_while0Ops0_9 (V : Valuation τ sig (Elt F)) : after while0Ops0_9 V (Proc.devRef .tc main_arg0) = V (Proc.devRef .tc main_arg0) :=
  after_of_writes_sub while0Ops0_9 V while0Ops0_9_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0_2, keep_main_arg0_hostOps0_1, keep_main_arg0_hostOps0]
  | k + 1 => by
    rw [show atK m (k + 1) c = afterL bodyI (after condOps (atK m k c)) from rfl]
    simp only [afterL_cons, afterL_nil]
    rw [keep_main_arg0_while0Ops0_9, keep_main_arg0_while0Ops0_8, keep_main_arg0_while0Ops0_7, keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_while0Ops0_4 (V : Valuation τ sig (Elt F)) : after while0Ops0_4 V (Proc.devRef .tc main_arg1) = V (Proc.devRef .tc main_arg1) :=
  after_of_writes_sub while0Ops0_4 V while0Ops0_4_writes (by decide +kernel)
theorem keep_main_arg1_while0Ops0_5 (V : Valuation τ sig (Elt F)) : after while0Ops0_5 V (Proc.devRef .tc main_arg1) = V (Proc.devRef .tc main_arg1) :=
  after_of_writes_sub while0Ops0_5 V while0Ops0_5_writes (by decide +kernel)
theorem keep_main_arg1_while0Ops0_6 (V : Valuation τ sig (Elt F)) : after while0Ops0_6 V (Proc.devRef .tc main_arg1) = V (Proc.devRef .tc main_arg1) :=
  after_of_writes_sub while0Ops0_6 V while0Ops0_6_writes (by decide +kernel)
theorem keep_main_arg1_while0Ops0_7 (V : Valuation τ sig (Elt F)) : after while0Ops0_7 V (Proc.devRef .tc main_arg1) = V (Proc.devRef .tc main_arg1) :=
  after_of_writes_sub while0Ops0_7 V while0Ops0_7_writes (by decide +kernel)
theorem keep_main_arg1_while0Ops0_8 (V : Valuation τ sig (Elt F)) : after while0Ops0_8 V (Proc.devRef .tc main_arg1) = V (Proc.devRef .tc main_arg1) :=
  after_of_writes_sub while0Ops0_8 V while0Ops0_8_writes (by decide +kernel)
theorem keep_main_arg1_while0Ops0_9 (V : Valuation τ sig (Elt F)) : after while0Ops0_9 V (Proc.devRef .tc main_arg1) = V (Proc.devRef .tc main_arg1) :=
  after_of_writes_sub while0Ops0_9 V while0Ops0_9_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0_2, keep_main_arg1_hostOps0_1, keep_main_arg1_hostOps0]
  | k + 1 => by
    rw [show atK m (k + 1) c = afterL bodyI (after condOps (atK m k c)) from rfl]
    simp only [afterL_cons, afterL_nil]
    rw [keep_main_arg1_while0Ops0_9, keep_main_arg1_while0Ops0_8, keep_main_arg1_while0Ops0_7, keep_main_arg1_while0Ops0_6, keep_main_arg1_while0Ops0_5, keep_main_arg1_while0Ops0_4, keep_main_arg1_while0Ops0_3, keep_main_arg1_while0Ops0_2, keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_while0Ops0_3 (V : Valuation τ sig (Elt F)) : after while0Ops0_3 V (Proc.devRef .tc main_arg2) = V (Proc.devRef .tc main_arg2) :=
  after_of_writes_sub while0Ops0_3 V while0Ops0_3_writes (by decide +kernel)
theorem keep_main_arg2_while0Ops0_4 (V : Valuation τ sig (Elt F)) : after while0Ops0_4 V (Proc.devRef .tc main_arg2) = V (Proc.devRef .tc main_arg2) :=
  after_of_writes_sub while0Ops0_4 V while0Ops0_4_writes (by decide +kernel)
theorem keep_main_arg2_while0Ops0_5 (V : Valuation τ sig (Elt F)) : after while0Ops0_5 V (Proc.devRef .tc main_arg2) = V (Proc.devRef .tc main_arg2) :=
  after_of_writes_sub while0Ops0_5 V while0Ops0_5_writes (by decide +kernel)
theorem keep_main_arg2_while0Ops0_6 (V : Valuation τ sig (Elt F)) : after while0Ops0_6 V (Proc.devRef .tc main_arg2) = V (Proc.devRef .tc main_arg2) :=
  after_of_writes_sub while0Ops0_6 V while0Ops0_6_writes (by decide +kernel)
theorem keep_main_arg2_while0Ops0_7 (V : Valuation τ sig (Elt F)) : after while0Ops0_7 V (Proc.devRef .tc main_arg2) = V (Proc.devRef .tc main_arg2) :=
  after_of_writes_sub while0Ops0_7 V while0Ops0_7_writes (by decide +kernel)
theorem keep_main_arg2_while0Ops0_8 (V : Valuation τ sig (Elt F)) : after while0Ops0_8 V (Proc.devRef .tc main_arg2) = V (Proc.devRef .tc main_arg2) :=
  after_of_writes_sub while0Ops0_8 V while0Ops0_8_writes (by decide +kernel)
theorem keep_main_arg2_while0Ops0_9 (V : Valuation τ sig (Elt F)) : after while0Ops0_9 V (Proc.devRef .tc main_arg2) = V (Proc.devRef .tc main_arg2) :=
  after_of_writes_sub while0Ops0_9 V while0Ops0_9_writes (by decide +kernel)
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0_2, keep_main_arg2_hostOps0_1, keep_main_arg2_hostOps0]
  | k + 1 => by
    rw [show atK m (k + 1) c = afterL bodyI (after condOps (atK m k c)) from rfl]
    simp only [afterL_cons, afterL_nil]
    rw [keep_main_arg2_while0Ops0_9, keep_main_arg2_while0Ops0_8, keep_main_arg2_while0Ops0_7, keep_main_arg2_while0Ops0_6, keep_main_arg2_while0Ops0_5, keep_main_arg2_while0Ops0_4, keep_main_arg2_while0Ops0_3, keep_main_arg2_while0Ops0_2, keep_main_arg2_while0Ops0_1, keep_main_arg2_while0Ops0, keep_main_arg2_condOps, atK_main_arg2 c k]

/-! ## After the loop -/

theorem keep_main_v10_3_hostOps0_3 (V : Valuation τ sig (Elt F)) : after hostOps0_3 V (Proc.devRef .tc main_v10_3) = V (Proc.devRef .tc main_v10_3) :=
  after_of_writes_sub hostOps0_3 V hostOps0_3_writes (by decide +kernel)
/-- The operations after the loop do not write `main_v10_3`. -/
theorem post_keeps_main_v10_3 (V0 : Valuation τ sig (Elt F)) : afterL postI V0 (Proc.devRef .tc main_v10_3) = V0 (Proc.devRef .tc main_v10_3) := by
  simp only [postI, afterL_cons, afterL_nil]
  rw [keep_main_v10_3_hostOps0_3]
/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_3]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_3]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_3]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg2 c k
set_option maxRecDepth 8192 in
/-- `main_v26`, which the operations after the loop make, of the contents they start from. -/
def out_main_v26 (V0 : Valuation τ sig (Elt F)) : (Proc.devRef .tc main_v26 : DevRef τ sig).ty.Contents (Elt F) :=
  concatenate S100x5 1 [⟨S100x4, (Host.gather gather_S20000x4_S100x1_S100x4_1_0_n_n_0_1_14 (V0 (Proc.devRef .tc main_arg0)) (broadcastInDim S100x1 ![0] bcast_S100_S100x1_0 (select (cmpi .slt (V0 (Proc.devRef .tc main_v10_3)) (broadcastInDim S100 ![] bcast_S_S100 (constantI S_ 32 0#32))) (addi (V0 (Proc.devRef .tc main_v10_3)) (broadcastInDim S100 ![] bcast_S_S100 (constantI S_ 32 20000#32))) (V0 (Proc.devRef .tc main_v10_3)))))⟩, ⟨S100x1, (broadcastInDim S100x1 ![0] bcast_S100_S100x1_0 (Host.gather gather_S20000_S100x1_S100_n_0_n_n_0_1_1 (V0 (Proc.devRef .tc main_arg1)) (broadcastInDim S100x1 ![0] bcast_S100_S100x1_0 (select (cmpi .slt (V0 (Proc.devRef .tc main_v10_3)) (broadcastInDim S100 ![] bcast_S_S100 (constantI S_ 32 0#32))) (addi (V0 (Proc.devRef .tc main_v10_3)) (broadcastInDim S100 ![] bcast_S_S100 (constantI S_ 32 20000#32))) (V0 (Proc.devRef .tc main_v10_3))))))⟩] concatenates_S100x4_S100x1_S100x5_d1
set_option maxRecDepth 8192 in
set_option maxHeartbeats 2000000 in
theorem post_main_v26 (V0 : Valuation τ sig (Elt F)) : afterL postI V0 (no_index (Proc.devRef .tc main_v26)) = out_main_v26 V0 := by
  unfold out_main_v26
  simp only [postI, afterL_cons, afterL_nil, hostOps0_3]
  after_results_entrywise []
set_option maxRecDepth 8192 in
theorem out_main_v26_congr {V0 V0' : Valuation τ sig (Elt F)} (h : Agree V0 V0') (h_main_arg0 : V0 (Proc.devRef .tc main_arg0) = V0' (Proc.devRef .tc main_arg0)) (h_main_arg1 : V0 (Proc.devRef .tc main_arg1) = V0' (Proc.devRef .tc main_arg1)) : out_main_v26 V0 = out_main_v26 V0' := by
  unfold out_main_v26
  rw [h_main_arg0, h main_v10_3 (by decide), h_main_arg1]
/-- THE RUN: on every device, for any float values, from any memory with zero counters, every weakly fair execution
    of @main terminates with each result at its component of `STEP` iterated 100 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v26) = out_main_v26 (STEP^[100] (entryContents preI m c))
      ∧ r.2.mem ((c.tc : Thread nD τ).loc main_v10_3) = (STEP^[100] (entryContents preI m c)) (Proc.devRef .tc main_v10_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v26 rfl).trans ((post_main_v26 _).trans (out_main_v26_congr (fun j hj => (cond_keeps _ j hj).trans (atK_agree m c 100 j hj)) ((keep_main_arg0_condOps _).trans ((atK_main_arg0 m c 100).trans (iter_main_arg0 m c 100).symm)) ((keep_main_arg1_condOps _).trans ((atK_main_arg1 m c 100).trans (iter_main_arg1 m c 100).symm)))),
      (h c main_v10_3 rfl).trans ((post_keeps_main_v10_3 _).trans ((cond_keeps _ main_v10_3 (by decide)).trans (atK_agree m c 100 main_v10_3 (by decide)))),
      (h c main_arg0 rfl).trans ((post_keeps_main_arg0 _).trans ((keep_main_arg0_condOps _).trans (atK_main_arg0 m c 100))),
      (h c main_arg1 rfl).trans ((post_keeps_main_arg1 _).trans ((keep_main_arg1_condOps _).trans (atK_main_arg1 m c 100))),
      (h c main_arg2 rfl).trans ((post_keeps_main_arg2 _).trans ((keep_main_arg2_condOps _).trans (atK_main_arg2 m c 100)))⟩) (run_fold m ρ)

end Cert.ReferenceIdeal.Run

end
-- ==== Proof.RefStep.lean ====
/-
  One trip of the reference's loop as standalone definitions: the state a trip hands the next (`State`: the masked
  scores, the indices kept so far and the offset boxes), the values made before the loop (`K_…`, and `A_…` of the
  arguments), each operation of the body its own value (`b‹k› j s`, of the trip's number `j` and the state `s`), and
  `init`, `step` and the boxes and scores read after the loop (`R_main_v26`).
-/
module

public import proofs.«01_k».proof.ReferenceIdeal
public import proofs.«01_k».proof.Proof.Gen.ReferenceIdeal

@[expose] public section

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v10_2 : (⟨S20000, .f32⟩ : BufTy).Contents (Elt F)
  main_v10_3 : (⟨S100, .i32⟩ : BufTy).Contents (Elt F)
  main_v10_0 : (⟨S20000x4, .f32⟩ : BufTy).Contents (Elt F)

/-! What @main computes before the loop without reading an argument. -/

def K_main_cst : (⟨S_, .f32⟩ : BufTy).Contents (Elt F) := constant S_ .f32 0x457A0000#32
def K_main_v2 : (⟨S20000x1, .f32⟩ : BufTy).Contents (Elt F) := broadcastInDim S20000x1 ![] bcast_S_S20000x1 ((K_main_cst (F := F)))
def K_main_cst_0 : (⟨S_, .f32⟩ : BufTy).Contents (Elt F) := constant S_ .f32 0x3DCCCCCD#32
def K_main_v6 : (⟨S20000, .f32⟩ : BufTy).Contents (Elt F) := broadcastInDim S20000 ![] bcast_S_S20000 ((K_main_cst_0 (F := F)))
def K_main_cst_1 : (⟨S_, .f32⟩ : BufTy).Contents (Elt F) := constant S_ .f32 0xCE6E6B28#32
def K_main_call0_v0 : (⟨S_, .f32⟩ : BufTy).Contents (Elt F) := id ((K_main_cst_1 (F := F)))
def K_main_call0_v1 : (⟨S20000, .f32⟩ : BufTy).Contents (Elt F) := broadcastInDim S20000 ![] bcast_S_S20000 ((K_main_call0_v0 (F := F)))
def K_main_c : (⟨S_, .i32⟩ : BufTy).Contents (Elt F) := constantI S_ 32 0#32
def K_main_v9 : (⟨S100, .i32⟩ : BufTy).Contents (Elt F) := broadcastInDim S100 ![] bcast_S_S100 ((K_main_c (F := F)))
def K_main_c_2 : (⟨S_, .i32⟩ : BufTy).Contents (Elt F) := constantI S_ 32 0#32

/-! What @main computes before the loop from its arguments, as functions of them. -/

def A_main_v0 (main_arg0 : (⟨S20000x4, .f32⟩ : BufTy).Contents (Elt F)) (main_arg1 : (⟨S20000, .f32⟩ : BufTy).Contents (Elt F)) (main_arg2 : (⟨S20000, .i32⟩ : BufTy).Contents (Elt F)) : (⟨S20000, .f32⟩ : BufTy).Contents (Elt F) := sitofp .f32 (main_arg2)
def A_main_v1 (main_arg0 : (⟨S20000x4, .f32⟩ : BufTy).Contents (Elt F)) (main_arg1 : (⟨S20000, .f32⟩ : BufTy).Contents (Elt F)) (main_arg2 : (⟨S20000, .i32⟩ : BufTy).Contents (Elt F)) : (⟨S20000x1, .f32⟩ : BufTy).Contents (Elt F) := broadcastInDim S20000x1 ![0] bcast_S20000_S20000x1_0 ((A_main_v0 main_arg0 main_arg1 main_arg2))
def A_main_v3 (main_arg0 : (⟨S20000x4, .f32⟩ : BufTy).Contents (Elt F)) (main_arg1 : (⟨S20000, .f32⟩ : BufTy).Contents (Elt F)) (main_arg2 : (⟨S20000, .i32⟩ : BufTy).Contents (Elt F)) : (⟨S20000x1, .f32⟩ : BufTy).Contents (Elt F) := mulf ((A_main_v1 main_arg0 main_arg1 main_arg2)) ((K_main_v2 (F := F)))
def A_main_v4 (main_arg0 : (⟨S20000x4, .f32⟩ : BufTy).Contents (Elt F)) (main_arg1 : (⟨S20000, .f32⟩ : BufTy).Contents (Elt F)) (main_arg2 : (⟨S20000, .i32⟩ : BufTy).Contents (Elt F)) : (⟨S20000x4, .f32⟩ : BufTy).Contents (Elt F) := broadcastInDim S20000x4 ![0, 1] bcast_S20000x1_S20000x4_0_1 ((A_main_v3 main_arg0 main_arg1 main_arg2))
def A_main_v5 (main_arg0 : (⟨S20000x4, .f32⟩ : BufTy).Contents (Elt F)) (main_arg1 : (⟨S20000, .f32⟩ : BufTy).Contents (Elt F)) (main_arg2 : (⟨S20000, .i32⟩ : BufTy).Contents (Elt F)) : (⟨S20000x4, .f32⟩ : BufTy).Contents (Elt F) := addf (main_arg0) ((A_main_v4 main_arg0 main_arg1 main_arg2))
def A_main_v7 (main_arg0 : (⟨S20000x4, .f32⟩ : BufTy).Contents (Elt F)) (main_arg1 : (⟨S20000, .f32⟩ : BufTy).Contents (Elt F)) (main_arg2 : (⟨S20000, .i32⟩ : BufTy).Contents (Elt F)) : (⟨S20000, .i1⟩ : BufTy).Contents (Elt F) := cmpf .ogt (main_arg1) ((K_main_v6 (F := F)))
def A_main_v8 (main_arg0 : (⟨S20000x4, .f32⟩ : BufTy).Contents (Elt F)) (main_arg1 : (⟨S20000, .f32⟩ : BufTy).Contents (Elt F)) (main_arg2 : (⟨S20000, .i32⟩ : BufTy).Contents (Elt F)) : (⟨S20000, .f32⟩ : BufTy).Contents (Elt F) := select ((A_main_v7 main_arg0 main_arg1 main_arg2)) (main_arg1) ((K_main_call0_v1 (F := F)))

/-! One trip's values, in the body's order. -/

def b0 (j : ℕ) (s : State F) : (⟨S20000, .i32⟩ : BufTy).Contents (Elt F) :=
  iotaInDim S20000 32 0
def b1 (j : ℕ) (s : State F) : (⟨S_, .f32⟩ : BufTy).Contents (Elt F) :=
  constant S_ .f32 0xFF800000#32
def b2 (j : ℕ) (s : State F) : (⟨S_, .i32⟩ : BufTy).Contents (Elt F) :=
  constantI S_ 32 0#32
def b3 (j : ℕ) (s : State F) : (⟨S_, .f32⟩ : BufTy).Contents (Elt F) :=
  (fun z => (Host.argReduce reducer_argmax_f32_i32 (s.main_v10_2) ((b0 j s)) ((b1 j s)) ((b2 j s)) reducesTo_S20000_S_d0 h_S_ z).1)
def b4 (j : ℕ) (s : State F) : (⟨S_, .i32⟩ : BufTy).Contents (Elt F) :=
  (fun z => (Host.argReduce reducer_argmax_f32_i32 (s.main_v10_2) ((b0 j s)) ((b1 j s)) ((b2 j s)) reducesTo_S20000_S_d0 h_S_ z).2)
def b5 (j : ℕ) (s : State F) : (⟨S_, .i32⟩ : BufTy).Contents (Elt F) :=
  constantI S_ 32 0#32
def b6 (j : ℕ) (s : State F) : (⟨S_, .i1⟩ : BufTy).Contents (Elt F) :=
  cmpi .slt ((b4 j s)) ((b5 j s))
def b7 (j : ℕ) (s : State F) : (⟨S_, .i32⟩ : BufTy).Contents (Elt F) :=
  constantI S_ 32 20000#32
def b8 (j : ℕ) (s : State F) : (⟨S_, .i32⟩ : BufTy).Contents (Elt F) :=
  addi ((b4 j s)) ((b7 j s))
def b9 (j : ℕ) (s : State F) : (⟨S_, .i32⟩ : BufTy).Contents (Elt F) :=
  select ((b6 j s)) ((b8 j s)) ((b4 j s))
def b10 (j : ℕ) (s : State F) : (⟨S_, .i32⟩ : BufTy).Contents (Elt F) :=
  constantI S_ 32 0#32
def b11 (j : ℕ) (s : State F) : (⟨S_, .i32⟩ : BufTy).Contents (Elt F) :=
  constantI S_ 32 0#32
def b12 (j : ℕ) (s : State F) : (⟨S_, .i1⟩ : BufTy).Contents (Elt F) :=
  cmpi .slt ((b10 j s)) ((b11 j s))
def b13 (j : ℕ) (s : State F) : (⟨S_, .i32⟩ : BufTy).Contents (Elt F) :=
  constantI S_ 32 0#32
def b14 (j : ℕ) (s : State F) : (⟨S_, .i32⟩ : BufTy).Contents (Elt F) :=
  constantI S_ 32 4#32
def b15 (j : ℕ) (s : State F) : (⟨S_, .i32⟩ : BufTy).Contents (Elt F) :=
  addi ((b13 j s)) ((b14 j s))
def b16 (j : ℕ) (s : State F) : (⟨S_, .i32⟩ : BufTy).Contents (Elt F) :=
  constantI S_ 32 0#32
def b17 (j : ℕ) (s : State F) : (⟨S_, .i32⟩ : BufTy).Contents (Elt F) :=
  select ((b12 j s)) ((b15 j s)) ((b16 j s))
def b18 (j : ℕ) (s : State F) : (⟨S1x4, .f32⟩ : BufTy).Contents (Elt F) :=
  Host.dynamicSlice S1x4 (s.main_v10_0) (fun k => (((![(b9 j s), (b17 j s)] : Fin 2 → (⟨S_, .i32⟩ : BufTy).Contents (Elt F))) k (Shape.Idx.first h_S_)).toInt) sliceFits_S20000x4_S1x4
def b19 (j : ℕ) (s : State F) : (⟨S4, .f32⟩ : BufTy).Contents (Elt F) :=
  shapeCast S4 ((b18 j s)) shapeCasts_S1x4_S4
def b20 (j : ℕ) (s : State F) : (⟨S1, .f32⟩ : BufTy).Contents (Elt F) :=
  extractStridedSlice S1 ![0] ((b19 j s)) slices_S4_S1_0
def b21 (j : ℕ) (s : State F) : (⟨S_, .f32⟩ : BufTy).Contents (Elt F) :=
  shapeCast S_ ((b20 j s)) shapeCasts_S1_S_
def b22 (j : ℕ) (s : State F) : (⟨S20000x1, .f32⟩ : BufTy).Contents (Elt F) :=
  extractStridedSlice S20000x1 ![0, 0] (s.main_v10_0) slices_S20000x4_S20000x1_0_0
def b23 (j : ℕ) (s : State F) : (⟨S20000, .f32⟩ : BufTy).Contents (Elt F) :=
  shapeCast S20000 ((b22 j s)) shapeCasts_S20000x1_S20000
def b24 (j : ℕ) (s : State F) : (⟨S20000, .f32⟩ : BufTy).Contents (Elt F) :=
  broadcastInDim S20000 ![] bcast_S_S20000 ((b21 j s))
def b25 (j : ℕ) (s : State F) : (⟨S20000, .f32⟩ : BufTy).Contents (Elt F) :=
  maximumf ((b24 j s)) ((b23 j s))
def b26 (j : ℕ) (s : State F) : (⟨S1, .f32⟩ : BufTy).Contents (Elt F) :=
  extractStridedSlice S1 ![1] ((b19 j s)) slices_S4_S1_1
def b27 (j : ℕ) (s : State F) : (⟨S_, .f32⟩ : BufTy).Contents (Elt F) :=
  shapeCast S_ ((b26 j s)) shapeCasts_S1_S_
def b28 (j : ℕ) (s : State F) : (⟨S20000x1, .f32⟩ : BufTy).Contents (Elt F) :=
  extractStridedSlice S20000x1 ![0, 1] (s.main_v10_0) slices_S20000x4_S20000x1_0_1
def b29 (j : ℕ) (s : State F) : (⟨S20000, .f32⟩ : BufTy).Contents (Elt F) :=
  shapeCast S20000 ((b28 j s)) shapeCasts_S20000x1_S20000
def b30 (j : ℕ) (s : State F) : (⟨S20000, .f32⟩ : BufTy).Contents (Elt F) :=
  broadcastInDim S20000 ![] bcast_S_S20000 ((b27 j s))
def b31 (j : ℕ) (s : State F) : (⟨S20000, .f32⟩ : BufTy).Contents (Elt F) :=
  maximumf ((b30 j s)) ((b29 j s))
def b32 (j : ℕ) (s : State F) : (⟨S1, .f32⟩ : BufTy).Contents (Elt F) :=
  extractStridedSlice S1 ![2] ((b19 j s)) slices_S4_S1_2
def b33 (j : ℕ) (s : State F) : (⟨S_, .f32⟩ : BufTy).Contents (Elt F) :=
  shapeCast S_ ((b32 j s)) shapeCasts_S1_S_
def b34 (j : ℕ) (s : State F) : (⟨S20000x1, .f32⟩ : BufTy).Contents (Elt F) :=
  extractStridedSlice S20000x1 ![0, 2] (s.main_v10_0) slices_S20000x4_S20000x1_0_2
def b35 (j : ℕ) (s : State F) : (⟨S20000, .f32⟩ : BufTy).Contents (Elt F) :=
  shapeCast S20000 ((b34 j s)) shapeCasts_S20000x1_S20000
def b36 (j : ℕ) (s : State F) : (⟨S20000, .f32⟩ : BufTy).Contents (Elt F) :=
  broadcastInDim S20000 ![] bcast_S_S20000 ((b33 j s))
def b37 (j : ℕ) (s : State F) : (⟨S20000, .f32⟩ : BufTy).Contents (Elt F) :=
  minimumf ((b36 j s)) ((b35 j s))
def b38 (j : ℕ) (s : State F) : (⟨S1, .f32⟩ : BufTy).Contents (Elt F) :=
  extractStridedSlice S1 ![3] ((b19 j s)) slices_S4_S1_3
def b39 (j : ℕ) (s : State F) : (⟨S_, .f32⟩ : BufTy).Contents (Elt F) :=
  shapeCast S_ ((b38 j s)) shapeCasts_S1_S_
def b40 (j : ℕ) (s : State F) : (⟨S20000x1, .f32⟩ : BufTy).Contents (Elt F) :=
  extractStridedSlice S20000x1 ![0, 3] (s.main_v10_0) slices_S20000x4_S20000x1_0_3
def b41 (j : ℕ) (s : State F) : (⟨S20000, .f32⟩ : BufTy).Contents (Elt F) :=
  shapeCast S20000 ((b40 j s)) shapeCasts_S20000x1_S20000
def b42 (j : ℕ) (s : State F) : (⟨S20000, .f32⟩ : BufTy).Contents (Elt F) :=
  broadcastInDim S20000 ![] bcast_S_S20000 ((b39 j s))
def b43 (j : ℕ) (s : State F) : (⟨S20000, .f32⟩ : BufTy).Contents (Elt F) :=
  minimumf ((b42 j s)) ((b41 j s))
def b44 (j : ℕ) (s : State F) : (⟨S20000, .f32⟩ : BufTy).Contents (Elt F) :=
  subf ((b37 j s)) ((b25 j s))
def b45 (j : ℕ) (s : State F) : (⟨S_, .f32⟩ : BufTy).Contents (Elt F) :=
  constant S_ .f32 0x00000000#32
def b46 (j : ℕ) (s : State F) : (⟨S_, .f32⟩ : BufTy).Contents (Elt F) := b45 j s
theorem b46_id (j : ℕ) (s : State F) : b46 j s = b45 j s := rfl
def b47 (j : ℕ) (s : State F) : (⟨S20000, .f32⟩ : BufTy).Contents (Elt F) :=
  broadcastInDim S20000 ![] bcast_S_S20000 ((b46 j s))
def b48 (j : ℕ) (s : State F) : (⟨S20000, .f32⟩ : BufTy).Contents (Elt F) :=
  maximumf ((b47 j s)) ((b44 j s))
def b49 (j : ℕ) (s : State F) : (⟨S20000, .f32⟩ : BufTy).Contents (Elt F) :=
  subf ((b43 j s)) ((b31 j s))
def b50 (j : ℕ) (s : State F) : (⟨S_, .f32⟩ : BufTy).Contents (Elt F) :=
  constant S_ .f32 0x00000000#32
def b51 (j : ℕ) (s : State F) : (⟨S_, .f32⟩ : BufTy).Contents (Elt F) := b50 j s
theorem b51_id (j : ℕ) (s : State F) : b51 j s = b50 j s := rfl
def b52 (j : ℕ) (s : State F) : (⟨S20000, .f32⟩ : BufTy).Contents (Elt F) :=
  broadcastInDim S20000 ![] bcast_S_S20000 ((b51 j s))
def b53 (j : ℕ) (s : State F) : (⟨S20000, .f32⟩ : BufTy).Contents (Elt F) :=
  maximumf ((b52 j s)) ((b49 j s))
def b54 (j : ℕ) (s : State F) : (⟨S20000, .f32⟩ : BufTy).Contents (Elt F) :=
  mulf ((b48 j s)) ((b53 j s))
def b55 (j : ℕ) (s : State F) : (⟨S1, .f32⟩ : BufTy).Contents (Elt F) :=
  extractStridedSlice S1 ![2] ((b19 j s)) slices_S4_S1_2
def b56 (j : ℕ) (s : State F) : (⟨S_, .f32⟩ : BufTy).Contents (Elt F) :=
  shapeCast S_ ((b55 j s)) shapeCasts_S1_S_
def b57 (j : ℕ) (s : State F) : (⟨S1, .f32⟩ : BufTy).Contents (Elt F) :=
  extractStridedSlice S1 ![0] ((b19 j s)) slices_S4_S1_0
def b58 (j : ℕ) (s : State F) : (⟨S_, .f32⟩ : BufTy).Contents (Elt F) :=
  shapeCast S_ ((b57 j s)) shapeCasts_S1_S_
def b59 (j : ℕ) (s : State F) : (⟨S_, .f32⟩ : BufTy).Contents (Elt F) :=
  subf ((b56 j s)) ((b58 j s))
def b60 (j : ℕ) (s : State F) : (⟨S1, .f32⟩ : BufTy).Contents (Elt F) :=
  extractStridedSlice S1 ![3] ((b19 j s)) slices_S4_S1_3
def b61 (j : ℕ) (s : State F) : (⟨S_, .f32⟩ : BufTy).Contents (Elt F) :=
  shapeCast S_ ((b60 j s)) shapeCasts_S1_S_
def b62 (j : ℕ) (s : State F) : (⟨S1, .f32⟩ : BufTy).Contents (Elt F) :=
  extractStridedSlice S1 ![1] ((b19 j s)) slices_S4_S1_1
def b63 (j : ℕ) (s : State F) : (⟨S_, .f32⟩ : BufTy).Contents (Elt F) :=
  shapeCast S_ ((b62 j s)) shapeCasts_S1_S_
def b64 (j : ℕ) (s : State F) : (⟨S_, .f32⟩ : BufTy).Contents (Elt F) :=
  subf ((b61 j s)) ((b63 j s))
def b65 (j : ℕ) (s : State F) : (⟨S_, .f32⟩ : BufTy).Contents (Elt F) :=
  mulf ((b59 j s)) ((b64 j s))
def b66 (j : ℕ) (s : State F) : (⟨S20000x1, .f32⟩ : BufTy).Contents (Elt F) :=
  extractStridedSlice S20000x1 ![0, 2] (s.main_v10_0) slices_S20000x4_S20000x1_0_2
def b67 (j : ℕ) (s : State F) : (⟨S20000, .f32⟩ : BufTy).Contents (Elt F) :=
  shapeCast S20000 ((b66 j s)) shapeCasts_S20000x1_S20000
def b68 (j : ℕ) (s : State F) : (⟨S20000x1, .f32⟩ : BufTy).Contents (Elt F) :=
  extractStridedSlice S20000x1 ![0, 0] (s.main_v10_0) slices_S20000x4_S20000x1_0_0
def b69 (j : ℕ) (s : State F) : (⟨S20000, .f32⟩ : BufTy).Contents (Elt F) :=
  shapeCast S20000 ((b68 j s)) shapeCasts_S20000x1_S20000
def b70 (j : ℕ) (s : State F) : (⟨S20000, .f32⟩ : BufTy).Contents (Elt F) :=
  subf ((b67 j s)) ((b69 j s))
def b71 (j : ℕ) (s : State F) : (⟨S20000x1, .f32⟩ : BufTy).Contents (Elt F) :=
  extractStridedSlice S20000x1 ![0, 3] (s.main_v10_0) slices_S20000x4_S20000x1_0_3
def b72 (j : ℕ) (s : State F) : (⟨S20000, .f32⟩ : BufTy).Contents (Elt F) :=
  shapeCast S20000 ((b71 j s)) shapeCasts_S20000x1_S20000
def b73 (j : ℕ) (s : State F) : (⟨S20000x1, .f32⟩ : BufTy).Contents (Elt F) :=
  extractStridedSlice S20000x1 ![0, 1] (s.main_v10_0) slices_S20000x4_S20000x1_0_1
def b74 (j : ℕ) (s : State F) : (⟨S20000, .f32⟩ : BufTy).Contents (Elt F) :=
  shapeCast S20000 ((b73 j s)) shapeCasts_S20000x1_S20000
def b75 (j : ℕ) (s : State F) : (⟨S20000, .f32⟩ : BufTy).Contents (Elt F) :=
  subf ((b72 j s)) ((b74 j s))
def b76 (j : ℕ) (s : State F) : (⟨S20000, .f32⟩ : BufTy).Contents (Elt F) :=
  mulf ((b70 j s)) ((b75 j s))
def b77 (j : ℕ) (s : State F) : (⟨S20000, .f32⟩ : BufTy).Contents (Elt F) :=
  broadcastInDim S20000 ![] bcast_S_S20000 ((b65 j s))
def b78 (j : ℕ) (s : State F) : (⟨S20000, .f32⟩ : BufTy).Contents (Elt F) :=
  addf ((b77 j s)) ((b76 j s))
def b79 (j : ℕ) (s : State F) : (⟨S20000, .f32⟩ : BufTy).Contents (Elt F) :=
  subf ((b78 j s)) ((b54 j s))
def b80 (j : ℕ) (s : State F) : (⟨S_, .f32⟩ : BufTy).Contents (Elt F) :=
  constant S_ .f32 0x3089705F#32
def b81 (j : ℕ) (s : State F) : (⟨S20000, .f32⟩ : BufTy).Contents (Elt F) :=
  broadcastInDim S20000 ![] bcast_S_S20000 ((b80 j s))
def b82 (j : ℕ) (s : State F) : (⟨S20000, .f32⟩ : BufTy).Contents (Elt F) :=
  addf ((b79 j s)) ((b81 j s))
def b83 (j : ℕ) (s : State F) : (⟨S20000, .f32⟩ : BufTy).Contents (Elt F) :=
  Host.divf ((b54 j s)) ((b82 j s))
def b84 (j : ℕ) (s : State F) : (⟨S_, .f32⟩ : BufTy).Contents (Elt F) :=
  constant S_ .f32 0x3F19999A#32
def b85 (j : ℕ) (s : State F) : (⟨S20000, .f32⟩ : BufTy).Contents (Elt F) :=
  broadcastInDim S20000 ![] bcast_S_S20000 ((b84 j s))
def b86 (j : ℕ) (s : State F) : (⟨S20000, .i1⟩ : BufTy).Contents (Elt F) :=
  cmpf .ogt ((b83 j s)) ((b85 j s))
def b87 (j : ℕ) (s : State F) : (⟨S_, .f32⟩ : BufTy).Contents (Elt F) :=
  constant S_ .f32 0xCE6E6B28#32
def b88 (j : ℕ) (s : State F) : (⟨S_, .f32⟩ : BufTy).Contents (Elt F) := b87 j s
theorem b88_id (j : ℕ) (s : State F) : b88 j s = b87 j s := rfl
def b89 (j : ℕ) (s : State F) : (⟨S20000, .f32⟩ : BufTy).Contents (Elt F) :=
  broadcastInDim S20000 ![] bcast_S_S20000 ((b88 j s))
def b90 (j : ℕ) (s : State F) : (⟨S20000, .f32⟩ : BufTy).Contents (Elt F) :=
  select ((b86 j s)) ((b89 j s)) (s.main_v10_2)
def b91 (j : ℕ) (s : State F) : (⟨S_, .i32⟩ : BufTy).Contents (Elt F) :=
  constantI S_ 32 0#32
def b92 (j : ℕ) (s : State F) : (⟨S_, .i1⟩ : BufTy).Contents (Elt F) :=
  cmpi .slt ((b4 j s)) ((b91 j s))
def b93 (j : ℕ) (s : State F) : (⟨S_, .i32⟩ : BufTy).Contents (Elt F) :=
  constantI S_ 32 20000#32
def b94 (j : ℕ) (s : State F) : (⟨S_, .i32⟩ : BufTy).Contents (Elt F) :=
  addi ((b4 j s)) ((b93 j s))
def b95 (j : ℕ) (s : State F) : (⟨S_, .i32⟩ : BufTy).Contents (Elt F) :=
  select ((b92 j s)) ((b94 j s)) ((b4 j s))
def b96 (j : ℕ) (s : State F) : (⟨S1, .i32⟩ : BufTy).Contents (Elt F) :=
  broadcastInDim S1 ![] bcast_S_S1 ((b95 j s))
def b97 (j : ℕ) (s : State F) : (⟨S_, .f32⟩ : BufTy).Contents (Elt F) :=
  constant S_ .f32 0xCE6E6B28#32
def b98 (j : ℕ) (s : State F) : (⟨S20000, .f32⟩ : BufTy).Contents (Elt F) :=
  Host.scatter scatter_S20000_S1_S__n_0_0_0 (fun _ b => b) ((b90 j s)) ((b96 j s)) ((b97 j s))
def b99 (j : ℕ) (s : State F) : (⟨S1, .i32⟩ : BufTy).Contents (Elt F) :=
  broadcastInDim S1 ![] bcast_S_S1 ((b4 j s))
@[irreducible] def b100 (j : ℕ) (s : State F) : (⟨S100, .i32⟩ : BufTy).Contents (Elt F) :=
  Host.dynamicUpdateSlice (s.main_v10_3) ((b99 j s)) (fun k => (((![(constantI S_ 32 (BitVec.ofNat 32 j) : (⟨S_, .i32⟩ : BufTy).Contents (Elt F))] : Fin 1 → (⟨S_, .i32⟩ : BufTy).Contents (Elt F))) k (Shape.Idx.first h_S_)).toInt) updateFits_S100_S1

/-- The state @main hands the first trip, of the arguments it copies in or computes from. -/
def init (main_arg0 : (⟨S20000x4, .f32⟩ : BufTy).Contents (Elt F)) (main_arg1 : (⟨S20000, .f32⟩ : BufTy).Contents (Elt F)) (main_arg2 : (⟨S20000, .i32⟩ : BufTy).Contents (Elt F)) : State F :=
  { main_v10_2 := A_main_v8 main_arg0 main_arg1 main_arg2, main_v10_3 := K_main_v9 (F := F), main_v10_0 := A_main_v5 main_arg0 main_arg1 main_arg2 }

/-- One trip. -/
@[irreducible] def step (j : ℕ) (s : State F) : State F :=
  { main_v10_2 := b98 j s, main_v10_3 := b100 j s, main_v10_0 := s.main_v10_0 }
theorem step_main_v10_2 (j : ℕ) (s : State F) : (step j s).main_v10_2 = b98 j s := by delta step; dsimp only
theorem step_main_v10_3 (j : ℕ) (s : State F) : (step j s).main_v10_3 = b100 j s := by unfold step; rfl

set_option maxRecDepth 8192 in
/-- `main_v26`, which the operations after the loop make, of the loop's last state and the arguments they read. -/
def R_main_v26 (s : State F) (main_arg0 : (⟨S20000x4, .f32⟩ : BufTy).Contents (Elt F)) (main_arg1 : (⟨S20000, .f32⟩ : BufTy).Contents (Elt F)) : (⟨S100x5, .f32⟩ : BufTy).Contents (Elt F) :=
  concatenate S100x5 1 [⟨S100x4, (Host.gather gather_S20000x4_S100x1_S100x4_1_0_n_n_0_1_14 (main_arg0) (broadcastInDim S100x1 ![0] bcast_S100_S100x1_0 (select (cmpi .slt (s.main_v10_3) (broadcastInDim S100 ![] bcast_S_S100 (constantI S_ 32 0#32))) (addi (s.main_v10_3) (broadcastInDim S100 ![] bcast_S_S100 (constantI S_ 32 20000#32))) (s.main_v10_3))))⟩, ⟨S100x1, (broadcastInDim S100x1 ![0] bcast_S100_S100x1_0 (Host.gather gather_S20000_S100x1_S100_n_0_n_n_0_1_1 (main_arg1) (broadcastInDim S100x1 ![0] bcast_S100_S100x1_0 (select (cmpi .slt (s.main_v10_3) (broadcastInDim S100 ![] bcast_S_S100 (constantI S_ 32 0#32))) (addi (s.main_v10_3) (broadcastInDim S100 ![] bcast_S_S100 (constantI S_ 32 20000#32))) (s.main_v10_3)))))⟩] concatenates_S100x4_S100x1_S100x5_d1

end Cert.ReferenceIdeal.Step

end
-- ==== Proof.RefStepRun.lean ====
/-
  The reference's run over `RefStep`'s definitions: each value of a trip is `RefStep`'s of the state, so the run ends
  with every result at its field of state 100 of any sequence that starts at `init` and goes on by `step` (`run_iter`).
-/
module

public import proofs.«01_k».proof.Proof.RefTrip
public import proofs.«01_k».proof.Proof.RefStep

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Ops Cert.ReferenceIdeal.Run
open Cert.ReferenceIdeal.Step (State step init)

variable {F : FTy → Type} [FloatOps F]

variable (V0 : Valuation τ sig (Elt F)) (s : State F) (j : ℕ)

/-- The valuation holds the state, the set-up values and the trip's number. -/
structure Holds : Prop where
  f_2 : V0 (Proc.devRef .tc main_v10_2) = s.main_v10_2
  f_3 : V0 (Proc.devRef .tc main_v10_3) = s.main_v10_3
  f_0 : V0 (Proc.devRef .tc main_v10_0) = s.main_v10_0
  n_1 : V0 (Proc.devRef .tc main_v10_1) = constantI S_ 32 (BitVec.ofNat 32 j)

variable {V0 s j}

set_option maxRecDepth 8192 in
theorem al_0 (h : Holds V0 s j) : (res_main_while0b_call1_v0 V0 : (Proc.devRef .tc main_while0b_call1_v0 : DevRef τ sig).ty.Contents (Elt F)) = Cert.ReferenceIdeal.Step.b0 j s := by
  unfold res_main_while0b_call1_v0 Cert.ReferenceIdeal.Step.b0
  rfl
set_option maxRecDepth 8192 in
theorem al_1 (h : Holds V0 s j) : (res_main_while0b_call1_cst V0 : (Proc.devRef .tc main_while0b_call1_cst : DevRef τ sig).ty.Contents (Elt F)) = Cert.ReferenceIdeal.Step.b1 j s := by
  unfold res_main_while0b_call1_cst Cert.ReferenceIdeal.Step.b1
  rfl
set_option maxRecDepth 8192 in
theorem al_2 (h : Holds V0 s j) : (res_main_while0b_call1_c V0 : (Proc.devRef .tc main_while0b_call1_c : DevRef τ sig).ty.Contents (Elt F)) = Cert.ReferenceIdeal.Step.b2 j s := by
  unfold res_main_while0b_call1_c Cert.ReferenceIdeal.Step.b2
  rfl
set_option maxRecDepth 8192 in
theorem al_3 (h : Holds V0 s j) : ((fun j => (Host.argReduce reducer_argmax_f32_i32 (V0 (Proc.devRef .tc main_v10_2)) (res_main_while0b_call1_v0 V0) (res_main_while0b_call1_cst V0) (res_main_while0b_call1_c V0) reducesTo_S20000_S_d0 h_S_ j).1) : (Proc.devRef .tc main_while0b_call1_v1_0 : DevRef τ sig).ty.Contents (Elt F)) = Cert.ReferenceIdeal.Step.b3 j s := by
  unfold Cert.ReferenceIdeal.Step.b3
  rw [← al_0 h, ← al_1 h, ← al_2 h, h.f_2]
  try rfl
set_option maxRecDepth 8192 in
theorem al_4 (h : Holds V0 s j) : (res_main_while0b_v27 V0 : (Proc.devRef .tc main_while0b_v27 : DevRef τ sig).ty.Contents (Elt F)) = Cert.ReferenceIdeal.Step.b4 j s := by
  unfold res_main_while0b_v27 Cert.ReferenceIdeal.Step.b4
  rw [← al_0 h, ← al_1 h, ← al_2 h, h.f_2]
  try rfl
set_option maxRecDepth 8192 in
theorem al_5 (h : Holds V0 s j) : (constantI S_ 32 0#32 : (Proc.devRef .tc main_while0b_c_10 : DevRef τ sig).ty.Contents (Elt F)) = Cert.ReferenceIdeal.Step.b5 j s := by
  unfold Cert.ReferenceIdeal.Step.b5
  rfl
set_option maxRecDepth 8192 in
theorem al_6 (h : Holds V0 s j) : (cmpi .slt (res_main_while0b_v27 V0) (constantI S_ 32 0#32) : (Proc.devRef .tc main_while0b_v28 : DevRef τ sig).ty.Contents (Elt F)) = Cert.ReferenceIdeal.Step.b6 j s := by
  unfold Cert.ReferenceIdeal.Step.b6
  rw [← al_4 h, ← al_5 h]
  try rfl
set_option maxRecDepth 8192 in
theorem al_7 (h : Holds V0 s j) : (constantI S_ 32 20000#32 : (Proc.devRef .tc main_while0b_c_11 : DevRef τ sig).ty.Contents (Elt F)) = Cert.ReferenceIdeal.Step.b7 j s := by
  unfold Cert.ReferenceIdeal.Step.b7
  rfl
set_option maxRecDepth 8192 in
theorem al_8 (h : Holds V0 s j) : (addi (res_main_while0b_v27 V0) (constantI S_ 32 20000#32) : (Proc.devRef .tc main_while0b_v29 : DevRef τ sig).ty.Contents (Elt F)) = Cert.ReferenceIdeal.Step.b8 j s := by
  unfold Cert.ReferenceIdeal.Step.b8
  rw [← al_4 h, ← al_7 h]
  try rfl
set_option maxRecDepth 8192 in
theorem al_9 (h : Holds V0 s j) : (select (cmpi .slt (res_main_while0b_v27 V0) (constantI S_ 32 0#32)) (addi (res_main_while0b_v27 V0) (constantI S_ 32 20000#32)) (res_main_while0b_v27 V0) : (Proc.devRef .tc main_while0b_v30 : DevRef τ sig).ty.Contents (Elt F)) = Cert.ReferenceIdeal.Step.b9 j s := by
  unfold Cert.ReferenceIdeal.Step.b9
  rw [← al_6 h, ← al_8 h, ← al_4 h]
  try rfl
set_option maxRecDepth 8192 in
theorem al_10 (h : Holds V0 s j) : (constantI S_ 32 0#32 : (Proc.devRef .tc main_while0b_c_12 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_c_13 : DevRef τ sig).ty.Contents (Elt F)) = Cert.ReferenceIdeal.Step.b11 j s := by
  unfold Cert.ReferenceIdeal.Step.b11
  rfl
set_option maxRecDepth 8192 in
theorem al_12 (h : Holds V0 s j) : (cmpi .slt (constantI S_ 32 0#32) (constantI S_ 32 0#32) : (Proc.devRef .tc main_while0b_v31 : DevRef τ sig).ty.Contents (Elt F)) = Cert.ReferenceIdeal.Step.b12 j s := by
  unfold Cert.ReferenceIdeal.Step.b12
  rw [← al_10 h, ← al_11 h]
  try rfl
set_option maxRecDepth 8192 in
theorem al_13 (h : Holds V0 s j) : (constantI S_ 32 0#32 : (Proc.devRef .tc main_while0b_c_14 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 4#32 : (Proc.devRef .tc main_while0b_c_15 : DevRef τ sig).ty.Contents (Elt F)) = Cert.ReferenceIdeal.Step.b14 j s := by
  unfold Cert.ReferenceIdeal.Step.b14
  rfl
set_option maxRecDepth 8192 in
theorem al_15 (h : Holds V0 s j) : (addi (constantI S_ 32 0#32) (constantI S_ 32 4#32) : (Proc.devRef .tc main_while0b_v32 : DevRef τ sig).ty.Contents (Elt F)) = Cert.ReferenceIdeal.Step.b15 j s := by
  unfold Cert.ReferenceIdeal.Step.b15
  rw [← al_13 h, ← al_14 h]
  try rfl
set_option maxRecDepth 8192 in
theorem al_16 (h : Holds V0 s j) : (constantI S_ 32 0#32 : (Proc.devRef .tc main_while0b_c_16 : DevRef τ sig).ty.Contents (Elt F)) = Cert.ReferenceIdeal.Step.b16 j s := by
  unfold Cert.ReferenceIdeal.Step.b16
  rfl
set_option maxRecDepth 8192 in
theorem al_17 (h : Holds V0 s j) : (select (cmpi .slt (constantI S_ 32 0#32) (constantI S_ 32 0#32)) (addi (constantI S_ 32 0#32) (constantI S_ 32 4#32)) (constantI S_ 32 0#32) : (Proc.devRef .tc main_while0b_v33 : DevRef τ sig).ty.Contents (Elt F)) = Cert.ReferenceIdeal.Step.b17 j s := by
  unfold Cert.ReferenceIdeal.Step.b17
  rw [← al_12 h, ← al_15 h, ← al_16 h]
  try rfl
set_option maxRecDepth 8192 in
theorem al_18 (h : Holds V0 s j) : (Host.dynamicSlice S1x4 (V0 (Proc.devRef .tc main_v10_0)) (fun k => (((![select (cmpi .slt (res_main_while0b_v27 V0) (constantI S_ 32 0#32)) (addi (res_main_while0b_v27 V0) (constantI S_ 32 20000#32)) (res_main_while0b_v27 V0), select (cmpi .slt (constantI S_ 32 0#32) (constantI S_ 32 0#32)) (addi (constantI S_ 32 0#32) (constantI S_ 32 4#32)) (constantI S_ 32 0#32)] : Fin 2 → (⟨S_, .i32⟩ : BufTy).Contents (Elt F))) k (Shape.Idx.first h_S_)).toInt) sliceFits_S20000x4_S1x4 : (Proc.devRef .tc main_while0b_v34 : DevRef τ sig).ty.Contents (Elt F)) = Cert.ReferenceIdeal.Step.b18 j s := by
  unfold Cert.ReferenceIdeal.Step.b18
  rw [← al_9 h, ← al_17 h, h.f_0]
  try rfl
set_option maxRecDepth 8192 in
theorem al_19 (h : Holds V0 s j) : (res_main_while0b_v35 V0 : (Proc.devRef .tc main_while0b_v35 : DevRef τ sig).ty.Contents (Elt F)) = Cert.ReferenceIdeal.Step.b19 j s := by
  unfold res_main_while0b_v35 Cert.ReferenceIdeal.Step.b19
  rw [← al_18 h]
  try rfl
set_option maxRecDepth 8192 in
theorem al_20 (h : Holds V0 s j) : (extractStridedSlice S1 ![0] (res_main_while0b_v35 V0) slices_S4_S1_0 : (Proc.devRef .tc main_while0b_v36 : DevRef τ sig).ty.Contents (Elt F)) = Cert.ReferenceIdeal.Step.b20 j s := by
  unfold Cert.ReferenceIdeal.Step.b20
  rw [← al_19 h]
  try rfl
set_option maxRecDepth 8192 in
theorem al_21 (h : Holds V0 s j) : (shapeCast S_ (extractStridedSlice S1 ![0] (res_main_while0b_v35 V0) slices_S4_S1_0) shapeCasts_S1_S_ : (Proc.devRef .tc main_while0b_v37 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (extractStridedSlice S20000x1 ![0, 0] (V0 (Proc.devRef .tc main_v10_0)) slices_S20000x4_S20000x1_0_0 : (Proc.devRef .tc main_while0b_v38 : DevRef τ sig).ty.Contents (Elt F)) = Cert.ReferenceIdeal.Step.b22 j s := by
  unfold Cert.ReferenceIdeal.Step.b22
  rw [h.f_0]
  try rfl
set_option maxRecDepth 8192 in
theorem al_23 (h : Holds V0 s j) : (shapeCast S20000 (extractStridedSlice S20000x1 ![0, 0] (V0 (Proc.devRef .tc main_v10_0)) slices_S20000x4_S20000x1_0_0) shapeCasts_S20000x1_S20000 : (Proc.devRef .tc main_while0b_v39 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (broadcastInDim S20000 ![] bcast_S_S20000 (shapeCast S_ (extractStridedSlice S1 ![0] (res_main_while0b_v35 V0) slices_S4_S1_0) shapeCasts_S1_S_) : (Proc.devRef .tc main_while0b_v40 : DevRef τ sig).ty.Contents (Elt F)) = Cert.ReferenceIdeal.Step.b24 j s := by
  unfold Cert.ReferenceIdeal.Step.b24
  rw [← al_21 h]
  try rfl
set_option maxRecDepth 8192 in
theorem al_25 (h : Holds V0 s j) : (maximumf (broadcastInDim S20000 ![] bcast_S_S20000 (shapeCast S_ (extractStridedSlice S1 ![0] (res_main_while0b_v35 V0) slices_S4_S1_0) shapeCasts_S1_S_)) (shapeCast S20000 (extractStridedSlice S20000x1 ![0, 0] (V0 (Proc.devRef .tc main_v10_0)) slices_S20000x4_S20000x1_0_0) shapeCasts_S20000x1_S20000) : (Proc.devRef .tc main_while0b_v41 : DevRef τ sig).ty.Contents (Elt F)) = Cert.ReferenceIdeal.Step.b25 j s := by
  unfold Cert.ReferenceIdeal.Step.b25
  rw [← al_24 h, ← al_23 h]
  try rfl
set_option maxRecDepth 8192 in
theorem al_26 (h : Holds V0 s j) : (extractStridedSlice S1 ![1] (res_main_while0b_v35 V0) slices_S4_S1_1 : (Proc.devRef .tc main_while0b_v42 : DevRef τ sig).ty.Contents (Elt F)) = Cert.ReferenceIdeal.Step.b26 j s := by
  unfold Cert.ReferenceIdeal.Step.b26
  rw [← al_19 h]
  try rfl
set_option maxRecDepth 8192 in
theorem al_27 (h : Holds V0 s j) : (shapeCast S_ (extractStridedSlice S1 ![1] (res_main_while0b_v35 V0) slices_S4_S1_1) shapeCasts_S1_S_ : (Proc.devRef .tc main_while0b_v43 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (extractStridedSlice S20000x1 ![0, 1] (V0 (Proc.devRef .tc main_v10_0)) slices_S20000x4_S20000x1_0_1 : (Proc.devRef .tc main_while0b_v44 : DevRef τ sig).ty.Contents (Elt F)) = Cert.ReferenceIdeal.Step.b28 j s := by
  unfold Cert.ReferenceIdeal.Step.b28
  rw [h.f_0]
  try rfl
set_option maxRecDepth 8192 in
theorem al_29 (h : Holds V0 s j) : (shapeCast S20000 (extractStridedSlice S20000x1 ![0, 1] (V0 (Proc.devRef .tc main_v10_0)) slices_S20000x4_S20000x1_0_1) shapeCasts_S20000x1_S20000 : (Proc.devRef .tc main_while0b_v45 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (broadcastInDim S20000 ![] bcast_S_S20000 (shapeCast S_ (extractStridedSlice S1 ![1] (res_main_while0b_v35 V0) slices_S4_S1_1) shapeCasts_S1_S_) : (Proc.devRef .tc main_while0b_v46 : DevRef τ sig).ty.Contents (Elt F)) = Cert.ReferenceIdeal.Step.b30 j s := by
  unfold Cert.ReferenceIdeal.Step.b30
  rw [← al_27 h]
  try rfl
set_option maxRecDepth 8192 in
theorem al_31 (h : Holds V0 s j) : (maximumf (broadcastInDim S20000 ![] bcast_S_S20000 (shapeCast S_ (extractStridedSlice S1 ![1] (res_main_while0b_v35 V0) slices_S4_S1_1) shapeCasts_S1_S_)) (shapeCast S20000 (extractStridedSlice S20000x1 ![0, 1] (V0 (Proc.devRef .tc main_v10_0)) slices_S20000x4_S20000x1_0_1) shapeCasts_S20000x1_S20000) : (Proc.devRef .tc main_while0b_v47 : DevRef τ sig).ty.Contents (Elt F)) = Cert.ReferenceIdeal.Step.b31 j s := by
  unfold Cert.ReferenceIdeal.Step.b31
  rw [← al_30 h, ← al_29 h]
  try rfl
set_option maxRecDepth 8192 in
theorem al_32 (h : Holds V0 s j) : (extractStridedSlice S1 ![2] (res_main_while0b_v35 V0) slices_S4_S1_2 : (Proc.devRef .tc main_while0b_v48 : DevRef τ sig).ty.Contents (Elt F)) = Cert.ReferenceIdeal.Step.b32 j s := by
  unfold Cert.ReferenceIdeal.Step.b32
  rw [← al_19 h]
  try rfl
set_option maxRecDepth 8192 in
theorem al_33 (h : Holds V0 s j) : (shapeCast S_ (extractStridedSlice S1 ![2] (res_main_while0b_v35 V0) slices_S4_S1_2) shapeCasts_S1_S_ : (Proc.devRef .tc main_while0b_v49 : DevRef τ sig).ty.Contents (Elt F)) = Cert.ReferenceIdeal.Step.b33 j s := by
  unfold Cert.ReferenceIdeal.Step.b33
  rw [← al_32 h]
  try rfl
set_option maxRecDepth 8192 in
theorem al_34 (h : Holds V0 s j) : (extractStridedSlice S20000x1 ![0, 2] (V0 (Proc.devRef .tc main_v10_0)) slices_S20000x4_S20000x1_0_2 : (Proc.devRef .tc main_while0b_v50 : DevRef τ sig).ty.Contents (Elt F)) = Cert.ReferenceIdeal.Step.b34 j s := by
  unfold Cert.ReferenceIdeal.Step.b34
  rw [h.f_0]
  try rfl
set_option maxRecDepth 8192 in
theorem al_35 (h : Holds V0 s j) : (shapeCast S20000 (extractStridedSlice S20000x1 ![0, 2] (V0 (Proc.devRef .tc main_v10_0)) slices_S20000x4_S20000x1_0_2) shapeCasts_S20000x1_S20000 : (Proc.devRef .tc main_while0b_v51 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (broadcastInDim S20000 ![] bcast_S_S20000 (shapeCast S_ (extractStridedSlice S1 ![2] (res_main_while0b_v35 V0) slices_S4_S1_2) shapeCasts_S1_S_) : (Proc.devRef .tc main_while0b_v52 : DevRef τ sig).ty.Contents (Elt F)) = Cert.ReferenceIdeal.Step.b36 j s := by
  unfold Cert.ReferenceIdeal.Step.b36
  rw [← al_33 h]
  try rfl
set_option maxRecDepth 8192 in
theorem al_37 (h : Holds V0 s j) : (minimumf (broadcastInDim S20000 ![] bcast_S_S20000 (shapeCast S_ (extractStridedSlice S1 ![2] (res_main_while0b_v35 V0) slices_S4_S1_2) shapeCasts_S1_S_)) (shapeCast S20000 (extractStridedSlice S20000x1 ![0, 2] (V0 (Proc.devRef .tc main_v10_0)) slices_S20000x4_S20000x1_0_2) shapeCasts_S20000x1_S20000) : (Proc.devRef .tc main_while0b_v53 : DevRef τ sig).ty.Contents (Elt F)) = Cert.ReferenceIdeal.Step.b37 j s := by
  unfold Cert.ReferenceIdeal.Step.b37
  rw [← al_36 h, ← al_35 h]
  try rfl
set_option maxRecDepth 8192 in
theorem al_38 (h : Holds V0 s j) : (extractStridedSlice S1 ![3] (res_main_while0b_v35 V0) slices_S4_S1_3 : (Proc.devRef .tc main_while0b_v54 : DevRef τ sig).ty.Contents (Elt F)) = Cert.ReferenceIdeal.Step.b38 j s := by
  unfold Cert.ReferenceIdeal.Step.b38
  rw [← al_19 h]
  try rfl
set_option maxRecDepth 8192 in
theorem al_39 (h : Holds V0 s j) : (shapeCast S_ (extractStridedSlice S1 ![3] (res_main_while0b_v35 V0) slices_S4_S1_3) shapeCasts_S1_S_ : (Proc.devRef .tc main_while0b_v55 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (extractStridedSlice S20000x1 ![0, 3] (V0 (Proc.devRef .tc main_v10_0)) slices_S20000x4_S20000x1_0_3 : (Proc.devRef .tc main_while0b_v56 : DevRef τ sig).ty.Contents (Elt F)) = Cert.ReferenceIdeal.Step.b40 j s := by
  unfold Cert.ReferenceIdeal.Step.b40
  rw [h.f_0]
  try rfl
set_option maxRecDepth 8192 in
theorem al_41 (h : Holds V0 s j) : (shapeCast S20000 (extractStridedSlice S20000x1 ![0, 3] (V0 (Proc.devRef .tc main_v10_0)) slices_S20000x4_S20000x1_0_3) shapeCasts_S20000x1_S20000 : (Proc.devRef .tc main_while0b_v57 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (broadcastInDim S20000 ![] bcast_S_S20000 (shapeCast S_ (extractStridedSlice S1 ![3] (res_main_while0b_v35 V0) slices_S4_S1_3) shapeCasts_S1_S_) : (Proc.devRef .tc main_while0b_v58 : DevRef τ sig).ty.Contents (Elt F)) = Cert.ReferenceIdeal.Step.b42 j s := by
  unfold Cert.ReferenceIdeal.Step.b42
  rw [← al_39 h]
  try rfl
set_option maxRecDepth 8192 in
theorem al_43 (h : Holds V0 s j) : (minimumf (broadcastInDim S20000 ![] bcast_S_S20000 (shapeCast S_ (extractStridedSlice S1 ![3] (res_main_while0b_v35 V0) slices_S4_S1_3) shapeCasts_S1_S_)) (shapeCast S20000 (extractStridedSlice S20000x1 ![0, 3] (V0 (Proc.devRef .tc main_v10_0)) slices_S20000x4_S20000x1_0_3) shapeCasts_S20000x1_S20000) : (Proc.devRef .tc main_while0b_v59 : DevRef τ sig).ty.Contents (Elt F)) = Cert.ReferenceIdeal.Step.b43 j s := by
  unfold Cert.ReferenceIdeal.Step.b43
  rw [← al_42 h, ← al_41 h]
  try rfl
set_option maxRecDepth 8192 in
theorem al_44 (h : Holds V0 s j) : (subf (minimumf (broadcastInDim S20000 ![] bcast_S_S20000 (shapeCast S_ (extractStridedSlice S1 ![2] (res_main_while0b_v35 V0) slices_S4_S1_2) shapeCasts_S1_S_)) (shapeCast S20000 (extractStridedSlice S20000x1 ![0, 2] (V0 (Proc.devRef .tc main_v10_0)) slices_S20000x4_S20000x1_0_2) shapeCasts_S20000x1_S20000)) (maximumf (broadcastInDim S20000 ![] bcast_S_S20000 (shapeCast S_ (extractStridedSlice S1 ![0] (res_main_while0b_v35 V0) slices_S4_S1_0) shapeCasts_S1_S_)) (shapeCast S20000 (extractStridedSlice S20000x1 ![0, 0] (V0 (Proc.devRef .tc main_v10_0)) slices_S20000x4_S20000x1_0_0) shapeCasts_S20000x1_S20000)) : (Proc.devRef .tc main_while0b_v60 : DevRef τ sig).ty.Contents (Elt F)) = Cert.ReferenceIdeal.Step.b44 j s := by
  unfold Cert.ReferenceIdeal.Step.b44
  rw [← al_37 h, ← al_25 h]
  try rfl
set_option maxRecDepth 8192 in
theorem al_45 (h : Holds V0 s j) : (constant S_ .f32 0x00000000#32 : (Proc.devRef .tc main_while0b_cst_17 : DevRef τ sig).ty.Contents (Elt F)) = Cert.ReferenceIdeal.Step.b45 j s := by
  unfold Cert.ReferenceIdeal.Step.b45
  rfl
set_option maxRecDepth 8192 in
theorem al_46 (h : Holds V0 s j) : (id (constant S_ .f32 0x00000000#32) : (Proc.devRef .tc main_while0b_call2_v0 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (broadcastInDim S20000 ![] bcast_S_S20000 (id (constant S_ .f32 0x00000000#32)) : (Proc.devRef .tc main_while0b_call2_v1 : DevRef τ sig).ty.Contents (Elt F)) = Cert.ReferenceIdeal.Step.b47 j s := by
  unfold Cert.ReferenceIdeal.Step.b47
  rw [← al_46 h]
  try rfl
set_option maxRecDepth 8192 in
theorem al_48 (h : Holds V0 s j) : (maximumf (broadcastInDim S20000 ![] bcast_S_S20000 (id (constant S_ .f32 0x00000000#32))) (subf (minimumf (broadcastInDim S20000 ![] bcast_S_S20000 (shapeCast S_ (extractStridedSlice S1 ![2] (res_main_while0b_v35 V0) slices_S4_S1_2) shapeCasts_S1_S_)) (shapeCast S20000 (extractStridedSlice S20000x1 ![0, 2] (V0 (Proc.devRef .tc main_v10_0)) slices_S20000x4_S20000x1_0_2) shapeCasts_S20000x1_S20000)) (maximumf (broadcastInDim S20000 ![] bcast_S_S20000 (shapeCast S_ (extractStridedSlice S1 ![0] (res_main_while0b_v35 V0) slices_S4_S1_0) shapeCasts_S1_S_)) (shapeCast S20000 (extractStridedSlice S20000x1 ![0, 0] (V0 (Proc.devRef .tc main_v10_0)) slices_S20000x4_S20000x1_0_0) shapeCasts_S20000x1_S20000))) : (Proc.devRef .tc main_while0b_v61 : DevRef τ sig).ty.Contents (Elt F)) = Cert.ReferenceIdeal.Step.b48 j s := by
  unfold Cert.ReferenceIdeal.Step.b48
  rw [← al_47 h, ← al_44 h]
  try rfl
set_option maxRecDepth 8192 in
theorem al_49 (h : Holds V0 s j) : (subf (minimumf (broadcastInDim S20000 ![] bcast_S_S20000 (shapeCast S_ (extractStridedSlice S1 ![3] (res_main_while0b_v35 V0) slices_S4_S1_3) shapeCasts_S1_S_)) (shapeCast S20000 (extractStridedSlice S20000x1 ![0, 3] (V0 (Proc.devRef .tc main_v10_0)) slices_S20000x4_S20000x1_0_3) shapeCasts_S20000x1_S20000)) (maximumf (broadcastInDim S20000 ![] bcast_S_S20000 (shapeCast S_ (extractStridedSlice S1 ![1] (res_main_while0b_v35 V0) slices_S4_S1_1) shapeCasts_S1_S_)) (shapeCast S20000 (extractStridedSlice S20000x1 ![0, 1] (V0 (Proc.devRef .tc main_v10_0)) slices_S20000x4_S20000x1_0_1) shapeCasts_S20000x1_S20000)) : (Proc.devRef .tc main_while0b_v62 : DevRef τ sig).ty.Contents (Elt F)) = Cert.ReferenceIdeal.Step.b49 j s := by
  unfold Cert.ReferenceIdeal.Step.b49
  rw [← al_43 h, ← al_31 h]
  try rfl
set_option maxRecDepth 8192 in
theorem al_50 (h : Holds V0 s j) : (constant S_ .f32 0x00000000#32 : (Proc.devRef .tc main_while0b_cst_18 : DevRef τ sig).ty.Contents (Elt F)) = Cert.ReferenceIdeal.Step.b50 j s := by
  unfold Cert.ReferenceIdeal.Step.b50
  rfl
set_option maxRecDepth 8192 in
theorem al_51 (h : Holds V0 s j) : (id (constant S_ .f32 0x00000000#32) : (Proc.devRef .tc main_while0b_call3_v0 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (broadcastInDim S20000 ![] bcast_S_S20000 (id (constant S_ .f32 0x00000000#32)) : (Proc.devRef .tc main_while0b_call3_v1 : DevRef τ sig).ty.Contents (Elt F)) = Cert.ReferenceIdeal.Step.b52 j s := by
  unfold Cert.ReferenceIdeal.Step.b52
  rw [← al_51 h]
  try rfl
set_option maxRecDepth 8192 in
theorem al_53 (h : Holds V0 s j) : (maximumf (broadcastInDim S20000 ![] bcast_S_S20000 (id (constant S_ .f32 0x00000000#32))) (subf (minimumf (broadcastInDim S20000 ![] bcast_S_S20000 (shapeCast S_ (extractStridedSlice S1 ![3] (res_main_while0b_v35 V0) slices_S4_S1_3) shapeCasts_S1_S_)) (shapeCast S20000 (extractStridedSlice S20000x1 ![0, 3] (V0 (Proc.devRef .tc main_v10_0)) slices_S20000x4_S20000x1_0_3) shapeCasts_S20000x1_S20000)) (maximumf (broadcastInDim S20000 ![] bcast_S_S20000 (shapeCast S_ (extractStridedSlice S1 ![1] (res_main_while0b_v35 V0) slices_S4_S1_1) shapeCasts_S1_S_)) (shapeCast S20000 (extractStridedSlice S20000x1 ![0, 1] (V0 (Proc.devRef .tc main_v10_0)) slices_S20000x4_S20000x1_0_1) shapeCasts_S20000x1_S20000))) : (Proc.devRef .tc main_while0b_v63 : DevRef τ sig).ty.Contents (Elt F)) = Cert.ReferenceIdeal.Step.b53 j s := by
  unfold Cert.ReferenceIdeal.Step.b53
  rw [← al_52 h, ← al_49 h]
  try rfl
set_option maxRecDepth 8192 in
theorem al_54 (h : Holds V0 s j) : (res_main_while0b_v64 V0 : (Proc.devRef .tc main_while0b_v64 : DevRef τ sig).ty.Contents (Elt F)) = Cert.ReferenceIdeal.Step.b54 j s := by
  unfold res_main_while0b_v64 Cert.ReferenceIdeal.Step.b54
  rw [← al_48 h, ← al_53 h]
  try rfl
set_option maxRecDepth 8192 in
theorem al_55 (h : Holds V0 s j) : (extractStridedSlice S1 ![2] (res_main_while0b_v35 V0) slices_S4_S1_2 : (Proc.devRef .tc main_while0b_v65 : DevRef τ sig).ty.Contents (Elt F)) = Cert.ReferenceIdeal.Step.b55 j s := by
  unfold Cert.ReferenceIdeal.Step.b55
  rw [← al_19 h]
  try rfl
set_option maxRecDepth 8192 in
theorem al_56 (h : Holds V0 s j) : (shapeCast S_ (extractStridedSlice S1 ![2] (res_main_while0b_v35 V0) slices_S4_S1_2) shapeCasts_S1_S_ : (Proc.devRef .tc main_while0b_v66 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (extractStridedSlice S1 ![0] (res_main_while0b_v35 V0) slices_S4_S1_0 : (Proc.devRef .tc main_while0b_v67 : DevRef τ sig).ty.Contents (Elt F)) = Cert.ReferenceIdeal.Step.b57 j s := by
  unfold Cert.ReferenceIdeal.Step.b57
  rw [← al_19 h]
  try rfl
set_option maxRecDepth 8192 in
theorem al_58 (h : Holds V0 s j) : (shapeCast S_ (extractStridedSlice S1 ![0] (res_main_while0b_v35 V0) slices_S4_S1_0) shapeCasts_S1_S_ : (Proc.devRef .tc main_while0b_v68 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_) : (Proc.devRef .tc main_while0b_v69 : DevRef τ sig).ty.Contents (Elt F)) = Cert.ReferenceIdeal.Step.b59 j s := by
  unfold Cert.ReferenceIdeal.Step.b59
  rw [← al_56 h, ← al_58 h]
  try rfl
set_option maxRecDepth 8192 in
theorem al_60 (h : Holds V0 s j) : (extractStridedSlice S1 ![3] (res_main_while0b_v35 V0) slices_S4_S1_3 : (Proc.devRef .tc main_while0b_v70 : DevRef τ sig).ty.Contents (Elt F)) = Cert.ReferenceIdeal.Step.b60 j s := by
  unfold Cert.ReferenceIdeal.Step.b60
  rw [← al_19 h]
  try rfl
set_option maxRecDepth 8192 in
theorem al_61 (h : Holds V0 s j) : (shapeCast S_ (extractStridedSlice S1 ![3] (res_main_while0b_v35 V0) slices_S4_S1_3) shapeCasts_S1_S_ : (Proc.devRef .tc main_while0b_v71 : DevRef τ sig).ty.Contents (Elt F)) = Cert.ReferenceIdeal.Step.b61 j s := by
  unfold Cert.ReferenceIdeal.Step.b61
  rw [← al_60 h]
  try rfl
set_option maxRecDepth 8192 in
theorem al_62 (h : Holds V0 s j) : (extractStridedSlice S1 ![1] (res_main_while0b_v35 V0) slices_S4_S1_1 : (Proc.devRef .tc main_while0b_v72 : DevRef τ sig).ty.Contents (Elt F)) = Cert.ReferenceIdeal.Step.b62 j s := by
  unfold Cert.ReferenceIdeal.Step.b62
  rw [← al_19 h]
  try rfl
set_option maxRecDepth 8192 in
theorem al_63 (h : Holds V0 s j) : (shapeCast S_ (extractStridedSlice S1 ![1] (res_main_while0b_v35 V0) slices_S4_S1_1) shapeCasts_S1_S_ : (Proc.devRef .tc main_while0b_v73 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_) : (Proc.devRef .tc main_while0b_v74 : DevRef τ sig).ty.Contents (Elt F)) = Cert.ReferenceIdeal.Step.b64 j s := by
  unfold Cert.ReferenceIdeal.Step.b64
  rw [← al_61 h, ← al_63 h]
  try rfl
set_option maxRecDepth 8192 in
theorem al_65 (h : Holds V0 s j) : (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)) : (Proc.devRef .tc main_while0b_v75 : DevRef τ sig).ty.Contents (Elt F)) = Cert.ReferenceIdeal.Step.b65 j s := by
  unfold Cert.ReferenceIdeal.Step.b65
  rw [← al_59 h, ← al_64 h]
  try rfl
set_option maxRecDepth 8192 in
theorem al_66 (h : Holds V0 s j) : (extractStridedSlice S20000x1 ![0, 2] (V0 (Proc.devRef .tc main_v10_0)) slices_S20000x4_S20000x1_0_2 : (Proc.devRef .tc main_while0b_v76 : DevRef τ sig).ty.Contents (Elt F)) = Cert.ReferenceIdeal.Step.b66 j s := by
  unfold Cert.ReferenceIdeal.Step.b66
  rw [h.f_0]
  try rfl
set_option maxRecDepth 8192 in
theorem al_67 (h : Holds V0 s j) : (shapeCast S20000 (extractStridedSlice S20000x1 ![0, 2] (V0 (Proc.devRef .tc main_v10_0)) slices_S20000x4_S20000x1_0_2) shapeCasts_S20000x1_S20000 : (Proc.devRef .tc main_while0b_v77 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (extractStridedSlice S20000x1 ![0, 0] (V0 (Proc.devRef .tc main_v10_0)) slices_S20000x4_S20000x1_0_0 : (Proc.devRef .tc main_while0b_v78 : DevRef τ sig).ty.Contents (Elt F)) = Cert.ReferenceIdeal.Step.b68 j s := by
  unfold Cert.ReferenceIdeal.Step.b68
  rw [h.f_0]
  try rfl
set_option maxRecDepth 8192 in
theorem al_69 (h : Holds V0 s j) : (shapeCast S20000 (extractStridedSlice S20000x1 ![0, 0] (V0 (Proc.devRef .tc main_v10_0)) slices_S20000x4_S20000x1_0_0) shapeCasts_S20000x1_S20000 : (Proc.devRef .tc main_while0b_v79 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000) : (Proc.devRef .tc main_while0b_v80 : DevRef τ sig).ty.Contents (Elt F)) = Cert.ReferenceIdeal.Step.b70 j s := by
  unfold Cert.ReferenceIdeal.Step.b70
  rw [← al_67 h, ← al_69 h]
  try rfl
set_option maxRecDepth 8192 in
theorem al_71 (h : Holds V0 s j) : (extractStridedSlice S20000x1 ![0, 3] (V0 (Proc.devRef .tc main_v10_0)) slices_S20000x4_S20000x1_0_3 : (Proc.devRef .tc main_while0b_v81 : DevRef τ sig).ty.Contents (Elt F)) = Cert.ReferenceIdeal.Step.b71 j s := by
  unfold Cert.ReferenceIdeal.Step.b71
  rw [h.f_0]
  try rfl
set_option maxRecDepth 8192 in
theorem al_72 (h : Holds V0 s j) : (shapeCast S20000 (extractStridedSlice S20000x1 ![0, 3] (V0 (Proc.devRef .tc main_v10_0)) slices_S20000x4_S20000x1_0_3) shapeCasts_S20000x1_S20000 : (Proc.devRef .tc main_while0b_v82 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (extractStridedSlice S20000x1 ![0, 1] (V0 (Proc.devRef .tc main_v10_0)) slices_S20000x4_S20000x1_0_1 : (Proc.devRef .tc main_while0b_v83 : DevRef τ sig).ty.Contents (Elt F)) = Cert.ReferenceIdeal.Step.b73 j s := by
  unfold Cert.ReferenceIdeal.Step.b73
  rw [h.f_0]
  try rfl
set_option maxRecDepth 8192 in
theorem al_74 (h : Holds V0 s j) : (shapeCast S20000 (extractStridedSlice S20000x1 ![0, 1] (V0 (Proc.devRef .tc main_v10_0)) slices_S20000x4_S20000x1_0_1) shapeCasts_S20000x1_S20000 : (Proc.devRef .tc main_while0b_v84 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000) : (Proc.devRef .tc main_while0b_v85 : DevRef τ sig).ty.Contents (Elt F)) = Cert.ReferenceIdeal.Step.b75 j s := by
  unfold Cert.ReferenceIdeal.Step.b75
  rw [← al_72 h, ← al_74 h]
  try rfl
set_option maxRecDepth 8192 in
theorem al_76 (h : Holds V0 s j) : (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)) : (Proc.devRef .tc main_while0b_v86 : DevRef τ sig).ty.Contents (Elt F)) = Cert.ReferenceIdeal.Step.b76 j s := by
  unfold Cert.ReferenceIdeal.Step.b76
  rw [← al_70 h, ← al_75 h]
  try rfl
set_option maxRecDepth 8192 in
theorem al_77 (h : Holds V0 s j) : (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_))) : (Proc.devRef .tc main_while0b_v87 : DevRef τ sig).ty.Contents (Elt F)) = Cert.ReferenceIdeal.Step.b77 j s := by
  unfold Cert.ReferenceIdeal.Step.b77
  rw [← al_65 h]
  try rfl
set_option maxRecDepth 8192 in
theorem al_78 (h : Holds V0 s j) : (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000))) : (Proc.devRef .tc main_while0b_v88 : DevRef τ sig).ty.Contents (Elt F)) = Cert.ReferenceIdeal.Step.b78 j s := by
  unfold Cert.ReferenceIdeal.Step.b78
  rw [← al_77 h, ← al_76 h]
  try rfl
set_option maxRecDepth 8192 in
theorem al_79 (h : Holds V0 s j) : (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0) : (Proc.devRef .tc main_while0b_v89 : DevRef τ sig).ty.Contents (Elt F)) = Cert.ReferenceIdeal.Step.b79 j s := by
  unfold Cert.ReferenceIdeal.Step.b79
  rw [← al_78 h, ← al_54 h]
  try rfl
set_option maxRecDepth 8192 in
theorem al_80 (h : Holds V0 s j) : (constant S_ .f32 0x3089705F#32 : (Proc.devRef .tc main_while0b_cst_19 : DevRef τ sig).ty.Contents (Elt F)) = Cert.ReferenceIdeal.Step.b80 j s := by
  unfold Cert.ReferenceIdeal.Step.b80
  rfl
set_option maxRecDepth 8192 in
theorem al_81 (h : Holds V0 s j) : (broadcastInDim S20000 ![] bcast_S_S20000 (constant S_ .f32 0x3089705F#32) : (Proc.devRef .tc main_while0b_v90 : DevRef τ sig).ty.Contents (Elt F)) = Cert.ReferenceIdeal.Step.b81 j s := by
  unfold Cert.ReferenceIdeal.Step.b81
  rw [← al_80 h]
  try rfl
set_option maxRecDepth 8192 in
theorem al_82 (h : Holds V0 s j) : (addf (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0)) (broadcastInDim S20000 ![] bcast_S_S20000 (constant S_ .f32 0x3089705F#32)) : (Proc.devRef .tc main_while0b_v91 : DevRef τ sig).ty.Contents (Elt F)) = Cert.ReferenceIdeal.Step.b82 j s := by
  unfold Cert.ReferenceIdeal.Step.b82
  rw [← al_79 h, ← al_81 h]
  try rfl
set_option maxRecDepth 8192 in
theorem al_83 (h : Holds V0 s j) : (Host.divf (res_main_while0b_v64 V0) (addf (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0)) (broadcastInDim S20000 ![] bcast_S_S20000 (constant S_ .f32 0x3089705F#32))) : (Proc.devRef .tc main_while0b_v92 : DevRef τ sig).ty.Contents (Elt F)) = Cert.ReferenceIdeal.Step.b83 j s := by
  unfold Cert.ReferenceIdeal.Step.b83
  rw [← al_54 h, ← al_82 h]
  try rfl
set_option maxRecDepth 8192 in
theorem al_84 (h : Holds V0 s j) : (constant S_ .f32 0x3F19999A#32 : (Proc.devRef .tc main_while0b_cst_20 : DevRef τ sig).ty.Contents (Elt F)) = Cert.ReferenceIdeal.Step.b84 j s := by
  unfold Cert.ReferenceIdeal.Step.b84
  rfl
set_option maxRecDepth 8192 in
theorem al_85 (h : Holds V0 s j) : (broadcastInDim S20000 ![] bcast_S_S20000 (constant S_ .f32 0x3F19999A#32) : (Proc.devRef .tc main_while0b_v93 : DevRef τ sig).ty.Contents (Elt F)) = Cert.ReferenceIdeal.Step.b85 j s := by
  unfold Cert.ReferenceIdeal.Step.b85
  rw [← al_84 h]
  try rfl
set_option maxRecDepth 8192 in
theorem al_86 (h : Holds V0 s j) : (cmpf .ogt (Host.divf (res_main_while0b_v64 V0) (addf (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0)) (broadcastInDim S20000 ![] bcast_S_S20000 (constant S_ .f32 0x3089705F#32)))) (broadcastInDim S20000 ![] bcast_S_S20000 (constant S_ .f32 0x3F19999A#32)) : (Proc.devRef .tc main_while0b_v94 : DevRef τ sig).ty.Contents (Elt F)) = Cert.ReferenceIdeal.Step.b86 j s := by
  unfold Cert.ReferenceIdeal.Step.b86
  rw [← al_83 h, ← al_85 h]
  try rfl
set_option maxRecDepth 8192 in
theorem al_87 (h : Holds V0 s j) : (constant S_ .f32 0xCE6E6B28#32 : (Proc.devRef .tc main_while0b_cst_21 : DevRef τ sig).ty.Contents (Elt F)) = Cert.ReferenceIdeal.Step.b87 j s := by
  unfold Cert.ReferenceIdeal.Step.b87
  rfl
set_option maxRecDepth 8192 in
theorem al_88 (h : Holds V0 s j) : (id (constant S_ .f32 0xCE6E6B28#32) : (Proc.devRef .tc main_while0b_call4_v0 : DevRef τ sig).ty.Contents (Elt F)) = Cert.ReferenceIdeal.Step.b88 j s := by
  unfold Cert.ReferenceIdeal.Step.b88
  rw [← al_87 h]
  try rfl
set_option maxRecDepth 8192 in
theorem al_89 (h : Holds V0 s j) : (broadcastInDim S20000 ![] bcast_S_S20000 (id (constant S_ .f32 0xCE6E6B28#32)) : (Proc.devRef .tc main_while0b_call4_v1 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (select (cmpf .ogt (Host.divf (res_main_while0b_v64 V0) (addf (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0)) (broadcastInDim S20000 ![] bcast_S_S20000 (constant S_ .f32 0x3089705F#32)))) (broadcastInDim S20000 ![] bcast_S_S20000 (constant S_ .f32 0x3F19999A#32))) (broadcastInDim S20000 ![] bcast_S_S20000 (id (constant S_ .f32 0xCE6E6B28#32))) (V0 (Proc.devRef .tc main_v10_2)) : (Proc.devRef .tc main_while0b_v95 : DevRef τ sig).ty.Contents (Elt F)) = Cert.ReferenceIdeal.Step.b90 j s := by
  unfold Cert.ReferenceIdeal.Step.b90
  rw [← al_86 h, ← al_89 h, h.f_2]
  try rfl
set_option maxRecDepth 8192 in
theorem al_91 (h : Holds V0 s j) : (constantI S_ 32 0#32 : (Proc.devRef .tc main_while0b_c_22 : DevRef τ sig).ty.Contents (Elt F)) = Cert.ReferenceIdeal.Step.b91 j s := by
  unfold Cert.ReferenceIdeal.Step.b91
  rfl
set_option maxRecDepth 8192 in
theorem al_92 (h : Holds V0 s j) : (cmpi .slt (res_main_while0b_v27 V0) (constantI S_ 32 0#32) : (Proc.devRef .tc main_while0b_v96 : DevRef τ sig).ty.Contents (Elt F)) = Cert.ReferenceIdeal.Step.b92 j s := by
  unfold Cert.ReferenceIdeal.Step.b92
  rw [← al_4 h, ← al_91 h]
  try rfl
set_option maxRecDepth 8192 in
theorem al_93 (h : Holds V0 s j) : (constantI S_ 32 20000#32 : (Proc.devRef .tc main_while0b_c_23 : DevRef τ sig).ty.Contents (Elt F)) = Cert.ReferenceIdeal.Step.b93 j s := by
  unfold Cert.ReferenceIdeal.Step.b93
  rfl
set_option maxRecDepth 8192 in
theorem al_94 (h : Holds V0 s j) : (addi (res_main_while0b_v27 V0) (constantI S_ 32 20000#32) : (Proc.devRef .tc main_while0b_v97 : DevRef τ sig).ty.Contents (Elt F)) = Cert.ReferenceIdeal.Step.b94 j s := by
  unfold Cert.ReferenceIdeal.Step.b94
  rw [← al_4 h, ← al_93 h]
  try rfl
set_option maxRecDepth 8192 in
theorem al_95 (h : Holds V0 s j) : (select (cmpi .slt (res_main_while0b_v27 V0) (constantI S_ 32 0#32)) (addi (res_main_while0b_v27 V0) (constantI S_ 32 20000#32)) (res_main_while0b_v27 V0) : (Proc.devRef .tc main_while0b_v98 : DevRef τ sig).ty.Contents (Elt F)) = Cert.ReferenceIdeal.Step.b95 j s := by
  unfold Cert.ReferenceIdeal.Step.b95
  rw [← al_92 h, ← al_94 h, ← al_4 h]
  try rfl
set_option maxRecDepth 8192 in
theorem al_96 (h : Holds V0 s j) : (broadcastInDim S1 ![] bcast_S_S1 (select (cmpi .slt (res_main_while0b_v27 V0) (constantI S_ 32 0#32)) (addi (res_main_while0b_v27 V0) (constantI S_ 32 20000#32)) (res_main_while0b_v27 V0)) : (Proc.devRef .tc main_while0b_v99 : DevRef τ sig).ty.Contents (Elt F)) = Cert.ReferenceIdeal.Step.b96 j s := by
  unfold Cert.ReferenceIdeal.Step.b96
  rw [← al_95 h]
  try rfl
set_option maxRecDepth 8192 in
theorem al_97 (h : Holds V0 s j) : (constant S_ .f32 0xCE6E6B28#32 : (Proc.devRef .tc main_while0b_cst_24 : DevRef τ sig).ty.Contents (Elt F)) = Cert.ReferenceIdeal.Step.b97 j s := by
  unfold Cert.ReferenceIdeal.Step.b97
  rfl
set_option maxRecDepth 8192 in
theorem al_98 (h : Holds V0 s j) : (Host.scatter scatter_S20000_S1_S__n_0_0_0 (fun _ b => b) (select (cmpf .ogt (Host.divf (res_main_while0b_v64 V0) (addf (subf (addf (broadcastInDim S20000 ![] bcast_S_S20000 (mulf (subf (shapeCast S_ (extractStridedSlice S1 ![2] (res_main_while0b_v35 V0) slices_S4_S1_2) shapeCasts_S1_S_) (shapeCast S_ (extractStridedSlice S1 ![0] (res_main_while0b_v35 V0) slices_S4_S1_0) shapeCasts_S1_S_)) (subf (shapeCast S_ (extractStridedSlice S1 ![3] (res_main_while0b_v35 V0) slices_S4_S1_3) shapeCasts_S1_S_) (shapeCast S_ (extractStridedSlice S1 ![1] (res_main_while0b_v35 V0) slices_S4_S1_1) shapeCasts_S1_S_)))) (mulf (subf (shapeCast S20000 (extractStridedSlice S20000x1 ![0, 2] (V0 (Proc.devRef .tc main_v10_0)) slices_S20000x4_S20000x1_0_2) shapeCasts_S20000x1_S20000) (shapeCast S20000 (extractStridedSlice S20000x1 ![0, 0] (V0 (Proc.devRef .tc main_v10_0)) slices_S20000x4_S20000x1_0_0) shapeCasts_S20000x1_S20000)) (subf (shapeCast S20000 (extractStridedSlice S20000x1 ![0, 3] (V0 (Proc.devRef .tc main_v10_0)) slices_S20000x4_S20000x1_0_3) shapeCasts_S20000x1_S20000) (shapeCast S20000 (extractStridedSlice S20000x1 ![0, 1] (V0 (Proc.devRef .tc main_v10_0)) slices_S20000x4_S20000x1_0_1) shapeCasts_S20000x1_S20000)))) (res_main_while0b_v64 V0)) (broadcastInDim S20000 ![] bcast_S_S20000 (constant S_ .f32 0x3089705F#32)))) (broadcastInDim S20000 ![] bcast_S_S20000 (constant S_ .f32 0x3F19999A#32))) (broadcastInDim S20000 ![] bcast_S_S20000 (id (constant S_ .f32 0xCE6E6B28#32))) (V0 (Proc.devRef .tc main_v10_2))) (broadcastInDim S1 ![] bcast_S_S1 (select (cmpi .slt (res_main_while0b_v27 V0) (constantI S_ 32 0#32)) (addi (res_main_while0b_v27 V0) (constantI S_ 32 20000#32)) (res_main_while0b_v27 V0))) (constant S_ .f32 0xCE6E6B28#32) : (Proc.devRef .tc main_while0b_v100 : DevRef τ sig).ty.Contents (Elt F)) = Cert.ReferenceIdeal.Step.b98 j s := by
  unfold Cert.ReferenceIdeal.Step.b98
  rw [← al_90 h, ← al_96 h, ← al_97 h]
  try rfl
set_option maxRecDepth 8192 in
theorem al_99 (h : Holds V0 s j) : (broadcastInDim S1 ![] bcast_S_S1 (res_main_while0b_v27 V0) : (Proc.devRef .tc main_while0b_call5_v0 : DevRef τ sig).ty.Contents (Elt F)) = Cert.ReferenceIdeal.Step.b99 j s := by
  unfold Cert.ReferenceIdeal.Step.b99
  rw [← al_4 h]
  try rfl
set_option maxRecDepth 8192 in
theorem al_100 (h : Holds V0 s j) : (Host.dynamicUpdateSlice (V0 (Proc.devRef .tc main_v10_3)) (broadcastInDim S1 ![] bcast_S_S1 (res_main_while0b_v27 V0)) (fun k => (((![V0 (Proc.devRef .tc main_v10_1)] : Fin 1 → (⟨S_, .i32⟩ : BufTy).Contents (Elt F))) k (Shape.Idx.first h_S_)).toInt) updateFits_S100_S1 : (Proc.devRef .tc main_while0b_v101 : DevRef τ sig).ty.Contents (Elt F)) = Cert.ReferenceIdeal.Step.b100 j s := by
  unfold Cert.ReferenceIdeal.Step.b100
  rw [← al_99 h, h.f_3, h.n_1]
  try rfl

/-! One trip's step of the carried values is `step`, field by field; a counter steps to the next number. -/

theorem step_2 (h : Holds V0 s j) : step_main_v10_2 V0 = (step j s).main_v10_2 := by
  rw [Cert.ReferenceIdeal.Step.step_main_v10_2]
  unfold step_main_v10_2
  exact (id_eq _).trans (al_98 h)
theorem step_3 (h : Holds V0 s j) : step_main_v10_3 V0 = (step j s).main_v10_3 := by
  rw [Cert.ReferenceIdeal.Step.step_main_v10_3]
  exact (id_eq _).trans (al_100 h)
theorem step_1 (h : Holds V0 s j) : step_main_v10_1 V0 = constantI S_ 32 (BitVec.ofNat 32 (j + 1)) := by
  unfold step_main_v10_1
  rw [h.n_1]
  funext i
  show BitVec.ofNat 32 j + 1#32 = BitVec.ofNat 32 (j + 1)
  simp only [BitVec.ofNat_add]

set_option maxRecDepth 8192 in
theorem out_main_v26_holds (h : Holds V0 s j) {x_main_arg0 : (⟨S20000x4, .f32⟩ : BufTy).Contents (Elt F)} (h_main_arg0 : V0 (Proc.devRef .tc main_arg0) = x_main_arg0) {x_main_arg1 : (⟨S20000, .f32⟩ : BufTy).Contents (Elt F)} (h_main_arg1 : V0 (Proc.devRef .tc main_arg1) = x_main_arg1) : out_main_v26 V0 = Cert.ReferenceIdeal.Step.R_main_v26 s x_main_arg0 x_main_arg1 := by
  unfold out_main_v26 Cert.ReferenceIdeal.Step.R_main_v26
  rw [h.f_3, h_main_arg0, h_main_arg1]
  try rfl

theorem next_2 (h : Holds V0 s j) : STEP V0 (Proc.devRef .tc main_v10_2) = (step j s).main_v10_2 :=
  (STEP_main_v10_2 V0).trans (step_2 h)
theorem next_3 (h : Holds V0 s j) : STEP V0 (Proc.devRef .tc main_v10_3) = (step j s).main_v10_3 :=
  (STEP_main_v10_3 V0).trans (step_3 h)
theorem next_1 (h : Holds V0 s j) : STEP V0 (Proc.devRef .tc main_v10_1) = constantI S_ 32 (BitVec.ofNat 32 (j + 1)) :=
  (STEP_main_v10_1 V0).trans (step_1 h)

/-- One trip keeps the valuation holding: `step` of the state, the same set-up values, the next number. -/
theorem holds_step (h : Holds V0 s j) : Holds (STEP V0) (step j s) (j + 1) :=
  by
  constructor
  · exact next_2 h
  · exact next_3 h
  · rw [STEP_main_v10_0, h.f_0]
    delta Cert.ReferenceIdeal.Step.step
    dsimp only
  · exact next_1 h

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 100 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v26) = Cert.ReferenceIdeal.Step.R_main_v26 (it c 100) (m ((c.tc : Thread nD τ).loc main_arg0)) (m ((c.tc : Thread nD τ).loc main_arg1))
      ∧ r.2.mem ((c.tc : Thread nD τ).loc main_v10_3) = (it c 100).main_v10_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 100
    ⟨(h c).1.trans (out_main_v26_holds hk (iter_main_arg0 m c 100) (iter_main_arg1 m c 100)), (h c).2.1.trans hk.f_3, (h c).2.2.1, (h c).2.2.2.1, (h c).2.2.2.2⟩) (Run.run m ρ)

end Cert.ReferenceIdeal.StepRun

end
-- ==== Proof.Frames.lean ====
/-
  The three programs' frames: each runs to its end from every memory, leaves its arguments as they were and every
  semaphore counter at zero. The kernel's two are the generated ones; the reference's is read off its run
  (`StepRun.run_iter`), its counters because it declares no semaphore.
-/
module

public import proofs.«01_k».proof.Defs
public import proofs.«01_k».proof.Proof.Gen.Kernel.Frame
public import proofs.«01_k».proof.Proof.Gen.KernelIdeal.Frame
public import proofs.«01_k».proof.Proof.RefStepRun
public import Idealize.ShloMosaic.Lib.Quiescent

@[expose] public section

noncomputable section

open Idealize.ShloMosaic Idealize.ShloMosaic.TcCoe Idealize.SL.Sem

namespace Cert.Proof

/-- The kernel's frame, at the bit-exact operations. -/
theorem frame_kernel : Cert.quiescent_Kernel := fun m ρ _ => Cert.Kernel.Gen.frame m ρ

/-- The idealized kernel's frame. -/
theorem frame_kernelIdeal : Cert.quiescent_KernelIdeal := fun m ρ _ => Cert.KernelIdeal.Gen.frame m ρ

/-- The reference's sequence of states: `init` of its arguments, then `step` trip by trip. -/
def refIter {F : FTy → Type} [FloatOps F]
    (x0 : (⟨Cert.ReferenceIdeal.S20000x4, .f32⟩ : BufTy).Contents (Elt F))
    (x1 : (⟨Cert.ReferenceIdeal.S20000, .f32⟩ : BufTy).Contents (Elt F))
    (x2 : (⟨Cert.ReferenceIdeal.S20000, .i32⟩ : BufTy).Contents (Elt F)) : ℕ → Cert.ReferenceIdeal.Step.State F
  | 0 => Cert.ReferenceIdeal.Step.init x0 x1 x2
  | n + 1 => Cert.ReferenceIdeal.Step.step n (refIter x0 x1 x2 n)

/-- The states of the memory the run starts from, on core `c`. -/
abbrev refState {F : FTy → Type} [FloatOps F]
    (m : (ℓ : Loc Cert.ReferenceIdeal.nD Cert.ReferenceIdeal.τ Cert.ReferenceIdeal.sig) → Buf (Elt F) ℓ)
    (c : Dev Cert.ReferenceIdeal.nD) : ℕ → Cert.ReferenceIdeal.Step.State F :=
  refIter (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))

/-- The reference's run, its results at state 100. -/
theorem ref_run {F : FTy → Type} [FloatOps F]
    (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F)))
      ⟨m, fun _ => 0, ρ⟩ fun r => ∀ c : Dev Cert.ReferenceIdeal.nD,
        r.2.mem ((c.tc : Thread Cert.ReferenceIdeal.nD Cert.ReferenceIdeal.τ).loc Cert.ReferenceIdeal.main_v26)
          = Cert.ReferenceIdeal.Step.R_main_v26 (refState m c 100)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v10_3)
          = (refState m c 100).main_v10_3
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
          = m ((c.tc : Thread Cert.ReferenceIdeal.nD Cert.ReferenceIdeal.τ).loc Cert.ReferenceIdeal.main_arg2) :=
  Cert.ReferenceIdeal.StepRun.run_iter m ρ (fun c => refState m c) (fun _ => rfl) (fun _ _ => rfl)

/-- The reference's frame. -/
theorem frame_reference : Cert.quiescent_ReferenceIdeal := fun m ρ _ =>
  (θ_run Cert.ReferenceIdeal.defs _ _).mono
    (fun r h => ⟨fun c => (h c).2.2, sem_eq_zero_of_no_sems (by decide) r.2⟩) (ref_run m ρ)

end Cert.Proof

end
-- ==== Proof.ScanDefs.lean ====
/-
  The kernel's walk over its twenty chunks of eight rows, written once for every chunk. `chunk X i` is rows
  8i … 8i+7 of a 160-row array; `Lanes` is what each of the 8 × 128 lanes carries along the walk (the greatest score
  so far, its box number, and that box's corners, score and class offset); `push` takes one more chunk in; `sup` is a
  chunk's scores after the boxes that overlap the chosen one too much are struck out.
-/
module

public import proofs.«01_k».proof.Proof.Gen.KernelIdeal.Loops
public import Idealize.ShloMosaic.Lib.Pipeline.Value
public import Idealize.ShloMosaic.Lib.Pipeline.ValueKit.Tiles

@[expose] public section

noncomputable section

open Idealize.ShloMosaic Idealize.ShloMosaic.TcCoe Idealize.SL.Sem

namespace Cert.KernelIdeal.Scan

open Cert.KernelIdeal Cert.KernelIdeal.Gen

variable {F : FTy → Type} [FloatOps F]

/-- The place, in the 160-row array, of lane `p` of chunk `i`. -/
def place (i : ℕ) (p : S8x128.Idx) : S160x128.Idx := fun a =>
  match a with
  | ⟨0, _⟩ => ⟨(8 * i + (p 0).val) % 160, Nat.mod_lt _ (by decide)⟩
  | ⟨1, _⟩ => p 1

/-- Rows 8i … 8i+7 of an array. -/
def chunk {e : EltTy} (X : Vec F S160x128 e) (i : ℕ) : Vec F S8x128 e := fun p => X (place i p)

/-- Eight rows from row `8i` of an array are its chunk `i`. -/
theorem ld_chunk {e : EltTy} (X : Vec F S160x128 e) (i : ℕ) (hi : i < 20) (off : Fin 2 → ℕ) (ho : off = ![8 * i, 0])
    (inb : ∀ b, off b + S8x128.size b ≤ S160x128.size b) (p : S8x128.Idx) :
    X ((Rect.unit (s := S160x128) off S8x128.size inb).idx p) = chunk X i p := by
  subst ho
  refine congrArg X (funext fun b => Fin.ext ?_)
  refine (Rect.idx_unit_val _ _ inb p b).trans ?_
  match b with
  | ⟨0, _⟩ =>
    show 8 * i + (p 0).val = (8 * i + (p 0).val) % 160
    have : (p 0).val < 8 := (p 0).isLt
    omega
  | ⟨1, _⟩ => exact Nat.zero_add _

/-- A load of eight rows from row `8i` reads chunk `i`. -/
theorem rd {a : Memref sig .tc .vmem S160x128 .f32} (X : BufTy.Contents (Elt F) a.view.ty) (i : ℕ) (hi : i < 20)
    (off : Fin 2 → ℕ) (ho : off = ![8 * i, 0]) (inb : ∀ b, off b + S8x128.size b ≤ S160x128.size b) :
    View.readAt (Elt F) a.view (Rect.unit (s := S160x128) off S8x128.size inb).toLoadRect X
      = chunk (a.view.read (Elt F) X) i :=
  funext fun p => ld_chunk (a.view.read (Elt F) X) i hi off ho inb p

theorem hz : (![0, 0] : Fin 2 → ℕ) = fun _ => 0 := funext fun a => by fin_cases a <;> rfl

/-- The same load, made after one store of the whole array, reads chunk `i` of what was stored. -/
theorem rdc {a : Memref sig .tc .vmem S160x128 .f32} (w : Vec F S160x128 .f32) (i : ℕ) (hi : i < 20)
    (off : Fin 2 → ℕ) (ho : off = ![8 * i, 0]) (inb : ∀ b, off b + S8x128.size b ≤ S160x128.size b)
    (inb' : ∀ b, (![0, 0] : Fin 2 → ℕ) b + S160x128.size b ≤ S160x128.size b)
    (L : List (View.Piece (Elt F) S160x128 .f32))
    (hL : L = [⟨Rect.unit (s := S160x128) ![0, 0] S160x128.size inb', w⟩]) :
    a.view.readCov L (Rect.unit (s := S160x128) off S8x128.size inb).toLoadRect = chunk w i := by
  have hc : View.canon L = w := by rw [hL]; exact View.canon_unit_zero (S := S160x128) hz inb' w
  have hm : ∀ y, ∃ p ∈ L, y ∈ p.1.set := by
    intro y
    refine ⟨⟨Rect.unit (s := S160x128) ![0, 0] S160x128.size inb', w⟩, ?_, ?_⟩
    · rw [hL]; exact List.mem_singleton_self _
    · exact View.mem_set_unit_zero (S := S160x128) hz inb' y
  refine (View.readCov_eq_canon_ld a.view L _ hm).trans ?_
  rw [hc]
  exact funext fun p => ld_chunk w i hi off ho inb p

/-- The arrays of one pass: the boxes' corners moved by their class offset and their areas, the boxes' own
    corners, the scores and the class offsets. -/
structure Arr (F : FTy → Type) where
  x1 : Vec F S160x128 .f32
  y1 : Vec F S160x128 .f32
  x2 : Vec F S160x128 .f32
  y2 : Vec F S160x128 .f32
  ox1 : Vec F S160x128 .f32
  oy1 : Vec F S160x128 .f32
  ox2 : Vec F S160x128 .f32
  oy2 : Vec F S160x128 .f32
  sc : Vec F S160x128 .f32
  off : Vec F S160x128 .f32
  area : Vec F S160x128 .f32

/-- What a lane carries along the walk. -/
structure Lanes (F : FTy → Type) where
  vm : FVec F S8x128 .f32
  vi : IVec S8x128 32
  x1 : FVec F S8x128 .f32
  y1 : FVec F S8x128 .f32
  x2 : FVec F S8x128 .f32
  y2 : FVec F S8x128 .f32
  sc : FVec F S8x128 .f32
  off : FVec F S8x128 .f32

/-- The chosen box: its corners and its area, on every lane. -/
structure Box (F : FTy → Type) where
  x1 : FVec F S8x128 .f32
  y1 : FVec F S8x128 .f32
  x2 : FVec F S8x128 .f32
  y2 : FVec F S8x128 .f32
  area : FVec F S8x128 .f32

/-- The overlap of the chosen box with chunk `i`'s boxes. -/
def inter (b : Box F) (A : Arr F) (i : ℕ) : FVec F S8x128 .f32 :=
  mulf
    (maximumf (subf (minimumf b.x2 (chunk A.x2 i)) (maximumf b.x1 (chunk A.x1 i)))
      (broadcast S8x128 (Scalar.ofBits .f32 0x00000000#32)))
    (maximumf (subf (minimumf b.y2 (chunk A.y2 i)) (maximumf b.y1 (chunk A.y1 i)))
      (broadcast S8x128 (Scalar.ofBits .f32 0x00000000#32)))

/-- Chunk `i`'s scores after the chosen box `b`: struck out where the overlap is above 0.6 of the union. -/
def sup (b : Box F) (low : F .f32) (A : Arr F) (m : Vec F S160x128 .f32) (i : ℕ) : FVec F S8x128 .f32 :=
  select
    (cmpf .ogt
      (divf (inter b A i)
        (addf (subf (addf b.area (chunk A.area i)) (inter b A i))
          (broadcast S8x128 (Scalar.ofBits .f32 0x3089705F#32))))
      (broadcast S8x128 (Scalar.ofBits .f32 0x3F19999A#32)))
    (broadcast S8x128 low) (chunk m i)

/-- The lanes at which chunk score `nm` is above what the lane carries. -/
abbrev up (nm : FVec F S8x128 .f32) (s : Lanes F) : IVec S8x128 1 := cmpf .ogt nm s.vm

/-- Take chunk `i`, with scores `nm`, in. -/
def push (A : Arr F) (v23 : IVec S8x128 32) (nm : FVec F S8x128 .f32) (i : ℕ) (s : Lanes F) : Lanes F where
  vm := maximumf s.vm nm
  vi := select (up nm s) (addi v23 (broadcast S8x128 (BitVec.ofNat 32 (1024 * i)))) s.vi
  x1 := select (up nm s) (chunk A.ox1 i) s.x1
  y1 := select (up nm s) (chunk A.oy1 i) s.y1
  x2 := select (up nm s) (chunk A.ox2 i) s.x2
  y2 := select (up nm s) (chunk A.oy2 i) s.y2
  sc := select (up nm s) (chunk A.sc i) s.sc
  off := select (up nm s) (chunk A.off i) s.off

/-- The lanes before the first chunk. -/
def lanes0 (v27 : FVec F S8x128 .f32) : Lanes F :=
  ⟨broadcast S8x128 (Scalar.ofBits .f32 0xCEEE6B28#32), broadcast S8x128 0#32, v27, v27, v27, v27, v27, v27⟩

/-- The lanes after `n` chunks, whose scores are `M 0, M 1, …`. -/
def walk (A : Arr F) (v23 : IVec S8x128 32) (v27 : FVec F S8x128 .f32) (M : ℕ → FVec F S8x128 .f32) : ℕ → Lanes F
  | 0 => lanes0 v27
  | n + 1 => push A v23 (M n) n (walk A v23 v27 M n)

end Cert.KernelIdeal.Scan

end
-- ==== Proof.ScanTrip.lean ====
/-
  The loop body's values, chunk by chunk: `tw … i` is the walk over the trip's struck-out scores `tn …` after `i`
  chunks, and each value the run names is a field of it. The theorems go in the order of the run, each from the ones
  before.
-/
module

public import proofs.«01_k».proof.Proof.ScanDefs

@[expose] public section

set_option maxRecDepth 16384

noncomputable section

open Idealize.ShloMosaic Idealize.ShloMosaic.TcCoe Idealize.SL.Sem

namespace Cert.KernelIdeal.Scan

open Cert.KernelIdeal Cert.KernelIdeal.Gen

variable {F : FTy → Type} [FloatOps F]

/-- What the loop carries. -/
abbrev Carry (F : FTy → Type) : Type := FVec F S8x128 .f32 × IVec S8x128 32 × FVec F S8x128 .f32 × FVec F S8x128 .f32 × FVec F S8x128 .f32 × FVec F S8x128 .f32 × FVec F S8x128 .f32 × FVec F S8x128 .f32 × IVec S8x128 32 × FVec F S8x128 .f32 × FVec F S8x128 .f32 × FVec F S8x128 .f32 × FVec F S8x128 .f32 × FVec F S8x128 .f32

/-- The box a trip chooses, as the run computes it from what the loop carries. -/
def tbox (acc : Carry F) : Box F where
  x1 := k0_pay11 acc.2.2.2.2.2.2.2.1 (trip_k0_t1.sl.r_1 acc) (trip_k0_t1.sl.r_2 acc)
  y1 := k0_pay12 acc.2.2.2.2.2.2.2.1 (trip_k0_t1.sl.r_1 acc) (trip_k0_t1.sl.r_3 acc)
  x2 := k0_pay13 acc.2.2.2.2.2.2.2.1 (trip_k0_t1.sl.r_1 acc) (trip_k0_t1.sl.r_4 acc)
  y2 := k0_pay14 acc.2.2.2.2.2.2.2.1 (trip_k0_t1.sl.r_1 acc) (trip_k0_t1.sl.r_5 acc)
  area := k0_pay15 acc.2.2.2.2.2.2.2.1 (trip_k0_t1.sl.r_1 acc) (trip_k0_t1.sl.r_2 acc) (trip_k0_t1.sl.r_3 acc)
    (trip_k0_t1.sl.r_4 acc) (trip_k0_t1.sl.r_5 acc)

variable (a1 : Memref sig .tc .vmem S160x128 .f32) (a2 : Memref sig .tc .vmem S160x128 .f32) (a3 : Memref sig .tc .vmem S160x128 .f32) (a4 : Memref sig .tc .vmem S160x128 .f32) (a5 : Memref sig .tc .vmem S160x128 .f32) (a6 : Memref sig .tc .vmem S160x128 .f32) (a7 : Memref sig .tc .vmem S160x128 .f32) (a8 : Memref sig .tc .vmem S160x128 .f32) (a9 : Memref sig .tc .vmem S160x128 .f32) (a10 : Memref sig .tc .vmem S160x128 .f32) (a13 : Memref sig .tc .vmem S160x128 .f32) (a14 : Memref sig .tc .vmem S160x128 .f32)
variable (v23 : IVec S8x128 32) (v27 : FVec F S8x128 .f32) (low : F .f32)
variable (X1 : BufTy.Contents (Elt F) a1.view.ty) (X2 : BufTy.Contents (Elt F) a2.view.ty) (X3 : BufTy.Contents (Elt F) a3.view.ty) (X4 : BufTy.Contents (Elt F) a4.view.ty) (X5 : BufTy.Contents (Elt F) a5.view.ty) (X6 : BufTy.Contents (Elt F) a6.view.ty) (X7 : BufTy.Contents (Elt F) a7.view.ty) (X8 : BufTy.Contents (Elt F) a8.view.ty) (X9 : BufTy.Contents (Elt F) a9.view.ty) (X10 : BufTy.Contents (Elt F) a10.view.ty) (X14 : BufTy.Contents (Elt F) a14.view.ty)
variable (acc : Carry F) (f : BufTy.Contents (Elt F) a13.view.ty)

/-- The arrays a trip reads. -/
def tarr : Arr F where
  x1 := a1.view.read (Elt F) X1
  y1 := a2.view.read (Elt F) X2
  x2 := a3.view.read (Elt F) X3
  y2 := a4.view.read (Elt F) X4
  ox1 := a5.view.read (Elt F) X5
  oy1 := a6.view.read (Elt F) X6
  ox2 := a7.view.read (Elt F) X7
  oy2 := a8.view.read (Elt F) X8
  sc := a9.view.read (Elt F) X9
  off := a10.view.read (Elt F) X10
  area := a14.view.read (Elt F) X14

/-- Chunk `i`'s scores after a trip. -/
def tn (i : ℕ) : FVec F S8x128 .f32 :=
  sup (tbox acc) low (tarr a1 a2 a3 a4 a5 a6 a7 a8 a9 a10 a14 X1 X2 X3 X4 X5 X6 X7 X8 X9 X10 X14)
    (a13.view.read (Elt F) f) i

/-- The trip's walk after `i` chunks. -/
def tw (i : ℕ) : Lanes F :=
  walk (tarr a1 a2 a3 a4 a5 a6 a7 a8 a9 a10 a14 X1 X2 X3 X4 X5 X6 X7 X8 X9 X10 X14) v23 v27
    (tn a1 a2 a3 a4 a5 a6 a7 a8 a9 a10 a13 a14 low X1 X2 X3 X4 X5 X6 X7 X8 X9 X10 X14 acc f) i

theorem r_16 : trip_k0_t1.sl.r_16 a1 a2 a3 a4 a13 a14 low X1 X2 X3 X4 X14 acc f =
    up (tn a1 a2 a3 a4 a5 a6 a7 a8 a9 a10 a13 a14 low X1 X2 X3 X4 X5 X6 X7 X8 X9 X10 X14 acc f 0) (tw a1 a2 a3 a4 a5 a6 a7 a8 a9 a10 a13 a14 v23 v27 low X1 X2 X3 X4 X5 X6 X7 X8 X9 X10 X14 acc f 0) := by
  simp only [trip_k0_t1.sl.r_1, trip_k0_t1.sl.r_2, trip_k0_t1.sl.r_3, trip_k0_t1.sl.r_4, trip_k0_t1.sl.r_5, trip_k0_t1.sl.r_12, trip_k0_t1.sl.r_13, trip_k0_t1.sl.r_14, trip_k0_t1.sl.r_15, trip_k0_t1.sl.r_16, k0_pay20, k0_pay21, k0_pay19, k0_pay18, k0_pay23, k0_pay16, shapeCast_self,
    rd _ 0 (by decide) _ rfl]
  rfl

theorem r_17 : trip_k0_t1.sl.r_17 a1 a2 a3 a4 a13 a14 low X1 X2 X3 X4 X14 acc f =
    (tw a1 a2 a3 a4 a5 a6 a7 a8 a9 a10 a13 a14 v23 v27 low X1 X2 X3 X4 X5 X6 X7 X8 X9 X10 X14 acc f 1).vm := by
  simp only [trip_k0_t1.sl.r_1, trip_k0_t1.sl.r_2, trip_k0_t1.sl.r_3, trip_k0_t1.sl.r_4, trip_k0_t1.sl.r_5, trip_k0_t1.sl.r_12, trip_k0_t1.sl.r_13, trip_k0_t1.sl.r_14, trip_k0_t1.sl.r_15, trip_k0_t1.sl.r_17, k0_pay20, k0_pay21, k0_pay19, k0_pay18, k0_pay16, k0_pay24, shapeCast_self,
    rd _ 0 (by decide) _ rfl]
  rfl

theorem r_18 : trip_k0_t1.sl.r_18 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 1).vi := by
  simp only [trip_k0_t1.sl.r_1, trip_k0_t1.sl.r_2, trip_k0_t1.sl.r_3, trip_k0_t1.sl.r_4, trip_k0_t1.sl.r_5, trip_k0_t1.sl.r_12, trip_k0_t1.sl.r_13, trip_k0_t1.sl.r_14, trip_k0_t1.sl.r_15, trip_k0_t1.sl.r_18, k0_pay20, k0_pay21, k0_pay19, k0_pay25, k0_pay17, k0_pay18, k0_pay23, k0_pay16, shapeCast_self,
    rd _ 0 (by decide) _ rfl]
  rfl

theorem r_19 : trip_k0_t1.sl.r_19 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 1).x1 := by
  simp only [trip_k0_t1.sl.r_1, trip_k0_t1.sl.r_2, trip_k0_t1.sl.r_3, trip_k0_t1.sl.r_4, trip_k0_t1.sl.r_5, trip_k0_t1.sl.r_12, trip_k0_t1.sl.r_13, trip_k0_t1.sl.r_14, trip_k0_t1.sl.r_15, trip_k0_t1.sl.r_19, k0_pay20, k0_pay26, k0_pay21, k0_pay19, k0_pay18, k0_pay23, k0_pay16, shapeCast_self,
    rd _ 0 (by decide) _ rfl]
  rfl

theorem r_20 : trip_k0_t1.sl.r_20 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 1).y1 := by
  simp only [trip_k0_t1.sl.r_1, trip_k0_t1.sl.r_2, trip_k0_t1.sl.r_3, trip_k0_t1.sl.r_4, trip_k0_t1.sl.r_5, trip_k0_t1.sl.r_12, trip_k0_t1.sl.r_13, trip_k0_t1.sl.r_14, trip_k0_t1.sl.r_15, trip_k0_t1.sl.r_20, k0_pay20, k0_pay21, k0_pay19, k0_pay18, k0_pay23, k0_pay27, k0_pay16, shapeCast_self,
    rd _ 0 (by decide) _ rfl]
  rfl

theorem r_21 : trip_k0_t1.sl.r_21 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 1).x2 := by
  simp only [trip_k0_t1.sl.r_1, trip_k0_t1.sl.r_2, trip_k0_t1.sl.r_3, trip_k0_t1.sl.r_4, trip_k0_t1.sl.r_5, trip_k0_t1.sl.r_12, trip_k0_t1.sl.r_13, trip_k0_t1.sl.r_14, trip_k0_t1.sl.r_15, trip_k0_t1.sl.r_21, k0_pay20, k0_pay21, k0_pay19, k0_pay18, k0_pay23, k0_pay28, k0_pay16, shapeCast_self,
    rd _ 0 (by decide) _ rfl]
  rfl

theorem r_22 : trip_k0_t1.sl.r_22 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 1).y2 := by
  simp only [trip_k0_t1.sl.r_1, trip_k0_t1.sl.r_2, trip_k0_t1.sl.r_3, trip_k0_t1.sl.r_4, trip_k0_t1.sl.r_5, trip_k0_t1.sl.r_12, trip_k0_t1.sl.r_13, trip_k0_t1.sl.r_14, trip_k0_t1.sl.r_15, trip_k0_t1.sl.r_22, k0_pay20, k0_pay21, k0_pay19, k0_pay29, k0_pay18, k0_pay23, k0_pay16, shapeCast_self,
    rd _ 0 (by decide) _ rfl]
  rfl

theorem r_24 : trip_k0_t1.sl.r_24 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 1).sc := by
  simp only [trip_k0_t1.sl.r_23, trip_k0_t1.sl.r_24, k0_pay30, shapeCast_self,
    rd _ 0 (by decide) _ rfl,
    r_16 a1 a2 a3 a4 a5 a6 a7 a8 a9 a10 a13 a14 v23 v27 low X1 X2 X3 X4 X5 X6 X7 X8 X9 X10 X14 acc f]
  rfl

theorem r_25 : trip_k0_t1.sl.r_25 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 1).off := by
  simp only [trip_k0_t1.sl.r_25, k0_pay31, shapeCast_self,
    rd _ 0 (by decide) _ rfl,
    r_16 a1 a2 a3 a4 a5 a6 a7 a8 a9 a10 a13 a14 v23 v27 low X1 X2 X3 X4 X5 X6 X7 X8 X9 X10 X14 acc f]
  rfl

theorem r_26 : trip_k0_t1.sl.r_26 a1 a2 a3 a4 a13 a14 low X1 X2 X3 X4 X14 acc f =
    tn a1 a2 a3 a4 a5 a6 a7 a8 a9 a10 a13 a14 low X1 X2 X3 X4 X5 X6 X7 X8 X9 X10 X14 acc f 1 := by
  simp only [trip_k0_t1.sl.r_8, trip_k0_t1.sl.r_9, trip_k0_t1.sl.r_10, trip_k0_t1.sl.r_11, trip_k0_t1.sl.r_12, trip_k0_t1.sl.r_26, trip_k0_t1.sl.v684, k0_pay32, shapeCast_self,
    rd _ 1 (by decide) _ rfl]
  rfl

theorem r_27 : trip_k0_t1.sl.r_27 a1 a2 a3 a4 a13 a14 low X1 X2 X3 X4 X14 acc f =
    up (tn a1 a2 a3 a4 a5 a6 a7 a8 a9 a10 a13 a14 low X1 X2 X3 X4 X5 X6 X7 X8 X9 X10 X14 acc f 1) (tw a1 a2 a3 a4 a5 a6 a7 a8 a9 a10 a13 a14 v23 v27 low X1 X2 X3 X4 X5 X6 X7 X8 X9 X10 X14 acc f 1) := by
  simp only [trip_k0_t1.sl.r_8, trip_k0_t1.sl.r_9, trip_k0_t1.sl.r_10, trip_k0_t1.sl.r_11, trip_k0_t1.sl.r_12, trip_k0_t1.sl.r_27, trip_k0_t1.sl.v684, k0_pay34, k0_pay32, shapeCast_self,
    rd _ 1 (by decide) _ rfl,
    r_17 a1 a2 a3 a4 a5 a6 a7 a8 a9 a10 a13 a14 v23 v27 low X1 X2 X3 X4 X5 X6 X7 X8 X9 X10 X14 acc f]
  rfl

theorem r_28 : trip_k0_t1.sl.r_28 a1 a2 a3 a4 a13 a14 low X1 X2 X3 X4 X14 acc f =
    (tw a1 a2 a3 a4 a5 a6 a7 a8 a9 a10 a13 a14 v23 v27 low X1 X2 X3 X4 X5 X6 X7 X8 X9 X10 X14 acc f 2).vm := by
  simp only [trip_k0_t1.sl.r_28, k0_pay35, shapeCast_self,
    rd _ 1 (by decide) _ rfl,
    r_17 a1 a2 a3 a4 a5 a6 a7 a8 a9 a10 a13 a14 v23 v27 low X1 X2 X3 X4 X5 X6 X7 X8 X9 X10 X14 acc f,
    r_26 a1 a2 a3 a4 a5 a6 a7 a8 a9 a10 a13 a14 low X1 X2 X3 X4 X5 X6 X7 X8 X9 X10 X14 acc f]
  rfl

theorem r_29 : trip_k0_t1.sl.r_29 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 2).vi := by
  simp only [trip_k0_t1.sl.r_29, k0_pay36, shapeCast_self,
    rd _ 1 (by decide) _ rfl,
    r_18 a1 a2 a3 a4 a5 a6 a7 a8 a9 a10 a13 a14 v23 v27 low X1 X2 X3 X4 X5 X6 X7 X8 X9 X10 X14 acc f,
    r_27 a1 a2 a3 a4 a5 a6 a7 a8 a9 a10 a13 a14 v23 v27 low X1 X2 X3 X4 X5 X6 X7 X8 X9 X10 X14 acc f]
  rfl

theorem r_30 : trip_k0_t1.sl.r_30 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 2).x1 := by
  simp only [trip_k0_t1.sl.r_30, k0_pay37, shapeCast_self,
    rd _ 1 (by decide) _ rfl,
    r_19 a1 a2 a3 a4 a5 a6 a7 a8 a9 a10 a13 a14 v23 v27 low X1 X2 X3 X4 X5 X6 X7 X8 X9 X10 X14 acc f,
    r_27 a1 a2 a3 a4 a5 a6 a7 a8 a9 a10 a13 a14 v23 v27 low X1 X2 X3 X4 X5 X6 X7 X8 X9 X10 X14 acc f]
  rfl

theorem r_31 : trip_k0_t1.sl.r_31 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 2).y1 := by
  simp only [trip_k0_t1.sl.r_31, k0_pay38, shapeCast_self,
    rd _ 1 (by decide) _ rfl,
    r_20 a1 a2 a3 a4 a5 a6 a7 a8 a9 a10 a13 a14 v23 v27 low X1 X2 X3 X4 X5 X6 X7 X8 X9 X10 X14 acc f,
    r_27 a1 a2 a3 a4 a5 a6 a7 a8 a9 a10 a13 a14 v23 v27 low X1 X2 X3 X4 X5 X6 X7 X8 X9 X10 X14 acc f]
  rfl

theorem r_32 : trip_k0_t1.sl.r_32 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 2).x2 := by
  simp only [trip_k0_t1.sl.r_32, k0_pay39, shapeCast_self,
    rd _ 1 (by decide) _ rfl,
    r_21 a1 a2 a3 a4 a5 a6 a7 a8 a9 a10 a13 a14 v23 v27 low X1 X2 X3 X4 X5 X6 X7 X8 X9 X10 X14 acc f,
    r_27 a1 a2 a3 a4 a5 a6 a7 a8 a9 a10 a13 a14 v23 v27 low X1 X2 X3 X4 X5 X6 X7 X8 X9 X10 X14 acc f]
  rfl

theorem r_33 : trip_k0_t1.sl.r_33 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 2).y2 := by
  simp only [trip_k0_t1.sl.r_33, k0_pay40, shapeCast_self,
    rd _ 1 (by decide) _ rfl,
    r_22 a1 a2 a3 a4 a5 a6 a7 a8 a9 a10 a13 a14 v23 v27 low X1 X2 X3 X4 X5 X6 X7 X8 X9 X10 X14 acc f,
    r_27 a1 a2 a3 a4 a5 a6 a7 a8 a9 a10 a13 a14 v23 v27 low X1 X2 X3 X4 X5 X6 X7 X8 X9 X10 X14 acc f]
  rfl

theorem r_34 : trip_k0_t1.sl.r_34 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 2).sc := by
  simp only [trip_k0_t1.sl.r_34, k0_pay41, shapeCast_self,
    rd _ 1 (by decide) _ rfl,
    r_24 a1 a2 a3 a4 a5 a6 a7 a8 a9 a10 a13 a14 v23 v27 low X1 X2 X3 X4 X5 X6 X7 X8 X9 X10 X14 acc f,
    r_27 a1 a2 a3 a4 a5 a6 a7 a8 a9 a10 a13 a14 v23 v27 low X1 X2 X3 X4 X5 X6 X7 X8 X9 X10 X14 acc f]
  rfl

theorem r_35 : trip_k0_t1.sl.r_35 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 2).off := by
  simp only [trip_k0_t1.sl.r_35, k0_pay42, shapeCast_self,
    rd _ 1 (by decide) _ rfl,
    r_25 a1 a2 a3 a4 a5 a6 a7 a8 a9 a10 a13 a14 v23 v27 low X1 X2 X3 X4 X5 X6 X7 X8 X9 X10 X14 acc f,
    r_27 a1 a2 a3 a4 a5 a6 a7 a8 a9 a10 a13 a14 v23 v27 low X1 X2 X3 X4 X5 X6 X7 X8 X9 X10 X14 acc f]
  rfl

theorem r_38 : trip_k0_t1.sl.r_38 a1 a2 a3 a4 a13 a14 low X1 X2 X3 X4 X14 acc f =
    up (tn a1 a2 a3 a4 a5 a6 a7 a8 a9 a10 a13 a14 low X1 X2 X3 X4 X5 X6 X7 X8 X9 X10 X14 acc f 2) (tw a1 a2 a3 a4 a5 a6 a7 a8 a9 a10 a13 a14 v23 v27 low X1 X2 X3 X4 X5 X6 X7 X8 X9 X10 X14 acc f 2) := by
  simp only [trip_k0_t1.sl.r_8, trip_k0_t1.sl.r_9, trip_k0_t1.sl.r_10, trip_k0_t1.sl.r_11, trip_k0_t1.sl.r_12, trip_k0_t1.sl.r_36, trip_k0_t1.sl.r_37, trip_k0_t1.sl.r_38, trip_k0_t1.sl.v740, k0_pay43, k0_pay47, k0_pay44, k0_pay45, shapeCast_self,
    rd _ 2 (by decide) _ rfl,
    r_28 a1 a2 a3 a4 a5 a6 a7 a8 a9 a10 a13 a14 v23 v27 low X1 X2 X3 X4 X5 X6 X7 X8 X9 X10 X14 acc f]
  rfl

theorem r_39 : trip_k0_t1.sl.r_39 a1 a2 a3 a4 a13 a14 low X1 X2 X3 X4 X14 acc f =
    (tw a1 a2 a3 a4 a5 a6 a7 a8 a9 a10 a13 a14 v23 v27 low X1 X2 X3 X4 X5 X6 X7 X8 X9 X10 X14 acc f 3).vm := by
  simp only [trip_k0_t1.sl.r_8, trip_k0_t1.sl.r_9, trip_k0_t1.sl.r_10, trip_k0_t1.sl.r_11, trip_k0_t1.sl.r_12, trip_k0_t1.sl.r_36, trip_k0_t1.sl.r_37, trip_k0_t1.sl.r_39, trip_k0_t1.sl.v740, k0_pay43, k0_pay48, k0_pay44, k0_pay45, shapeCast_self,
    rd _ 2 (by decide) _ rfl,
    r_28 a1 a2 a3 a4 a5 a6 a7 a8 a9 a10 a13 a14 v23 v27 low X1 X2 X3 X4 X5 X6 X7 X8 X9 X10 X14 acc f]
  rfl

theorem r_40 : trip_k0_t1.sl.r_40 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 3).vi := by
  simp only [trip_k0_t1.sl.r_8, trip_k0_t1.sl.r_9, trip_k0_t1.sl.r_10, trip_k0_t1.sl.r_11, trip_k0_t1.sl.r_12, trip_k0_t1.sl.r_36, trip_k0_t1.sl.r_37, trip_k0_t1.sl.r_40, trip_k0_t1.sl.v740, k0_pay43, k0_pay47, k0_pay44, k0_pay49, k0_pay45, shapeCast_self,
    rd _ 2 (by decide) _ rfl,
    r_28 a1 a2 a3 a4 a5 a6 a7 a8 a9 a10 a13 a14 v23 v27 low X1 X2 X3 X4 X5 X6 X7 X8 X9 X10 X14 acc f,
    r_29 a1 a2 a3 a4 a5 a6 a7 a8 a9 a10 a13 a14 v23 v27 low X1 X2 X3 X4 X5 X6 X7 X8 X9 X10 X14 acc f]
  rfl

theorem r_41 : trip_k0_t1.sl.r_41 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 3).x1 := by
  simp only [trip_k0_t1.sl.r_8, trip_k0_t1.sl.r_9, trip_k0_t1.sl.r_10, trip_k0_t1.sl.r_11, trip_k0_t1.sl.r_12, trip_k0_t1.sl.r_36, trip_k0_t1.sl.r_37, trip_k0_t1.sl.r_41, trip_k0_t1.sl.v740, k0_pay43, k0_pay47, k0_pay44, k0_pay50, k0_pay45, shapeCast_self,
    rd _ 2 (by decide) _ rfl,
    r_28 a1 a2 a3 a4 a5 a6 a7 a8 a9 a10 a13 a14 v23 v27 low X1 X2 X3 X4 X5 X6 X7 X8 X9 X10 X14 acc f,
    r_30 a1 a2 a3 a4 a5 a6 a7 a8 a9 a10 a13 a14 v23 v27 low X1 X2 X3 X4 X5 X6 X7 X8 X9 X10 X14 acc f]
  rfl

theorem r_42 : trip_k0_t1.sl.r_42 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 3).y1 := by
  simp only [trip_k0_t1.sl.r_8, trip_k0_t1.sl.r_9, trip_k0_t1.sl.r_10, trip_k0_t1.sl.r_11, trip_k0_t1.sl.r_12, trip_k0_t1.sl.r_36, trip_k0_t1.sl.r_37, trip_k0_t1.sl.r_42, trip_k0_t1.sl.v740, k0_pay43, k0_pay47, k0_pay44, k0_pay51, k0_pay45, shapeCast_self,
    rd _ 2 (by decide) _ rfl,
    r_28 a1 a2 a3 a4 a5 a6 a7 a8 a9 a10 a13 a14 v23 v27 low X1 X2 X3 X4 X5 X6 X7 X8 X9 X10 X14 acc f,
    r_31 a1 a2 a3 a4 a5 a6 a7 a8 a9 a10 a13 a14 v23 v27 low X1 X2 X3 X4 X5 X6 X7 X8 X9 X10 X14 acc f]
  rfl

theorem r_43 : trip_k0_t1.sl.r_43 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 3).x2 := by
  simp only [trip_k0_t1.sl.r_8, trip_k0_t1.sl.r_9, trip_k0_t1.sl.r_10, trip_k0_t1.sl.r_11, trip_k0_t1.sl.r_12, trip_k0_t1.sl.r_36, trip_k0_t1.sl.r_37, trip_k0_t1.sl.r_43, trip_k0_t1.sl.v740, k0_pay43, k0_pay47, k0_pay44, k0_pay52, k0_pay45, shapeCast_self,
    rd _ 2 (by decide) _ rfl,
    r_28 a1 a2 a3 a4 a5 a6 a7 a8 a9 a10 a13 a14 v23 v27 low X1 X2 X3 X4 X5 X6 X7 X8 X9 X10 X14 acc f,
    r_32 a1 a2 a3 a4 a5 a6 a7 a8 a9 a10 a13 a14 v23 v27 low X1 X2 X3 X4 X5 X6 X7 X8 X9 X10 X14 acc f]
  rfl

theorem r_44 : trip_k0_t1.sl.r_44 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 3).y2 := by
  simp only [trip_k0_t1.sl.r_8, trip_k0_t1.sl.r_9, trip_k0_t1.sl.r_10, trip_k0_t1.sl.r_11, trip_k0_t1.sl.r_12, trip_k0_t1.sl.r_36, trip_k0_t1.sl.r_37, trip_k0_t1.sl.r_44, trip_k0_t1.sl.v740, k0_pay53, k0_pay43, k0_pay47, k0_pay44, k0_pay45, shapeCast_self,
    rd _ 2 (by decide) _ rfl,
    r_28 a1 a2 a3 a4 a5 a6 a7 a8 a9 a10 a13 a14 v23 v27 low X1 X2 X3 X4 X5 X6 X7 X8 X9 X10 X14 acc f,
    r_33 a1 a2 a3 a4 a5 a6 a7 a8 a9 a10 a13 a14 v23 v27 low X1 X2 X3 X4 X5 X6 X7 X8 X9 X10 X14 acc f]
  rfl

theorem r_45 : trip_k0_t1.sl.r_45 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 3).sc := by
  simp only [trip_k0_t1.sl.r_8, trip_k0_t1.sl.r_9, trip_k0_t1.sl.r_10, trip_k0_t1.sl.r_11, trip_k0_t1.sl.r_12, trip_k0_t1.sl.r_36, trip_k0_t1.sl.r_37, trip_k0_t1.sl.r_45, trip_k0_t1.sl.v740, k0_pay43, k0_pay47, k0_pay54, k0_pay44, k0_pay45, shapeCast_self,
    rd _ 2 (by decide) _ rfl,
    r_28 a1 a2 a3 a4 a5 a6 a7 a8 a9 a10 a13 a14 v23 v27 low X1 X2 X3 X4 X5 X6 X7 X8 X9 X10 X14 acc f,
    r_34 a1 a2 a3 a4 a5 a6 a7 a8 a9 a10 a13 a14 v23 v27 low X1 X2 X3 X4 X5 X6 X7 X8 X9 X10 X14 acc f]
  rfl

theorem r_46 : trip_k0_t1.sl.r_46 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 3).off := by
  simp only [trip_k0_t1.sl.r_46, k0_pay55, shapeCast_self,
    rd _ 2 (by decide) _ rfl,
    r_35 a1 a2 a3 a4 a5 a6 a7 a8 a9 a10 a13 a14 v23 v27 low X1 X2 X3 X4 X5 X6 X7 X8 X9 X10 X14 acc f,
    r_38 a1 a2 a3 a4 a5 a6 a7 a8 a9 a10 a13 a14 v23 v27 low X1 X2 X3 X4 X5 X6 X7 X8 X9 X10 X14 acc f]
  rfl

theorem r_47 : trip_k0_t1.sl.r_47 a1 a2 a3 a4 a13 a14 low X1 X2 X3 X4 X14 acc f =
    up (tn a1 a2 a3 a4 a5 a6 a7 a8 a9 a10 a13 a14 low X1 X2 X3 X4 X5 X6 X7 X8 X9 X10 X14 acc f 3) (tw a1 a2 a3 a4 a5 a6 a7 a8 a9 a10 a13 a14 v23 v27 low X1 X2 X3 X4 X5 X6 X7 X8 X9 X10 X14 acc f 3) := by
  simp only [trip_k0_t1.sl.r_8, trip_k0_t1.sl.r_9, trip_k0_t1.sl.r_10, trip_k0_t1.sl.r_11, trip_k0_t1.sl.r_12, trip_k0_t1.sl.r_47, trip_k0_t1.sl.v796, k0_pay56, k0_pay58, shapeCast_self,
    rd _ 3 (by decide) _ rfl,
    r_39 a1 a2 a3 a4 a5 a6 a7 a8 a9 a10 a13 a14 v23 v27 low X1 X2 X3 X4 X5 X6 X7 X8 X9 X10 X14 acc f]
  rfl

theorem r_48 : trip_k0_t1.sl.r_48 a1 a2 a3 a4 a13 a14 low X1 X2 X3 X4 X14 acc f =
    (tw a1 a2 a3 a4 a5 a6 a7 a8 a9 a10 a13 a14 v23 v27 low X1 X2 X3 X4 X5 X6 X7 X8 X9 X10 X14 acc f 4).vm := by
  simp only [trip_k0_t1.sl.r_8, trip_k0_t1.sl.r_9, trip_k0_t1.sl.r_10, trip_k0_t1.sl.r_11, trip_k0_t1.sl.r_12, trip_k0_t1.sl.r_48, trip_k0_t1.sl.v796, k0_pay59, k0_pay56, shapeCast_self,
    rd _ 3 (by decide) _ rfl,
    r_39 a1 a2 a3 a4 a5 a6 a7 a8 a9 a10 a13 a14 v23 v27 low X1 X2 X3 X4 X5 X6 X7 X8 X9 X10 X14 acc f]
  rfl

theorem r_49 : trip_k0_t1.sl.r_49 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 4).vi := by
  simp only [trip_k0_t1.sl.r_49, k0_pay61, k0_pay60, shapeCast_self,
    rd _ 3 (by decide) _ rfl,
    r_40 a1 a2 a3 a4 a5 a6 a7 a8 a9 a10 a13 a14 v23 v27 low X1 X2 X3 X4 X5 X6 X7 X8 X9 X10 X14 acc f,
    r_47 a1 a2 a3 a4 a5 a6 a7 a8 a9 a10 a13 a14 v23 v27 low X1 X2 X3 X4 X5 X6 X7 X8 X9 X10 X14 acc f]
  rfl

theorem r_50 : trip_k0_t1.sl.r_50 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 4).x1 := by
  simp only [trip_k0_t1.sl.r_50, k0_pay62, shapeCast_self,
    rd _ 3 (by decide) _ rfl,
    r_41 a1 a2 a3 a4 a5 a6 a7 a8 a9 a10 a13 a14 v23 v27 low X1 X2 X3 X4 X5 X6 X7 X8 X9 X10 X14 acc f,
    r_47 a1 a2 a3 a4 a5 a6 a7 a8 a9 a10 a13 a14 v23 v27 low X1 X2 X3 X4 X5 X6 X7 X8 X9 X10 X14 acc f]
  rfl

theorem r_51 : trip_k0_t1.sl.r_51 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 4).y1 := by
  simp only [trip_k0_t1.sl.r_51, k0_pay63, shapeCast_self,
    rd _ 3 (by decide) _ rfl,
    r_42 a1 a2 a3 a4 a5 a6 a7 a8 a9 a10 a13 a14 v23 v27 low X1 X2 X3 X4 X5 X6 X7 X8 X9 X10 X14 acc f,
    r_47 a1 a2 a3 a4 a5 a6 a7 a8 a9 a10 a13 a14 v23 v27 low X1 X2 X3 X4 X5 X6 X7 X8 X9 X10 X14 acc f]
  rfl

theorem r_52 : trip_k0_t1.sl.r_52 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 4).x2 := by
  simp only [trip_k0_t1.sl.r_52, k0_pay64, shapeCast_self,
    rd _ 3 (by decide) _ rfl,
    r_43 a1 a2 a3 a4 a5 a6 a7 a8 a9 a10 a13 a14 v23 v27 low X1 X2 X3 X4 X5 X6 X7 X8 X9 X10 X14 acc f,
    r_47 a1 a2 a3 a4 a5 a6 a7 a8 a9 a10 a13 a14 v23 v27 low X1 X2 X3 X4 X5 X6 X7 X8 X9 X10 X14 acc f]
  rfl

theorem r_53 : trip_k0_t1.sl.r_53 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 4).y2 := by
  simp only [trip_k0_t1.sl.r_53, k0_pay65, shapeCast_self,
    rd _ 3 (by decide) _ rfl,
    r_44 a1 a2 a3 a4 a5 a6 a7 a8 a9 a10 a13 a14 v23 v27 low X1 X2 X3 X4 X5 X6 X7 X8 X9 X10 X14 acc f,
    r_47 a1 a2 a3 a4 a5 a6 a7 a8 a9 a10 a13 a14 v23 v27 low X1 X2 X3 X4 X5 X6 X7 X8 X9 X10 X14 acc f]
  rfl

theorem r_54 : trip_k0_t1.sl.r_54 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 4).sc := by
  simp only [trip_k0_t1.sl.r_54, k0_pay66, shapeCast_self,
    rd _ 3 (by decide) _ rfl,
    r_45 a1 a2 a3 a4 a5 a6 a7 a8 a9 a10 a13 a14 v23 v27 low X1 X2 X3 X4 X5 X6 X7 X8 X9 X10 X14 acc f,
    r_47 a1 a2 a3 a4 a5 a6 a7 a8 a9 a10 a13 a14 v23 v27 low X1 X2 X3 X4 X5 X6 X7 X8 X9 X10 X14 acc f]
  rfl

theorem r_55 : trip_k0_t1.sl.r_55 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 4).off := by
  simp only [trip_k0_t1.sl.r_55, k0_pay67, shapeCast_self,
    rd _ 3 (by decide) _ rfl,
    r_46 a1 a2 a3 a4 a5 a6 a7 a8 a9 a10 a13 a14 v23 v27 low X1 X2 X3 X4 X5 X6 X7 X8 X9 X10 X14 acc f,
    r_47 a1 a2 a3 a4 a5 a6 a7 a8 a9 a10 a13 a14 v23 v27 low X1 X2 X3 X4 X5 X6 X7 X8 X9 X10 X14 acc f]
  rfl

theorem r_57 : trip_k0_t1.sl.r_57 a1 a2 a3 a4 a13 a14 low X1 X2 X3 X4 X14 acc f =
    (tw a1 a2 a3 a4 a5 a6 a7 a8 a9 a10 a13 a14 v23 v27 low X1 X2 X3 X4 X5 X6 X7 X8 X9 X10 X14 acc f 5).vm := by
  simp only [trip_k0_t1.sl.r_8, trip_k0_t1.sl.r_9, trip_k0_t1.sl.r_10, trip_k0_t1.sl.r_11, trip_k0_t1.sl.r_12, trip_k0_t1.sl.r_56, trip_k0_t1.sl.r_57, trip_k0_t1.sl.v852, k0_pay69, k0_pay72, k0_pay68, shapeCast_self,
    rd _ 4 (by decide) _ rfl,
    r_48 a1 a2 a3 a4 a5 a6 a7 a8 a9 a10 a13 a14 v23 v27 low X1 X2 X3 X4 X5 X6 X7 X8 X9 X10 X14 acc f]
  rfl

theorem r_58 : trip_k0_t1.sl.r_58 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 5).vi := by
  simp only [trip_k0_t1.sl.r_8, trip_k0_t1.sl.r_9, trip_k0_t1.sl.r_10, trip_k0_t1.sl.r_11, trip_k0_t1.sl.r_12, trip_k0_t1.sl.r_56, trip_k0_t1.sl.r_58, trip_k0_t1.sl.v852, k0_pay71, k0_pay73, k0_pay69, k0_pay68, shapeCast_self,
    rd _ 4 (by decide) _ rfl,
    r_48 a1 a2 a3 a4 a5 a6 a7 a8 a9 a10 a13 a14 v23 v27 low X1 X2 X3 X4 X5 X6 X7 X8 X9 X10 X14 acc f,
    r_49 a1 a2 a3 a4 a5 a6 a7 a8 a9 a10 a13 a14 v23 v27 low X1 X2 X3 X4 X5 X6 X7 X8 X9 X10 X14 acc f]
  rfl

theorem r_59 : trip_k0_t1.sl.r_59 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 5).x1 := by
  simp only [trip_k0_t1.sl.r_8, trip_k0_t1.sl.r_9, trip_k0_t1.sl.r_10, trip_k0_t1.sl.r_11, trip_k0_t1.sl.r_12, trip_k0_t1.sl.r_56, trip_k0_t1.sl.r_59, trip_k0_t1.sl.v852, k0_pay71, k0_pay74, k0_pay69, k0_pay68, shapeCast_self,
    rd _ 4 (by decide) _ rfl,
    r_48 a1 a2 a3 a4 a5 a6 a7 a8 a9 a10 a13 a14 v23 v27 low X1 X2 X3 X4 X5 X6 X7 X8 X9 X10 X14 acc f,
    r_50 a1 a2 a3 a4 a5 a6 a7 a8 a9 a10 a13 a14 v23 v27 low X1 X2 X3 X4 X5 X6 X7 X8 X9 X10 X14 acc f]
  rfl

theorem r_60 : trip_k0_t1.sl.r_60 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 5).y1 := by
  simp only [trip_k0_t1.sl.r_8, trip_k0_t1.sl.r_9, trip_k0_t1.sl.r_10, trip_k0_t1.sl.r_11, trip_k0_t1.sl.r_12, trip_k0_t1.sl.r_56, trip_k0_t1.sl.r_60, trip_k0_t1.sl.v852, k0_pay71, k0_pay75, k0_pay69, k0_pay68, shapeCast_self,
    rd _ 4 (by decide) _ rfl,
    r_48 a1 a2 a3 a4 a5 a6 a7 a8 a9 a10 a13 a14 v23 v27 low X1 X2 X3 X4 X5 X6 X7 X8 X9 X10 X14 acc f,
    r_51 a1 a2 a3 a4 a5 a6 a7 a8 a9 a10 a13 a14 v23 v27 low X1 X2 X3 X4 X5 X6 X7 X8 X9 X10 X14 acc f]
  rfl

theorem r_61 : trip_k0_t1.sl.r_61 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 5).x2 := by
  simp only [trip_k0_t1.sl.r_8, trip_k0_t1.sl.r_9, trip_k0_t1.sl.r_10, trip_k0_t1.sl.r_11, trip_k0_t1.sl.r_12, trip_k0_t1.sl.r_56, trip_k0_t1.sl.r_61, trip_k0_t1.sl.v852, k0_pay71, k0_pay69, k0_pay76, k0_pay68, shapeCast_self,
    rd _ 4 (by decide) _ rfl,
    r_48 a1 a2 a3 a4 a5 a6 a7 a8 a9 a10 a13 a14 v23 v27 low X1 X2 X3 X4 X5 X6 X7 X8 X9 X10 X14 acc f,
    r_52 a1 a2 a3 a4 a5 a6 a7 a8 a9 a10 a13 a14 v23 v27 low X1 X2 X3 X4 X5 X6 X7 X8 X9 X10 X14 acc f]
  rfl

theorem r_62 : trip_k0_t1.sl.r_62 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 5).y2 := by
  simp only [trip_k0_t1.sl.r_8, trip_k0_t1.sl.r_9, trip_k0_t1.sl.r_10, trip_k0_t1.sl.r_11, trip_k0_t1.sl.r_12, trip_k0_t1.sl.r_56, trip_k0_t1.sl.r_62, trip_k0_t1.sl.v852, k0_pay71, k0_pay77, k0_pay69, k0_pay68, shapeCast_self,
    rd _ 4 (by decide) _ rfl,
    r_48 a1 a2 a3 a4 a5 a6 a7 a8 a9 a10 a13 a14 v23 v27 low X1 X2 X3 X4 X5 X6 X7 X8 X9 X10 X14 acc f,
    r_53 a1 a2 a3 a4 a5 a6 a7 a8 a9 a10 a13 a14 v23 v27 low X1 X2 X3 X4 X5 X6 X7 X8 X9 X10 X14 acc f]
  rfl

theorem r_63 : trip_k0_t1.sl.r_63 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 5).sc := by
  simp only [trip_k0_t1.sl.r_8, trip_k0_t1.sl.r_9, trip_k0_t1.sl.r_10, trip_k0_t1.sl.r_11, trip_k0_t1.sl.r_12, trip_k0_t1.sl.r_56, trip_k0_t1.sl.r_63, trip_k0_t1.sl.v852, k0_pay71, k0_pay78, k0_pay69, k0_pay68, shapeCast_self,
    rd _ 4 (by decide) _ rfl,
    r_48 a1 a2 a3 a4 a5 a6 a7 a8 a9 a10 a13 a14 v23 v27 low X1 X2 X3 X4 X5 X6 X7 X8 X9 X10 X14 acc f,
    r_54 a1 a2 a3 a4 a5 a6 a7 a8 a9 a10 a13 a14 v23 v27 low X1 X2 X3 X4 X5 X6 X7 X8 X9 X10 X14 acc f]
  rfl

theorem r_64 : trip_k0_t1.sl.r_64 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 5).off := by
  simp only [trip_k0_t1.sl.r_8, trip_k0_t1.sl.r_9, trip_k0_t1.sl.r_10, trip_k0_t1.sl.r_11, trip_k0_t1.sl.r_12, trip_k0_t1.sl.r_56, trip_k0_t1.sl.r_64, trip_k0_t1.sl.v852, k0_pay71, k0_pay69, k0_pay79, k0_pay68, shapeCast_self,
    rd _ 4 (by decide) _ rfl,
    r_48 a1 a2 a3 a4 a5 a6 a7 a8 a9 a10 a13 a14 v23 v27 low X1 X2 X3 X4 X5 X6 X7 X8 X9 X10 X14 acc f,
    r_55 a1 a2 a3 a4 a5 a6 a7 a8 a9 a10 a13 a14 v23 v27 low X1 X2 X3 X4 X5 X6 X7 X8 X9 X10 X14 acc f]
  rfl

theorem r_65 : trip_k0_t1.sl.r_65 a1 a2 a3 a4 a13 a14 low X1 X2 X3 X4 X14 acc f =
    up (tn a1 a2 a3 a4 a5 a6 a7 a8 a9 a10 a13 a14 low X1 X2 X3 X4 X5 X6 X7 X8 X9 X10 X14 acc f 5) (tw a1 a2 a3 a4 a5 a6 a7 a8 a9 a10 a13 a14 v23 v27 low X1 X2 X3 X4 X5 X6 X7 X8 X9 X10 X14 acc f 5) := by
  simp only [trip_k0_t1.sl.r_8, trip_k0_t1.sl.r_9, trip_k0_t1.sl.r_10, trip_k0_t1.sl.r_11, trip_k0_t1.sl.r_12, trip_k0_t1.sl.r_65, trip_k0_t1.sl.v908, k0_pay82, k0_pay80, shapeCast_self,
    rd _ 5 (by decide) _ rfl,
    r_57 a1 a2 a3 a4 a5 a6 a7 a8 a9 a10 a13 a14 v23 v27 low X1 X2 X3 X4 X5 X6 X7 X8 X9 X10 X14 acc f]
  rfl

theorem r_66 : trip_k0_t1.sl.r_66 a1 a2 a3 a4 a13 a14 low X1 X2 X3 X4 X14 acc f =
    (tw a1 a2 a3 a4 a5 a6 a7 a8 a9 a10 a13 a14 v23 v27 low X1 X2 X3 X4 X5 X6 X7 X8 X9 X10 X14 acc f 6).vm := by
  simp only [trip_k0_t1.sl.r_8, trip_k0_t1.sl.r_9, trip_k0_t1.sl.r_10, trip_k0_t1.sl.r_11, trip_k0_t1.sl.r_12, trip_k0_t1.sl.r_66, trip_k0_t1.sl.v908, k0_pay83, k0_pay80, shapeCast_self,
    rd _ 5 (by decide) _ rfl,
    r_57 a1 a2 a3 a4 a5 a6 a7 a8 a9 a10 a13 a14 v23 v27 low X1 X2 X3 X4 X5 X6 X7 X8 X9 X10 X14 acc f]
  rfl

theorem r_67 : trip_k0_t1.sl.r_67 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 6).vi := by
  simp only [trip_k0_t1.sl.r_8, trip_k0_t1.sl.r_9, trip_k0_t1.sl.r_10, trip_k0_t1.sl.r_11, trip_k0_t1.sl.r_12, trip_k0_t1.sl.r_67, trip_k0_t1.sl.v908, k0_pay82, k0_pay80, k0_pay84, shapeCast_self,
    rd _ 5 (by decide) _ rfl,
    r_57 a1 a2 a3 a4 a5 a6 a7 a8 a9 a10 a13 a14 v23 v27 low X1 X2 X3 X4 X5 X6 X7 X8 X9 X10 X14 acc f,
    r_58 a1 a2 a3 a4 a5 a6 a7 a8 a9 a10 a13 a14 v23 v27 low X1 X2 X3 X4 X5 X6 X7 X8 X9 X10 X14 acc f]
  rfl

theorem r_69 : trip_k0_t1.sl.r_69 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 6).x1 := by
  simp only [trip_k0_t1.sl.r_68, trip_k0_t1.sl.r_69, k0_pay85, shapeCast_self,
    rd _ 5 (by decide) _ rfl,
    r_59 a1 a2 a3 a4 a5 a6 a7 a8 a9 a10 a13 a14 v23 v27 low X1 X2 X3 X4 X5 X6 X7 X8 X9 X10 X14 acc f,
    r_65 a1 a2 a3 a4 a5 a6 a7 a8 a9 a10 a13 a14 v23 v27 low X1 X2 X3 X4 X5 X6 X7 X8 X9 X10 X14 acc f]
  rfl

theorem r_70 : trip_k0_t1.sl.r_70 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 6).y1 := by
  simp only [trip_k0_t1.sl.r_70, k0_pay86, shapeCast_self,
    rd _ 5 (by decide) _ rfl,
    r_60 a1 a2 a3 a4 a5 a6 a7 a8 a9 a10 a13 a14 v23 v27 low X1 X2 X3 X4 X5 X6 X7 X8 X9 X10 X14 acc f,
    r_65 a1 a2 a3 a4 a5 a6 a7 a8 a9 a10 a13 a14 v23 v27 low X1 X2 X3 X4 X5 X6 X7 X8 X9 X10 X14 acc f]
  rfl

theorem r_71 : trip_k0_t1.sl.r_71 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 6).x2 := by
  simp only [trip_k0_t1.sl.r_71, k0_pay87, shapeCast_self,
    rd _ 5 (by decide) _ rfl,
    r_61 a1 a2 a3 a4 a5 a6 a7 a8 a9 a10 a13 a14 v23 v27 low X1 X2 X3 X4 X5 X6 X7 X8 X9 X10 X14 acc f,
    r_65 a1 a2 a3 a4 a5 a6 a7 a8 a9 a10 a13 a14 v23 v27 low X1 X2 X3 X4 X5 X6 X7 X8 X9 X10 X14 acc f]
  rfl

theorem r_72 : trip_k0_t1.sl.r_72 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 6).y2 := by
  simp only [trip_k0_t1.sl.r_72, k0_pay88, shapeCast_self,
    rd _ 5 (by decide) _ rfl,
    r_62 a1 a2 a3 a4 a5 a6 a7 a8 a9 a10 a13 a14 v23 v27 low X1 X2 X3 X4 X5 X6 X7 X8 X9 X10 X14 acc f,
    r_65 a1 a2 a3 a4 a5 a6 a7 a8 a9 a10 a13 a14 v23 v27 low X1 X2 X3 X4 X5 X6 X7 X8 X9 X10 X14 acc f]
  rfl

theorem r_73 : trip_k0_t1.sl.r_73 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 6).sc := by
  simp only [trip_k0_t1.sl.r_73, k0_pay89, shapeCast_self,
    rd _ 5 (by decide) _ rfl,
    r_63 a1 a2 a3 a4 a5 a6 a7 a8 a9 a10 a13 a14 v23 v27 low X1 X2 X3 X4 X5 X6 X7 X8 X9 X10 X14 acc f,
    r_65 a1 a2 a3 a4 a5 a6 a7 a8 a9 a10 a13 a14 v23 v27 low X1 X2 X3 X4 X5 X6 X7 X8 X9 X10 X14 acc f]
  rfl

theorem r_74 : trip_k0_t1.sl.r_74 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 6).off := by
  simp only [trip_k0_t1.sl.r_74, k0_pay90, shapeCast_self,
    rd _ 5 (by decide) _ rfl,
    r_64 a1 a2 a3 a4 a5 a6 a7 a8 a9 a10 a13 a14 v23 v27 low X1 X2 X3 X4 X5 X6 X7 X8 X9 X10 X14 acc f,
    r_65 a1 a2 a3 a4 a5 a6 a7 a8 a9 a10 a13 a14 v23 v27 low X1 X2 X3 X4 X5 X6 X7 X8 X9 X10 X14 acc f]
  rfl

theorem r_77 : trip_k0_t1.sl.r_77 a1 a2 a3 a4 a13 a14 low X1 X2 X3 X4 X14 acc f =
    (tw a1 a2 a3 a4 a5 a6 a7 a8 a9 a10 a13 a14 v23 v27 low X1 X2 X3 X4 X5 X6 X7 X8 X9 X10 X14 acc f 7).vm := by
  simp only [trip_k0_t1.sl.r_8, trip_k0_t1.sl.r_9, trip_k0_t1.sl.r_10, trip_k0_t1.sl.r_11, trip_k0_t1.sl.r_12, trip_k0_t1.sl.r_75, trip_k0_t1.sl.r_76, trip_k0_t1.sl.r_77, trip_k0_t1.sl.v964, k0_pay96, k0_pay93, k0_pay92, k0_pay91, shapeCast_self,
    rd _ 6 (by decide) _ rfl,
    r_66 a1 a2 a3 a4 a5 a6 a7 a8 a9 a10 a13 a14 v23 v27 low X1 X2 X3 X4 X5 X6 X7 X8 X9 X10 X14 acc f]
  rfl

theorem r_78 : trip_k0_t1.sl.r_78 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 7).vi := by
  simp only [trip_k0_t1.sl.r_8, trip_k0_t1.sl.r_9, trip_k0_t1.sl.r_10, trip_k0_t1.sl.r_11, trip_k0_t1.sl.r_12, trip_k0_t1.sl.r_75, trip_k0_t1.sl.r_76, trip_k0_t1.sl.r_78, trip_k0_t1.sl.v964, k0_pay95, k0_pay97, k0_pay93, k0_pay92, k0_pay91, shapeCast_self,
    rd _ 6 (by decide) _ rfl,
    r_66 a1 a2 a3 a4 a5 a6 a7 a8 a9 a10 a13 a14 v23 v27 low X1 X2 X3 X4 X5 X6 X7 X8 X9 X10 X14 acc f,
    r_67 a1 a2 a3 a4 a5 a6 a7 a8 a9 a10 a13 a14 v23 v27 low X1 X2 X3 X4 X5 X6 X7 X8 X9 X10 X14 acc f]
  rfl

theorem r_79 : trip_k0_t1.sl.r_79 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 7).x1 := by
  simp only [trip_k0_t1.sl.r_8, trip_k0_t1.sl.r_9, trip_k0_t1.sl.r_10, trip_k0_t1.sl.r_11, trip_k0_t1.sl.r_12, trip_k0_t1.sl.r_75, trip_k0_t1.sl.r_76, trip_k0_t1.sl.r_79, trip_k0_t1.sl.v964, k0_pay95, k0_pay93, k0_pay92, k0_pay98, k0_pay91, shapeCast_self,
    rd _ 6 (by decide) _ rfl,
    r_66 a1 a2 a3 a4 a5 a6 a7 a8 a9 a10 a13 a14 v23 v27 low X1 X2 X3 X4 X5 X6 X7 X8 X9 X10 X14 acc f,
    r_69 a1 a2 a3 a4 a5 a6 a7 a8 a9 a10 a13 a14 v23 v27 low X1 X2 X3 X4 X5 X6 X7 X8 X9 X10 X14 acc f]
  rfl

theorem r_80 : trip_k0_t1.sl.r_80 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 7).y1 := by
  simp only [trip_k0_t1.sl.r_8, trip_k0_t1.sl.r_9, trip_k0_t1.sl.r_10, trip_k0_t1.sl.r_11, trip_k0_t1.sl.r_12, trip_k0_t1.sl.r_75, trip_k0_t1.sl.r_76, trip_k0_t1.sl.r_80, trip_k0_t1.sl.v964, k0_pay95, k0_pay93, k0_pay99, k0_pay92, k0_pay91, shapeCast_self,
    rd _ 6 (by decide) _ rfl,
    r_66 a1 a2 a3 a4 a5 a6 a7 a8 a9 a10 a13 a14 v23 v27 low X1 X2 X3 X4 X5 X6 X7 X8 X9 X10 X14 acc f,
    r_70 a1 a2 a3 a4 a5 a6 a7 a8 a9 a10 a13 a14 v23 v27 low X1 X2 X3 X4 X5 X6 X7 X8 X9 X10 X14 acc f]
  rfl

theorem r_81 : trip_k0_t1.sl.r_81 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 7).x2 := by
  simp only [trip_k0_t1.sl.r_8, trip_k0_t1.sl.r_9, trip_k0_t1.sl.r_10, trip_k0_t1.sl.r_11, trip_k0_t1.sl.r_12, trip_k0_t1.sl.r_75, trip_k0_t1.sl.r_76, trip_k0_t1.sl.r_81, trip_k0_t1.sl.v964, k0_pay95, k0_pay93, k0_pay92, k0_pay91, k0_pay100, shapeCast_self,
    rd _ 6 (by decide) _ rfl,
    r_66 a1 a2 a3 a4 a5 a6 a7 a8 a9 a10 a13 a14 v23 v27 low X1 X2 X3 X4 X5 X6 X7 X8 X9 X10 X14 acc f,
    r_71 a1 a2 a3 a4 a5 a6 a7 a8 a9 a10 a13 a14 v23 v27 low X1 X2 X3 X4 X5 X6 X7 X8 X9 X10 X14 acc f]
  rfl

theorem r_82 : trip_k0_t1.sl.r_82 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 7).y2 := by
  simp only [trip_k0_t1.sl.r_8, trip_k0_t1.sl.r_9, trip_k0_t1.sl.r_10, trip_k0_t1.sl.r_11, trip_k0_t1.sl.r_12, trip_k0_t1.sl.r_75, trip_k0_t1.sl.r_76, trip_k0_t1.sl.r_82, trip_k0_t1.sl.v964, k0_pay95, k0_pay93, k0_pay92, k0_pay101, k0_pay91, shapeCast_self,
    rd _ 6 (by decide) _ rfl,
    r_66 a1 a2 a3 a4 a5 a6 a7 a8 a9 a10 a13 a14 v23 v27 low X1 X2 X3 X4 X5 X6 X7 X8 X9 X10 X14 acc f,
    r_72 a1 a2 a3 a4 a5 a6 a7 a8 a9 a10 a13 a14 v23 v27 low X1 X2 X3 X4 X5 X6 X7 X8 X9 X10 X14 acc f]
  rfl

theorem r_83 : trip_k0_t1.sl.r_83 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 7).sc := by
  simp only [trip_k0_t1.sl.r_8, trip_k0_t1.sl.r_9, trip_k0_t1.sl.r_10, trip_k0_t1.sl.r_11, trip_k0_t1.sl.r_12, trip_k0_t1.sl.r_75, trip_k0_t1.sl.r_76, trip_k0_t1.sl.r_83, trip_k0_t1.sl.v964, k0_pay102, k0_pay95, k0_pay93, k0_pay92, k0_pay91, shapeCast_self,
    rd _ 6 (by decide) _ rfl,
    r_66 a1 a2 a3 a4 a5 a6 a7 a8 a9 a10 a13 a14 v23 v27 low X1 X2 X3 X4 X5 X6 X7 X8 X9 X10 X14 acc f,
    r_73 a1 a2 a3 a4 a5 a6 a7 a8 a9 a10 a13 a14 v23 v27 low X1 X2 X3 X4 X5 X6 X7 X8 X9 X10 X14 acc f]
  rfl

theorem r_84 : trip_k0_t1.sl.r_84 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 7).off := by
  simp only [trip_k0_t1.sl.r_8, trip_k0_t1.sl.r_9, trip_k0_t1.sl.r_10, trip_k0_t1.sl.r_11, trip_k0_t1.sl.r_12, trip_k0_t1.sl.r_75, trip_k0_t1.sl.r_76, trip_k0_t1.sl.r_84, trip_k0_t1.sl.v964, k0_pay95, k0_pay93, k0_pay92, k0_pay91, k0_pay103, shapeCast_self,
    rd _ 6 (by decide) _ rfl,
    r_66 a1 a2 a3 a4 a5 a6 a7 a8 a9 a10 a13 a14 v23 v27 low X1 X2 X3 X4 X5 X6 X7 X8 X9 X10 X14 acc f,
    r_74 a1 a2 a3 a4 a5 a6 a7 a8 a9 a10 a13 a14 v23 v27 low X1 X2 X3 X4 X5 X6 X7 X8 X9 X10 X14 acc f]
  rfl

theorem r_86 : trip_k0_t1.sl.r_86 a1 a2 a3 a4 a13 a14 low X1 X2 X3 X4 X14 acc f =
    up (tn a1 a2 a3 a4 a5 a6 a7 a8 a9 a10 a13 a14 low X1 X2 X3 X4 X5 X6 X7 X8 X9 X10 X14 acc f 7) (tw a1 a2 a3 a4 a5 a6 a7 a8 a9 a10 a13 a14 v23 v27 low X1 X2 X3 X4 X5 X6 X7 X8 X9 X10 X14 acc f 7) := by
  simp only [trip_k0_t1.sl.r_8, trip_k0_t1.sl.r_9, trip_k0_t1.sl.r_10, trip_k0_t1.sl.r_11, trip_k0_t1.sl.r_12, trip_k0_t1.sl.r_85, trip_k0_t1.sl.r_86, trip_k0_t1.sl.v1020, k0_pay105, k0_pay104, k0_pay107, shapeCast_self,
    rd _ 7 (by decide) _ rfl,
    r_77 a1 a2 a3 a4 a5 a6 a7 a8 a9 a10 a13 a14 v23 v27 low X1 X2 X3 X4 X5 X6 X7 X8 X9 X10 X14 acc f]
  rfl

theorem r_87 : trip_k0_t1.sl.r_87 a1 a2 a3 a4 a13 a14 low X1 X2 X3 X4 X14 acc f =
    (tw a1 a2 a3 a4 a5 a6 a7 a8 a9 a10 a13 a14 v23 v27 low X1 X2 X3 X4 X5 X6 X7 X8 X9 X10 X14 acc f 8).vm := by
  simp only [trip_k0_t1.sl.r_8, trip_k0_t1.sl.r_9, trip_k0_t1.sl.r_10, trip_k0_t1.sl.r_11, trip_k0_t1.sl.r_12, trip_k0_t1.sl.r_85, trip_k0_t1.sl.r_87, trip_k0_t1.sl.v1020, k0_pay105, k0_pay108, k0_pay104, shapeCast_self,
    rd _ 7 (by decide) _ rfl,
    r_77 a1 a2 a3 a4 a5 a6 a7 a8 a9 a10 a13 a14 v23 v27 low X1 X2 X3 X4 X5 X6 X7 X8 X9 X10 X14 acc f]
  rfl

theorem r_88 : trip_k0_t1.sl.r_88 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 8).vi := by
  simp only [trip_k0_t1.sl.r_8, trip_k0_t1.sl.r_9, trip_k0_t1.sl.r_10, trip_k0_t1.sl.r_11, trip_k0_t1.sl.r_12, trip_k0_t1.sl.r_85, trip_k0_t1.sl.r_88, trip_k0_t1.sl.v1020, k0_pay109, k0_pay105, k0_pay104, k0_pay107, shapeCast_self,
    rd _ 7 (by decide) _ rfl,
    r_77 a1 a2 a3 a4 a5 a6 a7 a8 a9 a10 a13 a14 v23 v27 low X1 X2 X3 X4 X5 X6 X7 X8 X9 X10 X14 acc f,
    r_78 a1 a2 a3 a4 a5 a6 a7 a8 a9 a10 a13 a14 v23 v27 low X1 X2 X3 X4 X5 X6 X7 X8 X9 X10 X14 acc f]
  rfl

theorem r_89 : trip_k0_t1.sl.r_89 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 8).x1 := by
  simp only [trip_k0_t1.sl.r_8, trip_k0_t1.sl.r_9, trip_k0_t1.sl.r_10, trip_k0_t1.sl.r_11, trip_k0_t1.sl.r_12, trip_k0_t1.sl.r_85, trip_k0_t1.sl.r_89, trip_k0_t1.sl.v1020, k0_pay105, k0_pay110, k0_pay104, k0_pay107, shapeCast_self,
    rd _ 7 (by decide) _ rfl,
    r_77 a1 a2 a3 a4 a5 a6 a7 a8 a9 a10 a13 a14 v23 v27 low X1 X2 X3 X4 X5 X6 X7 X8 X9 X10 X14 acc f,
    r_79 a1 a2 a3 a4 a5 a6 a7 a8 a9 a10 a13 a14 v23 v27 low X1 X2 X3 X4 X5 X6 X7 X8 X9 X10 X14 acc f]
  rfl

theorem r_90 : trip_k0_t1.sl.r_90 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 8).y1 := by
  simp only [trip_k0_t1.sl.r_90, k0_pay111, shapeCast_self,
    rd _ 7 (by decide) _ rfl,
    r_80 a1 a2 a3 a4 a5 a6 a7 a8 a9 a10 a13 a14 v23 v27 low X1 X2 X3 X4 X5 X6 X7 X8 X9 X10 X14 acc f,
    r_86 a1 a2 a3 a4 a5 a6 a7 a8 a9 a10 a13 a14 v23 v27 low X1 X2 X3 X4 X5 X6 X7 X8 X9 X10 X14 acc f]
  rfl

theorem r_91 : trip_k0_t1.sl.r_91 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 8).x2 := by
  simp only [trip_k0_t1.sl.r_91, k0_pay112, shapeCast_self,
    rd _ 7 (by decide) _ rfl,
    r_81 a1 a2 a3 a4 a5 a6 a7 a8 a9 a10 a13 a14 v23 v27 low X1 X2 X3 X4 X5 X6 X7 X8 X9 X10 X14 acc f,
    r_86 a1 a2 a3 a4 a5 a6 a7 a8 a9 a10 a13 a14 v23 v27 low X1 X2 X3 X4 X5 X6 X7 X8 X9 X10 X14 acc f]
  rfl

theorem r_92 : trip_k0_t1.sl.r_92 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 8).y2 := by
  simp only [trip_k0_t1.sl.r_92, k0_pay113, shapeCast_self,
    rd _ 7 (by decide) _ rfl,
    r_82 a1 a2 a3 a4 a5 a6 a7 a8 a9 a10 a13 a14 v23 v27 low X1 X2 X3 X4 X5 X6 X7 X8 X9 X10 X14 acc f,
    r_86 a1 a2 a3 a4 a5 a6 a7 a8 a9 a10 a13 a14 v23 v27 low X1 X2 X3 X4 X5 X6 X7 X8 X9 X10 X14 acc f]
  rfl

theorem r_93 : trip_k0_t1.sl.r_93 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 8).sc := by
  simp only [trip_k0_t1.sl.r_93, k0_pay114, shapeCast_self,
    rd _ 7 (by decide) _ rfl,
    r_83 a1 a2 a3 a4 a5 a6 a7 a8 a9 a10 a13 a14 v23 v27 low X1 X2 X3 X4 X5 X6 X7 X8 X9 X10 X14 acc f,
    r_86 a1 a2 a3 a4 a5 a6 a7 a8 a9 a10 a13 a14 v23 v27 low X1 X2 X3 X4 X5 X6 X7 X8 X9 X10 X14 acc f]
  rfl

theorem r_94 : trip_k0_t1.sl.r_94 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 8).off := by
  simp only [trip_k0_t1.sl.r_94, k0_pay115, shapeCast_self,
    rd _ 7 (by decide) _ rfl,
    r_84 a1 a2 a3 a4 a5 a6 a7 a8 a9 a10 a13 a14 v23 v27 low X1 X2 X3 X4 X5 X6 X7 X8 X9 X10 X14 acc f,
    r_86 a1 a2 a3 a4 a5 a6 a7 a8 a9 a10 a13 a14 v23 v27 low X1 X2 X3 X4 X5 X6 X7 X8 X9 X10 X14 acc f]
  rfl

theorem r_97 : trip_k0_t1.sl.r_97 a1 a2 a3 a4 a13 a14 low X1 X2 X3 X4 X14 acc f =
    (tw a1 a2 a3 a4 a5 a6 a7 a8 a9 a10 a13 a14 v23 v27 low X1 X2 X3 X4 X5 X6 X7 X8 X9 X10 X14 acc f 9).vm := by
  simp only [trip_k0_t1.sl.r_8, trip_k0_t1.sl.r_9, trip_k0_t1.sl.r_10, trip_k0_t1.sl.r_11, trip_k0_t1.sl.r_12, trip_k0_t1.sl.r_95, trip_k0_t1.sl.r_96, trip_k0_t1.sl.r_97, trip_k0_t1.sl.v1076, k0_pay116, k0_pay117, k0_pay118, k0_pay121, shapeCast_self,
    rd _ 8 (by decide) _ rfl,
    r_87 a1 a2 a3 a4 a5 a6 a7 a8 a9 a10 a13 a14 v23 v27 low X1 X2 X3 X4 X5 X6 X7 X8 X9 X10 X14 acc f]
  rfl

theorem r_98 : trip_k0_t1.sl.r_98 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 9).vi := by
  simp only [trip_k0_t1.sl.r_8, trip_k0_t1.sl.r_9, trip_k0_t1.sl.r_10, trip_k0_t1.sl.r_11, trip_k0_t1.sl.r_12, trip_k0_t1.sl.r_95, trip_k0_t1.sl.r_96, trip_k0_t1.sl.r_98, trip_k0_t1.sl.v1076, k0_pay116, k0_pay117, k0_pay118, k0_pay122, k0_pay120, shapeCast_self,
    rd _ 8 (by decide) _ rfl,
    r_87 a1 a2 a3 a4 a5 a6 a7 a8 a9 a10 a13 a14 v23 v27 low X1 X2 X3 X4 X5 X6 X7 X8 X9 X10 X14 acc f,
    r_88 a1 a2 a3 a4 a5 a6 a7 a8 a9 a10 a13 a14 v23 v27 low X1 X2 X3 X4 X5 X6 X7 X8 X9 X10 X14 acc f]
  rfl

theorem r_99 : trip_k0_t1.sl.r_99 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 9).x1 := by
  simp only [trip_k0_t1.sl.r_8, trip_k0_t1.sl.r_9, trip_k0_t1.sl.r_10, trip_k0_t1.sl.r_11, trip_k0_t1.sl.r_12, trip_k0_t1.sl.r_95, trip_k0_t1.sl.r_96, trip_k0_t1.sl.r_99, trip_k0_t1.sl.v1076, k0_pay116, k0_pay117, k0_pay118, k0_pay123, k0_pay120, shapeCast_self,
    rd _ 8 (by decide) _ rfl,
    r_87 a1 a2 a3 a4 a5 a6 a7 a8 a9 a10 a13 a14 v23 v27 low X1 X2 X3 X4 X5 X6 X7 X8 X9 X10 X14 acc f,
    r_89 a1 a2 a3 a4 a5 a6 a7 a8 a9 a10 a13 a14 v23 v27 low X1 X2 X3 X4 X5 X6 X7 X8 X9 X10 X14 acc f]
  rfl

theorem r_100 : trip_k0_t1.sl.r_100 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 9).y1 := by
  simp only [trip_k0_t1.sl.r_8, trip_k0_t1.sl.r_9, trip_k0_t1.sl.r_10, trip_k0_t1.sl.r_11, trip_k0_t1.sl.r_12, trip_k0_t1.sl.r_95, trip_k0_t1.sl.r_96, trip_k0_t1.sl.r_100, trip_k0_t1.sl.v1076, k0_pay116, k0_pay124, k0_pay117, k0_pay118, k0_pay120, shapeCast_self,
    rd _ 8 (by decide) _ rfl,
    r_87 a1 a2 a3 a4 a5 a6 a7 a8 a9 a10 a13 a14 v23 v27 low X1 X2 X3 X4 X5 X6 X7 X8 X9 X10 X14 acc f,
    r_90 a1 a2 a3 a4 a5 a6 a7 a8 a9 a10 a13 a14 v23 v27 low X1 X2 X3 X4 X5 X6 X7 X8 X9 X10 X14 acc f]
  rfl

theorem r_101 : trip_k0_t1.sl.r_101 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 9).x2 := by
  simp only [trip_k0_t1.sl.r_8, trip_k0_t1.sl.r_9, trip_k0_t1.sl.r_10, trip_k0_t1.sl.r_11, trip_k0_t1.sl.r_12, trip_k0_t1.sl.r_95, trip_k0_t1.sl.r_96, trip_k0_t1.sl.r_101, trip_k0_t1.sl.v1076, k0_pay116, k0_pay125, k0_pay117, k0_pay118, k0_pay120, shapeCast_self,
    rd _ 8 (by decide) _ rfl,
    r_87 a1 a2 a3 a4 a5 a6 a7 a8 a9 a10 a13 a14 v23 v27 low X1 X2 X3 X4 X5 X6 X7 X8 X9 X10 X14 acc f,
    r_91 a1 a2 a3 a4 a5 a6 a7 a8 a9 a10 a13 a14 v23 v27 low X1 X2 X3 X4 X5 X6 X7 X8 X9 X10 X14 acc f]
  rfl

theorem r_102 : trip_k0_t1.sl.r_102 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 9).y2 := by
  simp only [trip_k0_t1.sl.r_8, trip_k0_t1.sl.r_9, trip_k0_t1.sl.r_10, trip_k0_t1.sl.r_11, trip_k0_t1.sl.r_12, trip_k0_t1.sl.r_95, trip_k0_t1.sl.r_96, trip_k0_t1.sl.r_102, trip_k0_t1.sl.v1076, k0_pay116, k0_pay117, k0_pay118, k0_pay126, k0_pay120, shapeCast_self,
    rd _ 8 (by decide) _ rfl,
    r_87 a1 a2 a3 a4 a5 a6 a7 a8 a9 a10 a13 a14 v23 v27 low X1 X2 X3 X4 X5 X6 X7 X8 X9 X10 X14 acc f,
    r_92 a1 a2 a3 a4 a5 a6 a7 a8 a9 a10 a13 a14 v23 v27 low X1 X2 X3 X4 X5 X6 X7 X8 X9 X10 X14 acc f]
  rfl

theorem r_103 : trip_k0_t1.sl.r_103 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 9).sc := by
  simp only [trip_k0_t1.sl.r_8, trip_k0_t1.sl.r_9, trip_k0_t1.sl.r_10, trip_k0_t1.sl.r_11, trip_k0_t1.sl.r_12, trip_k0_t1.sl.r_95, trip_k0_t1.sl.r_96, trip_k0_t1.sl.r_103, trip_k0_t1.sl.v1076, k0_pay116, k0_pay127, k0_pay117, k0_pay118, k0_pay120, shapeCast_self,
    rd _ 8 (by decide) _ rfl,
    r_87 a1 a2 a3 a4 a5 a6 a7 a8 a9 a10 a13 a14 v23 v27 low X1 X2 X3 X4 X5 X6 X7 X8 X9 X10 X14 acc f,
    r_93 a1 a2 a3 a4 a5 a6 a7 a8 a9 a10 a13 a14 v23 v27 low X1 X2 X3 X4 X5 X6 X7 X8 X9 X10 X14 acc f]
  rfl

theorem r_104 : trip_k0_t1.sl.r_104 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 9).off := by
  simp only [trip_k0_t1.sl.r_8, trip_k0_t1.sl.r_9, trip_k0_t1.sl.r_10, trip_k0_t1.sl.r_11, trip_k0_t1.sl.r_12, trip_k0_t1.sl.r_95, trip_k0_t1.sl.r_96, trip_k0_t1.sl.r_104, trip_k0_t1.sl.v1076, k0_pay128, k0_pay116, k0_pay117, k0_pay118, k0_pay120, shapeCast_self,
    rd _ 8 (by decide) _ rfl,
    r_87 a1 a2 a3 a4 a5 a6 a7 a8 a9 a10 a13 a14 v23 v27 low X1 X2 X3 X4 X5 X6 X7 X8 X9 X10 X14 acc f,
    r_94 a1 a2 a3 a4 a5 a6 a7 a8 a9 a10 a13 a14 v23 v27 low X1 X2 X3 X4 X5 X6 X7 X8 X9 X10 X14 acc f]
  rfl

theorem r_107 : trip_k0_t1.sl.r_107 a1 a2 a3 a4 a13 a14 low X1 X2 X3 X4 X14 acc f =
    up (tn a1 a2 a3 a4 a5 a6 a7 a8 a9 a10 a13 a14 low X1 X2 X3 X4 X5 X6 X7 X8 X9 X10 X14 acc f 9) (tw a1 a2 a3 a4 a5 a6 a7 a8 a9 a10 a13 a14 v23 v27 low X1 X2 X3 X4 X5 X6 X7 X8 X9 X10 X14 acc f 9) := by
  simp only [trip_k0_t1.sl.r_8, trip_k0_t1.sl.r_9, trip_k0_t1.sl.r_10, trip_k0_t1.sl.r_11, trip_k0_t1.sl.r_12, trip_k0_t1.sl.r_105, trip_k0_t1.sl.r_106, trip_k0_t1.sl.r_107, trip_k0_t1.sl.v1132, k0_pay133, k0_pay129, k0_pay130, k0_pay131, shapeCast_self,
    rd _ 9 (by decide) _ rfl,
    r_97 a1 a2 a3 a4 a5 a6 a7 a8 a9 a10 a13 a14 v23 v27 low X1 X2 X3 X4 X5 X6 X7 X8 X9 X10 X14 acc f]
  rfl

theorem r_108 : trip_k0_t1.sl.r_108 a1 a2 a3 a4 a13 a14 low X1 X2 X3 X4 X14 acc f =
    (tw a1 a2 a3 a4 a5 a6 a7 a8 a9 a10 a13 a14 v23 v27 low X1 X2 X3 X4 X5 X6 X7 X8 X9 X10 X14 acc f 10).vm := by
  simp only [trip_k0_t1.sl.r_8, trip_k0_t1.sl.r_9, trip_k0_t1.sl.r_10, trip_k0_t1.sl.r_11, trip_k0_t1.sl.r_12, trip_k0_t1.sl.r_105, trip_k0_t1.sl.r_106, trip_k0_t1.sl.r_108, trip_k0_t1.sl.v1132, k0_pay129, k0_pay134, k0_pay130, k0_pay131, shapeCast_self,
    rd _ 9 (by decide) _ rfl,
    r_97 a1 a2 a3 a4 a5 a6 a7 a8 a9 a10 a13 a14 v23 v27 low X1 X2 X3 X4 X5 X6 X7 X8 X9 X10 X14 acc f]
  rfl

theorem r_109 : trip_k0_t1.sl.r_109 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 10).vi := by
  simp only [trip_k0_t1.sl.r_8, trip_k0_t1.sl.r_9, trip_k0_t1.sl.r_10, trip_k0_t1.sl.r_11, trip_k0_t1.sl.r_12, trip_k0_t1.sl.r_105, trip_k0_t1.sl.r_106, trip_k0_t1.sl.r_109, trip_k0_t1.sl.v1132, k0_pay133, k0_pay135, k0_pay129, k0_pay130, k0_pay131, shapeCast_self,
    rd _ 9 (by decide) _ rfl,
    r_97 a1 a2 a3 a4 a5 a6 a7 a8 a9 a10 a13 a14 v23 v27 low X1 X2 X3 X4 X5 X6 X7 X8 X9 X10 X14 acc f,
    r_98 a1 a2 a3 a4 a5 a6 a7 a8 a9 a10 a13 a14 v23 v27 low X1 X2 X3 X4 X5 X6 X7 X8 X9 X10 X14 acc f]
  rfl

theorem r_110 : trip_k0_t1.sl.r_110 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 10).x1 := by
  simp only [trip_k0_t1.sl.r_8, trip_k0_t1.sl.r_9, trip_k0_t1.sl.r_10, trip_k0_t1.sl.r_11, trip_k0_t1.sl.r_12, trip_k0_t1.sl.r_105, trip_k0_t1.sl.r_106, trip_k0_t1.sl.r_110, trip_k0_t1.sl.v1132, k0_pay133, k0_pay129, k0_pay136, k0_pay130, k0_pay131, shapeCast_self,
    rd _ 9 (by decide) _ rfl,
    r_97 a1 a2 a3 a4 a5 a6 a7 a8 a9 a10 a13 a14 v23 v27 low X1 X2 X3 X4 X5 X6 X7 X8 X9 X10 X14 acc f,
    r_99 a1 a2 a3 a4 a5 a6 a7 a8 a9 a10 a13 a14 v23 v27 low X1 X2 X3 X4 X5 X6 X7 X8 X9 X10 X14 acc f]
  rfl

theorem r_111 : trip_k0_t1.sl.r_111 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 10).y1 := by
  simp only [trip_k0_t1.sl.r_8, trip_k0_t1.sl.r_9, trip_k0_t1.sl.r_10, trip_k0_t1.sl.r_11, trip_k0_t1.sl.r_12, trip_k0_t1.sl.r_105, trip_k0_t1.sl.r_106, trip_k0_t1.sl.r_111, trip_k0_t1.sl.v1132, k0_pay137, k0_pay133, k0_pay129, k0_pay130, k0_pay131, shapeCast_self,
    rd _ 9 (by decide) _ rfl,
    r_97 a1 a2 a3 a4 a5 a6 a7 a8 a9 a10 a13 a14 v23 v27 low X1 X2 X3 X4 X5 X6 X7 X8 X9 X10 X14 acc f,
    r_100 a1 a2 a3 a4 a5 a6 a7 a8 a9 a10 a13 a14 v23 v27 low X1 X2 X3 X4 X5 X6 X7 X8 X9 X10 X14 acc f]
  rfl

theorem r_112 : trip_k0_t1.sl.r_112 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 10).x2 := by
  simp only [trip_k0_t1.sl.r_112, k0_pay138, shapeCast_self,
    rd _ 9 (by decide) _ rfl,
    r_101 a1 a2 a3 a4 a5 a6 a7 a8 a9 a10 a13 a14 v23 v27 low X1 X2 X3 X4 X5 X6 X7 X8 X9 X10 X14 acc f,
    r_107 a1 a2 a3 a4 a5 a6 a7 a8 a9 a10 a13 a14 v23 v27 low X1 X2 X3 X4 X5 X6 X7 X8 X9 X10 X14 acc f]
  rfl

theorem r_113 : trip_k0_t1.sl.r_113 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 10).y2 := by
  simp only [trip_k0_t1.sl.r_113, k0_pay139, shapeCast_self,
    rd _ 9 (by decide) _ rfl,
    r_102 a1 a2 a3 a4 a5 a6 a7 a8 a9 a10 a13 a14 v23 v27 low X1 X2 X3 X4 X5 X6 X7 X8 X9 X10 X14 acc f,
    r_107 a1 a2 a3 a4 a5 a6 a7 a8 a9 a10 a13 a14 v23 v27 low X1 X2 X3 X4 X5 X6 X7 X8 X9 X10 X14 acc f]
  rfl

theorem r_114 : trip_k0_t1.sl.r_114 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 10).sc := by
  simp only [trip_k0_t1.sl.r_114, k0_pay140, shapeCast_self,
    rd _ 9 (by decide) _ rfl,
    r_103 a1 a2 a3 a4 a5 a6 a7 a8 a9 a10 a13 a14 v23 v27 low X1 X2 X3 X4 X5 X6 X7 X8 X9 X10 X14 acc f,
    r_107 a1 a2 a3 a4 a5 a6 a7 a8 a9 a10 a13 a14 v23 v27 low X1 X2 X3 X4 X5 X6 X7 X8 X9 X10 X14 acc f]
  rfl

theorem r_115 : trip_k0_t1.sl.r_115 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 10).off := by
  simp only [trip_k0_t1.sl.r_115, k0_pay141, shapeCast_self,
    rd _ 9 (by decide) _ rfl,
    r_104 a1 a2 a3 a4 a5 a6 a7 a8 a9 a10 a13 a14 v23 v27 low X1 X2 X3 X4 X5 X6 X7 X8 X9 X10 X14 acc f,
    r_107 a1 a2 a3 a4 a5 a6 a7 a8 a9 a10 a13 a14 v23 v27 low X1 X2 X3 X4 X5 X6 X7 X8 X9 X10 X14 acc f]
  rfl

theorem r_117 : trip_k0_t1.sl.r_117 a1 a2 a3 a4 a13 a14 low X1 X2 X3 X4 X14 acc f =
    (tw a1 a2 a3 a4 a5 a6 a7 a8 a9 a10 a13 a14 v23 v27 low X1 X2 X3 X4 X5 X6 X7 X8 X9 X10 X14 acc f 11).vm := by
  simp only [trip_k0_t1.sl.r_8, trip_k0_t1.sl.r_9, trip_k0_t1.sl.r_10, trip_k0_t1.sl.r_11, trip_k0_t1.sl.r_12, trip_k0_t1.sl.r_116, trip_k0_t1.sl.r_117, trip_k0_t1.sl.v1188, k0_pay142, k0_pay143, k0_pay146, shapeCast_self,
    rd _ 10 (by decide) _ rfl,
    r_108 a1 a2 a3 a4 a5 a6 a7 a8 a9 a10 a13 a14 v23 v27 low X1 X2 X3 X4 X5 X6 X7 X8 X9 X10 X14 acc f]
  rfl

theorem r_118 : trip_k0_t1.sl.r_118 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 11).vi := by
  simp only [trip_k0_t1.sl.r_8, trip_k0_t1.sl.r_9, trip_k0_t1.sl.r_10, trip_k0_t1.sl.r_11, trip_k0_t1.sl.r_12, trip_k0_t1.sl.r_116, trip_k0_t1.sl.r_118, trip_k0_t1.sl.v1188, k0_pay142, k0_pay143, k0_pay145, k0_pay147, shapeCast_self,
    rd _ 10 (by decide) _ rfl,
    r_108 a1 a2 a3 a4 a5 a6 a7 a8 a9 a10 a13 a14 v23 v27 low X1 X2 X3 X4 X5 X6 X7 X8 X9 X10 X14 acc f,
    r_109 a1 a2 a3 a4 a5 a6 a7 a8 a9 a10 a13 a14 v23 v27 low X1 X2 X3 X4 X5 X6 X7 X8 X9 X10 X14 acc f]
  rfl

theorem r_119 : trip_k0_t1.sl.r_119 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 11).x1 := by
  simp only [trip_k0_t1.sl.r_8, trip_k0_t1.sl.r_9, trip_k0_t1.sl.r_10, trip_k0_t1.sl.r_11, trip_k0_t1.sl.r_12, trip_k0_t1.sl.r_116, trip_k0_t1.sl.r_119, trip_k0_t1.sl.v1188, k0_pay142, k0_pay143, k0_pay145, k0_pay148, shapeCast_self,
    rd _ 10 (by decide) _ rfl,
    r_108 a1 a2 a3 a4 a5 a6 a7 a8 a9 a10 a13 a14 v23 v27 low X1 X2 X3 X4 X5 X6 X7 X8 X9 X10 X14 acc f,
    r_110 a1 a2 a3 a4 a5 a6 a7 a8 a9 a10 a13 a14 v23 v27 low X1 X2 X3 X4 X5 X6 X7 X8 X9 X10 X14 acc f]
  rfl

theorem r_120 : trip_k0_t1.sl.r_120 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 11).y1 := by
  simp only [trip_k0_t1.sl.r_8, trip_k0_t1.sl.r_9, trip_k0_t1.sl.r_10, trip_k0_t1.sl.r_11, trip_k0_t1.sl.r_12, trip_k0_t1.sl.r_116, trip_k0_t1.sl.r_120, trip_k0_t1.sl.v1188, k0_pay142, k0_pay143, k0_pay149, k0_pay145, shapeCast_self,
    rd _ 10 (by decide) _ rfl,
    r_108 a1 a2 a3 a4 a5 a6 a7 a8 a9 a10 a13 a14 v23 v27 low X1 X2 X3 X4 X5 X6 X7 X8 X9 X10 X14 acc f,
    r_111 a1 a2 a3 a4 a5 a6 a7 a8 a9 a10 a13 a14 v23 v27 low X1 X2 X3 X4 X5 X6 X7 X8 X9 X10 X14 acc f]
  rfl

theorem r_121 : trip_k0_t1.sl.r_121 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 11).x2 := by
  simp only [trip_k0_t1.sl.r_8, trip_k0_t1.sl.r_9, trip_k0_t1.sl.r_10, trip_k0_t1.sl.r_11, trip_k0_t1.sl.r_12, trip_k0_t1.sl.r_116, trip_k0_t1.sl.r_121, trip_k0_t1.sl.v1188, k0_pay142, k0_pay143, k0_pay150, k0_pay145, shapeCast_self,
    rd _ 10 (by decide) _ rfl,
    r_108 a1 a2 a3 a4 a5 a6 a7 a8 a9 a10 a13 a14 v23 v27 low X1 X2 X3 X4 X5 X6 X7 X8 X9 X10 X14 acc f,
    r_112 a1 a2 a3 a4 a5 a6 a7 a8 a9 a10 a13 a14 v23 v27 low X1 X2 X3 X4 X5 X6 X7 X8 X9 X10 X14 acc f]
  rfl

theorem r_122 : trip_k0_t1.sl.r_122 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 11).y2 := by
  simp only [trip_k0_t1.sl.r_8, trip_k0_t1.sl.r_9, trip_k0_t1.sl.r_10, trip_k0_t1.sl.r_11, trip_k0_t1.sl.r_12, trip_k0_t1.sl.r_116, trip_k0_t1.sl.r_122, trip_k0_t1.sl.v1188, k0_pay142, k0_pay143, k0_pay145, k0_pay151, shapeCast_self,
    rd _ 10 (by decide) _ rfl,
    r_108 a1 a2 a3 a4 a5 a6 a7 a8 a9 a10 a13 a14 v23 v27 low X1 X2 X3 X4 X5 X6 X7 X8 X9 X10 X14 acc f,
    r_113 a1 a2 a3 a4 a5 a6 a7 a8 a9 a10 a13 a14 v23 v27 low X1 X2 X3 X4 X5 X6 X7 X8 X9 X10 X14 acc f]
  rfl

theorem r_123 : trip_k0_t1.sl.r_123 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 11).sc := by
  simp only [trip_k0_t1.sl.r_8, trip_k0_t1.sl.r_9, trip_k0_t1.sl.r_10, trip_k0_t1.sl.r_11, trip_k0_t1.sl.r_12, trip_k0_t1.sl.r_116, trip_k0_t1.sl.r_123, trip_k0_t1.sl.v1188, k0_pay142, k0_pay143, k0_pay145, k0_pay152, shapeCast_self,
    rd _ 10 (by decide) _ rfl,
    r_108 a1 a2 a3 a4 a5 a6 a7 a8 a9 a10 a13 a14 v23 v27 low X1 X2 X3 X4 X5 X6 X7 X8 X9 X10 X14 acc f,
    r_114 a1 a2 a3 a4 a5 a6 a7 a8 a9 a10 a13 a14 v23 v27 low X1 X2 X3 X4 X5 X6 X7 X8 X9 X10 X14 acc f]
  rfl

theorem r_124 : trip_k0_t1.sl.r_124 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 11).off := by
  simp only [trip_k0_t1.sl.r_8, trip_k0_t1.sl.r_9, trip_k0_t1.sl.r_10, trip_k0_t1.sl.r_11, trip_k0_t1.sl.r_12, trip_k0_t1.sl.r_116, trip_k0_t1.sl.r_124, trip_k0_t1.sl.v1188, k0_pay142, k0_pay143, k0_pay145, k0_pay153, shapeCast_self,
    rd _ 10 (by decide) _ rfl,
    r_108 a1 a2 a3 a4 a5 a6 a7 a8 a9 a10 a13 a14 v23 v27 low X1 X2 X3 X4 X5 X6 X7 X8 X9 X10 X14 acc f,
    r_115 a1 a2 a3 a4 a5 a6 a7 a8 a9 a10 a13 a14 v23 v27 low X1 X2 X3 X4 X5 X6 X7 X8 X9 X10 X14 acc f]
  rfl

theorem r_128 : trip_k0_t1.sl.r_128 a1 a2 a3 a4 a13 a14 low X1 X2 X3 X4 X14 acc f =
    up (tn a1 a2 a3 a4 a5 a6 a7 a8 a9 a10 a13 a14 low X1 X2 X3 X4 X5 X6 X7 X8 X9 X10 X14 acc f 11) (tw a1 a2 a3 a4 a5 a6 a7 a8 a9 a10 a13 a14 v23 v27 low X1 X2 X3 X4 X5 X6 X7 X8 X9 X10 X14 acc f 11) := by
  simp only [trip_k0_t1.sl.r_8, trip_k0_t1.sl.r_9, trip_k0_t1.sl.r_10, trip_k0_t1.sl.r_11, trip_k0_t1.sl.r_12, trip_k0_t1.sl.r_125, trip_k0_t1.sl.r_126, trip_k0_t1.sl.r_127, trip_k0_t1.sl.r_128, trip_k0_t1.sl.v1244, k0_pay155, k0_pay156, k0_pay154, k0_pay158, shapeCast_self,
    rd _ 11 (by decide) _ rfl,
    r_117 a1 a2 a3 a4 a5 a6 a7 a8 a9 a10 a13 a14 v23 v27 low X1 X2 X3 X4 X5 X6 X7 X8 X9 X10 X14 acc f]
  rfl

theorem r_129 : trip_k0_t1.sl.r_129 a1 a2 a3 a4 a13 a14 low X1 X2 X3 X4 X14 acc f =
    (tw a1 a2 a3 a4 a5 a6 a7 a8 a9 a10 a13 a14 v23 v27 low X1 X2 X3 X4 X5 X6 X7 X8 X9 X10 X14 acc f 12).vm := by
  simp only [trip_k0_t1.sl.r_8, trip_k0_t1.sl.r_9, trip_k0_t1.sl.r_10, trip_k0_t1.sl.r_11, trip_k0_t1.sl.r_12, trip_k0_t1.sl.r_125, trip_k0_t1.sl.r_126, trip_k0_t1.sl.r_127, trip_k0_t1.sl.r_129, trip_k0_t1.sl.v1244, k0_pay155, k0_pay156, k0_pay154, k0_pay159, shapeCast_self,
    rd _ 11 (by decide) _ rfl,
    r_117 a1 a2 a3 a4 a5 a6 a7 a8 a9 a10 a13 a14 v23 v27 low X1 X2 X3 X4 X5 X6 X7 X8 X9 X10 X14 acc f]
  rfl

theorem r_130 : trip_k0_t1.sl.r_130 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 12).vi := by
  simp only [trip_k0_t1.sl.r_8, trip_k0_t1.sl.r_9, trip_k0_t1.sl.r_10, trip_k0_t1.sl.r_11, trip_k0_t1.sl.r_12, trip_k0_t1.sl.r_125, trip_k0_t1.sl.r_126, trip_k0_t1.sl.r_127, trip_k0_t1.sl.r_130, trip_k0_t1.sl.v1244, k0_pay155, k0_pay156, k0_pay154, k0_pay160, k0_pay158, shapeCast_self,
    rd _ 11 (by decide) _ rfl,
    r_117 a1 a2 a3 a4 a5 a6 a7 a8 a9 a10 a13 a14 v23 v27 low X1 X2 X3 X4 X5 X6 X7 X8 X9 X10 X14 acc f,
    r_118 a1 a2 a3 a4 a5 a6 a7 a8 a9 a10 a13 a14 v23 v27 low X1 X2 X3 X4 X5 X6 X7 X8 X9 X10 X14 acc f]
  rfl

theorem r_131 : trip_k0_t1.sl.r_131 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 12).x1 := by
  simp only [trip_k0_t1.sl.r_8, trip_k0_t1.sl.r_9, trip_k0_t1.sl.r_10, trip_k0_t1.sl.r_11, trip_k0_t1.sl.r_12, trip_k0_t1.sl.r_125, trip_k0_t1.sl.r_126, trip_k0_t1.sl.r_127, trip_k0_t1.sl.r_131, trip_k0_t1.sl.v1244, k0_pay161, k0_pay155, k0_pay156, k0_pay154, k0_pay158, shapeCast_self,
    rd _ 11 (by decide) _ rfl,
    r_117 a1 a2 a3 a4 a5 a6 a7 a8 a9 a10 a13 a14 v23 v27 low X1 X2 X3 X4 X5 X6 X7 X8 X9 X10 X14 acc f,
    r_119 a1 a2 a3 a4 a5 a6 a7 a8 a9 a10 a13 a14 v23 v27 low X1 X2 X3 X4 X5 X6 X7 X8 X9 X10 X14 acc f]
  rfl

theorem r_132 : trip_k0_t1.sl.r_132 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 12).y1 := by
  simp only [trip_k0_t1.sl.r_8, trip_k0_t1.sl.r_9, trip_k0_t1.sl.r_10, trip_k0_t1.sl.r_11, trip_k0_t1.sl.r_12, trip_k0_t1.sl.r_125, trip_k0_t1.sl.r_126, trip_k0_t1.sl.r_127, trip_k0_t1.sl.r_132, trip_k0_t1.sl.v1244, k0_pay155, k0_pay156, k0_pay154, k0_pay162, k0_pay158, shapeCast_self,
    rd _ 11 (by decide) _ rfl,
    r_117 a1 a2 a3 a4 a5 a6 a7 a8 a9 a10 a13 a14 v23 v27 low X1 X2 X3 X4 X5 X6 X7 X8 X9 X10 X14 acc f,
    r_120 a1 a2 a3 a4 a5 a6 a7 a8 a9 a10 a13 a14 v23 v27 low X1 X2 X3 X4 X5 X6 X7 X8 X9 X10 X14 acc f]
  rfl

theorem r_133 : trip_k0_t1.sl.r_133 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 12).x2 := by
  simp only [trip_k0_t1.sl.r_8, trip_k0_t1.sl.r_9, trip_k0_t1.sl.r_10, trip_k0_t1.sl.r_11, trip_k0_t1.sl.r_12, trip_k0_t1.sl.r_125, trip_k0_t1.sl.r_126, trip_k0_t1.sl.r_127, trip_k0_t1.sl.r_133, trip_k0_t1.sl.v1244, k0_pay163, k0_pay155, k0_pay156, k0_pay154, k0_pay158, shapeCast_self,
    rd _ 11 (by decide) _ rfl,
    r_117 a1 a2 a3 a4 a5 a6 a7 a8 a9 a10 a13 a14 v23 v27 low X1 X2 X3 X4 X5 X6 X7 X8 X9 X10 X14 acc f,
    r_121 a1 a2 a3 a4 a5 a6 a7 a8 a9 a10 a13 a14 v23 v27 low X1 X2 X3 X4 X5 X6 X7 X8 X9 X10 X14 acc f]
  rfl

theorem r_134 : trip_k0_t1.sl.r_134 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 12).y2 := by
  simp only [trip_k0_t1.sl.r_134, k0_pay164, shapeCast_self,
    rd _ 11 (by decide) _ rfl,
    r_122 a1 a2 a3 a4 a5 a6 a7 a8 a9 a10 a13 a14 v23 v27 low X1 X2 X3 X4 X5 X6 X7 X8 X9 X10 X14 acc f,
    r_128 a1 a2 a3 a4 a5 a6 a7 a8 a9 a10 a13 a14 v23 v27 low X1 X2 X3 X4 X5 X6 X7 X8 X9 X10 X14 acc f]
  rfl

theorem r_135 : trip_k0_t1.sl.r_135 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 12).sc := by
  simp only [trip_k0_t1.sl.r_135, k0_pay165, shapeCast_self,
    rd _ 11 (by decide) _ rfl,
    r_123 a1 a2 a3 a4 a5 a6 a7 a8 a9 a10 a13 a14 v23 v27 low X1 X2 X3 X4 X5 X6 X7 X8 X9 X10 X14 acc f,
    r_128 a1 a2 a3 a4 a5 a6 a7 a8 a9 a10 a13 a14 v23 v27 low X1 X2 X3 X4 X5 X6 X7 X8 X9 X10 X14 acc f]
  rfl

theorem r_136 : trip_k0_t1.sl.r_136 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 12).off := by
  simp only [trip_k0_t1.sl.r_136, k0_pay166, shapeCast_self,
    rd _ 11 (by decide) _ rfl,
    r_124 a1 a2 a3 a4 a5 a6 a7 a8 a9 a10 a13 a14 v23 v27 low X1 X2 X3 X4 X5 X6 X7 X8 X9 X10 X14 acc f,
    r_128 a1 a2 a3 a4 a5 a6 a7 a8 a9 a10 a13 a14 v23 v27 low X1 X2 X3 X4 X5 X6 X7 X8 X9 X10 X14 acc f]
  rfl

theorem r_138 : trip_k0_t1.sl.r_138 a1 a2 a3 a4 a13 a14 low X1 X2 X3 X4 X14 acc f =
    (tw a1 a2 a3 a4 a5 a6 a7 a8 a9 a10 a13 a14 v23 v27 low X1 X2 X3 X4 X5 X6 X7 X8 X9 X10 X14 acc f 13).vm := by
  simp only [trip_k0_t1.sl.r_8, trip_k0_t1.sl.r_9, trip_k0_t1.sl.r_10, trip_k0_t1.sl.r_11, trip_k0_t1.sl.r_12, trip_k0_t1.sl.r_137, trip_k0_t1.sl.r_138, trip_k0_t1.sl.v1300, k0_pay169, k0_pay168, k0_pay172, k0_pay167, shapeCast_self,
    rd _ 12 (by decide) _ rfl,
    r_129 a1 a2 a3 a4 a5 a6 a7 a8 a9 a10 a13 a14 v23 v27 low X1 X2 X3 X4 X5 X6 X7 X8 X9 X10 X14 acc f]
  rfl

theorem r_139 : trip_k0_t1.sl.r_139 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 13).vi := by
  simp only [trip_k0_t1.sl.r_8, trip_k0_t1.sl.r_9, trip_k0_t1.sl.r_10, trip_k0_t1.sl.r_11, trip_k0_t1.sl.r_12, trip_k0_t1.sl.r_137, trip_k0_t1.sl.r_139, trip_k0_t1.sl.v1300, k0_pay173, k0_pay169, k0_pay168, k0_pay167, k0_pay171, shapeCast_self,
    rd _ 12 (by decide) _ rfl,
    r_129 a1 a2 a3 a4 a5 a6 a7 a8 a9 a10 a13 a14 v23 v27 low X1 X2 X3 X4 X5 X6 X7 X8 X9 X10 X14 acc f,
    r_130 a1 a2 a3 a4 a5 a6 a7 a8 a9 a10 a13 a14 v23 v27 low X1 X2 X3 X4 X5 X6 X7 X8 X9 X10 X14 acc f]
  rfl

theorem r_140 : trip_k0_t1.sl.r_140 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 13).x1 := by
  simp only [trip_k0_t1.sl.r_8, trip_k0_t1.sl.r_9, trip_k0_t1.sl.r_10, trip_k0_t1.sl.r_11, trip_k0_t1.sl.r_12, trip_k0_t1.sl.r_137, trip_k0_t1.sl.r_140, trip_k0_t1.sl.v1300, k0_pay169, k0_pay168, k0_pay174, k0_pay167, k0_pay171, shapeCast_self,
    rd _ 12 (by decide) _ rfl,
    r_129 a1 a2 a3 a4 a5 a6 a7 a8 a9 a10 a13 a14 v23 v27 low X1 X2 X3 X4 X5 X6 X7 X8 X9 X10 X14 acc f,
    r_131 a1 a2 a3 a4 a5 a6 a7 a8 a9 a10 a13 a14 v23 v27 low X1 X2 X3 X4 X5 X6 X7 X8 X9 X10 X14 acc f]
  rfl

theorem r_141 : trip_k0_t1.sl.r_141 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 13).y1 := by
  simp only [trip_k0_t1.sl.r_8, trip_k0_t1.sl.r_9, trip_k0_t1.sl.r_10, trip_k0_t1.sl.r_11, trip_k0_t1.sl.r_12, trip_k0_t1.sl.r_137, trip_k0_t1.sl.r_141, trip_k0_t1.sl.v1300, k0_pay175, k0_pay169, k0_pay168, k0_pay167, k0_pay171, shapeCast_self,
    rd _ 12 (by decide) _ rfl,
    r_129 a1 a2 a3 a4 a5 a6 a7 a8 a9 a10 a13 a14 v23 v27 low X1 X2 X3 X4 X5 X6 X7 X8 X9 X10 X14 acc f,
    r_132 a1 a2 a3 a4 a5 a6 a7 a8 a9 a10 a13 a14 v23 v27 low X1 X2 X3 X4 X5 X6 X7 X8 X9 X10 X14 acc f]
  rfl

theorem r_142 : trip_k0_t1.sl.r_142 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 13).x2 := by
  simp only [trip_k0_t1.sl.r_8, trip_k0_t1.sl.r_9, trip_k0_t1.sl.r_10, trip_k0_t1.sl.r_11, trip_k0_t1.sl.r_12, trip_k0_t1.sl.r_137, trip_k0_t1.sl.r_142, trip_k0_t1.sl.v1300, k0_pay176, k0_pay169, k0_pay168, k0_pay167, k0_pay171, shapeCast_self,
    rd _ 12 (by decide) _ rfl,
    r_129 a1 a2 a3 a4 a5 a6 a7 a8 a9 a10 a13 a14 v23 v27 low X1 X2 X3 X4 X5 X6 X7 X8 X9 X10 X14 acc f,
    r_133 a1 a2 a3 a4 a5 a6 a7 a8 a9 a10 a13 a14 v23 v27 low X1 X2 X3 X4 X5 X6 X7 X8 X9 X10 X14 acc f]
  rfl

theorem r_143 : trip_k0_t1.sl.r_143 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 13).y2 := by
  simp only [trip_k0_t1.sl.r_8, trip_k0_t1.sl.r_9, trip_k0_t1.sl.r_10, trip_k0_t1.sl.r_11, trip_k0_t1.sl.r_12, trip_k0_t1.sl.r_137, trip_k0_t1.sl.r_143, trip_k0_t1.sl.v1300, k0_pay177, k0_pay169, k0_pay168, k0_pay167, k0_pay171, shapeCast_self,
    rd _ 12 (by decide) _ rfl,
    r_129 a1 a2 a3 a4 a5 a6 a7 a8 a9 a10 a13 a14 v23 v27 low X1 X2 X3 X4 X5 X6 X7 X8 X9 X10 X14 acc f,
    r_134 a1 a2 a3 a4 a5 a6 a7 a8 a9 a10 a13 a14 v23 v27 low X1 X2 X3 X4 X5 X6 X7 X8 X9 X10 X14 acc f]
  rfl

theorem r_144 : trip_k0_t1.sl.r_144 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 13).sc := by
  simp only [trip_k0_t1.sl.r_8, trip_k0_t1.sl.r_9, trip_k0_t1.sl.r_10, trip_k0_t1.sl.r_11, trip_k0_t1.sl.r_12, trip_k0_t1.sl.r_137, trip_k0_t1.sl.r_144, trip_k0_t1.sl.v1300, k0_pay169, k0_pay168, k0_pay178, k0_pay167, k0_pay171, shapeCast_self,
    rd _ 12 (by decide) _ rfl,
    r_129 a1 a2 a3 a4 a5 a6 a7 a8 a9 a10 a13 a14 v23 v27 low X1 X2 X3 X4 X5 X6 X7 X8 X9 X10 X14 acc f,
    r_135 a1 a2 a3 a4 a5 a6 a7 a8 a9 a10 a13 a14 v23 v27 low X1 X2 X3 X4 X5 X6 X7 X8 X9 X10 X14 acc f]
  rfl

theorem r_145 : trip_k0_t1.sl.r_145 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 13).off := by
  simp only [trip_k0_t1.sl.r_8, trip_k0_t1.sl.r_9, trip_k0_t1.sl.r_10, trip_k0_t1.sl.r_11, trip_k0_t1.sl.r_12, trip_k0_t1.sl.r_137, trip_k0_t1.sl.r_145, trip_k0_t1.sl.v1300, k0_pay169, k0_pay168, k0_pay179, k0_pay167, k0_pay171, shapeCast_self,
    rd _ 12 (by decide) _ rfl,
    r_129 a1 a2 a3 a4 a5 a6 a7 a8 a9 a10 a13 a14 v23 v27 low X1 X2 X3 X4 X5 X6 X7 X8 X9 X10 X14 acc f,
    r_136 a1 a2 a3 a4 a5 a6 a7 a8 a9 a10 a13 a14 v23 v27 low X1 X2 X3 X4 X5 X6 X7 X8 X9 X10 X14 acc f]
  rfl

theorem r_149 : trip_k0_t1.sl.r_149 a1 a2 a3 a4 a13 a14 low X1 X2 X3 X4 X14 acc f =
    up (tn a1 a2 a3 a4 a5 a6 a7 a8 a9 a10 a13 a14 low X1 X2 X3 X4 X5 X6 X7 X8 X9 X10 X14 acc f 13) (tw a1 a2 a3 a4 a5 a6 a7 a8 a9 a10 a13 a14 v23 v27 low X1 X2 X3 X4 X5 X6 X7 X8 X9 X10 X14 acc f 13) := by
  simp only [trip_k0_t1.sl.r_8, trip_k0_t1.sl.r_9, trip_k0_t1.sl.r_10, trip_k0_t1.sl.r_11, trip_k0_t1.sl.r_12, trip_k0_t1.sl.r_146, trip_k0_t1.sl.r_147, trip_k0_t1.sl.r_148, trip_k0_t1.sl.r_149, trip_k0_t1.sl.v1356, k0_pay182, k0_pay180, k0_pay183, k0_pay185, k0_pay181, shapeCast_self,
    rd _ 13 (by decide) _ rfl,
    r_138 a1 a2 a3 a4 a5 a6 a7 a8 a9 a10 a13 a14 v23 v27 low X1 X2 X3 X4 X5 X6 X7 X8 X9 X10 X14 acc f]
  rfl

theorem r_150 : trip_k0_t1.sl.r_150 a1 a2 a3 a4 a13 a14 low X1 X2 X3 X4 X14 acc f =
    (tw a1 a2 a3 a4 a5 a6 a7 a8 a9 a10 a13 a14 v23 v27 low X1 X2 X3 X4 X5 X6 X7 X8 X9 X10 X14 acc f 14).vm := by
  simp only [trip_k0_t1.sl.r_8, trip_k0_t1.sl.r_9, trip_k0_t1.sl.r_10, trip_k0_t1.sl.r_11, trip_k0_t1.sl.r_12, trip_k0_t1.sl.r_146, trip_k0_t1.sl.r_147, trip_k0_t1.sl.r_148, trip_k0_t1.sl.r_150, trip_k0_t1.sl.v1356, k0_pay182, k0_pay180, k0_pay186, k0_pay183, k0_pay181, shapeCast_self,
    rd _ 13 (by decide) _ rfl,
    r_138 a1 a2 a3 a4 a5 a6 a7 a8 a9 a10 a13 a14 v23 v27 low X1 X2 X3 X4 X5 X6 X7 X8 X9 X10 X14 acc f]
  rfl

theorem r_151 : trip_k0_t1.sl.r_151 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 14).vi := by
  simp only [trip_k0_t1.sl.r_8, trip_k0_t1.sl.r_9, trip_k0_t1.sl.r_10, trip_k0_t1.sl.r_11, trip_k0_t1.sl.r_12, trip_k0_t1.sl.r_146, trip_k0_t1.sl.r_147, trip_k0_t1.sl.r_148, trip_k0_t1.sl.r_151, trip_k0_t1.sl.v1356, k0_pay182, k0_pay180, k0_pay187, k0_pay185, k0_pay183, k0_pay181, shapeCast_self,
    rd _ 13 (by decide) _ rfl,
    r_138 a1 a2 a3 a4 a5 a6 a7 a8 a9 a10 a13 a14 v23 v27 low X1 X2 X3 X4 X5 X6 X7 X8 X9 X10 X14 acc f,
    r_139 a1 a2 a3 a4 a5 a6 a7 a8 a9 a10 a13 a14 v23 v27 low X1 X2 X3 X4 X5 X6 X7 X8 X9 X10 X14 acc f]
  rfl

theorem r_152 : trip_k0_t1.sl.r_152 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 14).x1 := by
  simp only [trip_k0_t1.sl.r_8, trip_k0_t1.sl.r_9, trip_k0_t1.sl.r_10, trip_k0_t1.sl.r_11, trip_k0_t1.sl.r_12, trip_k0_t1.sl.r_146, trip_k0_t1.sl.r_147, trip_k0_t1.sl.r_148, trip_k0_t1.sl.r_152, trip_k0_t1.sl.v1356, k0_pay182, k0_pay180, k0_pay188, k0_pay185, k0_pay183, k0_pay181, shapeCast_self,
    rd _ 13 (by decide) _ rfl,
    r_138 a1 a2 a3 a4 a5 a6 a7 a8 a9 a10 a13 a14 v23 v27 low X1 X2 X3 X4 X5 X6 X7 X8 X9 X10 X14 acc f,
    r_140 a1 a2 a3 a4 a5 a6 a7 a8 a9 a10 a13 a14 v23 v27 low X1 X2 X3 X4 X5 X6 X7 X8 X9 X10 X14 acc f]
  rfl

theorem r_153 : trip_k0_t1.sl.r_153 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 14).y1 := by
  simp only [trip_k0_t1.sl.r_8, trip_k0_t1.sl.r_9, trip_k0_t1.sl.r_10, trip_k0_t1.sl.r_11, trip_k0_t1.sl.r_12, trip_k0_t1.sl.r_146, trip_k0_t1.sl.r_147, trip_k0_t1.sl.r_148, trip_k0_t1.sl.r_153, trip_k0_t1.sl.v1356, k0_pay182, k0_pay180, k0_pay185, k0_pay183, k0_pay181, k0_pay189, shapeCast_self,
    rd _ 13 (by decide) _ rfl,
    r_138 a1 a2 a3 a4 a5 a6 a7 a8 a9 a10 a13 a14 v23 v27 low X1 X2 X3 X4 X5 X6 X7 X8 X9 X10 X14 acc f,
    r_141 a1 a2 a3 a4 a5 a6 a7 a8 a9 a10 a13 a14 v23 v27 low X1 X2 X3 X4 X5 X6 X7 X8 X9 X10 X14 acc f]
  rfl

theorem r_154 : trip_k0_t1.sl.r_154 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 14).x2 := by
  simp only [trip_k0_t1.sl.r_8, trip_k0_t1.sl.r_9, trip_k0_t1.sl.r_10, trip_k0_t1.sl.r_11, trip_k0_t1.sl.r_12, trip_k0_t1.sl.r_146, trip_k0_t1.sl.r_147, trip_k0_t1.sl.r_148, trip_k0_t1.sl.r_154, trip_k0_t1.sl.v1356, k0_pay182, k0_pay180, k0_pay185, k0_pay183, k0_pay181, k0_pay190, shapeCast_self,
    rd _ 13 (by decide) _ rfl,
    r_138 a1 a2 a3 a4 a5 a6 a7 a8 a9 a10 a13 a14 v23 v27 low X1 X2 X3 X4 X5 X6 X7 X8 X9 X10 X14 acc f,
    r_142 a1 a2 a3 a4 a5 a6 a7 a8 a9 a10 a13 a14 v23 v27 low X1 X2 X3 X4 X5 X6 X7 X8 X9 X10 X14 acc f]
  rfl

theorem r_156 : trip_k0_t1.sl.r_156 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 14).y2 := by
  simp only [trip_k0_t1.sl.r_155, trip_k0_t1.sl.r_156, k0_pay192, k0_pay191, shapeCast_self,
    rd _ 13 (by decide) _ rfl,
    r_143 a1 a2 a3 a4 a5 a6 a7 a8 a9 a10 a13 a14 v23 v27 low X1 X2 X3 X4 X5 X6 X7 X8 X9 X10 X14 acc f,
    r_149 a1 a2 a3 a4 a5 a6 a7 a8 a9 a10 a13 a14 v23 v27 low X1 X2 X3 X4 X5 X6 X7 X8 X9 X10 X14 acc f]
  rfl

theorem r_157 : trip_k0_t1.sl.r_157 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 14).sc := by
  simp only [trip_k0_t1.sl.r_157, k0_pay193, shapeCast_self,
    rd _ 13 (by decide) _ rfl,
    r_144 a1 a2 a3 a4 a5 a6 a7 a8 a9 a10 a13 a14 v23 v27 low X1 X2 X3 X4 X5 X6 X7 X8 X9 X10 X14 acc f,
    r_149 a1 a2 a3 a4 a5 a6 a7 a8 a9 a10 a13 a14 v23 v27 low X1 X2 X3 X4 X5 X6 X7 X8 X9 X10 X14 acc f]
  rfl

theorem r_158 : trip_k0_t1.sl.r_158 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 14).off := by
  simp only [trip_k0_t1.sl.r_158, k0_pay194, shapeCast_self,
    rd _ 13 (by decide) _ rfl,
    r_145 a1 a2 a3 a4 a5 a6 a7 a8 a9 a10 a13 a14 v23 v27 low X1 X2 X3 X4 X5 X6 X7 X8 X9 X10 X14 acc f,
    r_149 a1 a2 a3 a4 a5 a6 a7 a8 a9 a10 a13 a14 v23 v27 low X1 X2 X3 X4 X5 X6 X7 X8 X9 X10 X14 acc f]
  rfl

theorem r_159 : trip_k0_t1.sl.r_159 a1 a2 a3 a4 a13 a14 low X1 X2 X3 X4 X14 acc f =
    tn a1 a2 a3 a4 a5 a6 a7 a8 a9 a10 a13 a14 low X1 X2 X3 X4 X5 X6 X7 X8 X9 X10 X14 acc f 14 := by
  simp only [trip_k0_t1.sl.r_8, trip_k0_t1.sl.r_9, trip_k0_t1.sl.r_10, trip_k0_t1.sl.r_11, trip_k0_t1.sl.r_12, trip_k0_t1.sl.r_159, trip_k0_t1.sl.v1412, k0_pay195, shapeCast_self,
    rd _ 14 (by decide) _ rfl]
  rfl

theorem r_160 : trip_k0_t1.sl.r_160 a1 a2 a3 a4 a13 a14 low X1 X2 X3 X4 X14 acc f =
    (tw a1 a2 a3 a4 a5 a6 a7 a8 a9 a10 a13 a14 v23 v27 low X1 X2 X3 X4 X5 X6 X7 X8 X9 X10 X14 acc f 15).vm := by
  simp only [trip_k0_t1.sl.r_160, k0_pay198, shapeCast_self,
    rd _ 14 (by decide) _ rfl,
    r_150 a1 a2 a3 a4 a5 a6 a7 a8 a9 a10 a13 a14 v23 v27 low X1 X2 X3 X4 X5 X6 X7 X8 X9 X10 X14 acc f,
    r_159 a1 a2 a3 a4 a5 a6 a7 a8 a9 a10 a13 a14 low X1 X2 X3 X4 X5 X6 X7 X8 X9 X10 X14 acc f]
  rfl

theorem r_161 : trip_k0_t1.sl.r_161 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 15).vi := by
  simp only [trip_k0_t1.sl.r_161, k0_pay197, k0_pay199, shapeCast_self,
    rd _ 14 (by decide) _ rfl,
    r_150 a1 a2 a3 a4 a5 a6 a7 a8 a9 a10 a13 a14 v23 v27 low X1 X2 X3 X4 X5 X6 X7 X8 X9 X10 X14 acc f,
    r_151 a1 a2 a3 a4 a5 a6 a7 a8 a9 a10 a13 a14 v23 v27 low X1 X2 X3 X4 X5 X6 X7 X8 X9 X10 X14 acc f,
    r_159 a1 a2 a3 a4 a5 a6 a7 a8 a9 a10 a13 a14 low X1 X2 X3 X4 X5 X6 X7 X8 X9 X10 X14 acc f]
  rfl

theorem r_162 : trip_k0_t1.sl.r_162 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 15).x1 := by
  simp only [trip_k0_t1.sl.r_162, k0_pay197, k0_pay200, shapeCast_self,
    rd _ 14 (by decide) _ rfl,
    r_150 a1 a2 a3 a4 a5 a6 a7 a8 a9 a10 a13 a14 v23 v27 low X1 X2 X3 X4 X5 X6 X7 X8 X9 X10 X14 acc f,
    r_152 a1 a2 a3 a4 a5 a6 a7 a8 a9 a10 a13 a14 v23 v27 low X1 X2 X3 X4 X5 X6 X7 X8 X9 X10 X14 acc f,
    r_159 a1 a2 a3 a4 a5 a6 a7 a8 a9 a10 a13 a14 low X1 X2 X3 X4 X5 X6 X7 X8 X9 X10 X14 acc f]
  rfl

theorem r_163 : trip_k0_t1.sl.r_163 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 15).y1 := by
  simp only [trip_k0_t1.sl.r_163, k0_pay201, k0_pay197, shapeCast_self,
    rd _ 14 (by decide) _ rfl,
    r_150 a1 a2 a3 a4 a5 a6 a7 a8 a9 a10 a13 a14 v23 v27 low X1 X2 X3 X4 X5 X6 X7 X8 X9 X10 X14 acc f,
    r_153 a1 a2 a3 a4 a5 a6 a7 a8 a9 a10 a13 a14 v23 v27 low X1 X2 X3 X4 X5 X6 X7 X8 X9 X10 X14 acc f,
    r_159 a1 a2 a3 a4 a5 a6 a7 a8 a9 a10 a13 a14 low X1 X2 X3 X4 X5 X6 X7 X8 X9 X10 X14 acc f]
  rfl

theorem r_164 : trip_k0_t1.sl.r_164 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 15).x2 := by
  simp only [trip_k0_t1.sl.r_164, k0_pay202, k0_pay197, shapeCast_self,
    rd _ 14 (by decide) _ rfl,
    r_150 a1 a2 a3 a4 a5 a6 a7 a8 a9 a10 a13 a14 v23 v27 low X1 X2 X3 X4 X5 X6 X7 X8 X9 X10 X14 acc f,
    r_154 a1 a2 a3 a4 a5 a6 a7 a8 a9 a10 a13 a14 v23 v27 low X1 X2 X3 X4 X5 X6 X7 X8 X9 X10 X14 acc f,
    r_159 a1 a2 a3 a4 a5 a6 a7 a8 a9 a10 a13 a14 low X1 X2 X3 X4 X5 X6 X7 X8 X9 X10 X14 acc f]
  rfl

theorem r_165 : trip_k0_t1.sl.r_165 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 15).y2 := by
  simp only [trip_k0_t1.sl.r_165, k0_pay197, k0_pay203, shapeCast_self,
    rd _ 14 (by decide) _ rfl,
    r_150 a1 a2 a3 a4 a5 a6 a7 a8 a9 a10 a13 a14 v23 v27 low X1 X2 X3 X4 X5 X6 X7 X8 X9 X10 X14 acc f,
    r_156 a1 a2 a3 a4 a5 a6 a7 a8 a9 a10 a13 a14 v23 v27 low X1 X2 X3 X4 X5 X6 X7 X8 X9 X10 X14 acc f,
    r_159 a1 a2 a3 a4 a5 a6 a7 a8 a9 a10 a13 a14 low X1 X2 X3 X4 X5 X6 X7 X8 X9 X10 X14 acc f]
  rfl

theorem r_166 : trip_k0_t1.sl.r_166 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 15).sc := by
  simp only [trip_k0_t1.sl.r_166, k0_pay204, k0_pay197, shapeCast_self,
    rd _ 14 (by decide) _ rfl,
    r_150 a1 a2 a3 a4 a5 a6 a7 a8 a9 a10 a13 a14 v23 v27 low X1 X2 X3 X4 X5 X6 X7 X8 X9 X10 X14 acc f,
    r_157 a1 a2 a3 a4 a5 a6 a7 a8 a9 a10 a13 a14 v23 v27 low X1 X2 X3 X4 X5 X6 X7 X8 X9 X10 X14 acc f,
    r_159 a1 a2 a3 a4 a5 a6 a7 a8 a9 a10 a13 a14 low X1 X2 X3 X4 X5 X6 X7 X8 X9 X10 X14 acc f]
  rfl

theorem r_167 : trip_k0_t1.sl.r_167 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 15).off := by
  simp only [trip_k0_t1.sl.r_167, k0_pay205, k0_pay197, shapeCast_self,
    rd _ 14 (by decide) _ rfl,
    r_150 a1 a2 a3 a4 a5 a6 a7 a8 a9 a10 a13 a14 v23 v27 low X1 X2 X3 X4 X5 X6 X7 X8 X9 X10 X14 acc f,
    r_158 a1 a2 a3 a4 a5 a6 a7 a8 a9 a10 a13 a14 v23 v27 low X1 X2 X3 X4 X5 X6 X7 X8 X9 X10 X14 acc f,
    r_159 a1 a2 a3 a4 a5 a6 a7 a8 a9 a10 a13 a14 low X1 X2 X3 X4 X5 X6 X7 X8 X9 X10 X14 acc f]
  rfl

theorem r_171 : trip_k0_t1.sl.r_171 a1 a2 a3 a4 a13 a14 low X1 X2 X3 X4 X14 acc f =
    up (tn a1 a2 a3 a4 a5 a6 a7 a8 a9 a10 a13 a14 low X1 X2 X3 X4 X5 X6 X7 X8 X9 X10 X14 acc f 15) (tw a1 a2 a3 a4 a5 a6 a7 a8 a9 a10 a13 a14 v23 v27 low X1 X2 X3 X4 X5 X6 X7 X8 X9 X10 X14 acc f 15) := by
  simp only [trip_k0_t1.sl.r_8, trip_k0_t1.sl.r_9, trip_k0_t1.sl.r_10, trip_k0_t1.sl.r_11, trip_k0_t1.sl.r_12, trip_k0_t1.sl.r_168, trip_k0_t1.sl.r_169, trip_k0_t1.sl.r_170, trip_k0_t1.sl.r_171, trip_k0_t1.sl.v1468, k0_pay207, k0_pay206, k0_pay208, k0_pay209, k0_pay211, shapeCast_self,
    rd _ 15 (by decide) _ rfl,
    r_160 a1 a2 a3 a4 a5 a6 a7 a8 a9 a10 a13 a14 v23 v27 low X1 X2 X3 X4 X5 X6 X7 X8 X9 X10 X14 acc f]
  rfl

theorem r_172 : trip_k0_t1.sl.r_172 a1 a2 a3 a4 a13 a14 low X1 X2 X3 X4 X14 acc f =
    (tw a1 a2 a3 a4 a5 a6 a7 a8 a9 a10 a13 a14 v23 v27 low X1 X2 X3 X4 X5 X6 X7 X8 X9 X10 X14 acc f 16).vm := by
  simp only [trip_k0_t1.sl.r_8, trip_k0_t1.sl.r_9, trip_k0_t1.sl.r_10, trip_k0_t1.sl.r_11, trip_k0_t1.sl.r_12, trip_k0_t1.sl.r_168, trip_k0_t1.sl.r_169, trip_k0_t1.sl.r_170, trip_k0_t1.sl.r_172, trip_k0_t1.sl.v1468, k0_pay212, k0_pay207, k0_pay206, k0_pay208, k0_pay209, shapeCast_self,
    rd _ 15 (by decide) _ rfl,
    r_160 a1 a2 a3 a4 a5 a6 a7 a8 a9 a10 a13 a14 v23 v27 low X1 X2 X3 X4 X5 X6 X7 X8 X9 X10 X14 acc f]
  rfl

theorem r_173 : trip_k0_t1.sl.r_173 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 16).vi := by
  simp only [trip_k0_t1.sl.r_8, trip_k0_t1.sl.r_9, trip_k0_t1.sl.r_10, trip_k0_t1.sl.r_11, trip_k0_t1.sl.r_12, trip_k0_t1.sl.r_168, trip_k0_t1.sl.r_169, trip_k0_t1.sl.r_170, trip_k0_t1.sl.r_173, trip_k0_t1.sl.v1468, k0_pay213, k0_pay207, k0_pay206, k0_pay208, k0_pay209, k0_pay211, shapeCast_self,
    rd _ 15 (by decide) _ rfl,
    r_160 a1 a2 a3 a4 a5 a6 a7 a8 a9 a10 a13 a14 v23 v27 low X1 X2 X3 X4 X5 X6 X7 X8 X9 X10 X14 acc f,
    r_161 a1 a2 a3 a4 a5 a6 a7 a8 a9 a10 a13 a14 v23 v27 low X1 X2 X3 X4 X5 X6 X7 X8 X9 X10 X14 acc f]
  rfl

theorem r_174 : trip_k0_t1.sl.r_174 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 16).x1 := by
  simp only [trip_k0_t1.sl.r_8, trip_k0_t1.sl.r_9, trip_k0_t1.sl.r_10, trip_k0_t1.sl.r_11, trip_k0_t1.sl.r_12, trip_k0_t1.sl.r_168, trip_k0_t1.sl.r_169, trip_k0_t1.sl.r_170, trip_k0_t1.sl.r_174, trip_k0_t1.sl.v1468, k0_pay207, k0_pay214, k0_pay206, k0_pay208, k0_pay209, k0_pay211, shapeCast_self,
    rd _ 15 (by decide) _ rfl,
    r_160 a1 a2 a3 a4 a5 a6 a7 a8 a9 a10 a13 a14 v23 v27 low X1 X2 X3 X4 X5 X6 X7 X8 X9 X10 X14 acc f,
    r_162 a1 a2 a3 a4 a5 a6 a7 a8 a9 a10 a13 a14 v23 v27 low X1 X2 X3 X4 X5 X6 X7 X8 X9 X10 X14 acc f]
  rfl

theorem r_175 : trip_k0_t1.sl.r_175 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 16).y1 := by
  simp only [trip_k0_t1.sl.r_8, trip_k0_t1.sl.r_9, trip_k0_t1.sl.r_10, trip_k0_t1.sl.r_11, trip_k0_t1.sl.r_12, trip_k0_t1.sl.r_168, trip_k0_t1.sl.r_169, trip_k0_t1.sl.r_170, trip_k0_t1.sl.r_175, trip_k0_t1.sl.v1468, k0_pay215, k0_pay207, k0_pay206, k0_pay208, k0_pay209, k0_pay211, shapeCast_self,
    rd _ 15 (by decide) _ rfl,
    r_160 a1 a2 a3 a4 a5 a6 a7 a8 a9 a10 a13 a14 v23 v27 low X1 X2 X3 X4 X5 X6 X7 X8 X9 X10 X14 acc f,
    r_163 a1 a2 a3 a4 a5 a6 a7 a8 a9 a10 a13 a14 v23 v27 low X1 X2 X3 X4 X5 X6 X7 X8 X9 X10 X14 acc f]
  rfl

theorem r_176 : trip_k0_t1.sl.r_176 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 16).x2 := by
  simp only [trip_k0_t1.sl.r_8, trip_k0_t1.sl.r_9, trip_k0_t1.sl.r_10, trip_k0_t1.sl.r_11, trip_k0_t1.sl.r_12, trip_k0_t1.sl.r_168, trip_k0_t1.sl.r_169, trip_k0_t1.sl.r_170, trip_k0_t1.sl.r_176, trip_k0_t1.sl.v1468, k0_pay216, k0_pay207, k0_pay206, k0_pay208, k0_pay209, k0_pay211, shapeCast_self,
    rd _ 15 (by decide) _ rfl,
    r_160 a1 a2 a3 a4 a5 a6 a7 a8 a9 a10 a13 a14 v23 v27 low X1 X2 X3 X4 X5 X6 X7 X8 X9 X10 X14 acc f,
    r_164 a1 a2 a3 a4 a5 a6 a7 a8 a9 a10 a13 a14 v23 v27 low X1 X2 X3 X4 X5 X6 X7 X8 X9 X10 X14 acc f]
  rfl

theorem r_177 : trip_k0_t1.sl.r_177 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 16).y2 := by
  simp only [trip_k0_t1.sl.r_8, trip_k0_t1.sl.r_9, trip_k0_t1.sl.r_10, trip_k0_t1.sl.r_11, trip_k0_t1.sl.r_12, trip_k0_t1.sl.r_168, trip_k0_t1.sl.r_169, trip_k0_t1.sl.r_170, trip_k0_t1.sl.r_177, trip_k0_t1.sl.v1468, k0_pay207, k0_pay206, k0_pay217, k0_pay208, k0_pay209, k0_pay211, shapeCast_self,
    rd _ 15 (by decide) _ rfl,
    r_160 a1 a2 a3 a4 a5 a6 a7 a8 a9 a10 a13 a14 v23 v27 low X1 X2 X3 X4 X5 X6 X7 X8 X9 X10 X14 acc f,
    r_165 a1 a2 a3 a4 a5 a6 a7 a8 a9 a10 a13 a14 v23 v27 low X1 X2 X3 X4 X5 X6 X7 X8 X9 X10 X14 acc f]
  rfl

theorem r_179 : trip_k0_t1.sl.r_179 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 16).sc := by
  simp only [trip_k0_t1.sl.r_178, trip_k0_t1.sl.r_179, k0_pay218, shapeCast_self,
    rd _ 15 (by decide) _ rfl,
    r_166 a1 a2 a3 a4 a5 a6 a7 a8 a9 a10 a13 a14 v23 v27 low X1 X2 X3 X4 X5 X6 X7 X8 X9 X10 X14 acc f,
    r_171 a1 a2 a3 a4 a5 a6 a7 a8 a9 a10 a13 a14 v23 v27 low X1 X2 X3 X4 X5 X6 X7 X8 X9 X10 X14 acc f]
  rfl

theorem r_180 : trip_k0_t1.sl.r_180 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 16).off := by
  simp only [trip_k0_t1.sl.r_180, k0_pay219, shapeCast_self,
    rd _ 15 (by decide) _ rfl,
    r_167 a1 a2 a3 a4 a5 a6 a7 a8 a9 a10 a13 a14 v23 v27 low X1 X2 X3 X4 X5 X6 X7 X8 X9 X10 X14 acc f,
    r_171 a1 a2 a3 a4 a5 a6 a7 a8 a9 a10 a13 a14 v23 v27 low X1 X2 X3 X4 X5 X6 X7 X8 X9 X10 X14 acc f]
  rfl

theorem r_181 : trip_k0_t1.sl.r_181 a1 a2 a3 a4 a13 a14 low X1 X2 X3 X4 X14 acc f =
    tn a1 a2 a3 a4 a5 a6 a7 a8 a9 a10 a13 a14 low X1 X2 X3 X4 X5 X6 X7 X8 X9 X10 X14 acc f 16 := by
  simp only [trip_k0_t1.sl.r_8, trip_k0_t1.sl.r_9, trip_k0_t1.sl.r_10, trip_k0_t1.sl.r_11, trip_k0_t1.sl.r_12, trip_k0_t1.sl.r_181, trip_k0_t1.sl.v1524, k0_pay220, shapeCast_self,
    rd _ 16 (by decide) _ rfl]
  rfl

theorem r_182 : trip_k0_t1.sl.r_182 a1 a2 a3 a4 a13 a14 low X1 X2 X3 X4 X14 acc f =
    up (tn a1 a2 a3 a4 a5 a6 a7 a8 a9 a10 a13 a14 low X1 X2 X3 X4 X5 X6 X7 X8 X9 X10 X14 acc f 16) (tw a1 a2 a3 a4 a5 a6 a7 a8 a9 a10 a13 a14 v23 v27 low X1 X2 X3 X4 X5 X6 X7 X8 X9 X10 X14 acc f 16) := by
  simp only [trip_k0_t1.sl.r_8, trip_k0_t1.sl.r_9, trip_k0_t1.sl.r_10, trip_k0_t1.sl.r_11, trip_k0_t1.sl.r_12, trip_k0_t1.sl.r_182, trip_k0_t1.sl.v1524, k0_pay220, k0_pay222, shapeCast_self,
    rd _ 16 (by decide) _ rfl,
    r_172 a1 a2 a3 a4 a5 a6 a7 a8 a9 a10 a13 a14 v23 v27 low X1 X2 X3 X4 X5 X6 X7 X8 X9 X10 X14 acc f]
  rfl

theorem r_183 : trip_k0_t1.sl.r_183 a1 a2 a3 a4 a13 a14 low X1 X2 X3 X4 X14 acc f =
    (tw a1 a2 a3 a4 a5 a6 a7 a8 a9 a10 a13 a14 v23 v27 low X1 X2 X3 X4 X5 X6 X7 X8 X9 X10 X14 acc f 17).vm := by
  simp only [trip_k0_t1.sl.r_183, k0_pay223, shapeCast_self,
    rd _ 16 (by decide) _ rfl,
    r_172 a1 a2 a3 a4 a5 a6 a7 a8 a9 a10 a13 a14 v23 v27 low X1 X2 X3 X4 X5 X6 X7 X8 X9 X10 X14 acc f,
    r_181 a1 a2 a3 a4 a5 a6 a7 a8 a9 a10 a13 a14 low X1 X2 X3 X4 X5 X6 X7 X8 X9 X10 X14 acc f]
  rfl

theorem r_184 : trip_k0_t1.sl.r_184 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 17).vi := by
  simp only [trip_k0_t1.sl.r_184, k0_pay224, shapeCast_self,
    rd _ 16 (by decide) _ rfl,
    r_173 a1 a2 a3 a4 a5 a6 a7 a8 a9 a10 a13 a14 v23 v27 low X1 X2 X3 X4 X5 X6 X7 X8 X9 X10 X14 acc f,
    r_182 a1 a2 a3 a4 a5 a6 a7 a8 a9 a10 a13 a14 v23 v27 low X1 X2 X3 X4 X5 X6 X7 X8 X9 X10 X14 acc f]
  rfl

theorem r_185 : trip_k0_t1.sl.r_185 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 17).x1 := by
  simp only [trip_k0_t1.sl.r_185, k0_pay225, shapeCast_self,
    rd _ 16 (by decide) _ rfl,
    r_174 a1 a2 a3 a4 a5 a6 a7 a8 a9 a10 a13 a14 v23 v27 low X1 X2 X3 X4 X5 X6 X7 X8 X9 X10 X14 acc f,
    r_182 a1 a2 a3 a4 a5 a6 a7 a8 a9 a10 a13 a14 v23 v27 low X1 X2 X3 X4 X5 X6 X7 X8 X9 X10 X14 acc f]
  rfl

theorem r_186 : trip_k0_t1.sl.r_186 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 17).y1 := by
  simp only [trip_k0_t1.sl.r_186, k0_pay226, shapeCast_self,
    rd _ 16 (by decide) _ rfl,
    r_175 a1 a2 a3 a4 a5 a6 a7 a8 a9 a10 a13 a14 v23 v27 low X1 X2 X3 X4 X5 X6 X7 X8 X9 X10 X14 acc f,
    r_182 a1 a2 a3 a4 a5 a6 a7 a8 a9 a10 a13 a14 v23 v27 low X1 X2 X3 X4 X5 X6 X7 X8 X9 X10 X14 acc f]
  rfl

theorem r_187 : trip_k0_t1.sl.r_187 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 17).x2 := by
  simp only [trip_k0_t1.sl.r_187, k0_pay227, shapeCast_self,
    rd _ 16 (by decide) _ rfl,
    r_176 a1 a2 a3 a4 a5 a6 a7 a8 a9 a10 a13 a14 v23 v27 low X1 X2 X3 X4 X5 X6 X7 X8 X9 X10 X14 acc f,
    r_182 a1 a2 a3 a4 a5 a6 a7 a8 a9 a10 a13 a14 v23 v27 low X1 X2 X3 X4 X5 X6 X7 X8 X9 X10 X14 acc f]
  rfl

theorem r_188 : trip_k0_t1.sl.r_188 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 17).y2 := by
  simp only [trip_k0_t1.sl.r_188, k0_pay228, shapeCast_self,
    rd _ 16 (by decide) _ rfl,
    r_177 a1 a2 a3 a4 a5 a6 a7 a8 a9 a10 a13 a14 v23 v27 low X1 X2 X3 X4 X5 X6 X7 X8 X9 X10 X14 acc f,
    r_182 a1 a2 a3 a4 a5 a6 a7 a8 a9 a10 a13 a14 v23 v27 low X1 X2 X3 X4 X5 X6 X7 X8 X9 X10 X14 acc f]
  rfl

theorem r_189 : trip_k0_t1.sl.r_189 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 17).sc := by
  simp only [trip_k0_t1.sl.r_189, k0_pay229, shapeCast_self,
    rd _ 16 (by decide) _ rfl,
    r_179 a1 a2 a3 a4 a5 a6 a7 a8 a9 a10 a13 a14 v23 v27 low X1 X2 X3 X4 X5 X6 X7 X8 X9 X10 X14 acc f,
    r_182 a1 a2 a3 a4 a5 a6 a7 a8 a9 a10 a13 a14 v23 v27 low X1 X2 X3 X4 X5 X6 X7 X8 X9 X10 X14 acc f]
  rfl

theorem r_190 : trip_k0_t1.sl.r_190 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 17).off := by
  simp only [trip_k0_t1.sl.r_190, k0_pay230, shapeCast_self,
    rd _ 16 (by decide) _ rfl,
    r_180 a1 a2 a3 a4 a5 a6 a7 a8 a9 a10 a13 a14 v23 v27 low X1 X2 X3 X4 X5 X6 X7 X8 X9 X10 X14 acc f,
    r_182 a1 a2 a3 a4 a5 a6 a7 a8 a9 a10 a13 a14 v23 v27 low X1 X2 X3 X4 X5 X6 X7 X8 X9 X10 X14 acc f]
  rfl

theorem r_193 : trip_k0_t1.sl.r_193 a1 a2 a3 a4 a13 a14 low X1 X2 X3 X4 X14 acc f =
    up (tn a1 a2 a3 a4 a5 a6 a7 a8 a9 a10 a13 a14 low X1 X2 X3 X4 X5 X6 X7 X8 X9 X10 X14 acc f 17) (tw a1 a2 a3 a4 a5 a6 a7 a8 a9 a10 a13 a14 v23 v27 low X1 X2 X3 X4 X5 X6 X7 X8 X9 X10 X14 acc f 17) := by
  simp only [trip_k0_t1.sl.r_8, trip_k0_t1.sl.r_9, trip_k0_t1.sl.r_10, trip_k0_t1.sl.r_11, trip_k0_t1.sl.r_12, trip_k0_t1.sl.r_191, trip_k0_t1.sl.r_192, trip_k0_t1.sl.r_193, trip_k0_t1.sl.v1580, k0_pay232, k0_pay233, k0_pay231, k0_pay235, shapeCast_self,
    rd _ 17 (by decide) _ rfl,
    r_183 a1 a2 a3 a4 a5 a6 a7 a8 a9 a10 a13 a14 v23 v27 low X1 X2 X3 X4 X5 X6 X7 X8 X9 X10 X14 acc f]
  rfl

theorem r_194 : trip_k0_t1.sl.r_194 a1 a2 a3 a4 a13 a14 low X1 X2 X3 X4 X14 acc f =
    (tw a1 a2 a3 a4 a5 a6 a7 a8 a9 a10 a13 a14 v23 v27 low X1 X2 X3 X4 X5 X6 X7 X8 X9 X10 X14 acc f 18).vm := by
  simp only [trip_k0_t1.sl.r_8, trip_k0_t1.sl.r_9, trip_k0_t1.sl.r_10, trip_k0_t1.sl.r_11, trip_k0_t1.sl.r_12, trip_k0_t1.sl.r_191, trip_k0_t1.sl.r_192, trip_k0_t1.sl.r_194, trip_k0_t1.sl.v1580, k0_pay236, k0_pay232, k0_pay233, k0_pay231, shapeCast_self,
    rd _ 17 (by decide) _ rfl,
    r_183 a1 a2 a3 a4 a5 a6 a7 a8 a9 a10 a13 a14 v23 v27 low X1 X2 X3 X4 X5 X6 X7 X8 X9 X10 X14 acc f]
  rfl

theorem r_195 : trip_k0_t1.sl.r_195 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 18).vi := by
  simp only [trip_k0_t1.sl.r_8, trip_k0_t1.sl.r_9, trip_k0_t1.sl.r_10, trip_k0_t1.sl.r_11, trip_k0_t1.sl.r_12, trip_k0_t1.sl.r_191, trip_k0_t1.sl.r_192, trip_k0_t1.sl.r_195, trip_k0_t1.sl.v1580, k0_pay237, k0_pay232, k0_pay233, k0_pay231, k0_pay235, shapeCast_self,
    rd _ 17 (by decide) _ rfl,
    r_183 a1 a2 a3 a4 a5 a6 a7 a8 a9 a10 a13 a14 v23 v27 low X1 X2 X3 X4 X5 X6 X7 X8 X9 X10 X14 acc f,
    r_184 a1 a2 a3 a4 a5 a6 a7 a8 a9 a10 a13 a14 v23 v27 low X1 X2 X3 X4 X5 X6 X7 X8 X9 X10 X14 acc f]
  rfl

theorem r_196 : trip_k0_t1.sl.r_196 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 18).x1 := by
  simp only [trip_k0_t1.sl.r_8, trip_k0_t1.sl.r_9, trip_k0_t1.sl.r_10, trip_k0_t1.sl.r_11, trip_k0_t1.sl.r_12, trip_k0_t1.sl.r_191, trip_k0_t1.sl.r_192, trip_k0_t1.sl.r_196, trip_k0_t1.sl.v1580, k0_pay238, k0_pay232, k0_pay233, k0_pay231, k0_pay235, shapeCast_self,
    rd _ 17 (by decide) _ rfl,
    r_183 a1 a2 a3 a4 a5 a6 a7 a8 a9 a10 a13 a14 v23 v27 low X1 X2 X3 X4 X5 X6 X7 X8 X9 X10 X14 acc f,
    r_185 a1 a2 a3 a4 a5 a6 a7 a8 a9 a10 a13 a14 v23 v27 low X1 X2 X3 X4 X5 X6 X7 X8 X9 X10 X14 acc f]
  rfl

theorem r_197 : trip_k0_t1.sl.r_197 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 18).y1 := by
  simp only [trip_k0_t1.sl.r_8, trip_k0_t1.sl.r_9, trip_k0_t1.sl.r_10, trip_k0_t1.sl.r_11, trip_k0_t1.sl.r_12, trip_k0_t1.sl.r_191, trip_k0_t1.sl.r_192, trip_k0_t1.sl.r_197, trip_k0_t1.sl.v1580, k0_pay232, k0_pay233, k0_pay239, k0_pay231, k0_pay235, shapeCast_self,
    rd _ 17 (by decide) _ rfl,
    r_183 a1 a2 a3 a4 a5 a6 a7 a8 a9 a10 a13 a14 v23 v27 low X1 X2 X3 X4 X5 X6 X7 X8 X9 X10 X14 acc f,
    r_186 a1 a2 a3 a4 a5 a6 a7 a8 a9 a10 a13 a14 v23 v27 low X1 X2 X3 X4 X5 X6 X7 X8 X9 X10 X14 acc f]
  rfl

theorem r_198 : trip_k0_t1.sl.r_198 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 18).x2 := by
  simp only [trip_k0_t1.sl.r_8, trip_k0_t1.sl.r_9, trip_k0_t1.sl.r_10, trip_k0_t1.sl.r_11, trip_k0_t1.sl.r_12, trip_k0_t1.sl.r_191, trip_k0_t1.sl.r_192, trip_k0_t1.sl.r_198, trip_k0_t1.sl.v1580, k0_pay232, k0_pay240, k0_pay233, k0_pay231, k0_pay235, shapeCast_self,
    rd _ 17 (by decide) _ rfl,
    r_183 a1 a2 a3 a4 a5 a6 a7 a8 a9 a10 a13 a14 v23 v27 low X1 X2 X3 X4 X5 X6 X7 X8 X9 X10 X14 acc f,
    r_187 a1 a2 a3 a4 a5 a6 a7 a8 a9 a10 a13 a14 v23 v27 low X1 X2 X3 X4 X5 X6 X7 X8 X9 X10 X14 acc f]
  rfl

theorem r_199 : trip_k0_t1.sl.r_199 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 18).y2 := by
  simp only [trip_k0_t1.sl.r_8, trip_k0_t1.sl.r_9, trip_k0_t1.sl.r_10, trip_k0_t1.sl.r_11, trip_k0_t1.sl.r_12, trip_k0_t1.sl.r_191, trip_k0_t1.sl.r_192, trip_k0_t1.sl.r_199, trip_k0_t1.sl.v1580, k0_pay241, k0_pay232, k0_pay233, k0_pay231, k0_pay235, shapeCast_self,
    rd _ 17 (by decide) _ rfl,
    r_183 a1 a2 a3 a4 a5 a6 a7 a8 a9 a10 a13 a14 v23 v27 low X1 X2 X3 X4 X5 X6 X7 X8 X9 X10 X14 acc f,
    r_188 a1 a2 a3 a4 a5 a6 a7 a8 a9 a10 a13 a14 v23 v27 low X1 X2 X3 X4 X5 X6 X7 X8 X9 X10 X14 acc f]
  rfl

theorem r_200 : trip_k0_t1.sl.r_200 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 18).sc := by
  simp only [trip_k0_t1.sl.r_8, trip_k0_t1.sl.r_9, trip_k0_t1.sl.r_10, trip_k0_t1.sl.r_11, trip_k0_t1.sl.r_12, trip_k0_t1.sl.r_191, trip_k0_t1.sl.r_192, trip_k0_t1.sl.r_200, trip_k0_t1.sl.v1580, k0_pay232, k0_pay233, k0_pay242, k0_pay231, k0_pay235, shapeCast_self,
    rd _ 17 (by decide) _ rfl,
    r_183 a1 a2 a3 a4 a5 a6 a7 a8 a9 a10 a13 a14 v23 v27 low X1 X2 X3 X4 X5 X6 X7 X8 X9 X10 X14 acc f,
    r_189 a1 a2 a3 a4 a5 a6 a7 a8 a9 a10 a13 a14 v23 v27 low X1 X2 X3 X4 X5 X6 X7 X8 X9 X10 X14 acc f]
  rfl

theorem r_201 : trip_k0_t1.sl.r_201 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 18).off := by
  simp only [trip_k0_t1.sl.r_201, k0_pay243, shapeCast_self,
    rd _ 17 (by decide) _ rfl,
    r_190 a1 a2 a3 a4 a5 a6 a7 a8 a9 a10 a13 a14 v23 v27 low X1 X2 X3 X4 X5 X6 X7 X8 X9 X10 X14 acc f,
    r_193 a1 a2 a3 a4 a5 a6 a7 a8 a9 a10 a13 a14 v23 v27 low X1 X2 X3 X4 X5 X6 X7 X8 X9 X10 X14 acc f]
  rfl

theorem r_202 : trip_k0_t1.sl.r_202 a1 a2 a3 a4 a13 a14 low X1 X2 X3 X4 X14 acc f =
    up (tn a1 a2 a3 a4 a5 a6 a7 a8 a9 a10 a13 a14 low X1 X2 X3 X4 X5 X6 X7 X8 X9 X10 X14 acc f 18) (tw a1 a2 a3 a4 a5 a6 a7 a8 a9 a10 a13 a14 v23 v27 low X1 X2 X3 X4 X5 X6 X7 X8 X9 X10 X14 acc f 18) := by
  simp only [trip_k0_t1.sl.r_8, trip_k0_t1.sl.r_9, trip_k0_t1.sl.r_10, trip_k0_t1.sl.r_11, trip_k0_t1.sl.r_12, trip_k0_t1.sl.r_202, trip_k0_t1.sl.v1636, k0_pay244, k0_pay246, shapeCast_self,
    rd _ 18 (by decide) _ rfl,
    r_194 a1 a2 a3 a4 a5 a6 a7 a8 a9 a10 a13 a14 v23 v27 low X1 X2 X3 X4 X5 X6 X7 X8 X9 X10 X14 acc f]
  rfl

theorem r_203 : trip_k0_t1.sl.r_203 a1 a2 a3 a4 a13 a14 low X1 X2 X3 X4 X14 acc f =
    (tw a1 a2 a3 a4 a5 a6 a7 a8 a9 a10 a13 a14 v23 v27 low X1 X2 X3 X4 X5 X6 X7 X8 X9 X10 X14 acc f 19).vm := by
  simp only [trip_k0_t1.sl.r_8, trip_k0_t1.sl.r_9, trip_k0_t1.sl.r_10, trip_k0_t1.sl.r_11, trip_k0_t1.sl.r_12, trip_k0_t1.sl.r_203, trip_k0_t1.sl.v1636, k0_pay244, k0_pay247, shapeCast_self,
    rd _ 18 (by decide) _ rfl,
    r_194 a1 a2 a3 a4 a5 a6 a7 a8 a9 a10 a13 a14 v23 v27 low X1 X2 X3 X4 X5 X6 X7 X8 X9 X10 X14 acc f]
  rfl

theorem r_204 : trip_k0_t1.sl.r_204 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 19).vi := by
  simp only [trip_k0_t1.sl.r_204, k0_pay249, k0_pay248, shapeCast_self,
    rd _ 18 (by decide) _ rfl,
    r_195 a1 a2 a3 a4 a5 a6 a7 a8 a9 a10 a13 a14 v23 v27 low X1 X2 X3 X4 X5 X6 X7 X8 X9 X10 X14 acc f,
    r_202 a1 a2 a3 a4 a5 a6 a7 a8 a9 a10 a13 a14 v23 v27 low X1 X2 X3 X4 X5 X6 X7 X8 X9 X10 X14 acc f]
  rfl

theorem r_205 : trip_k0_t1.sl.r_205 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 19).x1 := by
  simp only [trip_k0_t1.sl.r_205, k0_pay250, shapeCast_self,
    rd _ 18 (by decide) _ rfl,
    r_196 a1 a2 a3 a4 a5 a6 a7 a8 a9 a10 a13 a14 v23 v27 low X1 X2 X3 X4 X5 X6 X7 X8 X9 X10 X14 acc f,
    r_202 a1 a2 a3 a4 a5 a6 a7 a8 a9 a10 a13 a14 v23 v27 low X1 X2 X3 X4 X5 X6 X7 X8 X9 X10 X14 acc f]
  rfl

theorem r_206 : trip_k0_t1.sl.r_206 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 19).y1 := by
  simp only [trip_k0_t1.sl.r_206, k0_pay251, shapeCast_self,
    rd _ 18 (by decide) _ rfl,
    r_197 a1 a2 a3 a4 a5 a6 a7 a8 a9 a10 a13 a14 v23 v27 low X1 X2 X3 X4 X5 X6 X7 X8 X9 X10 X14 acc f,
    r_202 a1 a2 a3 a4 a5 a6 a7 a8 a9 a10 a13 a14 v23 v27 low X1 X2 X3 X4 X5 X6 X7 X8 X9 X10 X14 acc f]
  rfl

theorem r_207 : trip_k0_t1.sl.r_207 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 19).x2 := by
  simp only [trip_k0_t1.sl.r_207, k0_pay252, shapeCast_self,
    rd _ 18 (by decide) _ rfl,
    r_198 a1 a2 a3 a4 a5 a6 a7 a8 a9 a10 a13 a14 v23 v27 low X1 X2 X3 X4 X5 X6 X7 X8 X9 X10 X14 acc f,
    r_202 a1 a2 a3 a4 a5 a6 a7 a8 a9 a10 a13 a14 v23 v27 low X1 X2 X3 X4 X5 X6 X7 X8 X9 X10 X14 acc f]
  rfl

theorem r_208 : trip_k0_t1.sl.r_208 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 19).y2 := by
  simp only [trip_k0_t1.sl.r_208, k0_pay253, shapeCast_self,
    rd _ 18 (by decide) _ rfl,
    r_199 a1 a2 a3 a4 a5 a6 a7 a8 a9 a10 a13 a14 v23 v27 low X1 X2 X3 X4 X5 X6 X7 X8 X9 X10 X14 acc f,
    r_202 a1 a2 a3 a4 a5 a6 a7 a8 a9 a10 a13 a14 v23 v27 low X1 X2 X3 X4 X5 X6 X7 X8 X9 X10 X14 acc f]
  rfl

theorem r_209 : trip_k0_t1.sl.r_209 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 19).sc := by
  simp only [trip_k0_t1.sl.r_209, k0_pay254, shapeCast_self,
    rd _ 18 (by decide) _ rfl,
    r_200 a1 a2 a3 a4 a5 a6 a7 a8 a9 a10 a13 a14 v23 v27 low X1 X2 X3 X4 X5 X6 X7 X8 X9 X10 X14 acc f,
    r_202 a1 a2 a3 a4 a5 a6 a7 a8 a9 a10 a13 a14 v23 v27 low X1 X2 X3 X4 X5 X6 X7 X8 X9 X10 X14 acc f]
  rfl

theorem r_210 : trip_k0_t1.sl.r_210 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 19).off := by
  simp only [trip_k0_t1.sl.r_210, k0_pay255, shapeCast_self,
    rd _ 18 (by decide) _ rfl,
    r_201 a1 a2 a3 a4 a5 a6 a7 a8 a9 a10 a13 a14 v23 v27 low X1 X2 X3 X4 X5 X6 X7 X8 X9 X10 X14 acc f,
    r_202 a1 a2 a3 a4 a5 a6 a7 a8 a9 a10 a13 a14 v23 v27 low X1 X2 X3 X4 X5 X6 X7 X8 X9 X10 X14 acc f]
  rfl

theorem r_212 : trip_k0_t1.sl.r_212 a1 a2 a3 a4 a13 a14 low X1 X2 X3 X4 X14 acc f =
    (tw a1 a2 a3 a4 a5 a6 a7 a8 a9 a10 a13 a14 v23 v27 low X1 X2 X3 X4 X5 X6 X7 X8 X9 X10 X14 acc f 20).vm := by
  simp only [trip_k0_t1.sl.r_8, trip_k0_t1.sl.r_9, trip_k0_t1.sl.r_10, trip_k0_t1.sl.r_11, trip_k0_t1.sl.r_12, trip_k0_t1.sl.r_211, trip_k0_t1.sl.r_212, trip_k0_t1.sl.v1692, k0_pay257, k0_pay260, k0_pay256, shapeCast_self,
    rd _ 19 (by decide) _ rfl,
    r_203 a1 a2 a3 a4 a5 a6 a7 a8 a9 a10 a13 a14 v23 v27 low X1 X2 X3 X4 X5 X6 X7 X8 X9 X10 X14 acc f]
  rfl

theorem r_213 : trip_k0_t1.sl.r_213 a1 a2 a3 a4 a13 a14 v23 low X1 X2 X3 X4 X14 acc f =
    (tw a1 a2 a3 a4 a5 a6 a7 a8 a9 a10 a13 a14 v23 v27 low X1 X2 X3 X4 X5 X6 X7 X8 X9 X10 X14 acc f 20).vi := by
  simp only [trip_k0_t1.sl.r_8, trip_k0_t1.sl.r_9, trip_k0_t1.sl.r_10, trip_k0_t1.sl.r_11, trip_k0_t1.sl.r_12, trip_k0_t1.sl.r_211, trip_k0_t1.sl.r_213, trip_k0_t1.sl.v1692, k0_pay257, k0_pay259, k0_pay261, k0_pay256, shapeCast_self,
    rd _ 19 (by decide) _ rfl,
    r_203 a1 a2 a3 a4 a5 a6 a7 a8 a9 a10 a13 a14 v23 v27 low X1 X2 X3 X4 X5 X6 X7 X8 X9 X10 X14 acc f,
    r_204 a1 a2 a3 a4 a5 a6 a7 a8 a9 a10 a13 a14 v23 v27 low X1 X2 X3 X4 X5 X6 X7 X8 X9 X10 X14 acc f]
  rfl

theorem r_214 : trip_k0_t1.sl.r_214 a1 a2 a3 a4 a5 a13 a14 v27 low X1 X2 X3 X4 X5 X14 acc f =
    (tw a1 a2 a3 a4 a5 a6 a7 a8 a9 a10 a13 a14 v23 v27 low X1 X2 X3 X4 X5 X6 X7 X8 X9 X10 X14 acc f 20).x1 := by
  simp only [trip_k0_t1.sl.r_8, trip_k0_t1.sl.r_9, trip_k0_t1.sl.r_10, trip_k0_t1.sl.r_11, trip_k0_t1.sl.r_12, trip_k0_t1.sl.r_211, trip_k0_t1.sl.r_214, trip_k0_t1.sl.v1692, k0_pay257, k0_pay259, k0_pay262, k0_pay256, shapeCast_self,
    rd _ 19 (by decide) _ rfl,
    r_203 a1 a2 a3 a4 a5 a6 a7 a8 a9 a10 a13 a14 v23 v27 low X1 X2 X3 X4 X5 X6 X7 X8 X9 X10 X14 acc f,
    r_205 a1 a2 a3 a4 a5 a6 a7 a8 a9 a10 a13 a14 v23 v27 low X1 X2 X3 X4 X5 X6 X7 X8 X9 X10 X14 acc f]
  rfl

theorem r_215 : trip_k0_t1.sl.r_215 a1 a2 a3 a4 a6 a13 a14 v27 low X1 X2 X3 X4 X6 X14 acc f =
    (tw a1 a2 a3 a4 a5 a6 a7 a8 a9 a10 a13 a14 v23 v27 low X1 X2 X3 X4 X5 X6 X7 X8 X9 X10 X14 acc f 20).y1 := by
  simp only [trip_k0_t1.sl.r_8, trip_k0_t1.sl.r_9, trip_k0_t1.sl.r_10, trip_k0_t1.sl.r_11, trip_k0_t1.sl.r_12, trip_k0_t1.sl.r_211, trip_k0_t1.sl.r_215, trip_k0_t1.sl.v1692, k0_pay257, k0_pay259, k0_pay263, k0_pay256, shapeCast_self,
    rd _ 19 (by decide) _ rfl,
    r_203 a1 a2 a3 a4 a5 a6 a7 a8 a9 a10 a13 a14 v23 v27 low X1 X2 X3 X4 X5 X6 X7 X8 X9 X10 X14 acc f,
    r_206 a1 a2 a3 a4 a5 a6 a7 a8 a9 a10 a13 a14 v23 v27 low X1 X2 X3 X4 X5 X6 X7 X8 X9 X10 X14 acc f]
  rfl

theorem r_216 : trip_k0_t1.sl.r_216 a1 a2 a3 a4 a7 a13 a14 v27 low X1 X2 X3 X4 X7 X14 acc f =
    (tw a1 a2 a3 a4 a5 a6 a7 a8 a9 a10 a13 a14 v23 v27 low X1 X2 X3 X4 X5 X6 X7 X8 X9 X10 X14 acc f 20).x2 := by
  simp only [trip_k0_t1.sl.r_8, trip_k0_t1.sl.r_9, trip_k0_t1.sl.r_10, trip_k0_t1.sl.r_11, trip_k0_t1.sl.r_12, trip_k0_t1.sl.r_211, trip_k0_t1.sl.r_216, trip_k0_t1.sl.v1692, k0_pay257, k0_pay259, k0_pay256, k0_pay264, shapeCast_self,
    rd _ 19 (by decide) _ rfl,
    r_203 a1 a2 a3 a4 a5 a6 a7 a8 a9 a10 a13 a14 v23 v27 low X1 X2 X3 X4 X5 X6 X7 X8 X9 X10 X14 acc f,
    r_207 a1 a2 a3 a4 a5 a6 a7 a8 a9 a10 a13 a14 v23 v27 low X1 X2 X3 X4 X5 X6 X7 X8 X9 X10 X14 acc f]
  rfl

theorem r_217 : trip_k0_t1.sl.r_217 a1 a2 a3 a4 a8 a13 a14 v27 low X1 X2 X3 X4 X8 X14 acc f =
    (tw a1 a2 a3 a4 a5 a6 a7 a8 a9 a10 a13 a14 v23 v27 low X1 X2 X3 X4 X5 X6 X7 X8 X9 X10 X14 acc f 20).y2 := by
  simp only [trip_k0_t1.sl.r_8, trip_k0_t1.sl.r_9, trip_k0_t1.sl.r_10, trip_k0_t1.sl.r_11, trip_k0_t1.sl.r_12, trip_k0_t1.sl.r_211, trip_k0_t1.sl.r_217, trip_k0_t1.sl.v1692, k0_pay257, k0_pay259, k0_pay265, k0_pay256, shapeCast_self,
    rd _ 19 (by decide) _ rfl,
    r_203 a1 a2 a3 a4 a5 a6 a7 a8 a9 a10 a13 a14 v23 v27 low X1 X2 X3 X4 X5 X6 X7 X8 X9 X10 X14 acc f,
    r_208 a1 a2 a3 a4 a5 a6 a7 a8 a9 a10 a13 a14 v23 v27 low X1 X2 X3 X4 X5 X6 X7 X8 X9 X10 X14 acc f]
  rfl

theorem r_218 : trip_k0_t1.sl.r_218 a1 a2 a3 a4 a9 a13 a14 v27 low X1 X2 X3 X4 X9 X14 acc f =
    (tw a1 a2 a3 a4 a5 a6 a7 a8 a9 a10 a13 a14 v23 v27 low X1 X2 X3 X4 X5 X6 X7 X8 X9 X10 X14 acc f 20).sc := by
  simp only [trip_k0_t1.sl.r_8, trip_k0_t1.sl.r_9, trip_k0_t1.sl.r_10, trip_k0_t1.sl.r_11, trip_k0_t1.sl.r_12, trip_k0_t1.sl.r_211, trip_k0_t1.sl.r_218, trip_k0_t1.sl.v1692, k0_pay257, k0_pay259, k0_pay256, k0_pay266, shapeCast_self,
    rd _ 19 (by decide) _ rfl,
    r_203 a1 a2 a3 a4 a5 a6 a7 a8 a9 a10 a13 a14 v23 v27 low X1 X2 X3 X4 X5 X6 X7 X8 X9 X10 X14 acc f,
    r_209 a1 a2 a3 a4 a5 a6 a7 a8 a9 a10 a13 a14 v23 v27 low X1 X2 X3 X4 X5 X6 X7 X8 X9 X10 X14 acc f]
  rfl

theorem r_219 : trip_k0_t1.sl.r_219 a1 a2 a3 a4 a10 a13 a14 v27 low X1 X2 X3 X4 X10 X14 acc f =
    (tw a1 a2 a3 a4 a5 a6 a7 a8 a9 a10 a13 a14 v23 v27 low X1 X2 X3 X4 X5 X6 X7 X8 X9 X10 X14 acc f 20).off := by
  simp only [trip_k0_t1.sl.r_8, trip_k0_t1.sl.r_9, trip_k0_t1.sl.r_10, trip_k0_t1.sl.r_11, trip_k0_t1.sl.r_12, trip_k0_t1.sl.r_211, trip_k0_t1.sl.r_219, trip_k0_t1.sl.v1692, k0_pay257, k0_pay259, k0_pay256, k0_pay267, shapeCast_self,
    rd _ 19 (by decide) _ rfl,
    r_203 a1 a2 a3 a4 a5 a6 a7 a8 a9 a10 a13 a14 v23 v27 low X1 X2 X3 X4 X5 X6 X7 X8 X9 X10 X14 acc f,
    r_210 a1 a2 a3 a4 a5 a6 a7 a8 a9 a10 a13 a14 v23 v27 low X1 X2 X3 X4 X5 X6 X7 X8 X9 X10 X14 acc f]
  rfl

end Cert.KernelIdeal.Scan

end
-- ==== Proof.ScanLoop.lean ====
/-
  The kernel's loop as a sequence of states: `kstep` is one trip over what the loop carries and the scores it keeps in
  scratch, and the run's own sequence is that of `kstep` (`st_eq`).
-/
module

public import proofs.«01_k».proof.Proof.ScanTrip

@[expose] public section

set_option maxRecDepth 16384

noncomputable section

open Idealize.ShloMosaic Idealize.ShloMosaic.TcCoe Idealize.SL.Sem

namespace Cert.KernelIdeal.Scan

open Cert.KernelIdeal Cert.KernelIdeal.Gen

variable {F : FTy → Type} [FloatOps F]

/-- The array whose chunks are `M 0, M 1, …`. -/
def unchunk (M : ℕ → FVec F S8x128 .f32) : Vec F S160x128 .f32 := fun q =>
  M ((q 0).val / 8) (fun a => match a with
    | ⟨0, _⟩ => ⟨(q 0).val % 8, Nat.mod_lt _ (by decide)⟩
    | ⟨1, _⟩ => q 1)

theorem inb (i : Fin 20) : ∀ b, (![8 * i.val, 0] : Fin 2 → ℕ) b + S8x128.size b ≤ S160x128.size b := fun b =>
  match b with
  | ⟨0, _⟩ => by show 8 * i.val + 8 ≤ 160; omega
  | ⟨1, _⟩ => by show 0 + 128 ≤ 128; omega

/-- The store of chunk `i`. -/
def pc (M : ℕ → FVec F S8x128 .f32) (i : Fin 20) : View.Piece (Elt F) S160x128 .f32 :=
  ⟨Rect.unit (s := S160x128) ![8 * i.val, 0] S8x128.size (inb i), M i.val⟩

/-- The twenty stores, last first. -/
def pcs (M : ℕ → FVec F S8x128 .f32) : List (View.Piece (Elt F) S160x128 .f32) :=
  [pc M 19, pc M 18, pc M 17, pc M 16, pc M 15, pc M 14, pc M 13, pc M 12, pc M 11, pc M 10, pc M 9, pc M 8, pc M 7, pc M 6, pc M 5, pc M 4, pc M 3, pc M 2, pc M 1, pc M 0]

theorem mem_pcs (M : ℕ → FVec F S8x128 .f32) (i : Fin 20) : pc M i ∈ pcs M := by
  fin_cases i <;> simp [pcs]

theorem of_mem_pcs (M : ℕ → FVec F S8x128 .f32) (p) (h : p ∈ pcs M) : ∃ i, p = pc M i := by
  simp only [pcs, List.mem_cons, List.not_mem_nil, or_false] at h
  rcases h with h | h | h | h | h | h | h | h | h | h | h | h | h | h | h | h | h | h | h | h <;> exact ⟨_, h⟩

theorem pc_at (M : ℕ → FVec F S8x128 .f32) (i : Fin 20) (x : S8x128.Idx) :
    M i.val x = unchunk M ((Rect.unit (s := S160x128) ![8 * i.val, 0] S8x128.size (inb i)).emb x) := by
  have h0 : (x 0).val < 8 := (x 0).isLt
  have e0 : ((Rect.unit (s := S160x128) ![8 * i.val, 0] S8x128.size (inb i)).emb x 0).val = 8 * i.val + (x 0).val :=
    by show 8 * i.val + 1 * (x 0).val = _; omega
  have e1 : ((Rect.unit (s := S160x128) ![8 * i.val, 0] S8x128.size (inb i)).emb x 1).val = (x 1).val :=
    by show 0 + 1 * (x 1).val = _; omega
  unfold unchunk
  have e2 : ((Rect.unit (s := S160x128) ![8 * i.val, 0] S8x128.size (inb i)).emb x 0).val / 8 = i.val := by omega
  rw [e2]
  refine congrArg (M i.val) (funext fun a => Fin.ext ?_)
  match a with
  | ⟨0, _⟩ =>
    show (x 0).val = ((Rect.unit (s := S160x128) ![8 * i.val, 0] S8x128.size (inb i)).emb x 0).val % 8
    omega
  | ⟨1, _⟩ => exact e1.symm

/-- After the twenty stores the array is `unchunk M`, whatever was there. -/
theorem read_pcs {a : Memref sig .tc .vmem S160x128 .f32} (g : BufTy.Contents (Elt F) a.view.ty)
    (M : ℕ → FVec F S8x128 .f32) : a.view.read (Elt F) (a.view.writes (Elt F) g (pcs M)) = unchunk M := by
  have cov : ∀ y : S160x128.Idx, ∃ p ∈ pcs M, y ∈ p.1.set := by
    intro y
    have hy : (y 0).val < 160 := (y 0).isLt
    have hy1 : (y 1).val < 128 := (y 1).isLt
    refine ⟨pc M ⟨(y 0).val / 8, by omega⟩, mem_pcs M _, ?_⟩
    show y ∈ (Rect.unit (s := S160x128) ![8 * ((y 0).val / 8), 0] S8x128.size (inb ⟨(y 0).val / 8, by omega⟩)).set
    rw [Rect.mem_set_unit]
    intro b
    match b with
    | ⟨0, _⟩ => show 8 * ((y 0).val / 8) ≤ (y 0).val ∧ (y 0).val < 8 * ((y 0).val / 8) + 8; omega
    | ⟨1, _⟩ => show 0 ≤ (y 1).val ∧ (y 1).val < 0 + 128; omega
  rw [View.read_writes_eq_canon _ _ _ cov]
  funext y
  refine View.canon_apply_of_pieces (unchunk M) (pcs M) (fun p hp x => ?_) y (cov y)
  obtain ⟨i, rfl⟩ := of_mem_pcs M p hp
  exact pc_at M i x

/-- What the loop carries after a trip's walk `t`, trip number `k`. -/
def knext (v24 : IVec S8x128 32) (k : Fin k0_t1_loop.trips) (acc : Carry F) (t : Lanes F) : Carry F :=
  (t.vm, t.vi, t.x1, t.y1, t.x2, t.y2, t.sc, t.off,
    k0_pay411 v24 acc.2.2.2.2.2.2.2.2.1 (trip_k0_t1.sl.r acc) (trip_k0_t1.sl.r_220 k),
    k0_pay412 v24 acc.2.2.2.2.2.2.2.2.2.1 (trip_k0_t1.sl.r_2 acc) (trip_k0_t1.sl.r_220 k),
    k0_pay413 v24 acc.2.2.2.2.2.2.2.2.2.2.1 (trip_k0_t1.sl.r_3 acc) (trip_k0_t1.sl.r_220 k),
    k0_pay414 v24 acc.2.2.2.2.2.2.2.2.2.2.2.1 (trip_k0_t1.sl.r_4 acc) (trip_k0_t1.sl.r_220 k),
    k0_pay415 v24 acc.2.2.2.2.2.2.2.2.2.2.2.2.1 (trip_k0_t1.sl.r_6 acc) (trip_k0_t1.sl.r_220 k),
    k0_pay416 v24 acc.2.2.2.2.2.2.2.2.2.2.2.2.2 (trip_k0_t1.sl.r_7 acc) (trip_k0_t1.sl.r_220 k))

/-- One trip over the carried values and the scores. -/
def kstep (A : Arr F) (v23 v24 : IVec S8x128 32) (v27 : FVec F S8x128 .f32) (low : F .f32) (k : ℕ)
    (s : Carry F × Vec F S160x128 .f32) : Carry F × Vec F S160x128 .f32 :=
  if h : k < k0_t1_loop.trips then
    (knext v24 ⟨k, h⟩ s.1 (walk A v23 v27 (sup (tbox s.1) low A s.2) 20), unchunk (sup (tbox s.1) low A s.2))
  else s

/-- The states, from `s`. -/
def kst (A : Arr F) (v23 v24 : IVec S8x128 32) (v27 : FVec F S8x128 .f32) (low : F .f32)
    (s : Carry F × Vec F S160x128 .f32) : ℕ → Carry F × Vec F S160x128 .f32
  | 0 => s
  | k + 1 => kstep A v23 v24 v27 low k (kst A v23 v24 v27 low s k)

variable (𝒱 : Variants) (c : Dev nD) (bd : Option 𝒱.V)
variable (a0 : Memref sig .tc .vmem S160x128 .f32) (h0 : a0.IsWhole) (a1 : Memref sig .tc .vmem S160x128 .f32) (h1 :
    a1.IsWhole) (a2 : Memref sig .tc .vmem S160x128 .f32) (h2 : a2.IsWhole) (a3 : Memref sig .tc .vmem S160x128
    .f32) (h3 : a3.IsWhole) (a4 : Memref sig .tc .vmem S160x128 .f32) (h4 : a4.IsWhole) (a5 : Memref sig .tc .vmem
    S160x128 .f32) (h5 : a5.IsWhole) (a6 : Memref sig .tc .vmem S160x128 .f32) (h6 : a6.IsWhole) (a7 : Memref sig
    .tc .vmem S160x128 .f32) (h7 : a7.IsWhole) (a8 : Memref sig .tc .vmem S160x128 .f32) (h8 : a8.IsWhole) (a9 :
    Memref sig .tc .vmem S160x128 .f32) (h9 : a9.IsWhole) (a10 : Memref sig .tc .vmem S160x128 .f32) (h10 :
    a10.IsWhole) (a11 : Memref sig .tc .vmem S8x128 .f32) (h11 : a11.IsWhole) (a12 : Memref sig .tc .vmem S8x128
    .i32) (h12 : a12.IsWhole) (a13 : Memref sig .tc .vmem S160x128 .f32) (h13 : a13.IsWhole) (a14 : Memref sig .tc
    .vmem S160x128 .f32) (h14 : a14.IsWhole)
variable (v23 v24 : IVec S8x128 32) (v27 w1 w2 : FVec F S8x128 .f32) (w3 : IVec S8x128 1) (w4 : FVec F S8x128 .f32)
variable (w5 : IVec S8x128 32) (w6 w7 w8 w9 : FVec F S8x128 .f32) (low : F .f32)
variable (X1 : BufTy.Contents (Elt F) a1.view.ty) (X2 : BufTy.Contents (Elt F) a2.view.ty) (X3 : BufTy.Contents (Elt
    F) a3.view.ty) (X4 : BufTy.Contents (Elt F) a4.view.ty) (X5 : BufTy.Contents (Elt F) a5.view.ty) (X6 :
    BufTy.Contents (Elt F) a6.view.ty) (X7 : BufTy.Contents (Elt F) a7.view.ty) (X8 : BufTy.Contents (Elt F)
    a8.view.ty) (X9 : BufTy.Contents (Elt F) a9.view.ty) (X10 : BufTy.Contents (Elt F) a10.view.ty) (X14 :
    BufTy.Contents (Elt F) a14.view.ty)
variable (acc : Carry F) (f : BufTy.Contents (Elt F) a13.view.ty)

set_option maxHeartbeats 1000000 in
theorem tripR_eq (k : Fin k0_t1_loop.trips) :
    tripR_k0_t1 𝒱 c bd a0 h0 a1 h1 a2 h2 a3 h3 a4 h4 a5 h5 a6 h6 a7 h7 a8 h8 a9 h9 a10 h10 a11 h11 a12 h12 a13 h13 a14 h14 v23 v24 v27 w1 w2 w3 w4 w5 w6 w7 w8 w9 low X1 X2 X3 X4 X5 X6 X7 X8 X9 X10 X14 k acc f
      = knext v24 k acc (tw a1 a2 a3 a4 a5 a6 a7 a8 a9 a10 a13 a14 v23 v27 low X1 X2 X3 X4 X5 X6 X7 X8 X9 X10 X14 acc f 20) := by
  unfold tripR_k0_t1 trip_k0_t1
  dsimp only
  rw [r_212 a1 a2 a3 a4 a5 a6 a7 a8 a9 a10 a13 a14 v23 v27 low X1 X2 X3 X4 X5 X6 X7 X8 X9 X10 X14 acc f, r_213 a1 a2
    a3 a4 a5 a6 a7 a8 a9 a10 a13 a14 v23 v27 low X1 X2 X3 X4 X5 X6 X7 X8 X9 X10 X14 acc f, r_214 a1 a2 a3 a4 a5 a6
    a7 a8 a9 a10 a13 a14 v23 v27 low X1 X2 X3 X4 X5 X6 X7 X8 X9 X10 X14 acc f, r_215 a1 a2 a3 a4 a5 a6 a7 a8 a9 a10
    a13 a14 v23 v27 low X1 X2 X3 X4 X5 X6 X7 X8 X9 X10 X14 acc f, r_216 a1 a2 a3 a4 a5 a6 a7 a8 a9 a10 a13 a14 v23
    v27 low X1 X2 X3 X4 X5 X6 X7 X8 X9 X10 X14 acc f, r_217 a1 a2 a3 a4 a5 a6 a7 a8 a9 a10 a13 a14 v23 v27 low X1 X2
    X3 X4 X5 X6 X7 X8 X9 X10 X14 acc f, r_218 a1 a2 a3 a4 a5 a6 a7 a8 a9 a10 a13 a14 v23 v27 low X1 X2 X3 X4 X5 X6
    X7 X8 X9 X10 X14 acc f, r_219 a1 a2 a3 a4 a5 a6 a7 a8 a9 a10 a13 a14 v23 v27 low X1 X2 X3 X4 X5 X6 X7 X8 X9 X10
    X14 acc f]
  rfl

set_option maxHeartbeats 4000000 in
theorem tripL_eq (k : Fin k0_t1_loop.trips) :
    tripL_k0_t1 𝒱 c bd a0 h0 a1 h1 a2 h2 a3 h3 a4 h4 a5 h5 a6 h6 a7 h7 a8 h8 a9 h9 a10 h10 a11 h11 a12 h12 a13 h13 a14 h14 v23 v24 v27 w1 w2 w3 w4 w5 w6 w7 w8 w9 low X1 X2 X3 X4 X5 X6 X7 X8 X9 X10 X14 k acc f
      = pcs (tn a1 a2 a3 a4 a5 a6 a7 a8 a9 a10 a13 a14 low X1 X2 X3 X4 X5 X6 X7 X8 X9 X10 X14 acc f) := by
  unfold tripL_k0_t1 trip_k0_t1
  dsimp only
  simp only [trip_k0_t1.sl.r_1, trip_k0_t1.sl.r_2, trip_k0_t1.sl.r_3, trip_k0_t1.sl.r_4, trip_k0_t1.sl.r_5,
    trip_k0_t1.sl.r_8, trip_k0_t1.sl.r_9, trip_k0_t1.sl.r_10, trip_k0_t1.sl.r_11, trip_k0_t1.sl.r_12,
    trip_k0_t1.sl.r_13, trip_k0_t1.sl.r_14, trip_k0_t1.sl.r_15, trip_k0_t1.sl.r_36, trip_k0_t1.sl.r_37,
    trip_k0_t1.sl.r_56, trip_k0_t1.sl.r_75, trip_k0_t1.sl.r_76, trip_k0_t1.sl.r_85, trip_k0_t1.sl.r_95,
    trip_k0_t1.sl.r_96, trip_k0_t1.sl.r_105, trip_k0_t1.sl.r_106, trip_k0_t1.sl.r_116, trip_k0_t1.sl.r_125,
    trip_k0_t1.sl.r_126, trip_k0_t1.sl.r_127, trip_k0_t1.sl.r_137, trip_k0_t1.sl.r_146, trip_k0_t1.sl.r_147,
    trip_k0_t1.sl.r_148, trip_k0_t1.sl.r_168, trip_k0_t1.sl.r_169, trip_k0_t1.sl.r_170, trip_k0_t1.sl.r_191,
    trip_k0_t1.sl.r_192, trip_k0_t1.sl.r_211, trip_k0_t1.sl.v684, trip_k0_t1.sl.v740, trip_k0_t1.sl.v796,
    trip_k0_t1.sl.v852, trip_k0_t1.sl.v908, trip_k0_t1.sl.v964, trip_k0_t1.sl.v1020, trip_k0_t1.sl.v1076,
    trip_k0_t1.sl.v1132, trip_k0_t1.sl.v1188, trip_k0_t1.sl.v1244, trip_k0_t1.sl.v1300, trip_k0_t1.sl.v1356,
    trip_k0_t1.sl.v1468, trip_k0_t1.sl.v1524, trip_k0_t1.sl.v1580, trip_k0_t1.sl.v1636, trip_k0_t1.sl.v1692,
    k0_pay180, k0_pay256, k0_pay43, k0_pay234, k0_pay220, k0_pay169, k0_pay132, k0_pay182, k0_pay44, k0_pay57,
    k0_pay129, k0_pay118, k0_pay21, k0_pay208, k0_pay244, k0_pay32, k0_pay221, k0_pay92, k0_pay233, k0_pay69,
    k0_pay22, k0_pay245, k0_pay156, k0_pay20, k0_pay56, k0_pay168, k0_pay170, k0_pay106, k0_pay210, k0_pay231,
    k0_pay207, k0_pay142, k0_pay183, k0_pay206, k0_pay10, k0_pay91, k0_pay68, k0_pay116, k0_pay258, k0_pay46,
    k0_pay70, k0_pay117, k0_pay181, k0_pay81, k0_pay93, k0_pay167, k0_pay8, k0_pay257, k0_pay18, k0_pay209,
    k0_pay232, k0_pay184, k0_pay45, k0_pay130, k0_pay33, k0_pay119, k0_pay196, k0_pay157, k0_pay154, k0_pay105,
    k0_pay144, k0_pay104, k0_pay19, k0_pay131, k0_pay155, k0_pay143, k0_pay80, k0_pay94, shapeCast_self, rd _ 0 (by
    decide) _ rfl, rd _ 1 (by decide) _ rfl, rd _ 2 (by decide) _ rfl, rd _ 3 (by decide) _ rfl, rd _ 4 (by decide)
    _ rfl, rd _ 5 (by decide) _ rfl, rd _ 6 (by decide) _ rfl, rd _ 7 (by decide) _ rfl, rd _ 8 (by decide) _ rfl,
    rd _ 9 (by decide) _ rfl, rd _ 10 (by decide) _ rfl, rd _ 11 (by decide) _ rfl, rd _ 12 (by decide) _ rfl, rd _
    13 (by decide) _ rfl, rd _ 14 (by decide) _ rfl, rd _ 15 (by decide) _ rfl, rd _ 16 (by decide) _ rfl, rd _ 17
    (by decide) _ rfl, rd _ 18 (by decide) _ rfl, rd _ 19 (by decide) _ rfl, r_159 a1 a2 a3 a4 a5 a6 a7 a8 a9 a10
    a13 a14 low X1 X2 X3 X4 X5 X6 X7 X8 X9 X10 X14 acc f]
  rfl

/-- The run's states are the `kstep` states. -/
theorem st_eq (G : BufTy.Contents (Elt F) a13.view.ty) (init : Carry F) : ∀ k, k ≤ k0_t1_loop.trips →
    ((st_k0_t1 𝒱 c bd a0 h0 a1 h1 a2 h2 a3 h3 a4 h4 a5 h5 a6 h6 a7 h7 a8 h8 a9 h9 a10 h10 a11 h11 a12 h12 a13 h13 a14 h14 v23 v24 v27 w1 w2 w3 w4 w5 w6 w7 w8 w9 low X1 X2 X3 X4 X5 X6 X7 X8 X9 X10 X14 G init k).1,
      a13.view.read (Elt F) (a13.view.writes (Elt F) G
        (st_k0_t1 𝒱 c bd a0 h0 a1 h1 a2 h2 a3 h3 a4 h4 a5 h5 a6 h6 a7 h7 a8 h8 a9 h9 a10 h10 a11 h11 a12 h12 a13 h13 a14 h14 v23 v24 v27 w1 w2 w3 w4 w5 w6 w7 w8 w9 low X1 X2 X3 X4 X5 X6 X7 X8 X9 X10 X14 G init k).2))
    = kst (tarr a1 a2 a3 a4 a5 a6 a7 a8 a9 a10 a14 X1 X2 X3 X4 X5 X6 X7 X8 X9 X10 X14) v23 v24 v27 low (init, a13.view.read (Elt F) G) k
  | 0, _ => by rw [st_k0_t1_zero]; rfl
  | k + 1, hk => by
    have ih := st_eq G init k (Nat.le_of_succ_le hk)
    have hs := st_k0_t1_succ 𝒱 c bd a0 h0 a1 h1 a2 h2 a3 h3 a4 h4 a5 h5 a6 h6 a7 h7 a8 h8 a9 h9 a10 h10 a11 h11 a12 h12 a13 h13 a14 h14 v23 v24 v27 w1 w2 w3 w4 w5 w6 w7 w8 w9 low X1 X2 X3 X4 X5 X6 X7 X8 X9 X10 X14 G init ⟨k, hk⟩
    rw [hs]
    generalize st_k0_t1 𝒱 c bd a0 h0 a1 h1 a2 h2 a3 h3 a4 h4 a5 h5 a6 h6 a7 h7 a8 h8 a9 h9 a10 h10 a11 h11 a12 h12 a13 h13 a14 h14 v23 v24 v27 w1 w2 w3 w4 w5 w6 w7 w8 w9 low X1 X2 X3 X4 X5 X6 X7 X8 X9 X10 X14 G init k = s at ih
    show _ = kstep _ _ _ _ _ k (kst _ _ _ _ _ _ k)
    rw [← ih, tripR_eq, tripL_eq, View.writes_append, read_pcs]
    unfold kstep
    rw [dif_pos (show k < k0_t1_loop.trips from hk)]
    rfl

end Cert.KernelIdeal.Scan

end
-- ==== Proof.PickMath.lean ====
/-
  The arithmetic both programs do, on extended reals: how much two boxes overlap (`over`), the first index of a
  sequence's greatest entry (`IsFirst`, `first`), and the sequence of scores that greedy suppression runs through
  (`scores`): each trip picks the first greatest score and strikes out the boxes that overlap its box too much.
-/
module

public import Idealize.ShloMosaic.PureOps.Ideal
public import Idealize.ShloMosaic.PureOps.Ideal.Laws

@[expose] public section

noncomputable section

open Idealize.ShloMosaic

namespace Cert.Pick

/-- A box: its corners and its area. -/
structure Quad where
  x1 : EReal
  y1 : EReal
  x2 : EReal
  y2 : EReal
  area : EReal

/-- The box with these corners. -/
def quad (x1 y1 x2 y2 : EReal) : Quad := ⟨x1, y1, x2, y2, (x2 - x1) * (y2 - y1)⟩

/-- The area two boxes share. -/
def inter (a b : Quad) : EReal :=
  max (min a.x2 b.x2 - max a.x1 b.x1) (Ideal.ofBits .f32 0x00000000#32) *
    max (min a.y2 b.y2 - max a.y1 b.y1) (Ideal.ofBits .f32 0x00000000#32)

/-- The shared area over the area of the union (and a little more). -/
def over (a b : Quad) : EReal :=
  Ideal.div (inter a b) (a.area + b.area - inter a b + Ideal.ofBits .f32 0x3089705F#32)

/-- Box `b` is struck out when `a` is picked. -/
def Hit (a b : Quad) : Prop := Ideal.ofBits .f32 0x3F19999A#32 < over a b

/-- The score of what is struck out. -/
def low : EReal := Ideal.ofBits .f32 0xCE6E6B28#32

theorem low_eq : low = ((-1000000000 : ℝ) : EReal) := by
  simp [low, Ideal.ofBits, Ideal.ieee, -EReal.coe_mul]; norm_num

theorem start_eq : Ideal.ofBits .f32 0xCEEE6B28#32 = ((-2000000000 : ℝ) : EReal) := by
  simp [Ideal.ofBits, Ideal.ieee, -EReal.coe_mul]; norm_num

theorem start_lt_low : Ideal.ofBits .f32 0xCEEE6B28#32 < low := by
  rw [low_eq, start_eq]; exact EReal.coe_lt_coe_iff.2 (by norm_num)

theorem bot_eq : Ideal.ofBits .f32 0xFF800000#32 = (⊥ : EReal) := by
  simp [Ideal.ofBits, Ideal.ieee, -EReal.coe_mul]

/-- A box of enough area overlaps itself enough to be struck out. -/
theorem hit_self (x1 y1 x2 y2 : ℝ) (hx : 0 < x2 - x1) (hy : 0 < y2 - y1) (ha : 1 / 200000000 ≤ (x2 - x1) * (y2 - y1)) :
    Hit (quad x1 y1 x2 y2) (quad x1 y1 x2 y2) := by
  have he : ∃ e : ℝ, Ideal.ofBits .f32 0x3089705F#32 = (e : EReal) ∧ 0 < e ∧ e < 1 / 900000000 :=
    ⟨_, by simp [Ideal.ofBits, Ideal.ieee, -EReal.coe_mul]; rfl, by norm_num, by norm_num⟩
  have ht : ∃ e : ℝ, Ideal.ofBits .f32 0x3F19999A#32 = (e : EReal) ∧ e < 7 / 10 :=
    ⟨_, by simp [Ideal.ofBits, Ideal.ieee, -EReal.coe_mul]; rfl, by norm_num⟩
  obtain ⟨e, he, e0, e1⟩ := he
  obtain ⟨t, ht, t1⟩ := ht
  have m0 : max ((x2 : EReal) - x1) 0 = ((x2 - x1 : ℝ) : EReal) := by
    rw [← EReal.coe_sub]; exact max_eq_left (by exact_mod_cast (by linarith : (0 : ℝ) ≤ x2 - x1))
  have m1 : max ((y2 : EReal) - y1) 0 = ((y2 - y1 : ℝ) : EReal) := by
    rw [← EReal.coe_sub]; exact max_eq_left (by exact_mod_cast (by linarith : (0 : ℝ) ≤ y2 - y1))
  have hi : inter (quad x1 y1 x2 y2) (quad x1 y1 x2 y2) = (((x2 - x1) * (y2 - y1) : ℝ) : EReal) := by
    simp only [inter, quad, min_self, max_self, Ideal.ofBits_zero_f32, m0, m1, EReal.coe_mul]
  have har : (quad x1 y1 x2 y2).area = (((x2 - x1) * (y2 - y1) : ℝ) : EReal) := by
    simp only [quad, EReal.coe_mul, EReal.coe_sub]
  unfold Hit over
  rw [hi, har, he, ht]
  generalize (x2 - x1) * (y2 - y1) = a at ha
  have hs : (a : EReal) + a - a + e = ((a + e : ℝ) : EReal) := by
    rw [← EReal.coe_add, ← EReal.coe_sub, ← EReal.coe_add]; congr 1; ring
  rw [hs]
  unfold Ideal.div
  rw [if_neg (by exact_mod_cast (by linarith : a + e ≠ 0)), ← EReal.coe_inv, ← EReal.coe_mul]
  refine EReal.coe_lt_coe_iff.2 (t1.trans ?_)
  rw [← div_eq_mul_inv, div_lt_div_iff₀ (by norm_num) (by linarith)]
  linarith

/-- `n` is the first, among `0 … N-1`, at which `f` is greatest. -/
def IsFirst (N : ℕ) (f : ℕ → EReal) (n : ℕ) : Prop := n < N ∧ (∀ k < N, f k ≤ f n) ∧ ∀ k < n, f k < f n

theorem IsFirst.unique {N : ℕ} {f : ℕ → EReal} {n n' : ℕ} (h : IsFirst N f n) (h' : IsFirst N f n') : n = n' := by
  rcases lt_trichotomy n n' with g | g | g
  · exact absurd (h'.2.2 n g) (not_lt.2 (h.2.1 n' h'.1))
  · exact g
  · exact absurd (h.2.2 n' g) (not_lt.2 (h'.2.1 n h.1))

theorem exists_isFirst (N : ℕ) (hN : 0 < N) (f : ℕ → EReal) : ∃ n, IsFirst N f n := by
  classical
  have hex : ∃ n, n < N ∧ ∀ k < N, f k ≤ f n := by
    obtain ⟨n, hn, h⟩ := Finset.exists_max_image (Finset.range N) f ⟨0, Finset.mem_range.2 hN⟩
    exact ⟨n, Finset.mem_range.1 hn, fun k hk => h k (Finset.mem_range.2 hk)⟩
  obtain ⟨h1, h2⟩ := Nat.find_spec hex
  refine ⟨Nat.find hex, h1, h2, fun k hk => lt_of_le_of_ne (h2 k (hk.trans h1)) fun e => ?_⟩
  exact Nat.find_min hex hk ⟨hk.trans h1, fun j hj => e ▸ h2 j hj⟩

/-- Entries that are no greater than any other, put after the end, change nothing. -/
theorem IsFirst.shorten {N N' : ℕ} {f : ℕ → EReal} {n : ℕ} (h : IsFirst N' f n) (hN : 0 < N) (hNN : N ≤ N')
    (hlo : ∀ k, N ≤ k → f k ≤ f 0) : IsFirst N f n := by
  have hn : n < N := by
    by_contra hc
    have hc := not_lt.1 hc
    exact absurd (h.2.2 0 (by omega)) (not_lt.2 (hlo n hc))
  exact ⟨hn, fun k hk => h.2.1 k (by omega), h.2.2⟩

/-- The first, among the 20000 boxes, with the greatest score. -/
def first (f : ℕ → EReal) : ℕ := Classical.choose (exists_isFirst 20000 (by norm_num) f)

theorem isFirst_first (f : ℕ → EReal) : IsFirst 20000 f (first f) :=
  Classical.choose_spec (exists_isFirst 20000 (by norm_num) f)

theorem first_lt (f : ℕ → EReal) : first f < 20000 := (isFirst_first f).1

instance (a b : Quad) : Decidable (Hit a b) := Classical.propDecidable _

/-- The scores after `t` picks. -/
def scores (Q : ℕ → Quad) (m : ℕ → EReal) : ℕ → ℕ → EReal
  | 0 => m
  | t + 1 => fun k =>
      if Hit (Q (first (scores Q m t))) (Q k) then low else scores Q m t k

/-- The `t`-th box picked. -/
def pick (Q : ℕ → Quad) (m : ℕ → EReal) (t : ℕ) : ℕ := first (scores Q m t)

theorem pick_lt (Q : ℕ → Quad) (m : ℕ → EReal) (t : ℕ) : pick Q m t < 20000 := first_lt _

theorem low_le_scores (Q : ℕ → Quad) (m : ℕ → EReal) (h : ∀ k, low ≤ m k) (t k : ℕ) : low ≤ scores Q m t k := by
  induction t with
  | zero => exact h k
  | succ t ih =>
    show low ≤ ite _ _ _
    split
    · exact le_rfl
    · exact ih

theorem scores_pad (Q : ℕ → Quad) (m : ℕ → EReal) (h : ∀ k, 20000 ≤ k → m k = low) (t k : ℕ) (hk : 20000 ≤ k) :
    scores Q m t k = low := by
  induction t with
  | zero => exact h k hk
  | succ t ih =>
    show ite _ _ _ = low
    split
    · rfl
    · exact ih

/-- What has been picked is struck out with the boxes it overlaps. -/
theorem scores_pick (Q : ℕ → Quad) (m : ℕ → EReal) (h : ∀ k < 20000, Hit (Q k) (Q k)) (t : ℕ) :
    scores Q m (t + 1) (pick Q m t) = low := if_pos (h _ (pick_lt Q m t))

theorem scores_hit (Q : ℕ → Quad) (m : ℕ → EReal) (t k : ℕ) (h : Hit (Q (pick Q m t)) (Q k)) :
    scores Q m (t + 1) k = low := if_pos h

theorem scores_keep (Q : ℕ → Quad) (m : ℕ → EReal) (t k : ℕ) (h : ¬ Hit (Q (pick Q m t)) (Q k)) :
    scores Q m (t + 1) k = scores Q m t k := if_neg h

/-- The padded sequence's first greatest entry is the pick. -/
theorem pick_of_isFirst (Q : ℕ → Quad) (m : ℕ → EReal) (h : ∀ k, low ≤ m k) (hp : ∀ k, 20000 ≤ k → m k = low)
    (N t n : ℕ) (hN : 20000 ≤ N) (hn : IsFirst N (scores Q m t) n) : n = pick Q m t :=
  (hn.shorten (by norm_num) hN fun k hk => by
    rw [scores_pad Q m hp t k hk]; exact low_le_scores Q m h t 0).unique (isFirst_first _)

end Cert.Pick

end
-- ==== Proof.ScanReduce.lean ====
/-
  What the kernel's reductions over all lanes give on extended reals: the greatest lane's value, the least lane's
  number, the sum of the one lane that is not zeroed.
-/
module

public import proofs.«01_k».proof.Proof.ScanLoop
public import proofs.«01_k».proof.Proof.PickMath
public import Idealize.ShloMosaic.PureOps.Reduce

@[expose] public section

noncomputable section

open Idealize.ShloMosaic Idealize.ShloMosaic.TcCoe

namespace Cert.KernelIdeal.Scan

open Cert.KernelIdeal Cert.KernelIdeal.Gen

/-- The one index of a one-entry vector. -/
def i1 : S1.Idx := fun a => ⟨0, by fin_cases a; decide⟩

/-- A one-entry vector spread over all lanes has its entry on every lane. -/
theorem spread {α : Type} (v : S1.Idx → α) (h1 : S1.ShapeCasts S1x1x1) (h2) (h3 : S1x1.ShapeCasts S1x1)
    (h4 : S1x1.Broadcasts S8x128) (p : S8x128.Idx) :
    broadcastTo S8x128 (shapeCast S1x1 (broadcast S1x1 (extractAt ![0, 0, 0] (shapeCast S1x1x1 v h1) h2)) h3) h4 p
      = v i1 := by
  show v _ = v i1
  refine congrArg v (funext fun a => ?_)
  have : Subsingleton (Fin (S1.size a)) := by fin_cases a; exact inferInstanceAs (Subsingleton (Fin 1))
  exact Subsingleton.elim _ _

theorem drop_i1 (h : S1x8x128.Reduces [1, 2] S1) (i : S1x8x128.Idx) : h.drop i = i1 := by
  refine funext fun a => ?_
  have : Subsingleton (Fin (S1.size a)) := by fin_cases a; exact inferInstanceAs (Subsingleton (Fin 1))
  exact Subsingleton.elim _ _

/-- The lane an index of the one-slab form of an 8 × 128 vector stands for. -/
def lane (h : S8x128.ShapeCasts S1x8x128) : S1x8x128.Idx ≃ S8x128.Idx := Shape.reshapeEquiv h

theorem cast_lane {α : Type} (x : S8x128.Idx → α) (h : S8x128.ShapeCasts S1x8x128) (i : S1x8x128.Idx) :
    shapeCast S1x8x128 x h i = x (lane h i) := rfl

/-- The sum over all lanes. -/
theorem sumAll (x : FVec Ideal S8x128 .f32) (hc : S8x128.ShapeCasts S1x8x128) (h : S1x8x128.Reduces [1, 2] S1) (hφ) (ha) :
    multiReduction .add [1, 2] S1 (shapeCast S1x8x128 x hc) 0x00000000#32 h hφ ha i1 = ∑ p : S8x128.Idx, x p := by
  rw [Ideal.multiReduction_add_total _ _ h (by decide) hφ ha]
  exact Equiv.sum_comp (lane hc) x

/-- The greatest of all lanes. -/
theorem maxAll (x : FVec Ideal S8x128 .f32) (hc : S8x128.ShapeCasts S1x8x128) (h : S1x8x128.Reduces [1, 2] S1) (hφ) (ha) :
    (∀ p, x p ≤ multiReduction .maximumf [1, 2] S1 (shapeCast S1x8x128 x hc) 0xFF800000#32 h hφ ha i1) ∧
      ∃ p, multiReduction .maximumf [1, 2] S1 (shapeCast S1x8x128 x hc) 0xFF800000#32 h hφ ha i1 = x p := by
  have e : multiReduction .maximumf [1, 2] S1 (shapeCast S1x8x128 x hc) 0xFF800000#32 h hφ ha i1
      = (Finset.univ : Finset S1x8x128.Idx).fold max (⊥ : EReal) (fun i => x (lane hc i)) := by
    rw [multiReduction_maximumf_eq_fold, Finset.filter_true_of_mem fun i _ => drop_i1 h i]
    show Finset.fold max (Ideal.ofBits .f32 0xFF800000#32) _ _ = _
    rw [Pick.bot_eq]; rfl
  rw [e]
  have hub : ∀ p, x p ≤ (Finset.univ : Finset S1x8x128.Idx).fold max (⊥ : EReal) (fun i => x (lane hc i)) := fun p =>
    (Finset.le_fold_max _).2 (Or.inr ⟨(lane hc).symm p, Finset.mem_univ _, by rw [Equiv.apply_symm_apply]⟩)
  refine ⟨hub, ?_⟩
  rcases (Finset.le_fold_max _).1 (le_refl ((Finset.univ : Finset S1x8x128.Idx).fold max (⊥ : EReal) (fun i => x (lane hc i))))
    with g | ⟨i, _, g⟩
  · have p0 : S8x128.Idx := fun a => ⟨0, by fin_cases a <;> decide⟩
    exact ⟨p0, le_antisymm (g.trans bot_le) (hub p0)⟩
  · exact ⟨lane hc i, le_antisymm g (hub _)⟩

theorem fold_minsi {ι : Type} [DecidableEq ι] (f : ι → BitVec 32) (b : BitVec 32) (s : Finset ι) :
    (∀ i ∈ s, (s.fold IntOp.minsi b f).toInt ≤ (f i).toInt) ∧ (s.fold IntOp.minsi b f).toInt ≤ b.toInt ∧
      (s.fold IntOp.minsi b f = b ∨ ∃ i ∈ s, s.fold IntOp.minsi b f = f i) := by
  induction s using Finset.induction_on with
  | empty => exact ⟨fun i hi => absurd hi (Finset.notMem_empty i), le_rfl, Or.inl rfl⟩
  | insert a s ha ih =>
    rw [Finset.fold_insert ha]
    obtain ⟨ih1, ih2, ih3⟩ := ih
    have hm : ∀ x y : BitVec 32, (IntOp.minsi x y = x ∧ x.toInt < y.toInt) ∨ (IntOp.minsi x y = y ∧ y.toInt ≤ x.toInt) := by
      intro x y
      unfold IntOp.minsi
      by_cases g : x.slt y = true
      · rw [if_pos g]; exact Or.inl ⟨rfl, BitVec.slt_iff_toInt_lt.1 g⟩
      · rw [if_neg g]; exact Or.inr ⟨rfl, not_lt.1 fun h => g (BitVec.slt_iff_toInt_lt.2 h)⟩
    rcases hm (f a) (s.fold IntOp.minsi b f) with ⟨e, g⟩ | ⟨e, g⟩ <;> rw [e]
    · refine ⟨fun i hi => ?_, by omega, Or.inr ⟨a, Finset.mem_insert_self _ _, rfl⟩⟩
      rcases Finset.mem_insert.1 hi with rfl | hi
      · exact le_rfl
      · exact g.le.trans (ih1 i hi)
    · refine ⟨fun i hi => ?_, ih2, ?_⟩
      · rcases Finset.mem_insert.1 hi with rfl | hi
        · exact g
        · exact ih1 i hi
      · rcases ih3 with h | ⟨i, hi, h⟩
        · exact Or.inl h
        · exact Or.inr ⟨i, Finset.mem_insert_of_mem hi, h⟩

/-- The least of all lanes. -/
theorem minAll (x : IVec S8x128 32) (hc : S8x128.ShapeCasts S1x8x128) (h : S1x8x128.Reduces [1, 2] S1) (ha) :
    (∀ p, (multiReductionI .minsi [1, 2] S1 (shapeCast S1x8x128 x hc) 2147483647#32 h ha i1).toInt ≤ (x p).toInt) ∧
      (multiReductionI .minsi [1, 2] S1 (shapeCast S1x8x128 x hc) 2147483647#32 h ha i1 = 2147483647#32 ∨
      ∃ p, multiReductionI .minsi [1, 2] S1 (shapeCast S1x8x128 x hc) 2147483647#32 h ha i1 = x p) := by
  have e : multiReductionI .minsi [1, 2] S1 (shapeCast S1x8x128 x hc) 2147483647#32 h ha i1
      = (Finset.univ : Finset S1x8x128.Idx).fold IntOp.minsi 2147483647#32 (fun i => x (lane hc i)) := by
    rw [multiReductionI_eq_fold, Finset.filter_true_of_mem fun i _ => drop_i1 h i]; rfl
  rw [e]
  obtain ⟨h1, _, h3⟩ := fold_minsi (fun i => x (lane hc i)) 2147483647#32 (Finset.univ : Finset S1x8x128.Idx)
  refine ⟨fun p => ?_, h3.imp id fun ⟨i, _, g⟩ => ⟨_, g⟩⟩
  have := h1 ((lane hc).symm p) (Finset.mem_univ _)
  rwa [Equiv.apply_symm_apply] at this

theorem zero_word : (Scalar.ofBits .f32 0x00000000#32 : Ideal .f32) = 0 := Ideal.ofBits_zero_f32

/-- The sum over all lanes of a vector that keeps one lane is that lane's value, on every lane. -/
theorem pay10_eq (x : FVec Ideal S8x128 .f32) (em : IVec S8x128 1) (p0 : S8x128.Idx) (hem : ∀ p, em p = 1#1 ↔ p = p0)
    (p : S8x128.Idx) : k0_pay10 x em p = x p0 := by
  unfold k0_pay10
  dsimp only
  refine (spread _ _ _ _ _ p).trans ((sumAll _ _ _ _ _).trans ?_)
  rw [Finset.sum_eq_single p0]
  · show Scalar.select (em p0) _ _ = _
    rw [(hem p0).2 rfl]; rfl
  · intro q _ hq
    show (if em q = 1#1 then x q else _) = _
    rw [if_neg fun h => hq ((hem q).1 h)]; exact zero_word
  · intro h; exact absurd (Finset.mem_univ _) h

theorem pay9_eq (x : FVec Ideal S8x128 .f32) (em : IVec S8x128 1) (p0 : S8x128.Idx) (hem : ∀ p, em p = 1#1 ↔ p = p0)
    (p : S8x128.Idx) : k0_pay9 x em p = x p0 := pay10_eq x em p0 hem p

end Cert.KernelIdeal.Scan

end
-- ==== Proof.ScanGood.lean ====
/-
  The kernel's walk and its choice on extended reals: after a walk every lane holds the first greatest score among its
  twenty boxes (`Good`), and the choice over all lanes is the first greatest score of all 20480 (`Good.choice`).
-/
module

public import proofs.«01_k».proof.Proof.ScanReduce

@[expose] public section

set_option maxRecDepth 4096

noncomputable section

open Idealize.ShloMosaic Idealize.ShloMosaic.TcCoe

namespace Cert.KernelIdeal.Scan

open Cert.KernelIdeal Cert.KernelIdeal.Gen

/-- Lane `p`'s number in its chunk. -/
def fl (p : S8x128.Idx) : ℕ := 128 * (p 0).val + (p 1).val

theorem fl_lt (p : S8x128.Idx) : fl p < 1024 := by
  have h0 : (p 0).val < 8 := (p 0).isLt
  have h1 : (p 1).val < 128 := (p 1).isLt
  unfold fl; omega

theorem fl_inj {p q : S8x128.Idx} (h : fl p = fl q) : p = q := by
  have h0 : (p 0).val < 8 := (p 0).isLt
  have h1 : (p 1).val < 128 := (p 1).isLt
  have g0 : (q 0).val < 8 := (q 0).isLt
  have g1 : (q 1).val < 128 := (q 1).isLt
  unfold fl at h
  refine funext fun a => Fin.ext ?_
  match a with
  | ⟨0, _⟩ => show (p 0).val = (q 0).val; omega
  | ⟨1, _⟩ => show (p 1).val = (q 1).val; omega

/-- The lane numbered `k`. -/
def unfl (k : ℕ) : S8x128.Idx := fun a =>
  match a with
  | ⟨0, _⟩ => ⟨k / 128 % 8, Nat.mod_lt _ (by decide)⟩
  | ⟨1, _⟩ => ⟨k % 128, Nat.mod_lt _ (by decide)⟩

theorem fl_unfl (k : ℕ) (hk : k < 1024) : fl (unfl k) = k := by
  show 128 * (k / 128 % 8) + k % 128 = k
  omega

/-- Box `k`'s place in a 160-row array. -/
def cell (k : ℕ) : S160x128.Idx := fun a =>
  match a with
  | ⟨0, _⟩ => ⟨k / 128 % 160, Nat.mod_lt _ (by decide)⟩
  | ⟨1, _⟩ => ⟨k % 128, Nat.mod_lt _ (by decide)⟩

theorem place_eq (i : ℕ) (hi : i < 20) (p : S8x128.Idx) : place i p = cell (1024 * i + fl p) := by
  have h0 : (p 0).val < 8 := (p 0).isLt
  have h1 : (p 1).val < 128 := (p 1).isLt
  refine funext fun a => Fin.ext ?_
  match a with
  | ⟨0, _⟩ =>
    show (8 * i + (p 0).val) % 160 = (1024 * i + (128 * (p 0).val + (p 1).val)) / 128 % 160
    omega
  | ⟨1, _⟩ =>
    show (p 1).val = (1024 * i + (128 * (p 0).val + (p 1).val)) % 128
    omega

theorem chunk_eq {e : EltTy} (X : Vec Ideal S160x128 e) (i : ℕ) (hi : i < 20) (p : S8x128.Idx) :
    chunk X i p = X (cell (1024 * i + fl p)) := congrArg X (place_eq i hi p)

theorem pay271_eq (p : S8x128.Idx) : (k0_pay271 : IVec S8x128 32) p = BitVec.ofNat 32 (fl p) := by
  have h0 : (p 0).val < 8 := (p 0).isLt
  have h1 : (p 1).val < 128 := (p 1).isLt
  have e : ∀ a b : ℕ, BitVec.ofNat 32 a * 128#32 + BitVec.ofNat 32 b = BitVec.ofNat 32 (128 * a + b) := by
    intro a b; apply BitVec.eq_of_toNat_eq; simp; omega
  have := e (p 0).val (p 1).val
  unfold fl
  rw [← this]
  show BitVec.ofNat 32 (0 * 8 + (p 0).val) * 128#32 + BitVec.ofNat 32 (0 * 128 + (p 1).val) = _
  rw [Nat.zero_mul, Nat.zero_add, Nat.zero_add]

/-- Lane `p` holds box `n`: the first, of the boxes `fl p`, `1024 + fl p`, … of the first `c` chunks, with the greatest score. -/
structure Holds (A : Arr Ideal) (m : ℕ → EReal) (c : ℕ) (s : Lanes Ideal) (p : S8x128.Idx) (i : ℕ) : Prop where
  lt : i < c
  vm : s.vm p = m (1024 * i + fl p)
  vi : s.vi p = BitVec.ofNat 32 (1024 * i + fl p)
  x1 : s.x1 p = A.ox1 (cell (1024 * i + fl p))
  y1 : s.y1 p = A.oy1 (cell (1024 * i + fl p))
  x2 : s.x2 p = A.ox2 (cell (1024 * i + fl p))
  y2 : s.y2 p = A.oy2 (cell (1024 * i + fl p))
  sc : s.sc p = A.sc (cell (1024 * i + fl p))
  off : s.off p = A.off (cell (1024 * i + fl p))
  le : ∀ j < c, m (1024 * j + fl p) ≤ m (1024 * i + fl p)
  fst : ∀ j < i, m (1024 * j + fl p) < m (1024 * i + fl p)

theorem pick_up {α : Type} (a b : EReal) (u v : α) (h : b < a) :
    Scalar.select (FloatOps.cmpf (F := Ideal) (φ := .f32) .ogt a b) u v = u := by
  show (if BitVec.ofBool (decide (b < a)) = 1#1 then u else v) = u
  rw [decide_eq_true h]; rfl

theorem pick_old {α : Type} (a b : EReal) (u v : α) (h : ¬ b < a) :
    Scalar.select (FloatOps.cmpf (F := Ideal) (φ := .f32) .ogt a b) u v = v := by
  show (if BitVec.ofBool (decide (b < a)) = 1#1 then u else v) = v
  rw [decide_eq_false h]; rfl

/-- Taking one more chunk in. -/
theorem push_holds (A : Arr Ideal) (m : ℕ → EReal) (M : FVec Ideal S8x128 .f32) (c : ℕ) (hc : c < 20) (s : Lanes Ideal)
    (p : S8x128.Idx) (hM : M p = m (1024 * c + fl p))
    (hs : (c = 0 ∧ s.vm p < M p) ∨ ∃ i, Holds A m c s p i) :
    ∃ i, Holds A m (c + 1) (push A k0_pay271 M c s) p i := by
  by_cases g : s.vm p < M p
  · have lt : ∀ j < c, m (1024 * j + fl p) < m (1024 * c + fl p) := by
      intro j hj
      rcases hs with ⟨h0, _⟩ | ⟨i, hi⟩
      · omega
      · exact (hi.le j hj).trans_lt (by rw [← hi.vm, ← hM]; exact g)
    refine ⟨c, ⟨Nat.lt_succ_self c, ?_, ?_, ?_, ?_, ?_, ?_, ?_, ?_, ?_, lt⟩⟩
    · rw [← hM]; exact max_eq_right g.le
    · refine (pick_up _ _ _ _ g).trans ?_
      show (k0_pay271 : IVec S8x128 32) p + BitVec.ofNat 32 (1024 * c) = _
      rw [pay271_eq]
      apply BitVec.eq_of_toNat_eq
      simp only [BitVec.toNat_add, BitVec.toNat_ofNat]; omega
    · exact (pick_up _ _ _ _ g).trans (chunk_eq _ c hc p)
    · exact (pick_up _ _ _ _ g).trans (chunk_eq _ c hc p)
    · exact (pick_up _ _ _ _ g).trans (chunk_eq _ c hc p)
    · exact (pick_up _ _ _ _ g).trans (chunk_eq _ c hc p)
    · exact (pick_up _ _ _ _ g).trans (chunk_eq _ c hc p)
    · exact (pick_up _ _ _ _ g).trans (chunk_eq _ c hc p)
    · intro j hj
      rcases Nat.lt_succ_iff_lt_or_eq.1 hj with h | rfl
      · exact (lt j h).le
      · exact le_rfl
  · rcases hs with ⟨_, h⟩ | ⟨i, hi⟩
    · exact absurd h g
    · refine ⟨i, ⟨hi.lt.trans (Nat.lt_succ_self c), ?_, (pick_old _ _ _ _ g).trans hi.vi, (pick_old _ _ _ _ g).trans hi.x1,
        (pick_old _ _ _ _ g).trans hi.y1, (pick_old _ _ _ _ g).trans hi.x2, (pick_old _ _ _ _ g).trans hi.y2,
        (pick_old _ _ _ _ g).trans hi.sc, (pick_old _ _ _ _ g).trans hi.off, ?_, hi.fst⟩⟩
      · exact (max_eq_left (not_lt.1 g)).trans hi.vm
      · intro j hj
        rcases Nat.lt_succ_iff_lt_or_eq.1 hj with h | rfl
        · exact hi.le j h
        · rw [← hi.vm, ← hM]; exact not_lt.1 g

/-- After a walk over `c` chunks every lane holds a box. -/
theorem walk_holds (A : Arr Ideal) (m : ℕ → EReal) (v27 : FVec Ideal S8x128 .f32) (M : ℕ → FVec Ideal S8x128 .f32)
    (hm : ∀ k, Pick.low ≤ m k) (hM : ∀ i < 20, ∀ p, M i p = m (1024 * i + fl p)) (p : S8x128.Idx) (c : ℕ) (hc : c < 20) :
    ∃ i, Holds A m (c + 1) (walk A k0_pay271 v27 M (c + 1)) p i := by
  induction c with
  | zero =>
    refine push_holds A m (M 0) 0 hc _ p (hM 0 hc p) (Or.inl ⟨rfl, ?_⟩)
    rw [hM 0 hc p]
    exact Pick.start_lt_low.trans_le (hm _)
  | succ c ih => exact push_holds A m (M (c + 1)) (c + 1) hc _ p (hM _ hc p) (Or.inr (ih (by omega)))

/-- Every lane holds the first greatest of its twenty boxes. -/
def Good (A : Arr Ideal) (m : ℕ → EReal) (s : Lanes Ideal) : Prop := ∀ p, ∃ i, Holds A m 20 s p i

theorem walk_good (A : Arr Ideal) (m : ℕ → EReal) (v27 : FVec Ideal S8x128 .f32) (M : ℕ → FVec Ideal S8x128 .f32)
    (hm : ∀ k, Pick.low ≤ m k) (hM : ∀ i < 20, ∀ p, M i p = m (1024 * i + fl p)) :
    Good A m (walk A k0_pay271 v27 M 20) := fun p => walk_holds A m v27 M hm hM p 19 (by norm_num)

theorem ofNat_toInt (n : ℕ) (h : n < 20480) : (BitVec.ofNat 32 n).toInt = n := by
  rw [BitVec.toInt_ofNat', Int.bmod_eq_of_le] <;> omega

/-- The choice over all lanes. -/
theorem Good.choice {A : Arr Ideal} {m : ℕ → EReal} {s : Lanes Ideal} (h : Good A m s) :
    ∃ (p0 : S8x128.Idx) (i0 : ℕ), Holds A m 20 s p0 i0 ∧ Pick.IsFirst 20480 m (1024 * i0 + fl p0) ∧
      (∀ p, k0_pay2 s.vm s.vi p = BitVec.ofNat 32 (1024 * i0 + fl p0)) ∧
      ∀ p, k0_pay3 s.vm s.vi p = 1#1 ↔ p = p0 := by
  obtain ⟨R, hR, hub, pR, hpR⟩ : ∃ R : EReal,
      (∀ p, broadcastTo S8x128 (shapeCast S1x1 (broadcast S1x1 (extractAt ![0, 0, 0] (shapeCast S1x1x1
        (multiReduction .maximumf [1, 2] S1 (shapeCast S1x8x128 s.vm shapeCasts_S8x128_S1x8x128) 0xFF800000#32
          reduces_S1x8x128_S1 (.inl rfl) rfl) shapeCasts_S1_S1x1x1) inpos_S1x1x1_p0_0_0))
        shapeCasts_S1x1_S1x1) broadcasts_S1x1_S8x128 p = R) ∧ (∀ p, s.vm p ≤ R) ∧ ∃ p, R = s.vm p := by
    have := maxAll s.vm shapeCasts_S8x128_S1x8x128 reduces_S1x8x128_S1 (.inl rfl) rfl
    exact ⟨_, fun p => spread _ _ _ _ _ p, this.1, this.2⟩
  choose I hI using h
  have hn : ∀ p, 1024 * I p + fl p < 20480 := fun p => by have := (hI p).lt; have := fl_lt p; omega
  -- the lanes' numbers where the score is the greatest
  let y : IVec S8x128 32 := fun p => if s.vm p = R then s.vi p else 1073741824#32
  obtain ⟨hlo, hex⟩ := minAll y shapeCasts_S8x128_S1x8x128 reduces_S1x8x128_S1 rfl
  have hpay : ∀ p, k0_pay2 s.vm s.vi p
      = multiReductionI .minsi [1, 2] S1 (shapeCast S1x8x128 y shapeCasts_S8x128_S1x8x128) 2147483647#32
          reduces_S1x8x128_S1 rfl i1 := by
    intro p
    unfold k0_pay2
    dsimp only
    refine (spread _ _ _ _ _ p).trans ?_
    refine congrArg (fun z : IVec S8x128 32 => multiReductionI .minsi [1, 2] S1 (shapeCast S1x8x128 z shapeCasts_S8x128_S1x8x128)
      2147483647#32 reduces_S1x8x128_S1 rfl i1) (funext fun q => ?_)
    show (if BitVec.ofBool (decide (s.vm q = _)) = 1#1 then s.vi q else 1073741824#32) = if s.vm q = R then s.vi q else 1073741824#32
    rw [hR q]
    by_cases g : s.vm q = R
    · rw [decide_eq_true g, if_pos g]; rfl
    · rw [decide_eq_false g, if_neg g]; rfl
  generalize multiReductionI .minsi [1, 2] S1 (shapeCast S1x8x128 y shapeCasts_S8x128_S1x8x128) 2147483647#32
          reduces_S1x8x128_S1 rfl i1 = w at hlo hex hpay
  have yR : ∀ p, s.vm p = R → y p = BitVec.ofNat 32 (1024 * I p + fl p) := fun p hp => (if_pos hp).trans (hI p).vi
  have hwR : w.toInt < 20480 := by
    have := hlo pR
    rw [yR pR hpR.symm, ofNat_toInt _ (hn pR)] at this
    have := hn pR
    omega
  obtain ⟨p0, hp0, hw⟩ : ∃ p0, s.vm p0 = R ∧ w = BitVec.ofNat 32 (1024 * I p0 + fl p0) := by
    rcases hex with e | ⟨p0, e⟩
    · rw [e] at hwR; exact absurd hwR (by decide)
    · by_cases g : s.vm p0 = R
      · exact ⟨p0, g, e.trans (yR p0 g)⟩
      · rw [e, show y p0 = 1073741824#32 from if_neg g] at hwR; exact absurd hwR (by decide)
  have hmin : ∀ p, s.vm p = R → 1024 * I p0 + fl p0 ≤ 1024 * I p + fl p := by
    intro p hp
    have := hlo p
    rw [yR p hp, hw, ofNat_toInt _ (hn p0), ofNat_toInt _ (hn p)] at this
    omega
  have hsplit : ∀ k < 20480, ∃ p j, j < 20 ∧ k = 1024 * j + fl p := fun k hk =>
    ⟨unfl (k % 1024), k / 1024, by omega, by rw [fl_unfl _ (Nat.mod_lt _ (by norm_num))]; omega⟩
  have hle : ∀ k < 20480, m k ≤ R := by
    intro k hk
    obtain ⟨p, j, hj, rfl⟩ := hsplit k hk
    exact ((hI p).le j hj).trans ((hI p).vm ▸ hub p)
  refine ⟨p0, I p0, hI p0, ⟨hn p0, fun k hk => ?_, fun k hk => ?_⟩, fun p => (hpay p).trans hw, fun p => ?_⟩
  · rw [← (hI p0).vm, hp0]; exact hle k hk
  · have hk' := hk.trans (hn p0)
    rw [← (hI p0).vm, hp0]
    refine lt_of_le_of_ne (hle k hk') fun e => ?_
    obtain ⟨p, j, hj, rfl⟩ := hsplit k hk'
    have hvp : s.vm p = R := le_antisymm (hub p) (by rw [(hI p).vm, ← e]; exact (hI p).le j hj)
    have := hmin p hvp
    have hlt : j < I p := by have := fl_lt p; omega
    exact absurd ((hI p).fst j hlt) (by rw [e, ← (hI p).vm, hvp]; exact lt_irrefl _)
  · unfold k0_pay3
    show BitVec.ofBool (s.vi p == k0_pay2 s.vm s.vi p) = 1#1 ↔ _
    rw [hpay p, hw, (hI p).vi]
    constructor
    · intro e
      have e' : (BitVec.ofNat 32 (1024 * I p + fl p) == BitVec.ofNat 32 (1024 * I p0 + fl p0)) = true := by
        by_contra hc
        rw [Bool.not_eq_true] at hc
        rw [hc] at e; exact absurd e (by decide)
      have e2 := congrArg BitVec.toInt (eq_of_beq e')
      rw [ofNat_toInt _ (hn p), ofNat_toInt _ (hn p0)] at e2
      have := fl_lt p; have := fl_lt p0
      exact fl_inj (by omega)
    · rintro rfl; rw [beq_self_eq_true]; rfl

end Cert.KernelIdeal.Scan

end
-- ==== Proof.Inputs.lean ====
/-
  The kernel's inputs as both programs read them: the corners of box `k` moved by its label's offset (`boxOf`), the
  scores with the weak ones struck out (`startOf`), each continued past the 20000 boxes the way the kernel pads its
  arrays; and what the precondition says of them (`hit_all`).
-/
module

public import proofs.«01_k».proof.Proof.PickMath
public import Idealize.ShloMosaic.Lib.ValueIdx

@[expose] public section

noncomputable section

open Idealize.ShloMosaic
open Idealize.ShloMosaic.ValueIdx

namespace Cert.Pick

section inputs
variable (x0 : Shape.Idx ⟨2, ![20000, 4]⟩ → EReal) (x1 : Shape.Idx ⟨1, ![20000]⟩ → EReal)
  (x2 : Shape.Idx ⟨1, ![20000]⟩ → BitVec 32)

/-- The number the kernel pads its arrays with. -/
abbrev zero : EReal := Ideal.ofBits .f32 0x00000000#32

/-- A corner of box `k`. -/
def corner (i : Fin 4) (k : ℕ) : EReal := if h : k < 20000 then x0 (ix2 ⟨k, h⟩ i) else zero

/-- How far box `k` is moved, by its label. -/
def offset (k : ℕ) : EReal :=
  if h : k < 20000 then (((x2 (ix1 ⟨k, h⟩)).toInt : ℝ) : EReal) * Ideal.ofBits .f32 0x457A0000#32 else zero

/-- The score of box `k`. -/
def score (k : ℕ) : EReal := if h : k < 20000 then x1 (ix1 ⟨k, h⟩) else zero

/-- Box `k`, moved. -/
def boxOf (k : ℕ) : Quad := quad (corner x0 0 k + offset x2 k) (corner x0 1 k + offset x2 k) (corner x0 2 k + offset x2 k)
  (corner x0 3 k + offset x2 k)

/-- The score of box `k`, struck out where it is weak. -/
def startOf (k : ℕ) : EReal :=
  if h : k < 20000 then (if Ideal.ofBits .f32 0x3DCCCCCD#32 < x1 (ix1 ⟨k, h⟩) then x1 (ix1 ⟨k, h⟩) else low) else low

theorem low_le_start (k : ℕ) : low ≤ startOf x1 k := by
  unfold startOf
  split
  · split
    · rename_i h
      refine le_trans ?_ h.le
      have e : ∃ e : ℝ, Ideal.ofBits .f32 0x3DCCCCCD#32 = (e : EReal) ∧ 0 < e :=
        ⟨_, by simp [Ideal.ofBits, Ideal.ieee, -EReal.coe_mul]; rfl, by norm_num⟩
      obtain ⟨e, he, e0⟩ := e
      rw [he, low_eq]
      exact EReal.coe_le_coe_iff.2 (by linarith)
    · exact le_rfl
  · exact le_rfl

theorem start_pad (k : ℕ) (h : 20000 ≤ k) : startOf x1 k = low := dif_neg (by omega)

/-- Boxes with finite corners, of enough area, overlap themselves enough to be struck out. -/
theorem hit_all (hf : ∀ k i, ∃ r : ℝ, x0 (ix2 k i) = (r : EReal))
    (hw : ∀ k, (0 : EReal) < x0 (ix2 k 2) - x0 (ix2 k 0)) (hh : ∀ k, (0 : EReal) < x0 (ix2 k 3) - x0 (ix2 k 1))
    (ha : ∀ k, Ideal.ofBits .f32 0x322BCC77#32 ≤ (x0 (ix2 k 2) - x0 (ix2 k 0)) * (x0 (ix2 k 3) - x0 (ix2 k 1))) (k : ℕ)
    (hk : k < 20000) : Hit (boxOf x0 x2 k) (boxOf x0 x2 k) := by
  obtain ⟨r0, h0⟩ := hf ⟨k, hk⟩ 0
  obtain ⟨r1, h1⟩ := hf ⟨k, hk⟩ 1
  obtain ⟨r2, h2⟩ := hf ⟨k, hk⟩ 2
  obtain ⟨r3, h3⟩ := hf ⟨k, hk⟩ 3
  have w := hw ⟨k, hk⟩
  have h := hh ⟨k, hk⟩
  have a := ha ⟨k, hk⟩
  have d : ∃ d : ℝ, Ideal.ofBits .f32 0x322BCC77#32 = (d : EReal) ∧ 1 / 200000000 ≤ d :=
    ⟨_, by simp [Ideal.ofBits, Ideal.ieee, -EReal.coe_mul]; rfl, by norm_num⟩
  obtain ⟨d, hd, d1⟩ := d
  rw [h0, h2, ← EReal.coe_sub, ← EReal.coe_zero, EReal.coe_lt_coe_iff] at w
  rw [h1, h3, ← EReal.coe_sub, ← EReal.coe_zero, EReal.coe_lt_coe_iff] at h
  rw [h0, h1, h2, h3, hd, ← EReal.coe_sub, ← EReal.coe_sub, ← EReal.coe_mul, EReal.coe_le_coe_iff] at a
  have e : ∃ e : ℝ, Ideal.ofBits .f32 0x457A0000#32 = (e : EReal) :=
    ⟨_, by simp [Ideal.ofBits, Ideal.ieee, -EReal.coe_mul]; rfl⟩
  obtain ⟨e, he⟩ := e
  unfold boxOf corner offset
  simp only [dif_pos hk]
  rw [h0, h1, h2, h3, he, ← EReal.coe_mul, ← EReal.coe_add, ← EReal.coe_add, ← EReal.coe_add, ← EReal.coe_add]
  refine hit_self _ _ _ _ (by linarith) (by linarith) (d1.trans (a.trans (le_of_eq ?_)))
  ring

end inputs

end Cert.Pick

end
-- ==== Proof.HostIn.lean ====
/-
  What the kernel is launched on: the arrays the host operations before it leave, read at the place of box `k` — the
  arguments' entries, padded past the 20000 boxes (`Cert.Pick`).
-/
module

public import proofs.«01_k».proof.Proof.Gen.KernelIdeal.Frame
public import proofs.«01_k».proof.Proof.ScanGood
public import proofs.«01_k».proof.Proof.Inputs
public import Idealize.ShloMosaic.Lib.StableHlo.RunRead
public import Idealize.ShloMosaic.Lib.Pointwise

@[expose] public section

set_option maxRecDepth 16384

noncomputable section

open Idealize.ShloMosaic hiding ix0 ix1 ix2
open Idealize.ShloMosaic.TcCoe Idealize.ShloMosaic.ValueIdx

namespace Cert.KernelIdeal.Host

open Cert.KernelIdeal Cert.KernelIdeal.Gen Cert.KernelIdeal.Scan Cert.Pick

/-- A vector padded to 160 rows of 128, at the place of entry `k`. -/
theorem pad_eq {α : Type} (x : S20000.Idx → α) (y : S480.Idx → α) (v : α) (hy : ∀ i, y i = v)
    (h : Shape.Concatenates [S20000, S480] S20480 0) (k : ℕ) (hk : k < 20480) :
    concatenate S20480 0 [⟨S20000, x⟩, ⟨S480, y⟩] h (ix1 (⟨k, hk⟩ : Fin 20480)) = if hl : k < 20000 then x (ix1 ⟨k, hl⟩) else v := by
  by_cases hl : k < 20000
  · rw [dif_pos hl]
    exact concatenate_pair_apply_left _ x y h _ rfl (ix1 (⟨k, hl⟩ : Fin 20000)) fun b => by
      match b with
      | ⟨0, _⟩ => rfl
  · rw [dif_neg hl]
    refine (concatenate_pair_apply_right _ x y h _ rfl rfl (ix1 (⟨k - 20000, by omega⟩ : Fin 480)) (fun b hb => ?_) ?_).trans (hy _)
    · match b with
      | ⟨0, _⟩ => exact absurd rfl hb
    · show k - 20000 + 20000 = k
      omega

/-- A vector laid out as 160 rows of 128, at the place of entry `k`. -/
theorem sheet_eq {α : Type} (x : S20480.Idx → α) (h : S20480.ShapeCasts S160x128) (k : ℕ) (hk : k < 20480) :
    shapeCast S160x128 x h (cell k) = x (ix1 (⟨k, hk⟩ : Fin 20480)) := by
  refine shapeCast_apply x h (cell k) (ix1 ⟨k, hk⟩) ?_
  rw [Shape.rowMajor_val_two, Shape.rowMajor_val_one]
  show k = k / 128 % 160 * 128 + k % 128
  omega

/-- A column of the boxes, read as a vector. -/
theorem column_eq (x : S20000x4.Idx → EReal) (o : ℕ) (h : S20000x4.Slices ![0, o] S20000x1) (h' : S20000x1.ShapeCasts S20000)
    (i : Fin 4) (hi : i.val = o) (k : Fin 20000) :
    shapeCast S20000 (extractStridedSlice S20000x1 ![0, o] x h) h' (ix1 k) = x (ix2 k i) := by
  refine (shapeCast_apply _ h' (ix1 k) (ix2 k (0 : Fin 1)) ?_).trans
    (extractStridedSlice_apply _ x h _ (ix2 k i) fun a => ?_)
  · rw [Shape.rowMajor_val_two, Shape.rowMajor_val_one]
    show k.val * 1 + 0 = k.val
    omega
  · match a with
    | ⟨0, _⟩ => show k.val = 0 + k.val; omega
    | ⟨1, _⟩ => show i.val = o + 0; omega

variable (m : (ℓ : Loc nD τ sig) → Buf (Elt Ideal) ℓ) (c : Dev nD)

/-- The boxes as launched, -/
abbrev arg0 : Shape.Idx ⟨2, ![20000, 4]⟩ → EReal := m ((c : Thread nD τ).loc main_arg0)
/-- the scores -/
abbrev arg1 : Shape.Idx ⟨1, ![20000]⟩ → EReal := m ((c : Thread nD τ).loc main_arg1)
/-- and the labels. -/
abbrev arg2 : Shape.Idx ⟨1, ![20000]⟩ → BitVec 32 := m ((c : Thread nD τ).loc main_arg2)

/-- Entries of a padded vector, whatever is written on the two pieces. -/
theorem pad_at {α : Type} (x : S20000.Idx → α) (y : S480.Idx → α) (v : α) (f : ℕ → α)
    (h : Shape.Concatenates [S20000, S480] S20480 0) (k : ℕ) (hk : k < 20480) (hy : ∀ i, y i = v)
    (hf : ∀ hl : k < 20000, x (ix1 ⟨k, hl⟩) = f k) (hg : ¬ k < 20000 → v = f k) :
    concatenate S20480 0 [⟨S20000, x⟩, ⟨S480, y⟩] h (ix1 (⟨k, hk⟩ : Fin 20480)) = f k := by
  rw [pad_eq x y v hy h k hk]
  by_cases hl : k < 20000
  · rw [dif_pos hl]; exact hf hl
  · rw [dif_neg hl]; exact hg hl

/-- A sum of two vectors at an entry, from what each holds there. -/
theorem add_at (x y : S20480.Idx → EReal) (i : S20480.Idx) (a b : EReal) (hx : x i = a) (hy : y i = b) :
    addf (F := Ideal) (φ := .f32) x y i = a + b := by
  show x i + y i = a + b
  rw [hx, hy]

/-- A score at the start. -/
theorem sel_at (x : S20000.Idx → EReal) (k : ℕ) (hl : k < 20000) :
    (if BitVec.ofBool (decide (Ideal.ofBits .f32 0x3DCCCCCD#32 < x (ix1 ⟨k, hl⟩))) = 1#1 then x (ix1 ⟨k, hl⟩) else low) = startOf x k := by
  unfold startOf
  rw [dif_pos hl]
  by_cases g : Ideal.ofBits .f32 0x3DCCCCCD#32 < x (ix1 ⟨k, hl⟩)
  · rw [decide_eq_true g, if_pos (show BitVec.ofBool true = 1#1 from rfl)]
    exact (if_pos g).symm
  · rw [decide_eq_false g, if_neg (by decide)]
    exact (if_neg g).symm

/-- Past the last box: no offset, -/
theorem offset_out (x : S20000.Idx → BitVec 32) (k : ℕ) (h : ¬ k < 20000) : zero = offset x k := by
  unfold offset
  rw [dif_neg h]
/-- no score, -/
theorem score_out (x : S20000.Idx → EReal) (k : ℕ) (h : ¬ k < 20000) : zero = score x k := by
  unfold score
  rw [dif_neg h]
/-- no corner, -/
theorem corner_out (x : S20000x4.Idx → EReal) (i : Fin 4) (k : ℕ) (h : ¬ k < 20000) : zero = corner x i k := by
  unfold corner
  rw [dif_neg h]
/-- and the struck-out score. -/
theorem start_out (x : S20000.Idx → EReal) (k : ℕ) (h : ¬ k < 20000) : low = startOf x k := by
  unfold startOf
  rw [dif_neg h]
/-- A box's offset, as the host operations compute it; -/
theorem offset_in (x : S20000.Idx → BitVec 32) (k : ℕ) (hl : k < 20000) :
    (((x (ix1 ⟨k, hl⟩)).toInt : ℝ) : EReal) * Ideal.ofBits .f32 0x457A0000#32 = offset x k := by
  unfold offset
  rw [dif_pos hl]
/-- its score; -/
theorem score_in (x : S20000.Idx → EReal) (k : ℕ) (hl : k < 20000) : x (ix1 ⟨k, hl⟩) = score x k := by
  unfold score
  rw [dif_pos hl]
/-- and its corner, cut from the boxes. -/
theorem corner_in (x : S20000x4.Idx → EReal) (o : ℕ) (h : S20000x4.Slices ![0, o] S20000x1) (h' : S20000x1.ShapeCasts S20000)
    (i : Fin 4) (hi : i.val = o) (k : ℕ) (hl : k < 20000) :
    shapeCast S20000 (extractStridedSlice S20000x1 ![0, o] x h) h' (ix1 ⟨k, hl⟩) = corner x i k := by
  rw [column_eq x o h h' i hi ⟨k, hl⟩]
  unfold corner
  rw [dif_pos hl]

/-- The scores the loop starts from. -/
theorem V_start (k : ℕ) (hk : k < 20480) : V m c main_call0_v8 (cell k) = startOf (arg1 m c) k := by
  show StableHlo.after hostOps0 _ (Proc.devRef .tc main_call0_v8) _ = _
  after_reads_simp
  refine (sheet_eq _ _ k hk).trans ?_
  refine pad_at _ _ low (startOf (arg1 m c)) concatenates_S20000_S480_S20480_d0 k hk (fun i => ?_) (fun hl => ?_) (start_out _ k)
  · after_reads_simp; rfl
  · after_reads_simp; exact sel_at (arg1 m c) k hl

/-- The class offsets. -/
theorem V_off (k : ℕ) (hk : k < 20480) : V m c main_call0_v42 (cell k) = offset (arg2 m c) k := by
  show StableHlo.after hostOps0 _ (Proc.devRef .tc main_call0_v42) _ = _
  after_reads_simp
  refine (sheet_eq _ _ k hk).trans ?_
  refine pad_at _ _ zero (offset (arg2 m c)) concatenates_S20000_S480_S20480_d0 k hk (fun i => ?_) (fun hl => ?_) (offset_out _ k)
  · after_reads_simp; rfl
  · after_reads_simp; exact offset_in (arg2 m c) k hl

/-- The scores as given. -/
theorem V_score (k : ℕ) (hk : k < 20480) : V m c main_call0_v41 (cell k) = score (arg1 m c) k := by
  show StableHlo.after hostOps0 _ (Proc.devRef .tc main_call0_v41) _ = _
  after_reads_simp
  refine (sheet_eq _ _ k hk).trans ?_
  refine pad_at _ _ zero (score (arg1 m c)) concatenates_S20000_S480_S20480_d0 k hk (fun i => ?_) (fun hl => ?_) (score_out _ k)
  · after_reads_simp; rfl
  · after_reads_simp; exact score_in (arg1 m c) k hl

/-- The left edges as given. -/
theorem V_x1 (k : ℕ) (hk : k < 20480) : V m c main_call0_v35 (cell k) = corner (arg0 m c) 0 k := by
  show StableHlo.after hostOps0 _ (Proc.devRef .tc main_call0_v35) _ = _
  after_reads_simp
  refine (sheet_eq _ _ k hk).trans ?_
  refine pad_at _ _ zero (corner (arg0 m c) 0) concatenates_S20000_S480_S20480_d0 k hk (fun i => ?_) (fun hl => ?_) (corner_out _ 0 k)
  · after_reads_simp; rfl
  · after_reads_simp; exact corner_in (arg0 m c) 0 slices_S20000x4_S20000x1_0_0 shapeCasts_S20000x1_S20000 0 rfl k hl

/-- The top edges as given. -/
theorem V_y1 (k : ℕ) (hk : k < 20480) : V m c main_call0_v36 (cell k) = corner (arg0 m c) 1 k := by
  show StableHlo.after hostOps0 _ (Proc.devRef .tc main_call0_v36) _ = _
  after_reads_simp
  refine (sheet_eq _ _ k hk).trans ?_
  refine pad_at _ _ zero (corner (arg0 m c) 1) concatenates_S20000_S480_S20480_d0 k hk (fun i => ?_) (fun hl => ?_) (corner_out _ 1 k)
  · after_reads_simp; rfl
  · after_reads_simp; exact corner_in (arg0 m c) 1 slices_S20000x4_S20000x1_0_1 shapeCasts_S20000x1_S20000 1 rfl k hl

/-- The right edges as given. -/
theorem V_x2 (k : ℕ) (hk : k < 20480) : V m c main_call0_v37 (cell k) = corner (arg0 m c) 2 k := by
  show StableHlo.after hostOps0 _ (Proc.devRef .tc main_call0_v37) _ = _
  after_reads_simp
  refine (sheet_eq _ _ k hk).trans ?_
  refine pad_at _ _ zero (corner (arg0 m c) 2) concatenates_S20000_S480_S20480_d0 k hk (fun i => ?_) (fun hl => ?_) (corner_out _ 2 k)
  · after_reads_simp; rfl
  · after_reads_simp; exact corner_in (arg0 m c) 2 slices_S20000x4_S20000x1_0_2 shapeCasts_S20000x1_S20000 2 rfl k hl

/-- The bottom edges as given. -/
theorem V_y2 (k : ℕ) (hk : k < 20480) : V m c main_call0_v38 (cell k) = corner (arg0 m c) 3 k := by
  show StableHlo.after hostOps0 _ (Proc.devRef .tc main_call0_v38) _ = _
  after_reads_simp
  refine (sheet_eq _ _ k hk).trans ?_
  refine pad_at _ _ zero (corner (arg0 m c) 3) concatenates_S20000_S480_S20480_d0 k hk (fun i => ?_) (fun hl => ?_) (corner_out _ 3 k)
  · after_reads_simp; rfl
  · after_reads_simp; exact corner_in (arg0 m c) 3 slices_S20000x4_S20000x1_0_3 shapeCasts_S20000x1_S20000 3 rfl k hl

/-- The left edges, moved by the class offset. -/
theorem V_mx1 (k : ℕ) (hk : k < 20480) : V m c main_call0_v28 (cell k) = corner (arg0 m c) 0 k + offset (arg2 m c) k := by
  show StableHlo.after hostOps0 _ (Proc.devRef .tc main_call0_v28) _ = _
  after_reads_simp
  refine (sheet_eq _ _ k hk).trans ?_
  refine add_at _ _ _ _ _ ?_ ?_
  · refine pad_at _ _ zero (corner (arg0 m c) 0) concatenates_S20000_S480_S20480_d0 k hk (fun i => ?_) (fun hl => ?_) (corner_out _ 0 k)
    · after_reads_simp; rfl
    · after_reads_simp; exact corner_in (arg0 m c) 0 slices_S20000x4_S20000x1_0_0 shapeCasts_S20000x1_S20000 0 rfl k hl
  · refine pad_at _ _ zero (offset (arg2 m c)) concatenates_S20000_S480_S20480_d0 k hk (fun i => ?_) (fun hl => ?_) (offset_out _ k)
    · after_reads_simp; rfl
    · after_reads_simp; exact offset_in (arg2 m c) k hl

/-- The top edges, moved by the class offset. -/
theorem V_my1 (k : ℕ) (hk : k < 20480) : V m c main_call0_v30 (cell k) = corner (arg0 m c) 1 k + offset (arg2 m c) k := by
  show StableHlo.after hostOps0 _ (Proc.devRef .tc main_call0_v30) _ = _
  after_reads_simp
  refine (sheet_eq _ _ k hk).trans ?_
  refine add_at _ _ _ _ _ ?_ ?_
  · refine pad_at _ _ zero (corner (arg0 m c) 1) concatenates_S20000_S480_S20480_d0 k hk (fun i => ?_) (fun hl => ?_) (corner_out _ 1 k)
    · after_reads_simp; rfl
    · after_reads_simp; exact corner_in (arg0 m c) 1 slices_S20000x4_S20000x1_0_1 shapeCasts_S20000x1_S20000 1 rfl k hl
  · refine pad_at _ _ zero (offset (arg2 m c)) concatenates_S20000_S480_S20480_d0 k hk (fun i => ?_) (fun hl => ?_) (offset_out _ k)
    · after_reads_simp; rfl
    · after_reads_simp; exact offset_in (arg2 m c) k hl

/-- The right edges, moved by the class offset. -/
theorem V_mx2 (k : ℕ) (hk : k < 20480) : V m c main_call0_v32 (cell k) = corner (arg0 m c) 2 k + offset (arg2 m c) k := by
  show StableHlo.after hostOps0 _ (Proc.devRef .tc main_call0_v32) _ = _
  after_reads_simp
  refine (sheet_eq _ _ k hk).trans ?_
  refine add_at _ _ _ _ _ ?_ ?_
  · refine pad_at _ _ zero (corner (arg0 m c) 2) concatenates_S20000_S480_S20480_d0 k hk (fun i => ?_) (fun hl => ?_) (corner_out _ 2 k)
    · after_reads_simp; rfl
    · after_reads_simp; exact corner_in (arg0 m c) 2 slices_S20000x4_S20000x1_0_2 shapeCasts_S20000x1_S20000 2 rfl k hl
  · refine pad_at _ _ zero (offset (arg2 m c)) concatenates_S20000_S480_S20480_d0 k hk (fun i => ?_) (fun hl => ?_) (offset_out _ k)
    · after_reads_simp; rfl
    · after_reads_simp; exact offset_in (arg2 m c) k hl

/-- The bottom edges, moved by the class offset. -/
theorem V_my2 (k : ℕ) (hk : k < 20480) : V m c main_call0_v34 (cell k) = corner (arg0 m c) 3 k + offset (arg2 m c) k := by
  show StableHlo.after hostOps0 _ (Proc.devRef .tc main_call0_v34) _ = _
  after_reads_simp
  refine (sheet_eq _ _ k hk).trans ?_
  refine add_at _ _ _ _ _ ?_ ?_
  · refine pad_at _ _ zero (corner (arg0 m c) 3) concatenates_S20000_S480_S20480_d0 k hk (fun i => ?_) (fun hl => ?_) (corner_out _ 3 k)
    · after_reads_simp; rfl
    · after_reads_simp; exact corner_in (arg0 m c) 3 slices_S20000x4_S20000x1_0_3 shapeCasts_S20000x1_S20000 3 rfl k hl
  · refine pad_at _ _ zero (offset (arg2 m c)) concatenates_S20000_S480_S20480_d0 k hk (fun i => ?_) (fun hl => ?_) (offset_out _ k)
    · after_reads_simp; rfl
    · after_reads_simp; exact offset_in (arg2 m c) k hl

end Cert.KernelIdeal.Host

end
-- ==== Proof.ScanInit.lean ====
/-
  The kernel's first walk over its chunks, before the loop: `kw … i` is the walk over the scores the kernel is given after
  `i` chunks, and each value the run names is a field of it.
-/
module

public import proofs.«01_k».proof.Proof.ScanDefs
public import proofs.«01_k».proof.Proof.Gen.KernelIdeal.Frame

@[expose] public section

set_option maxRecDepth 16384

noncomputable section

open Idealize.ShloMosaic Idealize.ShloMosaic.TcCoe Idealize.SL.Sem

namespace Cert.KernelIdeal.Scan.Init

open Cert.KernelIdeal Cert.KernelIdeal.Gen Cert.KernelIdeal.Scan

variable {F : FTy → Type} [FloatOps F]

variable (c : Dev nD)
variable (a0 : Memref sig .tc .vmem S160x128 .f32) (ha0 : a0.IsWhole) (a5 : Memref sig .tc .vmem S160x128 .f32) (ha5 : a5.IsWhole) (a6 : Memref sig .tc .vmem S160x128 .f32) (ha6 : a6.IsWhole) (a7 : Memref sig .tc .vmem S160x128 .f32) (ha7 : a7.IsWhole) (a8 : Memref sig .tc .vmem S160x128 .f32) (ha8 : a8.IsWhole) (a9 : Memref sig .tc .vmem S160x128 .f32) (ha9 : a9.IsWhole) (a10 : Memref sig .tc .vmem S160x128 .f32) (ha10 : a10.IsWhole) (a13 : Memref sig .tc .vmem S160x128 .f32) (ha13 : a13.IsWhole)
variable (x0 x1 x2 x3 x4 x5 x6 x7 x8 x9 x10 : Vec F S160x128 .f32)

/-- The arrays the kernel is given, and the areas it computes from them. -/
def karr : Arr F := ⟨x1, x2, x3, x4, x5, x6, x7, x8, x9, x10, mulf (subf x3 x1) (subf x4 x2)⟩

/-- The first walk after `i` chunks. -/
def kw (i : ℕ) : Lanes F := walk (karr x1 x2 x3 x4 x5 x6 x7 x8 x9 x10) k0_pay271 k0_pay273 (chunk x0) i

/-- The one store of the scores is of the scores the kernel is given. -/
theorem hs0 : kernelRun0_A.sl.HS0_1 c a0 ha0 x0
    = [⟨Rect.unit (s := S160x128) ![0, 0] S160x128.size inb_S160x128_S160x128_0_0, x0⟩] := by
  simp only [kernelRun0_A.sl.HS0_1, k0_pay269, shapeCast_self, View.readAt_eq_ld, ha0.read_unread,
    View.ld_unit_zero (S := S160x128) hz]

theorem v28 : kernelRun0_A.sl.v28 c a0 ha0 a13 x0 = chunk x0 0 :=
  rdc x0 0 (by decide) _ rfl _ _ _ (hs0 c a0 ha0 x0)

theorem v52 : kernelRun0_A.sl.v52 c a0 ha0 a13 x0 = chunk x0 1 :=
  rdc x0 1 (by decide) _ rfl _ _ _ (hs0 c a0 ha0 x0)

theorem v76 : kernelRun0_A.sl.v76 c a0 ha0 a13 x0 = chunk x0 2 :=
  rdc x0 2 (by decide) _ rfl _ _ _ (hs0 c a0 ha0 x0)

theorem v100 : kernelRun0_A.sl.v100 c a0 ha0 a13 x0 = chunk x0 3 :=
  rdc x0 3 (by decide) _ rfl _ _ _ (hs0 c a0 ha0 x0)

theorem v124 : kernelRun0_A.sl.v124 c a0 ha0 a13 x0 = chunk x0 4 :=
  rdc x0 4 (by decide) _ rfl _ _ _ (hs0 c a0 ha0 x0)

theorem v148 : kernelRun0_A.sl.v148 c a0 ha0 a13 x0 = chunk x0 5 :=
  rdc x0 5 (by decide) _ rfl _ _ _ (hs0 c a0 ha0 x0)

theorem v172 : kernelRun0_A.sl.v172 c a0 ha0 a13 x0 = chunk x0 6 :=
  rdc x0 6 (by decide) _ rfl _ _ _ (hs0 c a0 ha0 x0)

theorem v196 : kernelRun0_A.sl.v196 c a0 ha0 a13 x0 = chunk x0 7 :=
  rdc x0 7 (by decide) _ rfl _ _ _ (hs0 c a0 ha0 x0)

theorem v220 : kernelRun0_A.sl.v220 c a0 ha0 a13 x0 = chunk x0 8 :=
  rdc x0 8 (by decide) _ rfl _ _ _ (hs0 c a0 ha0 x0)

theorem v244 : kernelRun0_A.sl.v244 c a0 ha0 a13 x0 = chunk x0 9 :=
  rdc x0 9 (by decide) _ rfl _ _ _ (hs0 c a0 ha0 x0)

theorem v268 : kernelRun0_A.sl.v268 c a0 ha0 a13 x0 = chunk x0 10 :=
  rdc x0 10 (by decide) _ rfl _ _ _ (hs0 c a0 ha0 x0)

theorem v292 : kernelRun0_A.sl.v292 c a0 ha0 a13 x0 = chunk x0 11 :=
  rdc x0 11 (by decide) _ rfl _ _ _ (hs0 c a0 ha0 x0)

theorem v316 : kernelRun0_A.sl.v316 c a0 ha0 a13 x0 = chunk x0 12 :=
  rdc x0 12 (by decide) _ rfl _ _ _ (hs0 c a0 ha0 x0)

theorem v340 : kernelRun0_A.sl.v340 c a0 ha0 a13 x0 = chunk x0 13 :=
  rdc x0 13 (by decide) _ rfl _ _ _ (hs0 c a0 ha0 x0)

theorem v364 : kernelRun0_A.sl.v364 c a0 ha0 a13 x0 = chunk x0 14 :=
  rdc x0 14 (by decide) _ rfl _ _ _ (hs0 c a0 ha0 x0)

theorem v388 : kernelRun0_A.sl.v388 c a0 ha0 a13 x0 = chunk x0 15 :=
  rdc x0 15 (by decide) _ rfl _ _ _ (hs0 c a0 ha0 x0)

theorem v412 : kernelRun0_A.sl.v412 c a0 ha0 a13 x0 = chunk x0 16 :=
  rdc x0 16 (by decide) _ rfl _ _ _ (hs0 c a0 ha0 x0)

theorem v436 : kernelRun0_A.sl.v436 c a0 ha0 a13 x0 = chunk x0 17 :=
  rdc x0 17 (by decide) _ rfl _ _ _ (hs0 c a0 ha0 x0)

theorem v460 : kernelRun0_A.sl.v460 c a0 ha0 a13 x0 = chunk x0 18 :=
  rdc x0 18 (by decide) _ rfl _ _ _ (hs0 c a0 ha0 x0)

theorem v484 : kernelRun0_A.sl.v484 c a0 ha0 a13 x0 = chunk x0 19 :=
  rdc x0 19 (by decide) _ rfl _ _ _ (hs0 c a0 ha0 x0)

theorem r : kernelRun0_A.sl.r c a0 ha0 a13 x0 =
    up (chunk x0 0) (kw x0 x1 x2 x3 x4 x5 x6 x7 x8 x9 x10 0) := by
  simp only [kernelRun0_A.sl.r, k0_pay272, k0_pay274, shapeCast_self, Memref.IsWhole.read_unread, rd _ 0 (by decide) _ rfl,
    v28 c a0 ha0 a13 x0]
  rfl

theorem r_1 : kernelRun0_A.sl.r_1 c a0 ha0 a13 x0 =
    (kw x0 x1 x2 x3 x4 x5 x6 x7 x8 x9 x10 1).vm := by
  simp only [kernelRun0_A.sl.r_1, k0_pay275, k0_pay272, shapeCast_self, Memref.IsWhole.read_unread, rd _ 0 (by decide) _ rfl,
    v28 c a0 ha0 a13 x0]
  rfl

theorem r_2 : kernelRun0_A.sl.r_2 c a0 ha0 a13 x0 =
    (kw x0 x1 x2 x3 x4 x5 x6 x7 x8 x9 x10 1).vi := by
  simp only [kernelRun0_A.sl.r_2, k0_pay272, k0_pay276, k0_pay274, shapeCast_self, Memref.IsWhole.read_unread, rd _ 0 (by decide) _ rfl,
    v28 c a0 ha0 a13 x0]
  rfl

theorem r_4 : kernelRun0_A.sl.r_4 c a0 ha0 a9 ha9 a13 x0 x9 =
    (kw x0 x1 x2 x3 x4 x5 x6 x7 x8 x9 x10 1).sc := by
  simp only [kernelRun0_A.sl.r_4, k0_pay277, shapeCast_self, Memref.IsWhole.read_unread, rd _ 0 (by decide) _ rfl,
    r c a0 ha0 a13 x0 x1 x2 x3 x4 x5 x6 x7 x8 x9 x10]
  rfl

theorem r_5 : kernelRun0_A.sl.r_5 c a0 ha0 a10 ha10 a13 x0 x10 =
    (kw x0 x1 x2 x3 x4 x5 x6 x7 x8 x9 x10 1).off := by
  simp only [kernelRun0_A.sl.r_5, k0_pay278, shapeCast_self, Memref.IsWhole.read_unread, rd _ 0 (by decide) _ rfl,
    r c a0 ha0 a13 x0 x1 x2 x3 x4 x5 x6 x7 x8 x9 x10]
  rfl

theorem r_6 : kernelRun0_A.sl.r_6 c a0 ha0 a13 x0 =
    up (chunk x0 1) (kw x0 x1 x2 x3 x4 x5 x6 x7 x8 x9 x10 1) := by
  simp only [kernelRun0_A.sl.r_6, k0_pay279, shapeCast_self, Memref.IsWhole.read_unread, rd _ 0 (by decide) _ rfl, rd _ 1 (by decide) _ rfl,
    r_1 c a0 ha0 a13 x0 x1 x2 x3 x4 x5 x6 x7 x8 x9 x10,
    v52 c a0 ha0 a13 x0]

theorem r_7 : kernelRun0_A.sl.r_7 c a0 ha0 a13 x0 =
    (kw x0 x1 x2 x3 x4 x5 x6 x7 x8 x9 x10 2).vm := by
  simp only [kernelRun0_A.sl.r_7, k0_pay280, shapeCast_self, Memref.IsWhole.read_unread, rd _ 0 (by decide) _ rfl, rd _ 1 (by decide) _ rfl,
    r_1 c a0 ha0 a13 x0 x1 x2 x3 x4 x5 x6 x7 x8 x9 x10,
    v52 c a0 ha0 a13 x0]
  rfl

theorem r_8 : kernelRun0_A.sl.r_8 c a0 ha0 a13 x0 =
    (kw x0 x1 x2 x3 x4 x5 x6 x7 x8 x9 x10 2).vi := by
  simp only [kernelRun0_A.sl.r_8, k0_pay279, k0_pay281, shapeCast_self, Memref.IsWhole.read_unread, rd _ 0 (by decide) _ rfl, rd _ 1 (by decide) _ rfl,
    r_1 c a0 ha0 a13 x0 x1 x2 x3 x4 x5 x6 x7 x8 x9 x10,
    r_2 c a0 ha0 a13 x0 x1 x2 x3 x4 x5 x6 x7 x8 x9 x10,
    v52 c a0 ha0 a13 x0]
  rfl

theorem r_9 : kernelRun0_A.sl.r_9 c a0 ha0 a5 ha5 a13 x0 x5 =
    (kw x0 x1 x2 x3 x4 x5 x6 x7 x8 x9 x10 2).x1 := by
  simp only [kernelRun0_A.sl.r_3, kernelRun0_A.sl.r_9, k0_pay279, k0_pay282, shapeCast_self, Memref.IsWhole.read_unread, rd _ 0 (by decide) _ rfl, rd _ 1 (by decide) _ rfl,
    r c a0 ha0 a13 x0 x1 x2 x3 x4 x5 x6 x7 x8 x9 x10,
    r_1 c a0 ha0 a13 x0 x1 x2 x3 x4 x5 x6 x7 x8 x9 x10,
    v52 c a0 ha0 a13 x0]
  rfl

theorem r_10 : kernelRun0_A.sl.r_10 c a0 ha0 a6 ha6 a13 x0 x6 =
    (kw x0 x1 x2 x3 x4 x5 x6 x7 x8 x9 x10 2).y1 := by
  simp only [kernelRun0_A.sl.r_10, k0_pay279, k0_pay283, shapeCast_self, Memref.IsWhole.read_unread, rd _ 0 (by decide) _ rfl, rd _ 1 (by decide) _ rfl,
    r c a0 ha0 a13 x0 x1 x2 x3 x4 x5 x6 x7 x8 x9 x10,
    r_1 c a0 ha0 a13 x0 x1 x2 x3 x4 x5 x6 x7 x8 x9 x10,
    v52 c a0 ha0 a13 x0]
  rfl

theorem r_11 : kernelRun0_A.sl.r_11 c a0 ha0 a7 ha7 a13 x0 x7 =
    (kw x0 x1 x2 x3 x4 x5 x6 x7 x8 x9 x10 2).x2 := by
  simp only [kernelRun0_A.sl.r_11, k0_pay279, k0_pay284, shapeCast_self, Memref.IsWhole.read_unread, rd _ 0 (by decide) _ rfl, rd _ 1 (by decide) _ rfl,
    r c a0 ha0 a13 x0 x1 x2 x3 x4 x5 x6 x7 x8 x9 x10,
    r_1 c a0 ha0 a13 x0 x1 x2 x3 x4 x5 x6 x7 x8 x9 x10,
    v52 c a0 ha0 a13 x0]
  rfl

theorem r_12 : kernelRun0_A.sl.r_12 c a0 ha0 a8 ha8 a13 x0 x8 =
    (kw x0 x1 x2 x3 x4 x5 x6 x7 x8 x9 x10 2).y2 := by
  simp only [kernelRun0_A.sl.r_12, k0_pay279, k0_pay285, shapeCast_self, Memref.IsWhole.read_unread, rd _ 0 (by decide) _ rfl, rd _ 1 (by decide) _ rfl,
    r c a0 ha0 a13 x0 x1 x2 x3 x4 x5 x6 x7 x8 x9 x10,
    r_1 c a0 ha0 a13 x0 x1 x2 x3 x4 x5 x6 x7 x8 x9 x10,
    v52 c a0 ha0 a13 x0]
  rfl

theorem r_14 : kernelRun0_A.sl.r_14 c a0 ha0 a6 ha6 a13 x0 x6 =
    (kw x0 x1 x2 x3 x4 x5 x6 x7 x8 x9 x10 3).y1 := by
  simp only [kernelRun0_A.sl.r_14, k0_pay287, k0_pay289, shapeCast_self, Memref.IsWhole.read_unread, rd _ 0 (by decide) _ rfl, rd _ 1 (by decide) _ rfl, rd _ 2 (by decide) _ rfl,
    r_7 c a0 ha0 a13 x0 x1 x2 x3 x4 x5 x6 x7 x8 x9 x10,
    r_10 c a0 ha0 a6 ha6 a13 x0 x1 x2 x3 x4 x5 x6 x7 x8 x9 x10,
    v76 c a0 ha0 a13 x0]
  rfl

theorem r_15 : kernelRun0_A.sl.r_15 c a0 ha0 a7 ha7 a13 x0 x7 =
    (kw x0 x1 x2 x3 x4 x5 x6 x7 x8 x9 x10 3).x2 := by
  simp only [kernelRun0_A.sl.r_15, k0_pay287, k0_pay290, shapeCast_self, Memref.IsWhole.read_unread, rd _ 0 (by decide) _ rfl, rd _ 1 (by decide) _ rfl, rd _ 2 (by decide) _ rfl,
    r_7 c a0 ha0 a13 x0 x1 x2 x3 x4 x5 x6 x7 x8 x9 x10,
    r_11 c a0 ha0 a7 ha7 a13 x0 x1 x2 x3 x4 x5 x6 x7 x8 x9 x10,
    v76 c a0 ha0 a13 x0]
  rfl

theorem r_16 : kernelRun0_A.sl.r_16 c a0 ha0 a8 ha8 a13 x0 x8 =
    (kw x0 x1 x2 x3 x4 x5 x6 x7 x8 x9 x10 3).y2 := by
  simp only [kernelRun0_A.sl.r_16, k0_pay287, k0_pay291, shapeCast_self, Memref.IsWhole.read_unread, rd _ 0 (by decide) _ rfl, rd _ 1 (by decide) _ rfl, rd _ 2 (by decide) _ rfl,
    r_7 c a0 ha0 a13 x0 x1 x2 x3 x4 x5 x6 x7 x8 x9 x10,
    r_12 c a0 ha0 a8 ha8 a13 x0 x1 x2 x3 x4 x5 x6 x7 x8 x9 x10,
    v76 c a0 ha0 a13 x0]
  rfl

theorem r_17 : kernelRun0_A.sl.r_17 c a0 ha0 a9 ha9 a13 x0 x9 =
    (kw x0 x1 x2 x3 x4 x5 x6 x7 x8 x9 x10 3).sc := by
  simp only [kernelRun0_A.sl.r_13, kernelRun0_A.sl.r_17, k0_pay292, k0_pay287, k0_pay286, shapeCast_self, Memref.IsWhole.read_unread, rd _ 0 (by decide) _ rfl, rd _ 1 (by decide) _ rfl, rd _ 2 (by decide) _ rfl,
    r_4 c a0 ha0 a9 ha9 a13 x0 x1 x2 x3 x4 x5 x6 x7 x8 x9 x10,
    r_6 c a0 ha0 a13 x0 x1 x2 x3 x4 x5 x6 x7 x8 x9 x10,
    r_7 c a0 ha0 a13 x0 x1 x2 x3 x4 x5 x6 x7 x8 x9 x10,
    v76 c a0 ha0 a13 x0]
  rfl

theorem r_18 : kernelRun0_A.sl.r_18 c a0 ha0 a10 ha10 a13 x0 x10 =
    (kw x0 x1 x2 x3 x4 x5 x6 x7 x8 x9 x10 3).off := by
  simp only [kernelRun0_A.sl.r_18, k0_pay293, k0_pay287, shapeCast_self, Memref.IsWhole.read_unread, rd _ 0 (by decide) _ rfl, rd _ 1 (by decide) _ rfl, rd _ 2 (by decide) _ rfl,
    r_5 c a0 ha0 a10 ha10 a13 x0 x1 x2 x3 x4 x5 x6 x7 x8 x9 x10,
    r_6 c a0 ha0 a13 x0 x1 x2 x3 x4 x5 x6 x7 x8 x9 x10,
    r_7 c a0 ha0 a13 x0 x1 x2 x3 x4 x5 x6 x7 x8 x9 x10,
    v76 c a0 ha0 a13 x0]
  rfl

theorem r_19 : kernelRun0_A.sl.r_19 c a0 ha0 a13 x0 =
    up (chunk x0 3) (kw x0 x1 x2 x3 x4 x5 x6 x7 x8 x9 x10 3) := by
  simp only [kernelRun0_A.sl.r_19, k0_pay288, k0_pay294, shapeCast_self, Memref.IsWhole.read_unread, rd _ 1 (by decide) _ rfl, rd _ 2 (by decide) _ rfl, rd _ 3 (by decide) _ rfl,
    r_7 c a0 ha0 a13 x0 x1 x2 x3 x4 x5 x6 x7 x8 x9 x10,
    v76 c a0 ha0 a13 x0,
    v100 c a0 ha0 a13 x0]
  rfl

theorem r_20 : kernelRun0_A.sl.r_20 c a0 ha0 a13 x0 =
    (kw x0 x1 x2 x3 x4 x5 x6 x7 x8 x9 x10 4).vm := by
  simp only [kernelRun0_A.sl.r_20, k0_pay288, k0_pay295, shapeCast_self, Memref.IsWhole.read_unread, rd _ 1 (by decide) _ rfl, rd _ 2 (by decide) _ rfl, rd _ 3 (by decide) _ rfl,
    r_7 c a0 ha0 a13 x0 x1 x2 x3 x4 x5 x6 x7 x8 x9 x10,
    v76 c a0 ha0 a13 x0,
    v100 c a0 ha0 a13 x0]
  rfl

theorem r_21 : kernelRun0_A.sl.r_21 c a0 ha0 a13 x0 =
    (kw x0 x1 x2 x3 x4 x5 x6 x7 x8 x9 x10 4).vi := by
  simp only [kernelRun0_A.sl.r_21, k0_pay288, k0_pay296, k0_pay294, k0_pay287, shapeCast_self, Memref.IsWhole.read_unread, rd _ 1 (by decide) _ rfl, rd _ 2 (by decide) _ rfl, rd _ 3 (by decide) _ rfl,
    r_7 c a0 ha0 a13 x0 x1 x2 x3 x4 x5 x6 x7 x8 x9 x10,
    r_8 c a0 ha0 a13 x0 x1 x2 x3 x4 x5 x6 x7 x8 x9 x10,
    v76 c a0 ha0 a13 x0,
    v100 c a0 ha0 a13 x0]
  rfl

theorem r_22 : kernelRun0_A.sl.r_22 c a0 ha0 a5 ha5 a13 x0 x5 =
    (kw x0 x1 x2 x3 x4 x5 x6 x7 x8 x9 x10 4).x1 := by
  simp only [kernelRun0_A.sl.r_22, k0_pay297, k0_pay288, k0_pay294, k0_pay287, shapeCast_self, Memref.IsWhole.read_unread, rd _ 1 (by decide) _ rfl, rd _ 2 (by decide) _ rfl, rd _ 3 (by decide) _ rfl,
    r_7 c a0 ha0 a13 x0 x1 x2 x3 x4 x5 x6 x7 x8 x9 x10,
    r_9 c a0 ha0 a5 ha5 a13 x0 x1 x2 x3 x4 x5 x6 x7 x8 x9 x10,
    v76 c a0 ha0 a13 x0,
    v100 c a0 ha0 a13 x0]
  rfl

theorem r_23 : kernelRun0_A.sl.r_23 c a0 ha0 a10 ha10 a13 x0 x10 =
    (kw x0 x1 x2 x3 x4 x5 x6 x7 x8 x9 x10 4).off := by
  simp only [kernelRun0_A.sl.r_23, k0_pay298, shapeCast_self, Memref.IsWhole.read_unread, rd _ 1 (by decide) _ rfl, rd _ 2 (by decide) _ rfl, rd _ 3 (by decide) _ rfl,
    r_18 c a0 ha0 a10 ha10 a13 x0 x1 x2 x3 x4 x5 x6 x7 x8 x9 x10,
    r_19 c a0 ha0 a13 x0 x1 x2 x3 x4 x5 x6 x7 x8 x9 x10]
  rfl

theorem r_24 : kernelRun0_A.sl.r_24 c a0 ha0 a13 x0 =
    up (chunk x0 4) (kw x0 x1 x2 x3 x4 x5 x6 x7 x8 x9 x10 4) := by
  simp only [kernelRun0_A.sl.r_24, k0_pay299, shapeCast_self, Memref.IsWhole.read_unread, rd _ 2 (by decide) _ rfl, rd _ 3 (by decide) _ rfl, rd _ 4 (by decide) _ rfl,
    r_20 c a0 ha0 a13 x0 x1 x2 x3 x4 x5 x6 x7 x8 x9 x10,
    v124 c a0 ha0 a13 x0]

theorem r_25 : kernelRun0_A.sl.r_25 c a0 ha0 a13 x0 =
    (kw x0 x1 x2 x3 x4 x5 x6 x7 x8 x9 x10 5).vm := by
  simp only [kernelRun0_A.sl.r_25, k0_pay300, shapeCast_self, Memref.IsWhole.read_unread, rd _ 2 (by decide) _ rfl, rd _ 3 (by decide) _ rfl, rd _ 4 (by decide) _ rfl,
    r_20 c a0 ha0 a13 x0 x1 x2 x3 x4 x5 x6 x7 x8 x9 x10,
    v124 c a0 ha0 a13 x0]
  rfl

theorem r_26 : kernelRun0_A.sl.r_26 c a0 ha0 a13 x0 =
    (kw x0 x1 x2 x3 x4 x5 x6 x7 x8 x9 x10 5).vi := by
  simp only [kernelRun0_A.sl.r_26, k0_pay299, k0_pay301, shapeCast_self, Memref.IsWhole.read_unread, rd _ 2 (by decide) _ rfl, rd _ 3 (by decide) _ rfl, rd _ 4 (by decide) _ rfl,
    r_20 c a0 ha0 a13 x0 x1 x2 x3 x4 x5 x6 x7 x8 x9 x10,
    r_21 c a0 ha0 a13 x0 x1 x2 x3 x4 x5 x6 x7 x8 x9 x10,
    v124 c a0 ha0 a13 x0]
  rfl

theorem r_27 : kernelRun0_A.sl.r_27 c a0 ha0 a5 ha5 a13 x0 x5 =
    (kw x0 x1 x2 x3 x4 x5 x6 x7 x8 x9 x10 5).x1 := by
  simp only [kernelRun0_A.sl.r_27, k0_pay299, k0_pay302, shapeCast_self, Memref.IsWhole.read_unread, rd _ 2 (by decide) _ rfl, rd _ 3 (by decide) _ rfl, rd _ 4 (by decide) _ rfl,
    r_20 c a0 ha0 a13 x0 x1 x2 x3 x4 x5 x6 x7 x8 x9 x10,
    r_22 c a0 ha0 a5 ha5 a13 x0 x1 x2 x3 x4 x5 x6 x7 x8 x9 x10,
    v124 c a0 ha0 a13 x0]
  rfl

theorem r_28 : kernelRun0_A.sl.r_28 c a0 ha0 a6 ha6 a13 x0 x6 =
    (kw x0 x1 x2 x3 x4 x5 x6 x7 x8 x9 x10 5).y1 := by
  simp only [kernelRun0_A.sl.r_28, k0_pay299, k0_pay303, shapeCast_self, Memref.IsWhole.read_unread, rd _ 2 (by decide) _ rfl, rd _ 3 (by decide) _ rfl, rd _ 4 (by decide) _ rfl,
    r_14 c a0 ha0 a6 ha6 a13 x0 x1 x2 x3 x4 x5 x6 x7 x8 x9 x10,
    r_19 c a0 ha0 a13 x0 x1 x2 x3 x4 x5 x6 x7 x8 x9 x10,
    r_20 c a0 ha0 a13 x0 x1 x2 x3 x4 x5 x6 x7 x8 x9 x10,
    v124 c a0 ha0 a13 x0]
  rfl

theorem r_29 : kernelRun0_A.sl.r_29 c a0 ha0 a7 ha7 a13 x0 x7 =
    (kw x0 x1 x2 x3 x4 x5 x6 x7 x8 x9 x10 5).x2 := by
  simp only [kernelRun0_A.sl.r_29, k0_pay299, k0_pay304, shapeCast_self, Memref.IsWhole.read_unread, rd _ 2 (by decide) _ rfl, rd _ 3 (by decide) _ rfl, rd _ 4 (by decide) _ rfl,
    r_15 c a0 ha0 a7 ha7 a13 x0 x1 x2 x3 x4 x5 x6 x7 x8 x9 x10,
    r_19 c a0 ha0 a13 x0 x1 x2 x3 x4 x5 x6 x7 x8 x9 x10,
    r_20 c a0 ha0 a13 x0 x1 x2 x3 x4 x5 x6 x7 x8 x9 x10,
    v124 c a0 ha0 a13 x0]
  rfl

theorem r_30 : kernelRun0_A.sl.r_30 c a0 ha0 a8 ha8 a13 x0 x8 =
    (kw x0 x1 x2 x3 x4 x5 x6 x7 x8 x9 x10 5).y2 := by
  simp only [kernelRun0_A.sl.r_30, k0_pay299, k0_pay305, shapeCast_self, Memref.IsWhole.read_unread, rd _ 2 (by decide) _ rfl, rd _ 3 (by decide) _ rfl, rd _ 4 (by decide) _ rfl,
    r_16 c a0 ha0 a8 ha8 a13 x0 x1 x2 x3 x4 x5 x6 x7 x8 x9 x10,
    r_19 c a0 ha0 a13 x0 x1 x2 x3 x4 x5 x6 x7 x8 x9 x10,
    r_20 c a0 ha0 a13 x0 x1 x2 x3 x4 x5 x6 x7 x8 x9 x10,
    v124 c a0 ha0 a13 x0]
  rfl

theorem r_31 : kernelRun0_A.sl.r_31 c a0 ha0 a9 ha9 a13 x0 x9 =
    (kw x0 x1 x2 x3 x4 x5 x6 x7 x8 x9 x10 5).sc := by
  simp only [kernelRun0_A.sl.r_31, k0_pay306, k0_pay299, shapeCast_self, Memref.IsWhole.read_unread, rd _ 2 (by decide) _ rfl, rd _ 3 (by decide) _ rfl, rd _ 4 (by decide) _ rfl,
    r_17 c a0 ha0 a9 ha9 a13 x0 x1 x2 x3 x4 x5 x6 x7 x8 x9 x10,
    r_19 c a0 ha0 a13 x0 x1 x2 x3 x4 x5 x6 x7 x8 x9 x10,
    r_20 c a0 ha0 a13 x0 x1 x2 x3 x4 x5 x6 x7 x8 x9 x10,
    v124 c a0 ha0 a13 x0]
  rfl

theorem r_32 : kernelRun0_A.sl.r_32 c a0 ha0 a6 ha6 a13 x0 x6 =
    (kw x0 x1 x2 x3 x4 x5 x6 x7 x8 x9 x10 6).y1 := by
  simp only [kernelRun0_A.sl.r_32, k0_pay307, k0_pay309, shapeCast_self, Memref.IsWhole.read_unread, rd _ 3 (by decide) _ rfl, rd _ 4 (by decide) _ rfl, rd _ 5 (by decide) _ rfl,
    r_25 c a0 ha0 a13 x0 x1 x2 x3 x4 x5 x6 x7 x8 x9 x10,
    r_28 c a0 ha0 a6 ha6 a13 x0 x1 x2 x3 x4 x5 x6 x7 x8 x9 x10,
    v148 c a0 ha0 a13 x0]
  rfl

theorem r_33 : kernelRun0_A.sl.r_33 c a0 ha0 a7 ha7 a13 x0 x7 =
    (kw x0 x1 x2 x3 x4 x5 x6 x7 x8 x9 x10 6).x2 := by
  simp only [kernelRun0_A.sl.r_33, k0_pay307, k0_pay310, shapeCast_self, Memref.IsWhole.read_unread, rd _ 3 (by decide) _ rfl, rd _ 4 (by decide) _ rfl, rd _ 5 (by decide) _ rfl,
    r_25 c a0 ha0 a13 x0 x1 x2 x3 x4 x5 x6 x7 x8 x9 x10,
    r_29 c a0 ha0 a7 ha7 a13 x0 x1 x2 x3 x4 x5 x6 x7 x8 x9 x10,
    v148 c a0 ha0 a13 x0]
  rfl

theorem r_34 : kernelRun0_A.sl.r_34 c a0 ha0 a8 ha8 a13 x0 x8 =
    (kw x0 x1 x2 x3 x4 x5 x6 x7 x8 x9 x10 6).y2 := by
  simp only [kernelRun0_A.sl.r_34, k0_pay311, k0_pay307, shapeCast_self, Memref.IsWhole.read_unread, rd _ 3 (by decide) _ rfl, rd _ 4 (by decide) _ rfl, rd _ 5 (by decide) _ rfl,
    r_25 c a0 ha0 a13 x0 x1 x2 x3 x4 x5 x6 x7 x8 x9 x10,
    r_30 c a0 ha0 a8 ha8 a13 x0 x1 x2 x3 x4 x5 x6 x7 x8 x9 x10,
    v148 c a0 ha0 a13 x0]
  rfl

theorem r_35 : kernelRun0_A.sl.r_35 c a0 ha0 a9 ha9 a13 x0 x9 =
    (kw x0 x1 x2 x3 x4 x5 x6 x7 x8 x9 x10 6).sc := by
  simp only [kernelRun0_A.sl.r_35, k0_pay307, k0_pay312, shapeCast_self, Memref.IsWhole.read_unread, rd _ 3 (by decide) _ rfl, rd _ 4 (by decide) _ rfl, rd _ 5 (by decide) _ rfl,
    r_25 c a0 ha0 a13 x0 x1 x2 x3 x4 x5 x6 x7 x8 x9 x10,
    r_31 c a0 ha0 a9 ha9 a13 x0 x1 x2 x3 x4 x5 x6 x7 x8 x9 x10,
    v148 c a0 ha0 a13 x0]
  rfl

theorem r_36 : kernelRun0_A.sl.r_36 c a0 ha0 a10 ha10 a13 x0 x10 =
    (kw x0 x1 x2 x3 x4 x5 x6 x7 x8 x9 x10 6).off := by
  simp only [kernelRun0_A.sl.r_36, k0_pay307, k0_pay313, shapeCast_self, Memref.IsWhole.read_unread, rd _ 3 (by decide) _ rfl, rd _ 4 (by decide) _ rfl, rd _ 5 (by decide) _ rfl,
    r_23 c a0 ha0 a10 ha10 a13 x0 x1 x2 x3 x4 x5 x6 x7 x8 x9 x10,
    r_24 c a0 ha0 a13 x0 x1 x2 x3 x4 x5 x6 x7 x8 x9 x10,
    r_25 c a0 ha0 a13 x0 x1 x2 x3 x4 x5 x6 x7 x8 x9 x10,
    v148 c a0 ha0 a13 x0]
  rfl

theorem r_37 : kernelRun0_A.sl.r_37 c a0 ha0 a13 x0 =
    up (chunk x0 6) (kw x0 x1 x2 x3 x4 x5 x6 x7 x8 x9 x10 6) := by
  simp only [kernelRun0_A.sl.r_37, k0_pay314, k0_pay308, shapeCast_self, Memref.IsWhole.read_unread, rd _ 4 (by decide) _ rfl, rd _ 5 (by decide) _ rfl, rd _ 6 (by decide) _ rfl,
    r_25 c a0 ha0 a13 x0 x1 x2 x3 x4 x5 x6 x7 x8 x9 x10,
    v148 c a0 ha0 a13 x0,
    v172 c a0 ha0 a13 x0]
  rfl

theorem r_38 : kernelRun0_A.sl.r_38 c a0 ha0 a13 x0 =
    (kw x0 x1 x2 x3 x4 x5 x6 x7 x8 x9 x10 7).vm := by
  simp only [kernelRun0_A.sl.r_38, k0_pay315, k0_pay308, shapeCast_self, Memref.IsWhole.read_unread, rd _ 4 (by decide) _ rfl, rd _ 5 (by decide) _ rfl, rd _ 6 (by decide) _ rfl,
    r_25 c a0 ha0 a13 x0 x1 x2 x3 x4 x5 x6 x7 x8 x9 x10,
    v148 c a0 ha0 a13 x0,
    v172 c a0 ha0 a13 x0]
  rfl

theorem r_39 : kernelRun0_A.sl.r_39 c a0 ha0 a13 x0 =
    (kw x0 x1 x2 x3 x4 x5 x6 x7 x8 x9 x10 7).vi := by
  simp only [kernelRun0_A.sl.r_39, k0_pay307, k0_pay316, k0_pay314, k0_pay308, shapeCast_self, Memref.IsWhole.read_unread, rd _ 4 (by decide) _ rfl, rd _ 5 (by decide) _ rfl, rd _ 6 (by decide) _ rfl,
    r_25 c a0 ha0 a13 x0 x1 x2 x3 x4 x5 x6 x7 x8 x9 x10,
    r_26 c a0 ha0 a13 x0 x1 x2 x3 x4 x5 x6 x7 x8 x9 x10,
    v148 c a0 ha0 a13 x0,
    v172 c a0 ha0 a13 x0]
  rfl

theorem r_40 : kernelRun0_A.sl.r_40 c a0 ha0 a5 ha5 a13 x0 x5 =
    (kw x0 x1 x2 x3 x4 x5 x6 x7 x8 x9 x10 7).x1 := by
  simp only [kernelRun0_A.sl.r_40, k0_pay307, k0_pay314, k0_pay308, k0_pay317, shapeCast_self, Memref.IsWhole.read_unread, rd _ 4 (by decide) _ rfl, rd _ 5 (by decide) _ rfl, rd _ 6 (by decide) _ rfl,
    r_25 c a0 ha0 a13 x0 x1 x2 x3 x4 x5 x6 x7 x8 x9 x10,
    r_27 c a0 ha0 a5 ha5 a13 x0 x1 x2 x3 x4 x5 x6 x7 x8 x9 x10,
    v148 c a0 ha0 a13 x0,
    v172 c a0 ha0 a13 x0]
  rfl

theorem r_42 : kernelRun0_A.sl.r_42 c a0 ha0 a13 x0 =
    (kw x0 x1 x2 x3 x4 x5 x6 x7 x8 x9 x10 8).vm := by
  simp only [kernelRun0_A.sl.r_42, k0_pay320, shapeCast_self, Memref.IsWhole.read_unread, rd _ 5 (by decide) _ rfl, rd _ 6 (by decide) _ rfl, rd _ 7 (by decide) _ rfl,
    r_38 c a0 ha0 a13 x0 x1 x2 x3 x4 x5 x6 x7 x8 x9 x10,
    v196 c a0 ha0 a13 x0]
  rfl

theorem r_43 : kernelRun0_A.sl.r_43 c a0 ha0 a13 x0 =
    (kw x0 x1 x2 x3 x4 x5 x6 x7 x8 x9 x10 8).vi := by
  simp only [kernelRun0_A.sl.r_43, k0_pay319, k0_pay321, shapeCast_self, Memref.IsWhole.read_unread, rd _ 5 (by decide) _ rfl, rd _ 6 (by decide) _ rfl, rd _ 7 (by decide) _ rfl,
    r_38 c a0 ha0 a13 x0 x1 x2 x3 x4 x5 x6 x7 x8 x9 x10,
    r_39 c a0 ha0 a13 x0 x1 x2 x3 x4 x5 x6 x7 x8 x9 x10,
    v196 c a0 ha0 a13 x0]
  rfl

theorem r_44 : kernelRun0_A.sl.r_44 c a0 ha0 a5 ha5 a13 x0 x5 =
    (kw x0 x1 x2 x3 x4 x5 x6 x7 x8 x9 x10 8).x1 := by
  simp only [kernelRun0_A.sl.r_44, k0_pay319, k0_pay322, shapeCast_self, Memref.IsWhole.read_unread, rd _ 5 (by decide) _ rfl, rd _ 6 (by decide) _ rfl, rd _ 7 (by decide) _ rfl,
    r_38 c a0 ha0 a13 x0 x1 x2 x3 x4 x5 x6 x7 x8 x9 x10,
    r_40 c a0 ha0 a5 ha5 a13 x0 x1 x2 x3 x4 x5 x6 x7 x8 x9 x10,
    v196 c a0 ha0 a13 x0]
  rfl

theorem r_45 : kernelRun0_A.sl.r_45 c a0 ha0 a6 ha6 a13 x0 x6 =
    (kw x0 x1 x2 x3 x4 x5 x6 x7 x8 x9 x10 8).y1 := by
  simp only [kernelRun0_A.sl.r_41, kernelRun0_A.sl.r_45, k0_pay318, k0_pay323, k0_pay319, shapeCast_self, Memref.IsWhole.read_unread, rd _ 5 (by decide) _ rfl, rd _ 6 (by decide) _ rfl, rd _ 7 (by decide) _ rfl,
    r_32 c a0 ha0 a6 ha6 a13 x0 x1 x2 x3 x4 x5 x6 x7 x8 x9 x10,
    r_37 c a0 ha0 a13 x0 x1 x2 x3 x4 x5 x6 x7 x8 x9 x10,
    r_38 c a0 ha0 a13 x0 x1 x2 x3 x4 x5 x6 x7 x8 x9 x10,
    v196 c a0 ha0 a13 x0]
  rfl

theorem r_46 : kernelRun0_A.sl.r_46 c a0 ha0 a7 ha7 a13 x0 x7 =
    (kw x0 x1 x2 x3 x4 x5 x6 x7 x8 x9 x10 8).x2 := by
  simp only [kernelRun0_A.sl.r_46, k0_pay324, k0_pay319, shapeCast_self, Memref.IsWhole.read_unread, rd _ 5 (by decide) _ rfl, rd _ 6 (by decide) _ rfl, rd _ 7 (by decide) _ rfl,
    r_33 c a0 ha0 a7 ha7 a13 x0 x1 x2 x3 x4 x5 x6 x7 x8 x9 x10,
    r_37 c a0 ha0 a13 x0 x1 x2 x3 x4 x5 x6 x7 x8 x9 x10,
    r_38 c a0 ha0 a13 x0 x1 x2 x3 x4 x5 x6 x7 x8 x9 x10,
    v196 c a0 ha0 a13 x0]
  rfl

theorem r_47 : kernelRun0_A.sl.r_47 c a0 ha0 a8 ha8 a13 x0 x8 =
    (kw x0 x1 x2 x3 x4 x5 x6 x7 x8 x9 x10 8).y2 := by
  simp only [kernelRun0_A.sl.r_47, k0_pay325, k0_pay319, shapeCast_self, Memref.IsWhole.read_unread, rd _ 5 (by decide) _ rfl, rd _ 6 (by decide) _ rfl, rd _ 7 (by decide) _ rfl,
    r_34 c a0 ha0 a8 ha8 a13 x0 x1 x2 x3 x4 x5 x6 x7 x8 x9 x10,
    r_37 c a0 ha0 a13 x0 x1 x2 x3 x4 x5 x6 x7 x8 x9 x10,
    r_38 c a0 ha0 a13 x0 x1 x2 x3 x4 x5 x6 x7 x8 x9 x10,
    v196 c a0 ha0 a13 x0]
  rfl

theorem r_48 : kernelRun0_A.sl.r_48 c a0 ha0 a9 ha9 a13 x0 x9 =
    (kw x0 x1 x2 x3 x4 x5 x6 x7 x8 x9 x10 8).sc := by
  simp only [kernelRun0_A.sl.r_48, k0_pay326, k0_pay319, shapeCast_self, Memref.IsWhole.read_unread, rd _ 5 (by decide) _ rfl, rd _ 6 (by decide) _ rfl, rd _ 7 (by decide) _ rfl,
    r_35 c a0 ha0 a9 ha9 a13 x0 x1 x2 x3 x4 x5 x6 x7 x8 x9 x10,
    r_37 c a0 ha0 a13 x0 x1 x2 x3 x4 x5 x6 x7 x8 x9 x10,
    r_38 c a0 ha0 a13 x0 x1 x2 x3 x4 x5 x6 x7 x8 x9 x10,
    v196 c a0 ha0 a13 x0]
  rfl

theorem r_49 : kernelRun0_A.sl.r_49 c a0 ha0 a10 ha10 a13 x0 x10 =
    (kw x0 x1 x2 x3 x4 x5 x6 x7 x8 x9 x10 8).off := by
  simp only [kernelRun0_A.sl.r_49, k0_pay327, k0_pay319, shapeCast_self, Memref.IsWhole.read_unread, rd _ 5 (by decide) _ rfl, rd _ 6 (by decide) _ rfl, rd _ 7 (by decide) _ rfl,
    r_36 c a0 ha0 a10 ha10 a13 x0 x1 x2 x3 x4 x5 x6 x7 x8 x9 x10,
    r_37 c a0 ha0 a13 x0 x1 x2 x3 x4 x5 x6 x7 x8 x9 x10,
    r_38 c a0 ha0 a13 x0 x1 x2 x3 x4 x5 x6 x7 x8 x9 x10,
    v196 c a0 ha0 a13 x0]
  rfl

theorem r_50 : kernelRun0_A.sl.r_50 c a0 ha0 a7 ha7 a13 x0 x7 =
    (kw x0 x1 x2 x3 x4 x5 x6 x7 x8 x9 x10 9).x2 := by
  simp only [kernelRun0_A.sl.r_50, k0_pay328, k0_pay330, shapeCast_self, Memref.IsWhole.read_unread, rd _ 6 (by decide) _ rfl, rd _ 7 (by decide) _ rfl, rd _ 8 (by decide) _ rfl,
    r_42 c a0 ha0 a13 x0 x1 x2 x3 x4 x5 x6 x7 x8 x9 x10,
    r_46 c a0 ha0 a7 ha7 a13 x0 x1 x2 x3 x4 x5 x6 x7 x8 x9 x10,
    v220 c a0 ha0 a13 x0]
  rfl

theorem r_51 : kernelRun0_A.sl.r_51 c a0 ha0 a8 ha8 a13 x0 x8 =
    (kw x0 x1 x2 x3 x4 x5 x6 x7 x8 x9 x10 9).y2 := by
  simp only [kernelRun0_A.sl.r_51, k0_pay328, k0_pay331, shapeCast_self, Memref.IsWhole.read_unread, rd _ 6 (by decide) _ rfl, rd _ 7 (by decide) _ rfl, rd _ 8 (by decide) _ rfl,
    r_42 c a0 ha0 a13 x0 x1 x2 x3 x4 x5 x6 x7 x8 x9 x10,
    r_47 c a0 ha0 a8 ha8 a13 x0 x1 x2 x3 x4 x5 x6 x7 x8 x9 x10,
    v220 c a0 ha0 a13 x0]
  rfl

theorem r_52 : kernelRun0_A.sl.r_52 c a0 ha0 a9 ha9 a13 x0 x9 =
    (kw x0 x1 x2 x3 x4 x5 x6 x7 x8 x9 x10 9).sc := by
  simp only [kernelRun0_A.sl.r_52, k0_pay328, k0_pay332, shapeCast_self, Memref.IsWhole.read_unread, rd _ 6 (by decide) _ rfl, rd _ 7 (by decide) _ rfl, rd _ 8 (by decide) _ rfl,
    r_42 c a0 ha0 a13 x0 x1 x2 x3 x4 x5 x6 x7 x8 x9 x10,
    r_48 c a0 ha0 a9 ha9 a13 x0 x1 x2 x3 x4 x5 x6 x7 x8 x9 x10,
    v220 c a0 ha0 a13 x0]
  rfl

theorem r_53 : kernelRun0_A.sl.r_53 c a0 ha0 a10 ha10 a13 x0 x10 =
    (kw x0 x1 x2 x3 x4 x5 x6 x7 x8 x9 x10 9).off := by
  simp only [kernelRun0_A.sl.r_53, k0_pay328, k0_pay333, shapeCast_self, Memref.IsWhole.read_unread, rd _ 6 (by decide) _ rfl, rd _ 7 (by decide) _ rfl, rd _ 8 (by decide) _ rfl,
    r_42 c a0 ha0 a13 x0 x1 x2 x3 x4 x5 x6 x7 x8 x9 x10,
    r_49 c a0 ha0 a10 ha10 a13 x0 x1 x2 x3 x4 x5 x6 x7 x8 x9 x10,
    v220 c a0 ha0 a13 x0]
  rfl

theorem r_54 : kernelRun0_A.sl.r_54 c a0 ha0 a13 x0 =
    up (chunk x0 9) (kw x0 x1 x2 x3 x4 x5 x6 x7 x8 x9 x10 9) := by
  simp only [kernelRun0_A.sl.r_54, k0_pay334, k0_pay329, shapeCast_self, Memref.IsWhole.read_unread, rd _ 7 (by decide) _ rfl, rd _ 8 (by decide) _ rfl, rd _ 9 (by decide) _ rfl,
    r_42 c a0 ha0 a13 x0 x1 x2 x3 x4 x5 x6 x7 x8 x9 x10,
    v220 c a0 ha0 a13 x0,
    v244 c a0 ha0 a13 x0]
  rfl

theorem r_55 : kernelRun0_A.sl.r_55 c a0 ha0 a13 x0 =
    (kw x0 x1 x2 x3 x4 x5 x6 x7 x8 x9 x10 10).vm := by
  simp only [kernelRun0_A.sl.r_55, k0_pay329, k0_pay335, shapeCast_self, Memref.IsWhole.read_unread, rd _ 7 (by decide) _ rfl, rd _ 8 (by decide) _ rfl, rd _ 9 (by decide) _ rfl,
    r_42 c a0 ha0 a13 x0 x1 x2 x3 x4 x5 x6 x7 x8 x9 x10,
    v220 c a0 ha0 a13 x0,
    v244 c a0 ha0 a13 x0]
  rfl

theorem r_56 : kernelRun0_A.sl.r_56 c a0 ha0 a13 x0 =
    (kw x0 x1 x2 x3 x4 x5 x6 x7 x8 x9 x10 10).vi := by
  simp only [kernelRun0_A.sl.r_56, k0_pay328, k0_pay334, k0_pay336, k0_pay329, shapeCast_self, Memref.IsWhole.read_unread, rd _ 7 (by decide) _ rfl, rd _ 8 (by decide) _ rfl, rd _ 9 (by decide) _ rfl,
    r_42 c a0 ha0 a13 x0 x1 x2 x3 x4 x5 x6 x7 x8 x9 x10,
    r_43 c a0 ha0 a13 x0 x1 x2 x3 x4 x5 x6 x7 x8 x9 x10,
    v220 c a0 ha0 a13 x0,
    v244 c a0 ha0 a13 x0]
  rfl

theorem r_57 : kernelRun0_A.sl.r_57 c a0 ha0 a5 ha5 a13 x0 x5 =
    (kw x0 x1 x2 x3 x4 x5 x6 x7 x8 x9 x10 10).x1 := by
  simp only [kernelRun0_A.sl.r_57, k0_pay337, k0_pay328, k0_pay334, k0_pay329, shapeCast_self, Memref.IsWhole.read_unread, rd _ 7 (by decide) _ rfl, rd _ 8 (by decide) _ rfl, rd _ 9 (by decide) _ rfl,
    r_42 c a0 ha0 a13 x0 x1 x2 x3 x4 x5 x6 x7 x8 x9 x10,
    r_44 c a0 ha0 a5 ha5 a13 x0 x1 x2 x3 x4 x5 x6 x7 x8 x9 x10,
    v220 c a0 ha0 a13 x0,
    v244 c a0 ha0 a13 x0]
  rfl

theorem r_58 : kernelRun0_A.sl.r_58 c a0 ha0 a6 ha6 a13 x0 x6 =
    (kw x0 x1 x2 x3 x4 x5 x6 x7 x8 x9 x10 10).y1 := by
  simp only [kernelRun0_A.sl.r_58, k0_pay328, k0_pay334, k0_pay329, k0_pay338, shapeCast_self, Memref.IsWhole.read_unread, rd _ 7 (by decide) _ rfl, rd _ 8 (by decide) _ rfl, rd _ 9 (by decide) _ rfl,
    r_42 c a0 ha0 a13 x0 x1 x2 x3 x4 x5 x6 x7 x8 x9 x10,
    r_45 c a0 ha0 a6 ha6 a13 x0 x1 x2 x3 x4 x5 x6 x7 x8 x9 x10,
    v220 c a0 ha0 a13 x0,
    v244 c a0 ha0 a13 x0]
  rfl

theorem r_59 : kernelRun0_A.sl.r_59 c a0 ha0 a13 x0 =
    (kw x0 x1 x2 x3 x4 x5 x6 x7 x8 x9 x10 11).vm := by
  simp only [kernelRun0_A.sl.r_59, k0_pay340, shapeCast_self, Memref.IsWhole.read_unread, rd _ 8 (by decide) _ rfl, rd _ 9 (by decide) _ rfl, rd _ 10 (by decide) _ rfl,
    r_55 c a0 ha0 a13 x0 x1 x2 x3 x4 x5 x6 x7 x8 x9 x10,
    v268 c a0 ha0 a13 x0]
  rfl

theorem r_60 : kernelRun0_A.sl.r_60 c a0 ha0 a13 x0 =
    (kw x0 x1 x2 x3 x4 x5 x6 x7 x8 x9 x10 11).vi := by
  simp only [kernelRun0_A.sl.r_60, k0_pay339, k0_pay341, shapeCast_self, Memref.IsWhole.read_unread, rd _ 8 (by decide) _ rfl, rd _ 9 (by decide) _ rfl, rd _ 10 (by decide) _ rfl,
    r_55 c a0 ha0 a13 x0 x1 x2 x3 x4 x5 x6 x7 x8 x9 x10,
    r_56 c a0 ha0 a13 x0 x1 x2 x3 x4 x5 x6 x7 x8 x9 x10,
    v268 c a0 ha0 a13 x0]
  rfl

theorem r_61 : kernelRun0_A.sl.r_61 c a0 ha0 a5 ha5 a13 x0 x5 =
    (kw x0 x1 x2 x3 x4 x5 x6 x7 x8 x9 x10 11).x1 := by
  simp only [kernelRun0_A.sl.r_61, k0_pay339, k0_pay342, shapeCast_self, Memref.IsWhole.read_unread, rd _ 8 (by decide) _ rfl, rd _ 9 (by decide) _ rfl, rd _ 10 (by decide) _ rfl,
    r_55 c a0 ha0 a13 x0 x1 x2 x3 x4 x5 x6 x7 x8 x9 x10,
    r_57 c a0 ha0 a5 ha5 a13 x0 x1 x2 x3 x4 x5 x6 x7 x8 x9 x10,
    v268 c a0 ha0 a13 x0]
  rfl

theorem r_62 : kernelRun0_A.sl.r_62 c a0 ha0 a6 ha6 a13 x0 x6 =
    (kw x0 x1 x2 x3 x4 x5 x6 x7 x8 x9 x10 11).y1 := by
  simp only [kernelRun0_A.sl.r_62, k0_pay339, k0_pay343, shapeCast_self, Memref.IsWhole.read_unread, rd _ 8 (by decide) _ rfl, rd _ 9 (by decide) _ rfl, rd _ 10 (by decide) _ rfl,
    r_55 c a0 ha0 a13 x0 x1 x2 x3 x4 x5 x6 x7 x8 x9 x10,
    r_58 c a0 ha0 a6 ha6 a13 x0 x1 x2 x3 x4 x5 x6 x7 x8 x9 x10,
    v268 c a0 ha0 a13 x0]
  rfl

theorem r_63 : kernelRun0_A.sl.r_63 c a0 ha0 a7 ha7 a13 x0 x7 =
    (kw x0 x1 x2 x3 x4 x5 x6 x7 x8 x9 x10 11).x2 := by
  simp only [kernelRun0_A.sl.r_63, k0_pay339, k0_pay344, shapeCast_self, Memref.IsWhole.read_unread, rd _ 8 (by decide) _ rfl, rd _ 9 (by decide) _ rfl, rd _ 10 (by decide) _ rfl,
    r_50 c a0 ha0 a7 ha7 a13 x0 x1 x2 x3 x4 x5 x6 x7 x8 x9 x10,
    r_54 c a0 ha0 a13 x0 x1 x2 x3 x4 x5 x6 x7 x8 x9 x10,
    r_55 c a0 ha0 a13 x0 x1 x2 x3 x4 x5 x6 x7 x8 x9 x10,
    v268 c a0 ha0 a13 x0]
  rfl

theorem r_64 : kernelRun0_A.sl.r_64 c a0 ha0 a8 ha8 a13 x0 x8 =
    (kw x0 x1 x2 x3 x4 x5 x6 x7 x8 x9 x10 11).y2 := by
  simp only [kernelRun0_A.sl.r_64, k0_pay345, k0_pay339, shapeCast_self, Memref.IsWhole.read_unread, rd _ 8 (by decide) _ rfl, rd _ 9 (by decide) _ rfl, rd _ 10 (by decide) _ rfl,
    r_51 c a0 ha0 a8 ha8 a13 x0 x1 x2 x3 x4 x5 x6 x7 x8 x9 x10,
    r_54 c a0 ha0 a13 x0 x1 x2 x3 x4 x5 x6 x7 x8 x9 x10,
    r_55 c a0 ha0 a13 x0 x1 x2 x3 x4 x5 x6 x7 x8 x9 x10,
    v268 c a0 ha0 a13 x0]
  rfl

theorem r_65 : kernelRun0_A.sl.r_65 c a0 ha0 a9 ha9 a13 x0 x9 =
    (kw x0 x1 x2 x3 x4 x5 x6 x7 x8 x9 x10 11).sc := by
  simp only [kernelRun0_A.sl.r_65, k0_pay339, k0_pay346, shapeCast_self, Memref.IsWhole.read_unread, rd _ 8 (by decide) _ rfl, rd _ 9 (by decide) _ rfl, rd _ 10 (by decide) _ rfl,
    r_52 c a0 ha0 a9 ha9 a13 x0 x1 x2 x3 x4 x5 x6 x7 x8 x9 x10,
    r_54 c a0 ha0 a13 x0 x1 x2 x3 x4 x5 x6 x7 x8 x9 x10,
    r_55 c a0 ha0 a13 x0 x1 x2 x3 x4 x5 x6 x7 x8 x9 x10,
    v268 c a0 ha0 a13 x0]
  rfl

theorem r_66 : kernelRun0_A.sl.r_66 c a0 ha0 a10 ha10 a13 x0 x10 =
    (kw x0 x1 x2 x3 x4 x5 x6 x7 x8 x9 x10 11).off := by
  simp only [kernelRun0_A.sl.r_66, k0_pay339, k0_pay347, shapeCast_self, Memref.IsWhole.read_unread, rd _ 8 (by decide) _ rfl, rd _ 9 (by decide) _ rfl, rd _ 10 (by decide) _ rfl,
    r_53 c a0 ha0 a10 ha10 a13 x0 x1 x2 x3 x4 x5 x6 x7 x8 x9 x10,
    r_54 c a0 ha0 a13 x0 x1 x2 x3 x4 x5 x6 x7 x8 x9 x10,
    r_55 c a0 ha0 a13 x0 x1 x2 x3 x4 x5 x6 x7 x8 x9 x10,
    v268 c a0 ha0 a13 x0]
  rfl

theorem r_67 : kernelRun0_A.sl.r_67 c a0 ha0 a8 ha8 a13 x0 x8 =
    (kw x0 x1 x2 x3 x4 x5 x6 x7 x8 x9 x10 12).y2 := by
  simp only [kernelRun0_A.sl.r_67, k0_pay348, k0_pay350, shapeCast_self, Memref.IsWhole.read_unread, rd _ 9 (by decide) _ rfl, rd _ 10 (by decide) _ rfl, rd _ 11 (by decide) _ rfl,
    r_59 c a0 ha0 a13 x0 x1 x2 x3 x4 x5 x6 x7 x8 x9 x10,
    r_64 c a0 ha0 a8 ha8 a13 x0 x1 x2 x3 x4 x5 x6 x7 x8 x9 x10,
    v292 c a0 ha0 a13 x0]
  rfl

theorem r_68 : kernelRun0_A.sl.r_68 c a0 ha0 a9 ha9 a13 x0 x9 =
    (kw x0 x1 x2 x3 x4 x5 x6 x7 x8 x9 x10 12).sc := by
  simp only [kernelRun0_A.sl.r_68, k0_pay351, k0_pay348, shapeCast_self, Memref.IsWhole.read_unread, rd _ 9 (by decide) _ rfl, rd _ 10 (by decide) _ rfl, rd _ 11 (by decide) _ rfl,
    r_59 c a0 ha0 a13 x0 x1 x2 x3 x4 x5 x6 x7 x8 x9 x10,
    r_65 c a0 ha0 a9 ha9 a13 x0 x1 x2 x3 x4 x5 x6 x7 x8 x9 x10,
    v292 c a0 ha0 a13 x0]
  rfl

theorem r_69 : kernelRun0_A.sl.r_69 c a0 ha0 a10 ha10 a13 x0 x10 =
    (kw x0 x1 x2 x3 x4 x5 x6 x7 x8 x9 x10 12).off := by
  simp only [kernelRun0_A.sl.r_69, k0_pay352, k0_pay348, shapeCast_self, Memref.IsWhole.read_unread, rd _ 9 (by decide) _ rfl, rd _ 10 (by decide) _ rfl, rd _ 11 (by decide) _ rfl,
    r_59 c a0 ha0 a13 x0 x1 x2 x3 x4 x5 x6 x7 x8 x9 x10,
    r_66 c a0 ha0 a10 ha10 a13 x0 x1 x2 x3 x4 x5 x6 x7 x8 x9 x10,
    v292 c a0 ha0 a13 x0]
  rfl

theorem r_70 : kernelRun0_A.sl.r_70 c a0 ha0 a13 x0 =
    up (chunk x0 12) (kw x0 x1 x2 x3 x4 x5 x6 x7 x8 x9 x10 12) := by
  simp only [kernelRun0_A.sl.r_70, k0_pay349, k0_pay353, shapeCast_self, Memref.IsWhole.read_unread, rd _ 10 (by decide) _ rfl, rd _ 11 (by decide) _ rfl, rd _ 12 (by decide) _ rfl,
    r_59 c a0 ha0 a13 x0 x1 x2 x3 x4 x5 x6 x7 x8 x9 x10,
    v292 c a0 ha0 a13 x0,
    v316 c a0 ha0 a13 x0]
  rfl

theorem r_71 : kernelRun0_A.sl.r_71 c a0 ha0 a13 x0 =
    (kw x0 x1 x2 x3 x4 x5 x6 x7 x8 x9 x10 13).vm := by
  simp only [kernelRun0_A.sl.r_71, k0_pay349, k0_pay354, shapeCast_self, Memref.IsWhole.read_unread, rd _ 10 (by decide) _ rfl, rd _ 11 (by decide) _ rfl, rd _ 12 (by decide) _ rfl,
    r_59 c a0 ha0 a13 x0 x1 x2 x3 x4 x5 x6 x7 x8 x9 x10,
    v292 c a0 ha0 a13 x0,
    v316 c a0 ha0 a13 x0]
  rfl

theorem r_72 : kernelRun0_A.sl.r_72 c a0 ha0 a13 x0 =
    (kw x0 x1 x2 x3 x4 x5 x6 x7 x8 x9 x10 13).vi := by
  simp only [kernelRun0_A.sl.r_72, k0_pay355, k0_pay348, k0_pay353, k0_pay349, shapeCast_self, Memref.IsWhole.read_unread, rd _ 10 (by decide) _ rfl, rd _ 11 (by decide) _ rfl, rd _ 12 (by decide) _ rfl,
    r_59 c a0 ha0 a13 x0 x1 x2 x3 x4 x5 x6 x7 x8 x9 x10,
    r_60 c a0 ha0 a13 x0 x1 x2 x3 x4 x5 x6 x7 x8 x9 x10,
    v292 c a0 ha0 a13 x0,
    v316 c a0 ha0 a13 x0]
  rfl

theorem r_73 : kernelRun0_A.sl.r_73 c a0 ha0 a5 ha5 a13 x0 x5 =
    (kw x0 x1 x2 x3 x4 x5 x6 x7 x8 x9 x10 13).x1 := by
  simp only [kernelRun0_A.sl.r_73, k0_pay348, k0_pay353, k0_pay356, k0_pay349, shapeCast_self, Memref.IsWhole.read_unread, rd _ 10 (by decide) _ rfl, rd _ 11 (by decide) _ rfl, rd _ 12 (by decide) _ rfl,
    r_59 c a0 ha0 a13 x0 x1 x2 x3 x4 x5 x6 x7 x8 x9 x10,
    r_61 c a0 ha0 a5 ha5 a13 x0 x1 x2 x3 x4 x5 x6 x7 x8 x9 x10,
    v292 c a0 ha0 a13 x0,
    v316 c a0 ha0 a13 x0]
  rfl

theorem r_74 : kernelRun0_A.sl.r_74 c a0 ha0 a6 ha6 a13 x0 x6 =
    (kw x0 x1 x2 x3 x4 x5 x6 x7 x8 x9 x10 13).y1 := by
  simp only [kernelRun0_A.sl.r_74, k0_pay348, k0_pay353, k0_pay357, k0_pay349, shapeCast_self, Memref.IsWhole.read_unread, rd _ 10 (by decide) _ rfl, rd _ 11 (by decide) _ rfl, rd _ 12 (by decide) _ rfl,
    r_59 c a0 ha0 a13 x0 x1 x2 x3 x4 x5 x6 x7 x8 x9 x10,
    r_62 c a0 ha0 a6 ha6 a13 x0 x1 x2 x3 x4 x5 x6 x7 x8 x9 x10,
    v292 c a0 ha0 a13 x0,
    v316 c a0 ha0 a13 x0]
  rfl

theorem r_75 : kernelRun0_A.sl.r_75 c a0 ha0 a7 ha7 a13 x0 x7 =
    (kw x0 x1 x2 x3 x4 x5 x6 x7 x8 x9 x10 13).x2 := by
  simp only [kernelRun0_A.sl.r_75, k0_pay348, k0_pay353, k0_pay349, k0_pay358, shapeCast_self, Memref.IsWhole.read_unread, rd _ 10 (by decide) _ rfl, rd _ 11 (by decide) _ rfl, rd _ 12 (by decide) _ rfl,
    r_59 c a0 ha0 a13 x0 x1 x2 x3 x4 x5 x6 x7 x8 x9 x10,
    r_63 c a0 ha0 a7 ha7 a13 x0 x1 x2 x3 x4 x5 x6 x7 x8 x9 x10,
    v292 c a0 ha0 a13 x0,
    v316 c a0 ha0 a13 x0]
  rfl

theorem r_76 : kernelRun0_A.sl.r_76 c a0 ha0 a13 x0 =
    (kw x0 x1 x2 x3 x4 x5 x6 x7 x8 x9 x10 14).vi := by
  simp only [kernelRun0_A.sl.r_76, k0_pay361, k0_pay359, shapeCast_self, Memref.IsWhole.read_unread, rd _ 11 (by decide) _ rfl, rd _ 12 (by decide) _ rfl, rd _ 13 (by decide) _ rfl,
    r_71 c a0 ha0 a13 x0 x1 x2 x3 x4 x5 x6 x7 x8 x9 x10,
    r_72 c a0 ha0 a13 x0 x1 x2 x3 x4 x5 x6 x7 x8 x9 x10,
    v340 c a0 ha0 a13 x0]
  rfl

theorem r_77 : kernelRun0_A.sl.r_77 c a0 ha0 a5 ha5 a13 x0 x5 =
    (kw x0 x1 x2 x3 x4 x5 x6 x7 x8 x9 x10 14).x1 := by
  simp only [kernelRun0_A.sl.r_77, k0_pay359, k0_pay362, shapeCast_self, Memref.IsWhole.read_unread, rd _ 11 (by decide) _ rfl, rd _ 12 (by decide) _ rfl, rd _ 13 (by decide) _ rfl,
    r_71 c a0 ha0 a13 x0 x1 x2 x3 x4 x5 x6 x7 x8 x9 x10,
    r_73 c a0 ha0 a5 ha5 a13 x0 x1 x2 x3 x4 x5 x6 x7 x8 x9 x10,
    v340 c a0 ha0 a13 x0]
  rfl

theorem r_78 : kernelRun0_A.sl.r_78 c a0 ha0 a6 ha6 a13 x0 x6 =
    (kw x0 x1 x2 x3 x4 x5 x6 x7 x8 x9 x10 14).y1 := by
  simp only [kernelRun0_A.sl.r_78, k0_pay363, k0_pay359, shapeCast_self, Memref.IsWhole.read_unread, rd _ 11 (by decide) _ rfl, rd _ 12 (by decide) _ rfl, rd _ 13 (by decide) _ rfl,
    r_71 c a0 ha0 a13 x0 x1 x2 x3 x4 x5 x6 x7 x8 x9 x10,
    r_74 c a0 ha0 a6 ha6 a13 x0 x1 x2 x3 x4 x5 x6 x7 x8 x9 x10,
    v340 c a0 ha0 a13 x0]
  rfl

theorem r_79 : kernelRun0_A.sl.r_79 c a0 ha0 a7 ha7 a13 x0 x7 =
    (kw x0 x1 x2 x3 x4 x5 x6 x7 x8 x9 x10 14).x2 := by
  simp only [kernelRun0_A.sl.r_79, k0_pay359, k0_pay364, shapeCast_self, Memref.IsWhole.read_unread, rd _ 11 (by decide) _ rfl, rd _ 12 (by decide) _ rfl, rd _ 13 (by decide) _ rfl,
    r_71 c a0 ha0 a13 x0 x1 x2 x3 x4 x5 x6 x7 x8 x9 x10,
    r_75 c a0 ha0 a7 ha7 a13 x0 x1 x2 x3 x4 x5 x6 x7 x8 x9 x10,
    v340 c a0 ha0 a13 x0]
  rfl

theorem r_80 : kernelRun0_A.sl.r_80 c a0 ha0 a8 ha8 a13 x0 x8 =
    (kw x0 x1 x2 x3 x4 x5 x6 x7 x8 x9 x10 14).y2 := by
  simp only [kernelRun0_A.sl.r_80, k0_pay359, k0_pay365, shapeCast_self, Memref.IsWhole.read_unread, rd _ 11 (by decide) _ rfl, rd _ 12 (by decide) _ rfl, rd _ 13 (by decide) _ rfl,
    r_67 c a0 ha0 a8 ha8 a13 x0 x1 x2 x3 x4 x5 x6 x7 x8 x9 x10,
    r_70 c a0 ha0 a13 x0 x1 x2 x3 x4 x5 x6 x7 x8 x9 x10,
    r_71 c a0 ha0 a13 x0 x1 x2 x3 x4 x5 x6 x7 x8 x9 x10,
    v340 c a0 ha0 a13 x0]
  rfl

theorem r_81 : kernelRun0_A.sl.r_81 c a0 ha0 a9 ha9 a13 x0 x9 =
    (kw x0 x1 x2 x3 x4 x5 x6 x7 x8 x9 x10 14).sc := by
  simp only [kernelRun0_A.sl.r_81, k0_pay366, k0_pay359, shapeCast_self, Memref.IsWhole.read_unread, rd _ 11 (by decide) _ rfl, rd _ 12 (by decide) _ rfl, rd _ 13 (by decide) _ rfl,
    r_68 c a0 ha0 a9 ha9 a13 x0 x1 x2 x3 x4 x5 x6 x7 x8 x9 x10,
    r_70 c a0 ha0 a13 x0 x1 x2 x3 x4 x5 x6 x7 x8 x9 x10,
    r_71 c a0 ha0 a13 x0 x1 x2 x3 x4 x5 x6 x7 x8 x9 x10,
    v340 c a0 ha0 a13 x0]
  rfl

theorem r_82 : kernelRun0_A.sl.r_82 c a0 ha0 a10 ha10 a13 x0 x10 =
    (kw x0 x1 x2 x3 x4 x5 x6 x7 x8 x9 x10 14).off := by
  simp only [kernelRun0_A.sl.r_82, k0_pay367, k0_pay359, shapeCast_self, Memref.IsWhole.read_unread, rd _ 11 (by decide) _ rfl, rd _ 12 (by decide) _ rfl, rd _ 13 (by decide) _ rfl,
    r_69 c a0 ha0 a10 ha10 a13 x0 x1 x2 x3 x4 x5 x6 x7 x8 x9 x10,
    r_70 c a0 ha0 a13 x0 x1 x2 x3 x4 x5 x6 x7 x8 x9 x10,
    r_71 c a0 ha0 a13 x0 x1 x2 x3 x4 x5 x6 x7 x8 x9 x10,
    v340 c a0 ha0 a13 x0]
  rfl

theorem r_83 : kernelRun0_A.sl.r_83 c a0 ha0 a13 x0 =
    up (chunk x0 14) (kw x0 x1 x2 x3 x4 x5 x6 x7 x8 x9 x10 14) := by
  simp only [kernelRun0_A.sl.r_83, k0_pay368, k0_pay360, shapeCast_self, Memref.IsWhole.read_unread, rd _ 12 (by decide) _ rfl, rd _ 13 (by decide) _ rfl, rd _ 14 (by decide) _ rfl,
    r_71 c a0 ha0 a13 x0 x1 x2 x3 x4 x5 x6 x7 x8 x9 x10,
    v340 c a0 ha0 a13 x0,
    v364 c a0 ha0 a13 x0]
  rfl

theorem r_84 : kernelRun0_A.sl.r_84 c a0 ha0 a13 x0 =
    (kw x0 x1 x2 x3 x4 x5 x6 x7 x8 x9 x10 15).vm := by
  simp only [kernelRun0_A.sl.r_84, k0_pay360, k0_pay369, shapeCast_self, Memref.IsWhole.read_unread, rd _ 12 (by decide) _ rfl, rd _ 13 (by decide) _ rfl, rd _ 14 (by decide) _ rfl,
    r_71 c a0 ha0 a13 x0 x1 x2 x3 x4 x5 x6 x7 x8 x9 x10,
    v340 c a0 ha0 a13 x0,
    v364 c a0 ha0 a13 x0]
  rfl

theorem r_85 : kernelRun0_A.sl.r_85 c a0 ha0 a8 ha8 a13 x0 x8 =
    (kw x0 x1 x2 x3 x4 x5 x6 x7 x8 x9 x10 15).y2 := by
  simp only [kernelRun0_A.sl.r_85, k0_pay370, shapeCast_self, Memref.IsWhole.read_unread, rd _ 12 (by decide) _ rfl, rd _ 13 (by decide) _ rfl, rd _ 14 (by decide) _ rfl,
    r_80 c a0 ha0 a8 ha8 a13 x0 x1 x2 x3 x4 x5 x6 x7 x8 x9 x10,
    r_83 c a0 ha0 a13 x0 x1 x2 x3 x4 x5 x6 x7 x8 x9 x10]
  rfl

theorem r_86 : kernelRun0_A.sl.r_86 c a0 ha0 a9 ha9 a13 x0 x9 =
    (kw x0 x1 x2 x3 x4 x5 x6 x7 x8 x9 x10 15).sc := by
  simp only [kernelRun0_A.sl.r_86, k0_pay371, shapeCast_self, Memref.IsWhole.read_unread, rd _ 12 (by decide) _ rfl, rd _ 13 (by decide) _ rfl, rd _ 14 (by decide) _ rfl,
    r_81 c a0 ha0 a9 ha9 a13 x0 x1 x2 x3 x4 x5 x6 x7 x8 x9 x10,
    r_83 c a0 ha0 a13 x0 x1 x2 x3 x4 x5 x6 x7 x8 x9 x10]
  rfl

theorem r_87 : kernelRun0_A.sl.r_87 c a0 ha0 a10 ha10 a13 x0 x10 =
    (kw x0 x1 x2 x3 x4 x5 x6 x7 x8 x9 x10 15).off := by
  simp only [kernelRun0_A.sl.r_87, k0_pay372, shapeCast_self, Memref.IsWhole.read_unread, rd _ 12 (by decide) _ rfl, rd _ 13 (by decide) _ rfl, rd _ 14 (by decide) _ rfl,
    r_82 c a0 ha0 a10 ha10 a13 x0 x1 x2 x3 x4 x5 x6 x7 x8 x9 x10,
    r_83 c a0 ha0 a13 x0 x1 x2 x3 x4 x5 x6 x7 x8 x9 x10]
  rfl

theorem r_88 : kernelRun0_A.sl.r_88 c a0 ha0 a13 x0 =
    up (chunk x0 15) (kw x0 x1 x2 x3 x4 x5 x6 x7 x8 x9 x10 15) := by
  simp only [kernelRun0_A.sl.r_88, k0_pay373, shapeCast_self, Memref.IsWhole.read_unread, rd _ 13 (by decide) _ rfl, rd _ 14 (by decide) _ rfl, rd _ 15 (by decide) _ rfl,
    r_84 c a0 ha0 a13 x0 x1 x2 x3 x4 x5 x6 x7 x8 x9 x10,
    v388 c a0 ha0 a13 x0]

theorem r_89 : kernelRun0_A.sl.r_89 c a0 ha0 a13 x0 =
    (kw x0 x1 x2 x3 x4 x5 x6 x7 x8 x9 x10 16).vm := by
  simp only [kernelRun0_A.sl.r_89, k0_pay374, shapeCast_self, Memref.IsWhole.read_unread, rd _ 13 (by decide) _ rfl, rd _ 14 (by decide) _ rfl, rd _ 15 (by decide) _ rfl,
    r_84 c a0 ha0 a13 x0 x1 x2 x3 x4 x5 x6 x7 x8 x9 x10,
    v388 c a0 ha0 a13 x0]
  rfl

theorem r_90 : kernelRun0_A.sl.r_90 c a0 ha0 a13 x0 =
    (kw x0 x1 x2 x3 x4 x5 x6 x7 x8 x9 x10 16).vi := by
  simp only [kernelRun0_A.sl.r_90, k0_pay375, k0_pay373, shapeCast_self, Memref.IsWhole.read_unread, rd _ 13 (by decide) _ rfl, rd _ 14 (by decide) _ rfl, rd _ 15 (by decide) _ rfl,
    r_76 c a0 ha0 a13 x0 x1 x2 x3 x4 x5 x6 x7 x8 x9 x10,
    r_83 c a0 ha0 a13 x0 x1 x2 x3 x4 x5 x6 x7 x8 x9 x10,
    r_84 c a0 ha0 a13 x0 x1 x2 x3 x4 x5 x6 x7 x8 x9 x10,
    v388 c a0 ha0 a13 x0]
  rfl

theorem r_91 : kernelRun0_A.sl.r_91 c a0 ha0 a5 ha5 a13 x0 x5 =
    (kw x0 x1 x2 x3 x4 x5 x6 x7 x8 x9 x10 16).x1 := by
  simp only [kernelRun0_A.sl.r_91, k0_pay376, k0_pay373, shapeCast_self, Memref.IsWhole.read_unread, rd _ 13 (by decide) _ rfl, rd _ 14 (by decide) _ rfl, rd _ 15 (by decide) _ rfl,
    r_77 c a0 ha0 a5 ha5 a13 x0 x1 x2 x3 x4 x5 x6 x7 x8 x9 x10,
    r_83 c a0 ha0 a13 x0 x1 x2 x3 x4 x5 x6 x7 x8 x9 x10,
    r_84 c a0 ha0 a13 x0 x1 x2 x3 x4 x5 x6 x7 x8 x9 x10,
    v388 c a0 ha0 a13 x0]
  rfl

theorem r_92 : kernelRun0_A.sl.r_92 c a0 ha0 a6 ha6 a13 x0 x6 =
    (kw x0 x1 x2 x3 x4 x5 x6 x7 x8 x9 x10 16).y1 := by
  simp only [kernelRun0_A.sl.r_92, k0_pay373, k0_pay377, shapeCast_self, Memref.IsWhole.read_unread, rd _ 13 (by decide) _ rfl, rd _ 14 (by decide) _ rfl, rd _ 15 (by decide) _ rfl,
    r_78 c a0 ha0 a6 ha6 a13 x0 x1 x2 x3 x4 x5 x6 x7 x8 x9 x10,
    r_83 c a0 ha0 a13 x0 x1 x2 x3 x4 x5 x6 x7 x8 x9 x10,
    r_84 c a0 ha0 a13 x0 x1 x2 x3 x4 x5 x6 x7 x8 x9 x10,
    v388 c a0 ha0 a13 x0]
  rfl

theorem r_93 : kernelRun0_A.sl.r_93 c a0 ha0 a7 ha7 a13 x0 x7 =
    (kw x0 x1 x2 x3 x4 x5 x6 x7 x8 x9 x10 16).x2 := by
  simp only [kernelRun0_A.sl.r_93, k0_pay378, k0_pay373, shapeCast_self, Memref.IsWhole.read_unread, rd _ 13 (by decide) _ rfl, rd _ 14 (by decide) _ rfl, rd _ 15 (by decide) _ rfl,
    r_79 c a0 ha0 a7 ha7 a13 x0 x1 x2 x3 x4 x5 x6 x7 x8 x9 x10,
    r_83 c a0 ha0 a13 x0 x1 x2 x3 x4 x5 x6 x7 x8 x9 x10,
    r_84 c a0 ha0 a13 x0 x1 x2 x3 x4 x5 x6 x7 x8 x9 x10,
    v388 c a0 ha0 a13 x0]
  rfl

theorem r_95 : kernelRun0_A.sl.r_95 c a0 ha0 a5 ha5 a13 x0 x5 =
    (kw x0 x1 x2 x3 x4 x5 x6 x7 x8 x9 x10 17).x1 := by
  simp only [kernelRun0_A.sl.r_95, k0_pay379, k0_pay381, shapeCast_self, Memref.IsWhole.read_unread, rd _ 14 (by decide) _ rfl, rd _ 15 (by decide) _ rfl, rd _ 16 (by decide) _ rfl,
    r_89 c a0 ha0 a13 x0 x1 x2 x3 x4 x5 x6 x7 x8 x9 x10,
    r_91 c a0 ha0 a5 ha5 a13 x0 x1 x2 x3 x4 x5 x6 x7 x8 x9 x10,
    v412 c a0 ha0 a13 x0]
  rfl

theorem r_96 : kernelRun0_A.sl.r_96 c a0 ha0 a6 ha6 a13 x0 x6 =
    (kw x0 x1 x2 x3 x4 x5 x6 x7 x8 x9 x10 17).y1 := by
  simp only [kernelRun0_A.sl.r_96, k0_pay379, k0_pay382, shapeCast_self, Memref.IsWhole.read_unread, rd _ 14 (by decide) _ rfl, rd _ 15 (by decide) _ rfl, rd _ 16 (by decide) _ rfl,
    r_89 c a0 ha0 a13 x0 x1 x2 x3 x4 x5 x6 x7 x8 x9 x10,
    r_92 c a0 ha0 a6 ha6 a13 x0 x1 x2 x3 x4 x5 x6 x7 x8 x9 x10,
    v412 c a0 ha0 a13 x0]
  rfl

theorem r_97 : kernelRun0_A.sl.r_97 c a0 ha0 a7 ha7 a13 x0 x7 =
    (kw x0 x1 x2 x3 x4 x5 x6 x7 x8 x9 x10 17).x2 := by
  simp only [kernelRun0_A.sl.r_97, k0_pay379, k0_pay383, shapeCast_self, Memref.IsWhole.read_unread, rd _ 14 (by decide) _ rfl, rd _ 15 (by decide) _ rfl, rd _ 16 (by decide) _ rfl,
    r_89 c a0 ha0 a13 x0 x1 x2 x3 x4 x5 x6 x7 x8 x9 x10,
    r_93 c a0 ha0 a7 ha7 a13 x0 x1 x2 x3 x4 x5 x6 x7 x8 x9 x10,
    v412 c a0 ha0 a13 x0]
  rfl

theorem r_98 : kernelRun0_A.sl.r_98 c a0 ha0 a8 ha8 a13 x0 x8 =
    (kw x0 x1 x2 x3 x4 x5 x6 x7 x8 x9 x10 17).y2 := by
  simp only [kernelRun0_A.sl.r_94, kernelRun0_A.sl.r_98, k0_pay384, k0_pay379, shapeCast_self, Memref.IsWhole.read_unread, rd _ 14 (by decide) _ rfl, rd _ 15 (by decide) _ rfl, rd _ 16 (by decide) _ rfl,
    r_85 c a0 ha0 a8 ha8 a13 x0 x1 x2 x3 x4 x5 x6 x7 x8 x9 x10,
    r_88 c a0 ha0 a13 x0 x1 x2 x3 x4 x5 x6 x7 x8 x9 x10,
    r_89 c a0 ha0 a13 x0 x1 x2 x3 x4 x5 x6 x7 x8 x9 x10,
    v412 c a0 ha0 a13 x0]
  rfl

theorem r_99 : kernelRun0_A.sl.r_99 c a0 ha0 a9 ha9 a13 x0 x9 =
    (kw x0 x1 x2 x3 x4 x5 x6 x7 x8 x9 x10 17).sc := by
  simp only [kernelRun0_A.sl.r_99, k0_pay385, k0_pay379, shapeCast_self, Memref.IsWhole.read_unread, rd _ 14 (by decide) _ rfl, rd _ 15 (by decide) _ rfl, rd _ 16 (by decide) _ rfl,
    r_86 c a0 ha0 a9 ha9 a13 x0 x1 x2 x3 x4 x5 x6 x7 x8 x9 x10,
    r_88 c a0 ha0 a13 x0 x1 x2 x3 x4 x5 x6 x7 x8 x9 x10,
    r_89 c a0 ha0 a13 x0 x1 x2 x3 x4 x5 x6 x7 x8 x9 x10,
    v412 c a0 ha0 a13 x0]
  rfl

theorem r_100 : kernelRun0_A.sl.r_100 c a0 ha0 a10 ha10 a13 x0 x10 =
    (kw x0 x1 x2 x3 x4 x5 x6 x7 x8 x9 x10 17).off := by
  simp only [kernelRun0_A.sl.r_100, k0_pay379, k0_pay386, shapeCast_self, Memref.IsWhole.read_unread, rd _ 14 (by decide) _ rfl, rd _ 15 (by decide) _ rfl, rd _ 16 (by decide) _ rfl,
    r_87 c a0 ha0 a10 ha10 a13 x0 x1 x2 x3 x4 x5 x6 x7 x8 x9 x10,
    r_88 c a0 ha0 a13 x0 x1 x2 x3 x4 x5 x6 x7 x8 x9 x10,
    r_89 c a0 ha0 a13 x0 x1 x2 x3 x4 x5 x6 x7 x8 x9 x10,
    v412 c a0 ha0 a13 x0]
  rfl

theorem r_101 : kernelRun0_A.sl.r_101 c a0 ha0 a13 x0 =
    up (chunk x0 17) (kw x0 x1 x2 x3 x4 x5 x6 x7 x8 x9 x10 17) := by
  simp only [kernelRun0_A.sl.r_101, k0_pay380, k0_pay387, shapeCast_self, Memref.IsWhole.read_unread, rd _ 15 (by decide) _ rfl, rd _ 16 (by decide) _ rfl, rd _ 17 (by decide) _ rfl,
    r_89 c a0 ha0 a13 x0 x1 x2 x3 x4 x5 x6 x7 x8 x9 x10,
    v412 c a0 ha0 a13 x0,
    v436 c a0 ha0 a13 x0]
  rfl

theorem r_102 : kernelRun0_A.sl.r_102 c a0 ha0 a13 x0 =
    (kw x0 x1 x2 x3 x4 x5 x6 x7 x8 x9 x10 18).vm := by
  simp only [kernelRun0_A.sl.r_102, k0_pay388, k0_pay380, shapeCast_self, Memref.IsWhole.read_unread, rd _ 15 (by decide) _ rfl, rd _ 16 (by decide) _ rfl, rd _ 17 (by decide) _ rfl,
    r_89 c a0 ha0 a13 x0 x1 x2 x3 x4 x5 x6 x7 x8 x9 x10,
    v412 c a0 ha0 a13 x0,
    v436 c a0 ha0 a13 x0]
  rfl

theorem r_103 : kernelRun0_A.sl.r_103 c a0 ha0 a13 x0 =
    (kw x0 x1 x2 x3 x4 x5 x6 x7 x8 x9 x10 18).vi := by
  simp only [kernelRun0_A.sl.r_103, k0_pay379, k0_pay389, k0_pay380, k0_pay387, shapeCast_self, Memref.IsWhole.read_unread, rd _ 15 (by decide) _ rfl, rd _ 16 (by decide) _ rfl, rd _ 17 (by decide) _ rfl,
    r_89 c a0 ha0 a13 x0 x1 x2 x3 x4 x5 x6 x7 x8 x9 x10,
    r_90 c a0 ha0 a13 x0 x1 x2 x3 x4 x5 x6 x7 x8 x9 x10,
    v412 c a0 ha0 a13 x0,
    v436 c a0 ha0 a13 x0]
  rfl

theorem r_104 : kernelRun0_A.sl.r_104 c a0 ha0 a9 ha9 a13 x0 x9 =
    (kw x0 x1 x2 x3 x4 x5 x6 x7 x8 x9 x10 18).sc := by
  simp only [kernelRun0_A.sl.r_104, k0_pay390, shapeCast_self, Memref.IsWhole.read_unread, rd _ 15 (by decide) _ rfl, rd _ 16 (by decide) _ rfl, rd _ 17 (by decide) _ rfl,
    r_99 c a0 ha0 a9 ha9 a13 x0 x1 x2 x3 x4 x5 x6 x7 x8 x9 x10,
    r_101 c a0 ha0 a13 x0 x1 x2 x3 x4 x5 x6 x7 x8 x9 x10]
  rfl

theorem r_105 : kernelRun0_A.sl.r_105 c a0 ha0 a10 ha10 a13 x0 x10 =
    (kw x0 x1 x2 x3 x4 x5 x6 x7 x8 x9 x10 18).off := by
  simp only [kernelRun0_A.sl.r_105, k0_pay391, shapeCast_self, Memref.IsWhole.read_unread, rd _ 15 (by decide) _ rfl, rd _ 16 (by decide) _ rfl, rd _ 17 (by decide) _ rfl,
    r_100 c a0 ha0 a10 ha10 a13 x0 x1 x2 x3 x4 x5 x6 x7 x8 x9 x10,
    r_101 c a0 ha0 a13 x0 x1 x2 x3 x4 x5 x6 x7 x8 x9 x10]
  rfl

theorem r_106 : kernelRun0_A.sl.r_106 c a0 ha0 a13 x0 =
    up (chunk x0 18) (kw x0 x1 x2 x3 x4 x5 x6 x7 x8 x9 x10 18) := by
  simp only [kernelRun0_A.sl.r_106, k0_pay392, shapeCast_self, Memref.IsWhole.read_unread, rd _ 16 (by decide) _ rfl, rd _ 17 (by decide) _ rfl, rd _ 18 (by decide) _ rfl,
    r_102 c a0 ha0 a13 x0 x1 x2 x3 x4 x5 x6 x7 x8 x9 x10,
    v460 c a0 ha0 a13 x0]

theorem r_107 : kernelRun0_A.sl.r_107 c a0 ha0 a13 x0 =
    (kw x0 x1 x2 x3 x4 x5 x6 x7 x8 x9 x10 19).vm := by
  simp only [kernelRun0_A.sl.r_107, k0_pay393, shapeCast_self, Memref.IsWhole.read_unread, rd _ 16 (by decide) _ rfl, rd _ 17 (by decide) _ rfl, rd _ 18 (by decide) _ rfl,
    r_102 c a0 ha0 a13 x0 x1 x2 x3 x4 x5 x6 x7 x8 x9 x10,
    v460 c a0 ha0 a13 x0]
  rfl

theorem r_108 : kernelRun0_A.sl.r_108 c a0 ha0 a13 x0 =
    (kw x0 x1 x2 x3 x4 x5 x6 x7 x8 x9 x10 19).vi := by
  simp only [kernelRun0_A.sl.r_108, k0_pay392, k0_pay394, shapeCast_self, Memref.IsWhole.read_unread, rd _ 16 (by decide) _ rfl, rd _ 17 (by decide) _ rfl, rd _ 18 (by decide) _ rfl,
    r_102 c a0 ha0 a13 x0 x1 x2 x3 x4 x5 x6 x7 x8 x9 x10,
    r_103 c a0 ha0 a13 x0 x1 x2 x3 x4 x5 x6 x7 x8 x9 x10,
    v460 c a0 ha0 a13 x0]
  rfl

theorem r_109 : kernelRun0_A.sl.r_109 c a0 ha0 a5 ha5 a13 x0 x5 =
    (kw x0 x1 x2 x3 x4 x5 x6 x7 x8 x9 x10 19).x1 := by
  simp only [kernelRun0_A.sl.r_109, k0_pay392, k0_pay395, shapeCast_self, Memref.IsWhole.read_unread, rd _ 16 (by decide) _ rfl, rd _ 17 (by decide) _ rfl, rd _ 18 (by decide) _ rfl,
    r_95 c a0 ha0 a5 ha5 a13 x0 x1 x2 x3 x4 x5 x6 x7 x8 x9 x10,
    r_101 c a0 ha0 a13 x0 x1 x2 x3 x4 x5 x6 x7 x8 x9 x10,
    r_102 c a0 ha0 a13 x0 x1 x2 x3 x4 x5 x6 x7 x8 x9 x10,
    v460 c a0 ha0 a13 x0]
  rfl

theorem r_110 : kernelRun0_A.sl.r_110 c a0 ha0 a6 ha6 a13 x0 x6 =
    (kw x0 x1 x2 x3 x4 x5 x6 x7 x8 x9 x10 19).y1 := by
  simp only [kernelRun0_A.sl.r_110, k0_pay396, k0_pay392, shapeCast_self, Memref.IsWhole.read_unread, rd _ 16 (by decide) _ rfl, rd _ 17 (by decide) _ rfl, rd _ 18 (by decide) _ rfl,
    r_96 c a0 ha0 a6 ha6 a13 x0 x1 x2 x3 x4 x5 x6 x7 x8 x9 x10,
    r_101 c a0 ha0 a13 x0 x1 x2 x3 x4 x5 x6 x7 x8 x9 x10,
    r_102 c a0 ha0 a13 x0 x1 x2 x3 x4 x5 x6 x7 x8 x9 x10,
    v460 c a0 ha0 a13 x0]
  rfl

theorem r_111 : kernelRun0_A.sl.r_111 c a0 ha0 a7 ha7 a13 x0 x7 =
    (kw x0 x1 x2 x3 x4 x5 x6 x7 x8 x9 x10 19).x2 := by
  simp only [kernelRun0_A.sl.r_111, k0_pay392, k0_pay397, shapeCast_self, Memref.IsWhole.read_unread, rd _ 16 (by decide) _ rfl, rd _ 17 (by decide) _ rfl, rd _ 18 (by decide) _ rfl,
    r_97 c a0 ha0 a7 ha7 a13 x0 x1 x2 x3 x4 x5 x6 x7 x8 x9 x10,
    r_101 c a0 ha0 a13 x0 x1 x2 x3 x4 x5 x6 x7 x8 x9 x10,
    r_102 c a0 ha0 a13 x0 x1 x2 x3 x4 x5 x6 x7 x8 x9 x10,
    v460 c a0 ha0 a13 x0]
  rfl

theorem r_112 : kernelRun0_A.sl.r_112 c a0 ha0 a8 ha8 a13 x0 x8 =
    (kw x0 x1 x2 x3 x4 x5 x6 x7 x8 x9 x10 19).y2 := by
  simp only [kernelRun0_A.sl.r_112, k0_pay392, k0_pay398, shapeCast_self, Memref.IsWhole.read_unread, rd _ 16 (by decide) _ rfl, rd _ 17 (by decide) _ rfl, rd _ 18 (by decide) _ rfl,
    r_98 c a0 ha0 a8 ha8 a13 x0 x1 x2 x3 x4 x5 x6 x7 x8 x9 x10,
    r_101 c a0 ha0 a13 x0 x1 x2 x3 x4 x5 x6 x7 x8 x9 x10,
    r_102 c a0 ha0 a13 x0 x1 x2 x3 x4 x5 x6 x7 x8 x9 x10,
    v460 c a0 ha0 a13 x0]
  rfl

end Cert.KernelIdeal.Scan.Init

end
-- ==== Proof.ScanOut.lean ====
/-
  What the kernel's run leaves in its two outputs, in terms of the states of its loop (`kst`) started at what its first
  walk over the arrays leaves (`kinit`).
-/
module

public import proofs.«01_k».proof.Proof.ScanLoop
public import proofs.«01_k».proof.Proof.ScanInit

@[expose] public section

set_option maxRecDepth 100000

noncomputable section

open Idealize.ShloMosaic Idealize.ShloMosaic.TcCoe Idealize.SL.Sem

namespace Cert.KernelIdeal.Scan

open Cert.KernelIdeal Cert.KernelIdeal.Gen

variable {F : FTy → Type} [FloatOps F]

/-- One store of a whole array leaves what was stored. -/
theorem read_whole {a : Memref sig .tc .vmem S160x128 .f32} (g : BufTy.Contents (Elt F) a.view.ty)
    (w : Vec F S160x128 .f32) (inb : ∀ b, (![0, 0] : Fin 2 → ℕ) b + S160x128.size b ≤ S160x128.size b) :
    a.view.read (Elt F) (a.view.writes (Elt F) g [⟨Rect.unit (s := S160x128) ![0, 0] S160x128.size inb, w⟩]) = w := by
  have cov : ∀ y : S160x128.Idx, ∃ p ∈ [(⟨Rect.unit (s := S160x128) ![0, 0] S160x128.size inb, w⟩ : View.Piece (Elt F) S160x128 .f32)],
      y ∈ p.1.set := by
    intro y
    refine ⟨⟨Rect.unit (s := S160x128) ![0, 0] S160x128.size inb, w⟩, List.mem_singleton_self _, ?_⟩
    exact View.mem_set_unit_zero (S := S160x128) hz inb y
  rw [View.read_writes_eq_canon _ _ _ cov, View.canon_unit_zero (S := S160x128) hz]

/-- What the loop starts from, besides the scores. -/
def kinit (x0 x1 x2 x3 x4 x5 x6 x7 x8 x9 x10 : Vec F S160x128 .f32) : Carry F :=
  let s := Init.kw x0 x1 x2 x3 x4 x5 x6 x7 x8 x9 x10 20
  (s.vm, s.vi, s.x1, s.y1, s.x2, s.y2, s.sc, s.off, k0_pay409, k0_pay273, k0_pay273, k0_pay273, k0_pay273, k0_pay273)

/-- The loop's states from there. -/
def kall (x0 x1 x2 x3 x4 x5 x6 x7 x8 x9 x10 : Vec F S160x128 .f32) : ℕ → Carry F × Vec F S160x128 .f32 :=
  kst (Init.karr x1 x2 x3 x4 x5 x6 x7 x8 x9 x10) k0_pay271 kernelRun0_A.sl.v24 k0_pay273 kernelRun0_A.sl.cst_278 (kinit x0 x1 x2 x3 x4 x5 x6 x7 x8 x9 x10, x0)

variable (c : Dev nD)
variable (a0 : Memref sig .tc .vmem S160x128 .f32) (h0 : a0.IsWhole) (a1 : Memref sig .tc .vmem S160x128 .f32) (h1 :
    a1.IsWhole) (a2 : Memref sig .tc .vmem S160x128 .f32) (h2 : a2.IsWhole) (a3 : Memref sig .tc .vmem S160x128
    .f32) (h3 : a3.IsWhole) (a4 : Memref sig .tc .vmem S160x128 .f32) (h4 : a4.IsWhole) (a5 : Memref sig .tc .vmem
    S160x128 .f32) (h5 : a5.IsWhole) (a6 : Memref sig .tc .vmem S160x128 .f32) (h6 : a6.IsWhole) (a7 : Memref sig
    .tc .vmem S160x128 .f32) (h7 : a7.IsWhole) (a8 : Memref sig .tc .vmem S160x128 .f32) (h8 : a8.IsWhole) (a9 :
    Memref sig .tc .vmem S160x128 .f32) (h9 : a9.IsWhole) (a10 : Memref sig .tc .vmem S160x128 .f32) (h10 :
    a10.IsWhole) (a11 : Memref sig .tc .vmem S8x128 .f32) (h11 : a11.IsWhole) (a12 : Memref sig .tc .vmem S8x128
    .i32) (h12 : a12.IsWhole) (a13 : Memref sig .tc .vmem S160x128 .f32) (h13 : a13.IsWhole) (a14 : Memref sig .tc
    .vmem S160x128 .f32) (h14 : a14.IsWhole)
variable (x0 x1 x2 x3 x4 x5 x6 x7 x8 x9 x10 : Vec F S160x128 .f32)

theorem hs1 : kernelRun0_A.sl.HS1_1 c a1 h1 a2 h2 a3 h3 a4 h4 x1 x2 x3 x4
    = [⟨Rect.unit (s := S160x128) ![0, 0] S160x128.size inb_S160x128_S160x128_0_0, mulf (subf x3 x1) (subf x4 x2)⟩] := by
  simp only [kernelRun0_A.sl.HS1_1, k0_pay270, shapeCast_self, View.readAt_eq_ld, Memref.IsWhole.read_unread,
    View.ld_unit_zero (S := S160x128) hz]

theorem tarr_eq : tarr a1 a2 a3 a4 a5 a6 a7 a8 a9 a10 a14 (h1.unread x1) (h2.unread x2) (h3.unread x3) (h4.unread x4) (h5.unread x5) (h6.unread x6) (h7.unread x7) (h8.unread x8) (h9.unread x9) (h10.unread x10)
    (a14.view.writes (Elt F) a14.view.junk (kernelRun0_A.sl.HS1_1 c a1 h1 a2 h2 a3 h3 a4 h4 x1 x2 x3 x4))
    = Init.karr x1 x2 x3 x4 x5 x6 x7 x8 x9 x10 := by
  unfold tarr Init.karr
  rw [hs1, read_whole]
  simp only [Memref.IsWhole.read_unread]

/-- The values the run carries into its loop. -/
abbrev rinit : Carry F :=
  (k0_pay400 (kernelRun0_A.sl.r_107 c a0 h0 a13 x0) (kernelRun0_A.sl.v484 c a0 h0 a13 x0), k0_pay401 k0_pay271
    (kernelRun0_A.sl.r_107 c a0 h0 a13 x0) (kernelRun0_A.sl.r_108 c a0 h0 a13 x0) (kernelRun0_A.sl.v484 c a0 h0 a13
    x0), k0_pay402 (kernelRun0_A.sl.r_107 c a0 h0 a13 x0) (kernelRun0_A.sl.r_109 c a0 h0 a5 h5 a13 x0 x5)
    (kernelRun0_A.sl.v484 c a0 h0 a13 x0) (View.readAt (Elt F) a5.view (Rect.unit (s := S160x128) ![152, 0]
    S8x128.size inb_S160x128_S8x128_152_0).toLoadRect (h5.unread x5)), k0_pay403 (kernelRun0_A.sl.r_107 c a0 h0 a13
    x0) (kernelRun0_A.sl.r_110 c a0 h0 a6 h6 a13 x0 x6) (kernelRun0_A.sl.v484 c a0 h0 a13 x0) (View.readAt (Elt F)
    a6.view (Rect.unit (s := S160x128) ![152, 0] S8x128.size inb_S160x128_S8x128_152_0).toLoadRect (h6.unread x6)),
    k0_pay404 (kernelRun0_A.sl.r_107 c a0 h0 a13 x0) (kernelRun0_A.sl.r_111 c a0 h0 a7 h7 a13 x0 x7)
    (kernelRun0_A.sl.v484 c a0 h0 a13 x0) (View.readAt (Elt F) a7.view (Rect.unit (s := S160x128) ![152, 0]
    S8x128.size inb_S160x128_S8x128_152_0).toLoadRect (h7.unread x7)), k0_pay405 (kernelRun0_A.sl.r_107 c a0 h0 a13
    x0) (kernelRun0_A.sl.r_112 c a0 h0 a8 h8 a13 x0 x8) (kernelRun0_A.sl.v484 c a0 h0 a13 x0) (View.readAt (Elt F)
    a8.view (Rect.unit (s := S160x128) ![152, 0] S8x128.size inb_S160x128_S8x128_152_0).toLoadRect (h8.unread x8)),
    k0_pay406 (kernelRun0_A.sl.r_104 c a0 h0 a9 h9 a13 x0 x9) (kernelRun0_A.sl.r_106 c a0 h0 a13 x0)
    (kernelRun0_A.sl.r_107 c a0 h0 a13 x0) (View.readAt (Elt F) a9.view (Rect.unit (s := S160x128) ![144, 0]
    S8x128.size inb_S160x128_S8x128_144_0).toLoadRect (h9.unread x9)) (kernelRun0_A.sl.v484 c a0 h0 a13 x0)
    (View.readAt (Elt F) a9.view (Rect.unit (s := S160x128) ![152, 0] S8x128.size
    inb_S160x128_S8x128_152_0).toLoadRect (h9.unread x9)), k0_pay407 (kernelRun0_A.sl.r_105 c a0 h0 a10 h10 a13 x0
    x10) (kernelRun0_A.sl.r_106 c a0 h0 a13 x0) (kernelRun0_A.sl.r_107 c a0 h0 a13 x0) (View.readAt (Elt F) a10.view
    (Rect.unit (s := S160x128) ![144, 0] S8x128.size inb_S160x128_S8x128_144_0).toLoadRect (h10.unread x10))
    (kernelRun0_A.sl.v484 c a0 h0 a13 x0) (View.readAt (Elt F) a10.view (Rect.unit (s := S160x128) ![152, 0]
    S8x128.size inb_S160x128_S8x128_152_0).toLoadRect (h10.unread x10)), k0_pay409, k0_pay273, k0_pay273, k0_pay273,
    k0_pay273, k0_pay273)

theorem rinit_eq : rinit c a0 h0 a5 h5 a6 h6 a7 h7 a8 h8 a9 h9 a10 h10 a13 x0 x5 x6 x7 x8 x9 x10 = kinit x0 x1 x2 x3 x4 x5 x6 x7 x8 x9 x10 := by
  unfold rinit
  simp only [k0_pay400, k0_pay401, k0_pay402, k0_pay403, k0_pay404, k0_pay405, k0_pay406, k0_pay407, shapeCast_self, Memref.IsWhole.read_unread, rd _ 18 (by decide) _ rfl,
    rd _ 19 (by decide) _ rfl,
    Init.r_104 c a0 h0 a9 h9 a13 x0 x1 x2 x3 x4 x5 x6 x7 x8 x9 x10,
    Init.r_105 c a0 h0 a10 h10 a13 x0 x1 x2 x3 x4 x5 x6 x7 x8 x9 x10,
    Init.r_106 c a0 h0 a13 x0 x1 x2 x3 x4 x5 x6 x7 x8 x9 x10,
    Init.r_107 c a0 h0 a13 x0 x1 x2 x3 x4 x5 x6 x7 x8 x9 x10,
    Init.r_108 c a0 h0 a13 x0 x1 x2 x3 x4 x5 x6 x7 x8 x9 x10,
    Init.r_109 c a0 h0 a5 h5 a13 x0 x1 x2 x3 x4 x5 x6 x7 x8 x9 x10,
    Init.r_110 c a0 h0 a6 h6 a13 x0 x1 x2 x3 x4 x5 x6 x7 x8 x9 x10,
    Init.r_111 c a0 h0 a7 h7 a13 x0 x1 x2 x3 x4 x5 x6 x7 x8 x9 x10,
    Init.r_112 c a0 h0 a8 h8 a13 x0 x1 x2 x3 x4 x5 x6 x7 x8 x9 x10,
    Init.v484 c a0 h0 a13 x0]
  rfl

/-- The run's loop, after all its trips. -/
abbrev rst : Carry F :=
  (st_k0_t1 Variants.none c none a0 h0 a1 h1 a2 h2 a3 h3 a4 h4 a5 h5 a6 h6 a7 h7 a8 h8 a9 h9 a10 h10 a11 h11 a12 h12
    a13 h13 a14 h14 k0_pay271 kernelRun0_A.sl.v24 k0_pay273 (kernelRun0_A.sl.r_104 c a0 h0 a9 h9 a13 x0 x9)
    (kernelRun0_A.sl.r_105 c a0 h0 a10 h10 a13 x0 x10) (kernelRun0_A.sl.r_106 c a0 h0 a13 x0) (kernelRun0_A.sl.r_107
    c a0 h0 a13 x0) (kernelRun0_A.sl.r_108 c a0 h0 a13 x0) (kernelRun0_A.sl.r_109 c a0 h0 a5 h5 a13 x0 x5)
    (kernelRun0_A.sl.r_110 c a0 h0 a6 h6 a13 x0 x6) (kernelRun0_A.sl.r_111 c a0 h0 a7 h7 a13 x0 x7)
    (kernelRun0_A.sl.r_112 c a0 h0 a8 h8 a13 x0 x8) kernelRun0_A.sl.cst_278 (h1.unread x1) (h2.unread x2) (h3.unread
    x3) (h4.unread x4) (h5.unread x5) (h6.unread x6) (h7.unread x7) (h8.unread x8) (h9.unread x9) (h10.unread x10)
    (a14.view.writes (Elt F) a14.view.junk (kernelRun0_A.sl.HS1_1 c a1 h1 a2 h2 a3 h3 a4 h4 x1 x2 x3 x4))
    (a13.view.writes (Elt F) a13.view.junk (kernelRun0_A.sl.HS0_1 c a0 h0 x0)) (rinit c a0 h0 a5 h5 a6 h6 a7 h7 a8
    h8 a9 h9 a10 h10 a13 x0 x5 x6 x7 x8 x9 x10) (Scf.trips k0_t1_loop.lb k0_t1_loop.ub k0_t1_loop.st)).1

theorem rst_eq : rst c a0 h0 a1 h1 a2 h2 a3 h3 a4 h4 a5 h5 a6 h6 a7 h7 a8 h8 a9 h9 a10 h10 a11 h11 a12 h12 a13 h13 a14 h14 x0 x1 x2 x3 x4 x5 x6 x7 x8 x9 x10 = (kall x0 x1 x2 x3 x4 x5 x6 x7 x8 x9 x10 k0_t1_loop.trips).1 := by
  have h := congrArg Prod.fst (st_eq Variants.none c none a0 h0 a1 h1 a2 h2 a3 h3 a4 h4 a5 h5 a6 h6 a7 h7 a8 h8 a9 h9 a10 h10 a11 h11 a12 h12 a13 h13 a14 h14
    k0_pay271 kernelRun0_A.sl.v24 k0_pay273 (kernelRun0_A.sl.r_104 c a0 h0 a9 h9 a13 x0 x9) (kernelRun0_A.sl.r_105 c a0 h0 a10 h10 a13 x0 x10)
    (kernelRun0_A.sl.r_106 c a0 h0 a13 x0) (kernelRun0_A.sl.r_107 c a0 h0 a13 x0) (kernelRun0_A.sl.r_108 c a0 h0 a13
    x0) (kernelRun0_A.sl.r_109 c a0 h0 a5 h5 a13 x0 x5) (kernelRun0_A.sl.r_110 c a0 h0 a6 h6 a13 x0 x6)
    (kernelRun0_A.sl.r_111 c a0 h0 a7 h7 a13 x0 x7) (kernelRun0_A.sl.r_112 c a0 h0 a8 h8 a13 x0 x8) kernelRun0_A.sl.cst_278
    (h1.unread x1) (h2.unread x2) (h3.unread x3) (h4.unread x4) (h5.unread x5) (h6.unread x6) (h7.unread x7) (h8.unread x8) (h9.unread x9) (h10.unread x10)
    (a14.view.writes (Elt F) a14.view.junk (kernelRun0_A.sl.HS1_1 c a1 h1 a2 h2 a3 h3 a4 h4 x1 x2 x3 x4))
    (a13.view.writes (Elt F) a13.view.junk (kernelRun0_A.sl.HS0_1 c a0 h0 x0))
    (rinit c a0 h0 a5 h5 a6 h6 a7 h7 a8 h8 a9 h9 a10 h10 a13 x0 x5 x6 x7 x8 x9 x10) k0_t1_loop.trips le_rfl)
  rw [tarr_eq, rinit_eq, Init.hs0, read_whole, ← Init.hs0 c a0 h0 x0, ← rinit_eq c a0 h0 a5 h5 a6 h6 a7 h7 a8 h8 a9 h9 a10 h10 a13 x0 x1 x2 x3 x4 x5 x6 x7 x8 x9 x10] at h
  exact h.trans (by rw [rinit_eq]; rfl)

/-- The second output: the loop's list of kept indices. -/
theorem out_12 : out0_A_12 c a0 h0 a1 h1 a2 h2 a3 h3 a4 h4 a5 h5 a6 h6 a7 h7 a8 h8 a9 h9 a10 h10 a11 h11 a12 h12 a13 h13 a14 h14 x0 x1 x2 x3 x4 x5 x6 x7 x8 x9 x10 = (kall x0 x1 x2 x3 x4 x5 x6 x7 x8 x9 x10 k0_t1_loop.trips).1.2.2.2.2.2.2.2.2.1 := by
  unfold out0_A_12
  rw [View.read_writes_eq_canon _ _ _ (cover0_A_12 c a0 h0 a1 h1 a2 h2 a3 h3 a4 h4 a5 h5 a6 h6 a7 h7 a8 h8 a9 h9 a10 h10 a11 h11 a12 h12 a13 h13 a14 h14 x0 x1 x2 x3 x4 x5 x6 x7 x8 x9 x10)]
  unfold kernelRun0_A
  dsimp only
  rw [View.canon_unit_zero hz]
  exact congrArg (fun s : Carry F => s.2.2.2.2.2.2.2.2.1) (rst_eq c a0 h0 a1 h1 a2 h2 a3 h3 a4 h4 a5 h5 a6 h6 a7 h7 a8 h8 a9 h9 a10 h10 a11 h11 a12 h12 a13 h13 a14 h14 x0 x1 x2 x3 x4 x5 x6 x7 x8 x9 x10)

/-- The first output's rows. -/
def rows (s : Carry F) : Vec F S8x128 .f32 :=
  k0_pay1 k0_pay408 s.2.2.2.2.2.2.2.2.2.1 s.2.2.2.2.2.2.2.2.2.2.1 s.2.2.2.2.2.2.2.2.2.2.2.1
    s.2.2.2.2.2.2.2.2.2.2.2.2.1 s.2.2.2.2.2.2.2.2.2.2.2.2.2

theorem out_11 : out0_A_11 c a0 h0 a1 h1 a2 h2 a3 h3 a4 h4 a5 h5 a6 h6 a7 h7 a8 h8 a9 h9 a10 h10 a11 h11 a12 h12 a13 h13 a14 h14 x0 x1 x2 x3 x4 x5 x6 x7 x8 x9 x10 = rows (kall x0 x1 x2 x3 x4 x5 x6 x7 x8 x9 x10 k0_t1_loop.trips).1 := by
  unfold out0_A_11
  rw [View.read_writes_eq_canon _ _ _ (cover0_A_11 c a0 h0 a1 h1 a2 h2 a3 h3 a4 h4 a5 h5 a6 h6 a7 h7 a8 h8 a9 h9 a10 h10 a11 h11 a12 h12 a13 h13 a14 h14 x0 x1 x2 x3 x4 x5 x6 x7 x8 x9 x10)]
  unfold kernelRun0_A
  dsimp only
  rw [View.canon_unit_zero hz]
  have e114 : kernelRun0_A.sl.r_114 c a0 h0 a1 h1 a2 h2 a3 h3 a4 h4 a5 h5 a6 h6 a7 h7 a8 h8 a9 h9 a10 h10 a11 h11 a12 h12 a13 h13 a14 h14 x0 x1 x2 x3 x4 x5 x6 x7 x8 x9 x10 = (rst c a0 h0 a1 h1 a2 h2 a3 h3 a4 h4 a5 h5 a6 h6 a7 h7 a8 h8 a9 h9 a10 h10 a11 h11 a12 h12 a13 h13 a14 h14 x0 x1 x2 x3 x4 x5 x6 x7 x8 x9 x10).2.2.2.2.2.2.2.2.2.1 := rfl
  have e115 : kernelRun0_A.sl.r_115 c a0 h0 a1 h1 a2 h2 a3 h3 a4 h4 a5 h5 a6 h6 a7 h7 a8 h8 a9 h9 a10 h10 a11 h11 a12 h12 a13 h13 a14 h14 x0 x1 x2 x3 x4 x5 x6 x7 x8 x9 x10 = (rst c a0 h0 a1 h1 a2 h2 a3 h3 a4 h4 a5 h5 a6 h6 a7 h7 a8 h8 a9 h9 a10 h10 a11 h11 a12 h12 a13 h13 a14 h14 x0 x1 x2 x3 x4 x5 x6 x7 x8 x9 x10).2.2.2.2.2.2.2.2.2.2.1 := rfl
  have e116 : kernelRun0_A.sl.r_116 c a0 h0 a1 h1 a2 h2 a3 h3 a4 h4 a5 h5 a6 h6 a7 h7 a8 h8 a9 h9 a10 h10 a11 h11 a12 h12 a13 h13 a14 h14 x0 x1 x2 x3 x4 x5 x6 x7 x8 x9 x10 = (rst c a0 h0 a1 h1 a2 h2 a3 h3 a4 h4 a5 h5 a6 h6 a7 h7 a8 h8 a9 h9 a10 h10 a11 h11 a12 h12 a13 h13 a14 h14 x0 x1 x2 x3 x4 x5 x6 x7 x8 x9 x10).2.2.2.2.2.2.2.2.2.2.2.1 := rfl
  have e117 : kernelRun0_A.sl.r_117 c a0 h0 a1 h1 a2 h2 a3 h3 a4 h4 a5 h5 a6 h6 a7 h7 a8 h8 a9 h9 a10 h10 a11 h11 a12 h12 a13 h13 a14 h14 x0 x1 x2 x3 x4 x5 x6 x7 x8 x9 x10 = (rst c a0 h0 a1 h1 a2 h2 a3 h3 a4 h4 a5 h5 a6 h6 a7 h7 a8 h8 a9 h9 a10 h10 a11 h11 a12 h12 a13 h13 a14 h14 x0 x1 x2 x3 x4 x5 x6 x7 x8 x9 x10).2.2.2.2.2.2.2.2.2.2.2.2.1 := rfl
  have e118 : kernelRun0_A.sl.r_118 c a0 h0 a1 h1 a2 h2 a3 h3 a4 h4 a5 h5 a6 h6 a7 h7 a8 h8 a9 h9 a10 h10 a11 h11 a12 h12 a13 h13 a14 h14 x0 x1 x2 x3 x4 x5 x6 x7 x8 x9 x10 = (rst c a0 h0 a1 h1 a2 h2 a3 h3 a4 h4 a5 h5 a6 h6 a7 h7 a8 h8 a9 h9 a10 h10 a11 h11 a12 h12 a13 h13 a14 h14 x0 x1 x2 x3 x4 x5 x6 x7 x8 x9 x10).2.2.2.2.2.2.2.2.2.2.2.2.2 := rfl
  rw [e114, e115, e116, e117, e118, rst_eq]
  rfl

end Cert.KernelIdeal.Scan

end
-- ==== Proof.ScanPicks.lean ====
/-
  The kernel's loop on extended reals: after `t` trips its scores are those after `t` picks, its lanes hold the first
  greatest of them, and its lists hold the first `t` picks with their corners and scores (`inv_kst`).
-/
module

public import proofs.«01_k».proof.Proof.ScanGood
public import proofs.«01_k».proof.Proof.ScanOut

@[expose] public section

set_option maxRecDepth 4096

noncomputable section

open Idealize.ShloMosaic Idealize.ShloMosaic.TcCoe

namespace Cert.KernelIdeal.Scan

open Cert.KernelIdeal Cert.KernelIdeal.Gen Cert.Pick

/-- The lanes the loop carries. -/
def lanesOf (s : Carry Ideal) : Lanes Ideal :=
  ⟨s.1, s.2.1, s.2.2.1, s.2.2.2.1, s.2.2.2.2.1, s.2.2.2.2.2.1, s.2.2.2.2.2.2.1, s.2.2.2.2.2.2.2.1⟩

/-- The arrays hold the boxes `Q`, and the moved corners are the corners and the class offset. -/
structure Fits (A : Arr Ideal) (Q : ℕ → Quad) (m0 : ℕ → EReal) : Prop where
  q : ∀ k < 20480, Q k = ⟨A.x1 (cell k), A.y1 (cell k), A.x2 (cell k), A.y2 (cell k), A.area (cell k)⟩
  x1 : ∀ k < 20000, A.x1 (cell k) = A.ox1 (cell k) + A.off (cell k)
  y1 : ∀ k < 20000, A.y1 (cell k) = A.oy1 (cell k) + A.off (cell k)
  x2 : ∀ k < 20000, A.x2 (cell k) = A.ox2 (cell k) + A.off (cell k)
  y2 : ∀ k < 20000, A.y2 (cell k) = A.oy2 (cell k) + A.off (cell k)
  area : ∀ k < 20000, A.area (cell k) = (A.x2 (cell k) - A.x1 (cell k)) * (A.y2 (cell k) - A.y1 (cell k))
  lo : ∀ k, low ≤ m0 k
  pad : ∀ k, 20000 ≤ k → m0 k = low

/-- What holds after `t` trips. -/
structure Inv (A : Arr Ideal) (Q : ℕ → Quad) (m0 : ℕ → EReal) (t : ℕ) (s : Carry Ideal × Vec Ideal S160x128 .f32) : Prop where
  good : Good A (scores Q m0 t) (lanesOf s.1)
  ms : ∀ k < 20480, s.2 (cell k) = scores Q m0 t k
  kp : ∀ p : S8x128.Idx, (p 1).val < t → s.1.2.2.2.2.2.2.2.2.1 p = BitVec.ofNat 32 (pick Q m0 (p 1).val)
  kx1 : ∀ p : S8x128.Idx, (p 1).val < t → s.1.2.2.2.2.2.2.2.2.2.1 p = A.ox1 (cell (pick Q m0 (p 1).val))
  ky1 : ∀ p : S8x128.Idx, (p 1).val < t → s.1.2.2.2.2.2.2.2.2.2.2.1 p = A.oy1 (cell (pick Q m0 (p 1).val))
  kx2 : ∀ p : S8x128.Idx, (p 1).val < t → s.1.2.2.2.2.2.2.2.2.2.2.2.1 p = A.ox2 (cell (pick Q m0 (p 1).val))
  ky2 : ∀ p : S8x128.Idx, (p 1).val < t → s.1.2.2.2.2.2.2.2.2.2.2.2.2.1 p = A.oy2 (cell (pick Q m0 (p 1).val))
  ksc : ∀ p : S8x128.Idx, (p 1).val < t → s.1.2.2.2.2.2.2.2.2.2.2.2.2.2 p = A.sc (cell (pick Q m0 (p 1).val))

theorem trips_eq : k0_t1_loop.trips = 100 := by decide

/-- A list entry written at trip `k` and kept afterwards. -/
theorem entry {α : Type} (old new : S8x128.Idx → α) (k : Fin k0_t1_loop.trips) (f : ℕ → α) (v : α)
    (hold : ∀ p : S8x128.Idx, (p 1).val < k.val → old p = f (p 1).val) (hnew : ∀ p, new p = v) (hv : v = f k.val)
    (p : S8x128.Idx) (hp : (p 1).val < k.val + 1) :
    select (k0_pay410 kernelRun0_A.sl.v24 (trip_k0_t1.sl.r_220 k)) new old p = f (p 1).val := by
  have h1 : (p 1).val < 128 := (p 1).isLt
  have hk : k.val < 100 := trips_eq ▸ k.isLt
  have ew : ∀ q : S8x128.Idx, trip_k0_t1.sl.r_220 k q = BitVec.ofNat 32 k.val := fun q => by
    show 0#32 + BitVec.ofNat 32 k.val * 1#32 = _
    rw [BitVec.mul_one, BitVec.zero_add]
  have e4 : kernelRun0_A.sl.v24 p = BitVec.ofNat 32 (p 1).val := by
    show BitVec.ofNat 32 (0 * 128 + (p 1).val) = _
    rw [Nat.zero_mul, Nat.zero_add]
  show (if BitVec.ofBool (kernelRun0_A.sl.v24 p == trip_k0_t1.sl.r_220 k p) = 1#1 then new p else old p) = _
  rw [ew, e4]
  by_cases g : (p 1).val = k.val
  · rw [g, beq_self_eq_true, if_pos (show BitVec.ofBool true = 1#1 from rfl), hnew, hv]
  · have hne : (BitVec.ofNat 32 (p 1).val == BitVec.ofNat 32 k.val) = false := by
      rw [beq_eq_false_iff_ne]
      intro e
      have := congrArg BitVec.toNat e
      rw [BitVec.toNat_ofNat, BitVec.toNat_ofNat] at this
      omega
    rw [hne, if_neg (by decide)]
    exact hold p (by omega)

variable {A : Arr Ideal} {Q : ℕ → Quad} {m0 : ℕ → EReal}

theorem sup_eq (hA : Fits A Q m0) (b : Box Ideal) (m : Vec Ideal S160x128 .f32) (t : ℕ)
    (hb : ∀ p, (⟨b.x1 p, b.y1 p, b.x2 p, b.y2 p, b.area p⟩ : Quad) = Q (pick Q m0 t))
    (hm : ∀ k < 20480, m (cell k) = scores Q m0 t k) (i : ℕ) (hi : i < 20) (p : S8x128.Idx) :
    sup b (kernelRun0_A.sl.cst_278 (F := Ideal)) A m i p = scores Q m0 (t + 1) (1024 * i + fl p) := by
  have hk : 1024 * i + fl p < 20480 := by have := fl_lt p; omega
  have hc : (⟨chunk A.x1 i p, chunk A.y1 i p, chunk A.x2 i p, chunk A.y2 i p, chunk A.area i p⟩ : Quad)
      = Q (1024 * i + fl p) := by
    rw [hA.q _ hk, chunk_eq _ i hi, chunk_eq _ i hi, chunk_eq _ i hi, chunk_eq _ i hi, chunk_eq _ i hi]
  show (if BitVec.ofBool (decide (Ideal.ofBits .f32 0x3F19999A#32
      < over ⟨b.x1 p, b.y1 p, b.x2 p, b.y2 p, b.area p⟩
        ⟨chunk A.x1 i p, chunk A.y1 i p, chunk A.x2 i p, chunk A.y2 i p, chunk A.area i p⟩)) = 1#1
    then low else chunk m i p) = _
  rw [hb p, hc, chunk_eq _ i hi, hm _ hk]
  by_cases g : Hit (Q (pick Q m0 t)) (Q (1024 * i + fl p))
  · rw [scores_hit _ _ _ _ g, decide_eq_true (show Ideal.ofBits .f32 0x3F19999A#32 < over _ _ from g),
      if_pos (show BitVec.ofBool true = 1#1 from rfl)]
  · rw [scores_keep _ _ _ _ g, decide_eq_false (show ¬ Ideal.ofBits .f32 0x3F19999A#32 < over _ _ from g),
      if_neg (by decide)]

theorem unchunk_cell (M : ℕ → FVec Ideal S8x128 .f32) (k : ℕ) (hk : k < 20480) :
    unchunk M (cell k) = M (k / 1024) (unfl (k % 1024)) := by
  have e : (cell k 0).val / 8 = k / 1024 := by show k / 128 % 160 / 8 = _; omega
  unfold unchunk
  rw [e]
  refine congrArg (M (k / 1024)) (funext fun a => Fin.ext ?_)
  match a with
  | ⟨0, _⟩ => show k / 128 % 160 % 8 = k % 1024 / 128 % 8; omega
  | ⟨1, _⟩ => show k % 128 = k % 1024 % 128; omega

theorem r2_eq (s : Carry Ideal) : trip_k0_t1.sl.r_2 s = k0_pay10 s.2.2.1 (trip_k0_t1.sl.r_1 s) := rfl
theorem r3_eq (s : Carry Ideal) : trip_k0_t1.sl.r_3 s = k0_pay10 s.2.2.2.1 (trip_k0_t1.sl.r_1 s) := rfl
theorem r4_eq (s : Carry Ideal) : trip_k0_t1.sl.r_4 s = k0_pay10 s.2.2.2.2.1 (trip_k0_t1.sl.r_1 s) := rfl
theorem r6_eq (s : Carry Ideal) : trip_k0_t1.sl.r_6 s = k0_pay10 s.2.2.2.2.2.1 (trip_k0_t1.sl.r_1 s) := rfl
theorem r7_eq (s : Carry Ideal) : trip_k0_t1.sl.r_7 s = k0_pay10 s.2.2.2.2.2.2.1 (trip_k0_t1.sl.r_1 s) := rfl

theorem lanesOf_knext (v24 : IVec S8x128 32) (k : Fin k0_t1_loop.trips) (s : Carry Ideal) (t : Lanes Ideal) :
    lanesOf (knext v24 k s t) = t := rfl

/-- What a trip leaves, from what it reads of the box it picks and what its walk leaves. -/
theorem inv_next (t : ℕ) (htr : t < k0_t1_loop.trips) (s : Carry Ideal × Vec Ideal S160x128 .f32) (h : Inv A Q m0 t s)
    (W : Lanes Ideal) (M : ℕ → FVec Ideal S8x128 .f32) (hW : Good A (scores Q m0 (t + 1)) W)
    (hM : ∀ i < 20, ∀ p, M i p = scores Q m0 (t + 1) (1024 * i + fl p))
    (r0 : ∀ p, trip_k0_t1.sl.r s.1 p = BitVec.ofNat 32 (pick Q m0 t))
    (r2 : ∀ p, trip_k0_t1.sl.r_2 s.1 p = A.ox1 (cell (pick Q m0 t)))
    (r3 : ∀ p, trip_k0_t1.sl.r_3 s.1 p = A.oy1 (cell (pick Q m0 t)))
    (r4 : ∀ p, trip_k0_t1.sl.r_4 s.1 p = A.ox2 (cell (pick Q m0 t)))
    (r6 : ∀ p, trip_k0_t1.sl.r_6 s.1 p = A.oy2 (cell (pick Q m0 t)))
    (r7 : ∀ p, trip_k0_t1.sl.r_7 s.1 p = A.sc (cell (pick Q m0 t))) :
    Inv A Q m0 (t + 1) (knext kernelRun0_A.sl.v24 ⟨t, htr⟩ s.1 W, unchunk M) where
  good := hW
  ms := fun k hk => by
    show unchunk M (cell k) = _
    rw [unchunk_cell _ k hk, hM _ (by omega), fl_unfl _ (Nat.mod_lt _ (by norm_num))]
    congr 1; omega
  kp := entry _ (trip_k0_t1.sl.r s.1) ⟨t, htr⟩ (fun j => BitVec.ofNat 32 (pick Q m0 j)) _ h.kp r0 rfl
  kx1 := entry _ (trip_k0_t1.sl.r_2 s.1) ⟨t, htr⟩ (fun j => A.ox1 (cell (pick Q m0 j))) _ h.kx1 r2 rfl
  ky1 := entry _ (trip_k0_t1.sl.r_3 s.1) ⟨t, htr⟩ (fun j => A.oy1 (cell (pick Q m0 j))) _ h.ky1 r3 rfl
  kx2 := entry _ (trip_k0_t1.sl.r_4 s.1) ⟨t, htr⟩ (fun j => A.ox2 (cell (pick Q m0 j))) _ h.kx2 r4 rfl
  ky2 := entry _ (trip_k0_t1.sl.r_6 s.1) ⟨t, htr⟩ (fun j => A.oy2 (cell (pick Q m0 j))) _ h.ky2 r6 rfl
  ksc := entry _ (trip_k0_t1.sl.r_7 s.1) ⟨t, htr⟩ (fun j => A.sc (cell (pick Q m0 j))) _ h.ksc r7 rfl

theorem step_inv (hA : Fits A Q m0) (t : ℕ) (ht : t < 100) (s : Carry Ideal × Vec Ideal S160x128 .f32) (h : Inv A Q m0 t s) :
    Inv A Q m0 (t + 1) (kstep A k0_pay271 kernelRun0_A.sl.v24 k0_pay273 (kernelRun0_A.sl.cst_278 (F := Ideal)) t s) := by
  obtain ⟨p0, i0, hp0, hfirst, hidx, hem⟩ := h.good.choice
  have hn : 1024 * i0 + fl p0 = pick Q m0 t := pick_of_isFirst Q m0 hA.lo hA.pad 20480 t _ (by norm_num) hfirst
  have hlt := pick_lt Q m0 t
  obtain ⟨-, -, -, hx1, hy1, hx2, hy2, hsc, hoff, -, -⟩ := hp0
  rw [hn] at hx1 hy1 hx2 hy2 hsc hoff hidx
  have r2 : ∀ p, trip_k0_t1.sl.r_2 s.1 p = A.ox1 (cell (pick Q m0 t)) := fun p =>
    (congrFun (r2_eq s.1) p).trans ((pay10_eq s.1.2.2.1 (trip_k0_t1.sl.r_1 s.1) p0 hem p).trans hx1)
  have r3 : ∀ p, trip_k0_t1.sl.r_3 s.1 p = A.oy1 (cell (pick Q m0 t)) := fun p =>
    (congrFun (r3_eq s.1) p).trans ((pay10_eq s.1.2.2.2.1 (trip_k0_t1.sl.r_1 s.1) p0 hem p).trans hy1)
  have r4 : ∀ p, trip_k0_t1.sl.r_4 s.1 p = A.ox2 (cell (pick Q m0 t)) := fun p =>
    (congrFun (r4_eq s.1) p).trans ((pay10_eq s.1.2.2.2.2.1 (trip_k0_t1.sl.r_1 s.1) p0 hem p).trans hx2)
  have r6 : ∀ p, trip_k0_t1.sl.r_6 s.1 p = A.oy2 (cell (pick Q m0 t)) := fun p =>
    (congrFun (r6_eq s.1) p).trans ((pay10_eq s.1.2.2.2.2.2.1 (trip_k0_t1.sl.r_1 s.1) p0 hem p).trans hy2)
  have r7 : ∀ p, trip_k0_t1.sl.r_7 s.1 p = A.sc (cell (pick Q m0 t)) := fun p =>
    (congrFun (r7_eq s.1) p).trans ((pay10_eq s.1.2.2.2.2.2.2.1 (trip_k0_t1.sl.r_1 s.1) p0 hem p).trans hsc)
  have ro : ∀ p, k0_pay10 s.1.2.2.2.2.2.2.2.1 (trip_k0_t1.sl.r_1 s.1) p = A.off (cell (pick Q m0 t)) := fun p =>
    (pay10_eq s.1.2.2.2.2.2.2.2.1 (trip_k0_t1.sl.r_1 s.1) p0 hem p).trans hoff
  have bx1 : ∀ p, (tbox s.1).x1 p = A.x1 (cell (pick Q m0 t)) := fun p => by
    rw [hA.x1 _ hlt, ← r2 p, ← ro p]; rfl
  have by1 : ∀ p, (tbox s.1).y1 p = A.y1 (cell (pick Q m0 t)) := fun p => by
    rw [hA.y1 _ hlt, ← r3 p, ← ro p]; rfl
  have bx2 : ∀ p, (tbox s.1).x2 p = A.x2 (cell (pick Q m0 t)) := fun p => by
    rw [hA.x2 _ hlt, ← r4 p, ← ro p]; rfl
  have by2 : ∀ p, (tbox s.1).y2 p = A.y2 (cell (pick Q m0 t)) := fun p => by
    rw [hA.y2 _ hlt, ← r6 p, ← ro p]; rfl
  have ba : ∀ p, (tbox s.1).area p = A.area (cell (pick Q m0 t)) := fun p => by
    rw [hA.area _ hlt, ← bx1 p, ← by1 p, ← bx2 p, ← by2 p]; rfl
  have hb : ∀ p, (⟨(tbox s.1).x1 p, (tbox s.1).y1 p, (tbox s.1).x2 p, (tbox s.1).y2 p, (tbox s.1).area p⟩ : Quad)
      = Q (pick Q m0 t) := fun p => by
    rw [hA.q _ (by omega), bx1, by1, bx2, by2, ba]
  have hsup := sup_eq hA (tbox s.1) s.2 t hb h.ms
  have htr : t < k0_t1_loop.trips := by rw [trips_eq]; exact ht
  have hgood := walk_good A _ k0_pay273 _ (low_le_scores Q m0 hA.lo (t + 1)) hsup
  unfold kstep
  rw [dif_pos htr]
  exact inv_next t htr s h _ _ hgood hsup hidx r2 r3 r4 r6 r7

variable (x0 x1 x2 x3 x4 x5 x6 x7 x8 x9 x10 : Vec Ideal S160x128 .f32)

/-- After `t` trips from the kernel's own start. -/
theorem inv_kall (hA : Fits (Init.karr x1 x2 x3 x4 x5 x6 x7 x8 x9 x10) Q m0) (h0 : ∀ k < 20480, x0 (cell k) = m0 k) (t : ℕ)
    (ht : t ≤ 100) : Inv (Init.karr x1 x2 x3 x4 x5 x6 x7 x8 x9 x10) Q m0 t (kall x0 x1 x2 x3 x4 x5 x6 x7 x8 x9 x10 t) := by
  induction t with
  | zero =>
    exact
      { good := walk_good _ m0 k0_pay273 _ hA.lo
          (fun i hi p => (chunk_eq x0 i hi p).trans (h0 _ (by have := fl_lt p; omega)))
        ms := h0
        kp := fun p hp => absurd hp (Nat.not_lt_zero _)
        kx1 := fun p hp => absurd hp (Nat.not_lt_zero _)
        ky1 := fun p hp => absurd hp (Nat.not_lt_zero _)
        kx2 := fun p hp => absurd hp (Nat.not_lt_zero _)
        ky2 := fun p hp => absurd hp (Nat.not_lt_zero _)
        ksc := fun p hp => absurd hp (Nat.not_lt_zero _) }
  | succ t ih => exact step_inv hA t (by omega) _ (ih (by omega))

end Cert.KernelIdeal.Scan

end
-- ==== Proof.HostOut.lean ====
/-
  What the kernel leaves: its two arrays after the grid's one point, and the results the host operations after it cut
  from them (`kernel_keep`, `kernel_rows`).
-/
module

public import proofs.«01_k».proof.Proof.HostIn
public import proofs.«01_k».proof.Proof.ScanPicks

@[expose] public section

set_option maxRecDepth 16384

noncomputable section

open Idealize.ShloMosaic hiding ix0 ix1 ix2
open Idealize.ShloMosaic.TcCoe Idealize.ShloMosaic.ValueIdx

namespace Cert.KernelIdeal.Host

open Cert.KernelIdeal Cert.KernelIdeal.Gen Cert.KernelIdeal.Scan Cert.Pick

variable (m : (ℓ : Loc nD τ sig) → Buf (Elt Ideal) ℓ) (c : Dev nD)

/-! ## The input windows: each holds its whole array -/

/-- Window 0 is its whole array. -/
theorem blk_0 (t : Fin cfg0.N) : (iblk m c 0 t : Vec Ideal S160x128 .f32) = V m c main_call0_v8 := by
  have hz : (fun a => win0_0.index t a * main_call0_v8.ty.shape.size a) = fun _ => 0 := by
    obtain rfl := fin_N0 t
    exact funext fun a => by fin_cases a <;> decide
  exact Memref.read_access_unit_zero (Elt Ideal) main_call0_v8 hz (fun a => by rw [congrFun hz a]; simp) (V m c main_call0_v8)

/-- Window 1 is its whole array. -/
theorem blk_1 (t : Fin cfg0.N) : (iblk m c 1 t : Vec Ideal S160x128 .f32) = V m c main_call0_v28 := by
  have hz : (fun a => win0_1.index t a * main_call0_v28.ty.shape.size a) = fun _ => 0 := by
    obtain rfl := fin_N0 t
    exact funext fun a => by fin_cases a <;> decide
  exact Memref.read_access_unit_zero (Elt Ideal) main_call0_v28 hz (fun a => by rw [congrFun hz a]; simp) (V m c main_call0_v28)

/-- Window 2 is its whole array. -/
theorem blk_2 (t : Fin cfg0.N) : (iblk m c 2 t : Vec Ideal S160x128 .f32) = V m c main_call0_v30 := by
  have hz : (fun a => win0_2.index t a * main_call0_v30.ty.shape.size a) = fun _ => 0 := by
    obtain rfl := fin_N0 t
    exact funext fun a => by fin_cases a <;> decide
  exact Memref.read_access_unit_zero (Elt Ideal) main_call0_v30 hz (fun a => by rw [congrFun hz a]; simp) (V m c main_call0_v30)

/-- Window 3 is its whole array. -/
theorem blk_3 (t : Fin cfg0.N) : (iblk m c 3 t : Vec Ideal S160x128 .f32) = V m c main_call0_v32 := by
  have hz : (fun a => win0_3.index t a * main_call0_v32.ty.shape.size a) = fun _ => 0 := by
    obtain rfl := fin_N0 t
    exact funext fun a => by fin_cases a <;> decide
  exact Memref.read_access_unit_zero (Elt Ideal) main_call0_v32 hz (fun a => by rw [congrFun hz a]; simp) (V m c main_call0_v32)

/-- Window 4 is its whole array. -/
theorem blk_4 (t : Fin cfg0.N) : (iblk m c 4 t : Vec Ideal S160x128 .f32) = V m c main_call0_v34 := by
  have hz : (fun a => win0_4.index t a * main_call0_v34.ty.shape.size a) = fun _ => 0 := by
    obtain rfl := fin_N0 t
    exact funext fun a => by fin_cases a <;> decide
  exact Memref.read_access_unit_zero (Elt Ideal) main_call0_v34 hz (fun a => by rw [congrFun hz a]; simp) (V m c main_call0_v34)

/-- Window 5 is its whole array. -/
theorem blk_5 (t : Fin cfg0.N) : (iblk m c 5 t : Vec Ideal S160x128 .f32) = V m c main_call0_v35 := by
  have hz : (fun a => win0_5.index t a * main_call0_v35.ty.shape.size a) = fun _ => 0 := by
    obtain rfl := fin_N0 t
    exact funext fun a => by fin_cases a <;> decide
  exact Memref.read_access_unit_zero (Elt Ideal) main_call0_v35 hz (fun a => by rw [congrFun hz a]; simp) (V m c main_call0_v35)

/-- Window 6 is its whole array. -/
theorem blk_6 (t : Fin cfg0.N) : (iblk m c 6 t : Vec Ideal S160x128 .f32) = V m c main_call0_v36 := by
  have hz : (fun a => win0_6.index t a * main_call0_v36.ty.shape.size a) = fun _ => 0 := by
    obtain rfl := fin_N0 t
    exact funext fun a => by fin_cases a <;> decide
  exact Memref.read_access_unit_zero (Elt Ideal) main_call0_v36 hz (fun a => by rw [congrFun hz a]; simp) (V m c main_call0_v36)

/-- Window 7 is its whole array. -/
theorem blk_7 (t : Fin cfg0.N) : (iblk m c 7 t : Vec Ideal S160x128 .f32) = V m c main_call0_v37 := by
  have hz : (fun a => win0_7.index t a * main_call0_v37.ty.shape.size a) = fun _ => 0 := by
    obtain rfl := fin_N0 t
    exact funext fun a => by fin_cases a <;> decide
  exact Memref.read_access_unit_zero (Elt Ideal) main_call0_v37 hz (fun a => by rw [congrFun hz a]; simp) (V m c main_call0_v37)

/-- Window 8 is its whole array. -/
theorem blk_8 (t : Fin cfg0.N) : (iblk m c 8 t : Vec Ideal S160x128 .f32) = V m c main_call0_v38 := by
  have hz : (fun a => win0_8.index t a * main_call0_v38.ty.shape.size a) = fun _ => 0 := by
    obtain rfl := fin_N0 t
    exact funext fun a => by fin_cases a <;> decide
  exact Memref.read_access_unit_zero (Elt Ideal) main_call0_v38 hz (fun a => by rw [congrFun hz a]; simp) (V m c main_call0_v38)

/-- Window 9 is its whole array. -/
theorem blk_9 (t : Fin cfg0.N) : (iblk m c 9 t : Vec Ideal S160x128 .f32) = V m c main_call0_v41 := by
  have hz : (fun a => win0_9.index t a * main_call0_v41.ty.shape.size a) = fun _ => 0 := by
    obtain rfl := fin_N0 t
    exact funext fun a => by fin_cases a <;> decide
  exact Memref.read_access_unit_zero (Elt Ideal) main_call0_v41 hz (fun a => by rw [congrFun hz a]; simp) (V m c main_call0_v41)

/-- Window 10 is its whole array. -/
theorem blk_10 (t : Fin cfg0.N) : (iblk m c 10 t : Vec Ideal S160x128 .f32) = V m c main_call0_v42 := by
  have hz : (fun a => win0_10.index t a * main_call0_v42.ty.shape.size a) = fun _ => 0 := by
    obtain rfl := fin_N0 t
    exact funext fun a => by fin_cases a <;> decide
  exact Memref.read_access_unit_zero (Elt Ideal) main_call0_v42 hz (fun a => by rw [congrFun hz a]; simp) (V m c main_call0_v42)

/-- The arrays the loop reads. -/
abbrev arrays : Arr Ideal := Init.karr (F := Ideal) (V m c main_call0_v28) (V m c main_call0_v30) (V m c main_call0_v32) (V m c main_call0_v34) (V m c main_call0_v35) (V m c main_call0_v36) (V m c main_call0_v37) (V m c main_call0_v38) (V m c main_call0_v41) (V m c main_call0_v42)

/-- The loop's state after its 100 trips. -/
def last : Carry Ideal := (kall (F := Ideal) (V m c main_call0_v8) (V m c main_call0_v28) (V m c main_call0_v30) (V m c main_call0_v32) (V m c main_call0_v34) (V m c main_call0_v35) (V m c main_call0_v36) (V m c main_call0_v37) (V m c main_call0_v38) (V m c main_call0_v41) (V m c main_call0_v42) 100).1

/-- Arrays with these entries fit the boxes. -/
theorem fits_of (x0 : Shape.Idx ⟨2, ![20000, 4]⟩ → EReal) (x1 : Shape.Idx ⟨1, ![20000]⟩ → EReal) (x2 : Shape.Idx ⟨1, ![20000]⟩ → BitVec 32)
    (y1 y2 y3 y4 y5 y6 y7 y8 y9 y10 : Vec Ideal S160x128 .f32)
    (h1 : ∀ k < 20480, y1 (cell k) = corner x0 0 k + offset x2 k)
    (h2 : ∀ k < 20480, y2 (cell k) = corner x0 1 k + offset x2 k)
    (h3 : ∀ k < 20480, y3 (cell k) = corner x0 2 k + offset x2 k)
    (h4 : ∀ k < 20480, y4 (cell k) = corner x0 3 k + offset x2 k)
    (h5 : ∀ k < 20480, y5 (cell k) = corner x0 0 k)
    (h6 : ∀ k < 20480, y6 (cell k) = corner x0 1 k)
    (h7 : ∀ k < 20480, y7 (cell k) = corner x0 2 k)
    (h8 : ∀ k < 20480, y8 (cell k) = corner x0 3 k)
    (h10 : ∀ k < 20480, y10 (cell k) = offset x2 k) :
    Fits (Init.karr (F := Ideal) y1 y2 y3 y4 y5 y6 y7 y8 y9 y10) (boxOf x0 x2) (startOf x1) where
  q k hk := by
    show boxOf x0 x2 k = quad (y1 (cell k)) (y2 (cell k)) (y3 (cell k)) (y4 (cell k))
    rw [h1 k hk, h2 k hk, h3 k hk, h4 k hk]
    rfl
  x1 k hk := by
    show y1 (cell k) = y5 (cell k) + y10 (cell k)
    rw [h1 k (by omega), h5 k (by omega), h10 k (by omega)]
  y1 k hk := by
    show y2 (cell k) = y6 (cell k) + y10 (cell k)
    rw [h2 k (by omega), h6 k (by omega), h10 k (by omega)]
  x2 k hk := by
    show y3 (cell k) = y7 (cell k) + y10 (cell k)
    rw [h3 k (by omega), h7 k (by omega), h10 k (by omega)]
  y2 k hk := by
    show y4 (cell k) = y8 (cell k) + y10 (cell k)
    rw [h4 k (by omega), h8 k (by omega), h10 k (by omega)]
  area k hk := rfl
  lo := low_le_start x1
  pad := start_pad x1

/-- The arrays the loop reads fit the boxes. -/
theorem fits : Fits (arrays m c) (boxOf (arg0 m c) (arg2 m c)) (startOf (arg1 m c)) :=
  fits_of (arg0 m c) (arg1 m c) (arg2 m c) _ _ _ _ _ _ _ _ _ _ (V_mx1 m c) (V_my1 m c) (V_mx2 m c) (V_my2 m c) (V_x1 m c)
    (V_y1 m c) (V_x2 m c) (V_y2 m c) (V_off m c)

/-- Its lists hold the picks, their corners and scores. -/
theorem last_inv : Inv (arrays m c) (boxOf (arg0 m c) (arg2 m c)) (startOf (arg1 m c)) 100 (kall (F := Ideal) (V m c main_call0_v8) (V m c main_call0_v28) (V m c main_call0_v30) (V m c main_call0_v32) (V m c main_call0_v34) (V m c main_call0_v35) (V m c main_call0_v36) (V m c main_call0_v37) (V m c main_call0_v38) (V m c main_call0_v41) (V m c main_call0_v42) 100) :=
  inv_kall _ _ _ _ _ _ _ _ _ _ _ (fits m c) (V_start m c) 100 le_rfl

/-- The rows the kernel writes at its one point, -/
theorem outs_11 : (outsAt0 m c t0_0).1 = rows (last m c) := by
  unfold outsAt0 last
  rw [out_11, blk_0, blk_1, blk_2, blk_3, blk_4, blk_5, blk_6, blk_7, blk_8, blk_9, blk_10, trips_eq]

/-- and the picks. -/
theorem outs_12 : (outsAt0 m c t0_0).2 = (last m c).2.2.2.2.2.2.2.2.1 := by
  unfold outsAt0 last
  rw [out_12, blk_0, blk_1, blk_2, blk_3, blk_4, blk_5, blk_6, blk_7, blk_8, blk_9, blk_10, trips_eq]

/-! ## The output arrays after the grid's point -/

/-- The rows are written back whole; -/
theorem flushed_11 (t : Fin cfg0.N) (hf : (cfg0.win 11).flush t = true) :
    (dats m 0 c).flushed 11 t = ((cfg0.win 11).blk t).view.read (Elt Ideal) (rows (last m c)) := by
  obtain rfl := fin_N0 t
  show (cfg0.win 11).cut (grid0.coords t0_0) ((dats m 0 c).after 11 t0_0) = _
  rw [after0_11, outs_11]
  have hz : (fun a => win0_11.index t0_0 a * main_call0_v43_0.ty.shape.size a) = fun _ => 0 := funext fun a => by fin_cases a <;> decide
  exact (Memref.read_access_unit_zero (Elt Ideal) main_call0_v43_0 hz (fun a => by rw [congrFun hz a]; simp) (rows (last m c))).symm

/-- The array of rows at the end. -/
theorem final_11 : (dats m 0 c).arrAt 11 cfg0.N = (rows (last m c) : main_call0_v43_0.ty.Contents (Elt Ideal)) :=
  (dats m 0 c).arrAt_eq_of_cover 11 (rows (last m c)) (flushed_11 m c) fun i =>
    ⟨t0_0, by decide +kernel, by
      show i ∈ ((View.whole main_call0_v43_0).slice (win0_11.rect t0_0)).set
      rw [View.set_slice_whole, Rect.mem_set_unit]
      intro a
      have h0 : (i 0 : Nat) < 8 := (i 0).isLt
      have h1 : (i 1 : Nat) < 128 := (i 1).isLt
      match a with
      | ⟨0, _⟩ => show win0_11.index t0_0 0 * win0_11.size 0 ≤ (i 0 : Nat) ∧ (i 0 : Nat) < win0_11.index t0_0 0 * win0_11.size 0 + win0_11.xsize (grid0.coords t0_0) 0
                  rw [show win0_11.index t0_0 0 * win0_11.size 0 = 0 from by decide +kernel, show win0_11.xsize (grid0.coords t0_0) 0 = 8 from by decide +kernel]; omega
      | ⟨1, _⟩ => show win0_11.index t0_0 1 * win0_11.size 1 ≤ (i 1 : Nat) ∧ (i 1 : Nat) < win0_11.index t0_0 1 * win0_11.size 1 + win0_11.xsize (grid0.coords t0_0) 1
                  rw [show win0_11.index t0_0 1 * win0_11.size 1 = 0 from by decide +kernel, show win0_11.xsize (grid0.coords t0_0) 1 = 128 from by decide +kernel]; omega⟩

/-- so are the picks. -/
theorem flushed_12 (t : Fin cfg0.N) (hf : (cfg0.win 12).flush t = true) :
    (dats m 0 c).flushed 12 t = ((cfg0.win 12).blk t).view.read (Elt Ideal) ((last m c).2.2.2.2.2.2.2.2.1) := by
  obtain rfl := fin_N0 t
  show (cfg0.win 12).cut (grid0.coords t0_0) ((dats m 0 c).after 12 t0_0) = _
  rw [after0_12, outs_12]
  have hz : (fun a => win0_12.index t0_0 a * main_call0_v43_1.ty.shape.size a) = fun _ => 0 := funext fun a => by fin_cases a <;> decide
  exact (Memref.read_access_unit_zero (Elt Ideal) main_call0_v43_1 hz (fun a => by rw [congrFun hz a]; simp) ((last m c).2.2.2.2.2.2.2.2.1)).symm

/-- The array of picks at the end. -/
theorem final_12 : (dats m 0 c).arrAt 12 cfg0.N = ((last m c).2.2.2.2.2.2.2.2.1 : main_call0_v43_1.ty.Contents (Elt Ideal)) :=
  (dats m 0 c).arrAt_eq_of_cover 12 ((last m c).2.2.2.2.2.2.2.2.1) (flushed_12 m c) fun i =>
    ⟨t0_0, by decide +kernel, by
      show i ∈ ((View.whole main_call0_v43_1).slice (win0_12.rect t0_0)).set
      rw [View.set_slice_whole, Rect.mem_set_unit]
      intro a
      have h0 : (i 0 : Nat) < 8 := (i 0).isLt
      have h1 : (i 1 : Nat) < 128 := (i 1).isLt
      match a with
      | ⟨0, _⟩ => show win0_12.index t0_0 0 * win0_12.size 0 ≤ (i 0 : Nat) ∧ (i 0 : Nat) < win0_12.index t0_0 0 * win0_12.size 0 + win0_12.xsize (grid0.coords t0_0) 0
                  rw [show win0_12.index t0_0 0 * win0_12.size 0 = 0 from by decide +kernel, show win0_12.xsize (grid0.coords t0_0) 0 = 8 from by decide +kernel]; omega
      | ⟨1, _⟩ => show win0_12.index t0_0 1 * win0_12.size 1 ≤ (i 1 : Nat) ∧ (i 1 : Nat) < win0_12.index t0_0 1 * win0_12.size 1 + win0_12.xsize (grid0.coords t0_0) 1
                  rw [show win0_12.index t0_0 1 * win0_12.size 1 = 0 from by decide +kernel, show win0_12.xsize (grid0.coords t0_0) 1 = 128 from by decide +kernel]; omega⟩

/-! ## The results the host operations cut from them -/

/-- What every buffer holds after the kernel. -/
abbrev held := Pipeline.withArrays (cfgs 0).spec c (V0 m c) fun w => (dats m 0 c).arrAt w (cfgs 0).N

/-- No two windows share an array. -/
theorem arr_inj : Function.Injective (Pipeline.arrRef (cfgs 0).spec) := by decide

/-- After the kernel: the rows, -/
theorem held_11 : held m c (Proc.devRef .tc main_call0_v43_0) = (rows (last m c) : main_call0_v43_0.ty.Contents (Elt Ideal)) :=
  (Pipeline.withArrays_arr (cfgs 0).spec arr_inj c (V0 m c) (fun w => (dats m 0 c).arrAt w (cfgs 0).N) 11).trans
    (final_11 m c)

/-- and the picks. -/
theorem held_12 : held m c (Proc.devRef .tc main_call0_v43_1) = ((last m c).2.2.2.2.2.2.2.2.1 : main_call0_v43_1.ty.Contents (Elt Ideal)) :=
  (Pipeline.withArrays_arr (cfgs 0).spec arr_inj c (V0 m c) (fun w => (dats m 0 c).arrAt w (cfgs 0).N) 12).trans
    (final_12 m c)

end Cert.KernelIdeal.Host

end
-- ==== Proof.HostRes.lean ====
/-
  The kernel's two results: the picks, and the picks' corners and scores (`kernel_keep`, `kernel_rows`).
-/
module

public import proofs.«01_k».proof.Proof.HostOut

@[expose] public section

set_option maxRecDepth 16384

noncomputable section

open Idealize.ShloMosaic hiding ix0 ix1 ix2
open Idealize.ShloMosaic.TcCoe Idealize.ShloMosaic.ValueIdx

namespace Cert.KernelIdeal.Host

open Cert.KernelIdeal Cert.KernelIdeal.Gen Cert.KernelIdeal.Scan Cert.Pick

/-- The first 100 entries of a row, as a vector. -/
theorem cut_at {α : Type} (y : S8x128.Idx → α) (r : ℕ) (h : S8x128.Slices ![r, 0] S1x100) (h' : S1x100.ShapeCasts S100)
    (q : Fin 8) (hq : q.val = r) (i : Fin 100) :
    shapeCast S100 (extractStridedSlice S1x100 ![r, 0] y h) h' (ix1 i) = y (ix2 q (⟨i.val, by omega⟩ : Fin 128)) := by
  refine (shapeCast_apply _ h' (ix1 i) (ix2 (0 : Fin 1) i) ?_).trans (extractStridedSlice_apply _ y h _ _ fun a => ?_)
  · rw [Shape.rowMajor_val_two, Shape.rowMajor_val_one]
    show 0 * 100 + i.val = i.val
    omega
  · match a with
    | ⟨0, _⟩ => show q.val = r + 0; omega
    | ⟨1, _⟩ => show i.val = 0 + i.val; omega

/-- The same as a column. -/
theorem col_at {α : Type} (y : S8x128.Idx → α) (r : ℕ) (h : S8x128.Slices ![r, 0] S1x100) (h' : S1x100.ShapeCasts S100)
    (h'' : S100.BroadcastsInDim S100x1 ![0]) (q : Fin 8) (hq : q.val = r) (i : Fin 100) :
    broadcastInDim S100x1 ![0] h'' (shapeCast S100 (extractStridedSlice S1x100 ![r, 0] y h) h') (ix2 i (0 : Fin 1))
      = y (ix2 q (⟨i.val, by omega⟩ : Fin 128)) := by
  refine (broadcastInDim_apply _ _ _ _ (ix1 i) fun a => ?_).trans (cut_at y r h h' q hq i)
  match a with
  | ⟨0, _⟩ => rfl

/-- A list's first row, at lane `l`. -/
theorem row_at (y : Vec Ideal S8x128 .f32) (l : Fin 128) (h : S8x128.Slices ![0, 0] S1x128) :
    extractStridedSlice S1x128 ![0, 0] y h (ix2 (0 : Fin 1) l) = y (ix2 (0 : Fin 8) l) :=
  extractStridedSlice_apply _ y h _ _ fun a => by
    match a with
    | ⟨0, _⟩ => rfl
    | ⟨1, _⟩ => show l.val = 0 + l.val; omega

/-! Row `r` of the written array is the first row of the `r`th list. -/

/-- Row 0. -/
theorem rows_0 (s : Carry Ideal) (l : Fin 128) : rows s (ix2 (0 : Fin 8) l) = s.2.2.2.2.2.2.2.2.2.1 (ix2 (0 : Fin 8) l) := by
  unfold rows k0_pay1
  refine (concatenate_apply_piece 0 _ _ (ix2 (0 : Fin 8) l) 0 (by simp) S1x128 _ rfl rfl 0 rfl (ix2 (0 : Fin 1) l) (fun b hb => ?_) rfl).trans (row_at _ l _)
  match b with
  | ⟨0, _⟩ => exact absurd rfl hb
  | ⟨1, _⟩ => rfl

/-- Row 1. -/
theorem rows_1 (s : Carry Ideal) (l : Fin 128) : rows s (ix2 (1 : Fin 8) l) = s.2.2.2.2.2.2.2.2.2.2.1 (ix2 (0 : Fin 8) l) := by
  unfold rows k0_pay1
  refine (concatenate_apply_piece 0 _ _ (ix2 (1 : Fin 8) l) 1 (by simp) S1x128 _ rfl rfl 1 rfl (ix2 (0 : Fin 1) l) (fun b hb => ?_) rfl).trans (row_at _ l _)
  match b with
  | ⟨0, _⟩ => exact absurd rfl hb
  | ⟨1, _⟩ => rfl

/-- Row 2. -/
theorem rows_2 (s : Carry Ideal) (l : Fin 128) : rows s (ix2 (2 : Fin 8) l) = s.2.2.2.2.2.2.2.2.2.2.2.1 (ix2 (0 : Fin 8) l) := by
  unfold rows k0_pay1
  refine (concatenate_apply_piece 0 _ _ (ix2 (2 : Fin 8) l) 2 (by simp) S1x128 _ rfl rfl 2 rfl (ix2 (0 : Fin 1) l) (fun b hb => ?_) rfl).trans (row_at _ l _)
  match b with
  | ⟨0, _⟩ => exact absurd rfl hb
  | ⟨1, _⟩ => rfl

/-- Row 3. -/
theorem rows_3 (s : Carry Ideal) (l : Fin 128) : rows s (ix2 (3 : Fin 8) l) = s.2.2.2.2.2.2.2.2.2.2.2.2.1 (ix2 (0 : Fin 8) l) := by
  unfold rows k0_pay1
  refine (concatenate_apply_piece 0 _ _ (ix2 (3 : Fin 8) l) 3 (by simp) S1x128 _ rfl rfl 3 rfl (ix2 (0 : Fin 1) l) (fun b hb => ?_) rfl).trans (row_at _ l _)
  match b with
  | ⟨0, _⟩ => exact absurd rfl hb
  | ⟨1, _⟩ => rfl

/-- Row 4. -/
theorem rows_4 (s : Carry Ideal) (l : Fin 128) : rows s (ix2 (4 : Fin 8) l) = s.2.2.2.2.2.2.2.2.2.2.2.2.2 (ix2 (0 : Fin 8) l) := by
  unfold rows k0_pay1
  refine (concatenate_apply_piece 0 _ _ (ix2 (4 : Fin 8) l) 4 (by simp) S1x128 _ rfl rfl 4 rfl (ix2 (0 : Fin 1) l) (fun b hb => ?_) rfl).trans (row_at _ l _)
  match b with
  | ⟨0, _⟩ => exact absurd rfl hb
  | ⟨1, _⟩ => rfl

/-- Five columns side by side. -/
theorem five_at (x : Fin 5 → S100x1.Idx → EReal) (h : Shape.Concatenates [S100x1, S100x1, S100x1, S100x1, S100x1] S100x5 1)
    (i : Fin 100) (r : Fin 5) :
    concatenate S100x5 1 [⟨S100x1, x 0⟩, ⟨S100x1, x 1⟩, ⟨S100x1, x 2⟩, ⟨S100x1, x 3⟩, ⟨S100x1, x 4⟩] h (ix2 i r) = x r (ix2 i (0 : Fin 1)) :=
  concatenate_ofFn_unit_apply (t := S100x5) (s₁ := S100x1) 1 x h rfl rfl (ix2 i r) r rfl (ix2 i (0 : Fin 1)) fun b hb => by
    match b with
    | ⟨0, _⟩ => rfl
    | ⟨1, _⟩ => exact absurd rfl hb

/-! The host operations after the kernel, from any contents `H`. -/

/-- The picks come from row 0 of their array. -/
theorem keep_of (H : Valuation τ sig (Elt Ideal)) (i : Fin 100) :
    (StableHlo.after hostOps1 H (Proc.devRef .tc main_v0_1) : S100.Idx → BitVec 32) (ix1 i)
      = (H (Proc.devRef .tc main_call0_v43_1) : S8x128.Idx → BitVec 32) (ix2 (0 : Fin 8) (⟨i.val, by omega⟩ : Fin 128)) := by
  after_reads_simp
  exact cut_at _ 0 slices_S8x128_S1x100_0_0 shapeCasts_S1x100_S100 (0 : Fin 8) rfl i

/-- The columns before they are joined. -/
abbrev cl (H : Valuation τ sig (Elt Ideal)) (r : Fin 5) : S100x1.Idx → EReal :=
  match r with
  | ⟨0, _⟩ => StableHlo.upto hostOps1 H 17 (Proc.devRef .tc main_call0_v56)
  | ⟨1, _⟩ => StableHlo.upto hostOps1 H 17 (Proc.devRef .tc main_call0_v57)
  | ⟨2, _⟩ => StableHlo.upto hostOps1 H 17 (Proc.devRef .tc main_call0_v58)
  | ⟨3, _⟩ => StableHlo.upto hostOps1 H 17 (Proc.devRef .tc main_call0_v59)
  | ⟨4, _⟩ => StableHlo.upto hostOps1 H 17 (Proc.devRef .tc main_call0_v60)

/-- Column 0 of the rows' result comes from row 0 of their array. -/
theorem col_0 (H : Valuation τ sig (Elt Ideal)) (i : Fin 100) :
    (StableHlo.after hostOps1 H (Proc.devRef .tc main_v0_0) : S100x5.Idx → EReal) (ix2 i (0 : Fin 5))
      = (H (Proc.devRef .tc main_call0_v43_0) : S8x128.Idx → EReal) (ix2 (0 : Fin 8) (⟨i.val, by omega⟩ : Fin 128)) := by
  after_reads_simp
  refine (five_at ![cl H 0, cl H 1, cl H 2, cl H 3, cl H 4] concatenates_S100x1_S100x1_S100x1_S100x1_S100x1_S100x5_d1 i 0).trans ?_
  show (StableHlo.upto hostOps1 H 17 (Proc.devRef .tc main_call0_v56) : S100x1.Idx → EReal) (ix2 i (0 : Fin 1)) = _
  after_reads_simp
  exact col_at _ 0 slices_S8x128_S1x100_0_0 shapeCasts_S1x100_S100 bcast_S100_S100x1_0 (0 : Fin 8) rfl i

/-- Column 1 of the rows' result comes from row 1 of their array. -/
theorem col_1 (H : Valuation τ sig (Elt Ideal)) (i : Fin 100) :
    (StableHlo.after hostOps1 H (Proc.devRef .tc main_v0_0) : S100x5.Idx → EReal) (ix2 i (1 : Fin 5))
      = (H (Proc.devRef .tc main_call0_v43_0) : S8x128.Idx → EReal) (ix2 (1 : Fin 8) (⟨i.val, by omega⟩ : Fin 128)) := by
  after_reads_simp
  refine (five_at ![cl H 0, cl H 1, cl H 2, cl H 3, cl H 4] concatenates_S100x1_S100x1_S100x1_S100x1_S100x1_S100x5_d1 i 1).trans ?_
  show (StableHlo.upto hostOps1 H 17 (Proc.devRef .tc main_call0_v57) : S100x1.Idx → EReal) (ix2 i (0 : Fin 1)) = _
  after_reads_simp
  exact col_at _ 1 slices_S8x128_S1x100_1_0 shapeCasts_S1x100_S100 bcast_S100_S100x1_0 (1 : Fin 8) rfl i

/-- Column 2 of the rows' result comes from row 2 of their array. -/
theorem col_2 (H : Valuation τ sig (Elt Ideal)) (i : Fin 100) :
    (StableHlo.after hostOps1 H (Proc.devRef .tc main_v0_0) : S100x5.Idx → EReal) (ix2 i (2 : Fin 5))
      = (H (Proc.devRef .tc main_call0_v43_0) : S8x128.Idx → EReal) (ix2 (2 : Fin 8) (⟨i.val, by omega⟩ : Fin 128)) := by
  after_reads_simp
  refine (five_at ![cl H 0, cl H 1, cl H 2, cl H 3, cl H 4] concatenates_S100x1_S100x1_S100x1_S100x1_S100x1_S100x5_d1 i 2).trans ?_
  show (StableHlo.upto hostOps1 H 17 (Proc.devRef .tc main_call0_v58) : S100x1.Idx → EReal) (ix2 i (0 : Fin 1)) = _
  after_reads_simp
  exact col_at _ 2 slices_S8x128_S1x100_2_0 shapeCasts_S1x100_S100 bcast_S100_S100x1_0 (2 : Fin 8) rfl i

/-- Column 3 of the rows' result comes from row 3 of their array. -/
theorem col_3 (H : Valuation τ sig (Elt Ideal)) (i : Fin 100) :
    (StableHlo.after hostOps1 H (Proc.devRef .tc main_v0_0) : S100x5.Idx → EReal) (ix2 i (3 : Fin 5))
      = (H (Proc.devRef .tc main_call0_v43_0) : S8x128.Idx → EReal) (ix2 (3 : Fin 8) (⟨i.val, by omega⟩ : Fin 128)) := by
  after_reads_simp
  refine (five_at ![cl H 0, cl H 1, cl H 2, cl H 3, cl H 4] concatenates_S100x1_S100x1_S100x1_S100x1_S100x1_S100x5_d1 i 3).trans ?_
  show (StableHlo.upto hostOps1 H 17 (Proc.devRef .tc main_call0_v59) : S100x1.Idx → EReal) (ix2 i (0 : Fin 1)) = _
  after_reads_simp
  exact col_at _ 3 slices_S8x128_S1x100_3_0 shapeCasts_S1x100_S100 bcast_S100_S100x1_0 (3 : Fin 8) rfl i

/-- Column 4 of the rows' result comes from row 4 of their array. -/
theorem col_4 (H : Valuation τ sig (Elt Ideal)) (i : Fin 100) :
    (StableHlo.after hostOps1 H (Proc.devRef .tc main_v0_0) : S100x5.Idx → EReal) (ix2 i (4 : Fin 5))
      = (H (Proc.devRef .tc main_call0_v43_0) : S8x128.Idx → EReal) (ix2 (4 : Fin 8) (⟨i.val, by omega⟩ : Fin 128)) := by
  after_reads_simp
  refine (five_at ![cl H 0, cl H 1, cl H 2, cl H 3, cl H 4] concatenates_S100x1_S100x1_S100x1_S100x1_S100x1_S100x5_d1 i 4).trans ?_
  show (StableHlo.upto hostOps1 H 17 (Proc.devRef .tc main_call0_v60) : S100x1.Idx → EReal) (ix2 i (0 : Fin 1)) = _
  after_reads_simp
  exact col_at _ 4 slices_S8x128_S1x100_4_0 shapeCasts_S1x100_S100 bcast_S100_S100x1_0 (4 : Fin 8) rfl i

/-- The written rows, when the lists hold the picks of arrays with these entries. -/
theorem rows_of (x0 : Shape.Idx ⟨2, ![20000, 4]⟩ → EReal) (x1 : Shape.Idx ⟨1, ![20000]⟩ → EReal)
    (y1 y2 y3 y4 y5 y6 y7 y8 y9 y10 : Vec Ideal S160x128 .f32) (Q : ℕ → Quad) (m0 : ℕ → EReal)
    (s : Carry Ideal × Vec Ideal S160x128 .f32) (hI : Inv (Init.karr (F := Ideal) y1 y2 y3 y4 y5 y6 y7 y8 y9 y10) Q m0 100 s)
    (h5 : ∀ k < 20480, y5 (cell k) = corner x0 0 k) (h6 : ∀ k < 20480, y6 (cell k) = corner x0 1 k)
    (h7 : ∀ k < 20480, y7 (cell k) = corner x0 2 k) (h8 : ∀ k < 20480, y8 (cell k) = corner x0 3 k)
    (h9 : ∀ k < 20480, y9 (cell k) = score x1 k) (l : Fin 128) (hl : l.val < 100) :
    (∀ k : Fin 4, rows s.1 (ix2 (⟨k.val, by omega⟩ : Fin 8) l) = corner x0 k (pick Q m0 l.val))
      ∧ rows s.1 (ix2 (4 : Fin 8) l) = score x1 (pick Q m0 l.val) := by
  have hp := pick_lt Q m0 l.val
  have hp' : pick Q m0 l.val < 20480 := by omega
  refine ⟨fun k => ?_, ?_⟩
  · match k with
    | ⟨0, _⟩ => exact (rows_0 s.1 l).trans ((hI.kx1 (ix2 (0 : Fin 8) l) hl).trans (h5 _ hp'))
    | ⟨1, _⟩ => exact (rows_1 s.1 l).trans ((hI.ky1 (ix2 (0 : Fin 8) l) hl).trans (h6 _ hp'))
    | ⟨2, _⟩ => exact (rows_2 s.1 l).trans ((hI.kx2 (ix2 (0 : Fin 8) l) hl).trans (h7 _ hp'))
    | ⟨3, _⟩ => exact (rows_3 s.1 l).trans ((hI.ky2 (ix2 (0 : Fin 8) l) hl).trans (h8 _ hp'))
  · exact (rows_4 s.1 l).trans ((hI.ksc (ix2 (0 : Fin 8) l) hl).trans (h9 _ hp'))

/-- The list of picks, lane by lane. -/
theorem kp_of (A : Arr Ideal) (Q : ℕ → Quad) (m0 : ℕ → EReal)
    (s : Carry Ideal × Vec Ideal S160x128 .f32) (hI : Inv A Q m0 100 s) (l : Fin 128) (hl : l.val < 100) :
    s.1.2.2.2.2.2.2.2.2.1 (ix2 (0 : Fin 8) l) = BitVec.ofNat 32 (pick Q m0 l.val) := hI.kp (ix2 (0 : Fin 8) l) hl

variable (m : (ℓ : Loc nD τ sig) → Buf (Elt Ideal) ℓ) (c : Dev nD)

/-- The rows the kernel writes hold the picks' corners and scores, -/
theorem last_rows (l : Fin 128) (hl : l.val < 100) :
    (∀ k : Fin 4, rows (last m c) (ix2 (⟨k.val, by omega⟩ : Fin 8) l)
        = corner (arg0 m c) k (pick (boxOf (arg0 m c) (arg2 m c)) (startOf (arg1 m c)) l.val))
      ∧ rows (last m c) (ix2 (4 : Fin 8) l) = score (arg1 m c) (pick (boxOf (arg0 m c) (arg2 m c)) (startOf (arg1 m c)) l.val) := by
  unfold last
  exact rows_of (arg0 m c) (arg1 m c) _ _ _ _ _ _ _ _ _ _ _ _ _ (last_inv m c) (V_x1 m c) (V_y1 m c) (V_x2 m c) (V_y2 m c)
    (V_score m c) l hl

/-- and the list of picks the picks. -/
theorem last_keep (l : Fin 128) (hl : l.val < 100) : (last m c).2.2.2.2.2.2.2.2.1 (ix2 (0 : Fin 8) l)
      = BitVec.ofNat 32 (pick (boxOf (arg0 m c) (arg2 m c)) (startOf (arg1 m c)) l.val) := by
  unfold last
  exact kp_of _ _ _ _ (last_inv m c) l hl

/-- The picks. -/
theorem kernel_keep (i : Fin 100) :
    (StableHlo.after hostOps1 (held m c) (Proc.devRef .tc main_v0_1) : S100.Idx → BitVec 32) (ix1 i)
      = BitVec.ofNat 32 (pick (boxOf (arg0 m c) (arg2 m c)) (startOf (arg1 m c)) i.val) := by
  rw [keep_of (held m c) i, held_12 m c]
  exact last_keep m c _ i.isLt

/-- Their corners and scores. -/
theorem kernel_rows (i : Fin 100) :
    (∀ k : Fin 4, (StableHlo.after hostOps1 (held m c) (Proc.devRef .tc main_v0_0) : S100x5.Idx → EReal) (ix2 i (⟨k.val, by omega⟩ : Fin 5))
      = corner (arg0 m c) k (pick (boxOf (arg0 m c) (arg2 m c)) (startOf (arg1 m c)) i.val))
    ∧ (StableHlo.after hostOps1 (held m c) (Proc.devRef .tc main_v0_0) : S100x5.Idx → EReal) (ix2 i (4 : Fin 5))
      = score (arg1 m c) (pick (boxOf (arg0 m c) (arg2 m c)) (startOf (arg1 m c)) i.val) := by
  obtain ⟨h, h'⟩ := last_rows m c (⟨i.val, by omega⟩ : Fin 128) i.isLt
  refine ⟨fun k => Eq.trans ?_ (h k), Eq.trans ?_ h'⟩
  · rw [← held_11 m c]
    generalize held m c = H
    match k with
    | ⟨0, _⟩ => exact col_0 H i
    | ⟨1, _⟩ => exact col_1 H i
    | ⟨2, _⟩ => exact col_2 H i
    | ⟨3, _⟩ => exact col_3 H i
  · rw [← held_11 m c]
    exact col_4 (held m c) i

end Cert.KernelIdeal.Host

end
-- ==== Proof.RefRead.lean ====
/-
  The reference's trip on extended reals, read entry by entry: the index it picks is the first of the greatest score
  (`b4_eq`), the scores it leaves are struck out where the picked box overlaps too much, and at the pick (`b98_eq`), and
  the pick is put in the list (`b100_eq`).
-/
module

public import proofs.«01_k».proof.Proof.RefStep
public import proofs.«01_k».proof.Proof.PickMath
public import Idealize.ShloMosaic.PureOps.Reduce
public import Idealize.ShloMosaic.Lib.Pointwise
public import Idealize.ShloMosaic.Lib.Routing.OpsOne
public import Idealize.ShloMosaic.Lib.ValueIdx

@[expose] public section

set_option maxRecDepth 8192

noncomputable section

open Idealize.ShloMosaic hiding ix0 ix1 ix2
open Idealize.ShloMosaic.TcCoe Idealize.ShloMosaic.ValueIdx

namespace Cert.ReferenceIdeal.Step

open Cert.ReferenceIdeal Cert.ReferenceIdeal.Gen Cert.Pick

/-- One comparison of the reference's search for the greatest score, on a later entry. -/
theorem red_eq (f : ℕ → EReal) (k n : ℕ) (hk : k < n) (hn : n < 20000) :
    reducer_argmax_f32_i32 (F := Ideal) (f k, BitVec.ofNat 32 k) (f n, BitVec.ofNat 32 n)
      = if f k < f n then (f n, BitVec.ofNat 32 n) else (f k, BitVec.ofNat 32 k) := by
  have hlt : (BitVec.ofNat 32 k).slt (BitVec.ofNat 32 n) = true := by
    rw [BitVec.slt_iff_toInt_lt, BitVec.toInt_ofNat', BitVec.toInt_ofNat', Int.bmod_eq_of_le, Int.bmod_eq_of_le] <;> omega
  have hc : IntOp.cmpi .slt (BitVec.ofNat 32 k) (BitVec.ofNat 32 n) = 1#1 := by
    show BitVec.ofBool ((BitVec.ofNat 32 k).slt (BitVec.ofNat 32 n)) = 1#1
    rw [hlt]; rfl
  unfold reducer_argmax_f32_i32
  dsimp only
  rw [hc]
  simp only [Ideal.cmpf_def, Ideal.cmp]
  rcases lt_trichotomy (f k) (f n) with g | g | g
  · have g1 : ¬ f n < f k := not_lt.2 g.le
    have g2 : f k ≠ f n := g.ne
    simp [g, g1, g2, IntOp.ori, IntOp.andi, Scalar.select]
  · simp [g, IntOp.ori, IntOp.andi, Scalar.select]
  · have g1 : ¬ f k < f n := not_lt.2 g.le
    have g2 : f k ≠ f n := g.ne'
    simp [g, g1, g2, IntOp.ori, IntOp.andi, Scalar.select]

/-- The search over the first `n` entries. -/
theorem fold_eq (f : ℕ → EReal) (n : ℕ) (hn : n + 1 ≤ 20000) :
    ∃ k, IsFirst (n + 1) f k ∧ ((List.range (n + 1)).map fun i => ((f i : Ideal .f32), BitVec.ofNat 32 i)).foldl
      (reducer_argmax_f32_i32 (F := Ideal)) ((⊥ : EReal), 0#32) = (f k, BitVec.ofNat 32 k) := by
  induction n with
  | zero =>
    refine ⟨0, ⟨by norm_num, fun k hk => ?_, fun k hk => absurd hk (Nat.not_lt_zero k)⟩, ?_⟩
    · rw [show k = 0 by omega]
    · show reducer_argmax_f32_i32 (F := Ideal) ((⊥ : EReal), 0#32) (f 0, 0#32) = (f 0, 0#32)
      unfold reducer_argmax_f32_i32
      simp only [Ideal.cmpf_def, Ideal.cmp]
      by_cases g : (⊥ : EReal) = f 0
      · simp [← g, IntOp.ori, IntOp.andi, IntOp.cmpi, Scalar.select]
      · simp [g, IntOp.ori, IntOp.andi, IntOp.cmpi, Scalar.select]
  | succ n ih =>
    obtain ⟨k, hk, e⟩ := ih (by omega)
    rw [List.range_succ, List.map_append, List.foldl_append, e]
    show ∃ k', _ ∧ reducer_argmax_f32_i32 (F := Ideal) _ (f (n + 1), BitVec.ofNat 32 (n + 1)) = _
    rw [red_eq f k (n + 1) hk.1 (by omega)]
    by_cases g : f k < f (n + 1)
    · refine ⟨n + 1, ⟨by omega, fun i hi => ?_, fun i hi => (hk.2.1 i hi).trans_lt g⟩, if_pos g⟩
      rcases Nat.lt_succ_iff_lt_or_eq.1 hi with h | rfl
      · exact (hk.2.1 i h).trans g.le
      · exact le_rfl
    · refine ⟨k, ⟨by have := hk.1; omega, fun i hi => ?_, hk.2.2⟩, if_neg g⟩
      rcases Nat.lt_succ_iff_lt_or_eq.1 hi with h | rfl
      · exact hk.2.1 i h
      · exact not_lt.1 g

theorem row_symm (n : Fin S20000.numel) : (S20000.rowMajor.symm n 0).val = n.val := by
  have h := rowMajor_val1 (S20000.rowMajor.symm n)
  rw [Equiv.apply_symm_apply] at h
  exact h.symm

theorem numel_eq : S20000.numel = 20000 := by decide

/-- The index the trip picks. -/
theorem b4_eq (j : ℕ) (s : State Ideal) (f : ℕ → EReal) (hf : ∀ k : S20000.Idx, s.main_v10_2 k = f (k 0).val) (z : S_.Idx) :
    b4 j s z = BitVec.ofNat 32 (first f) := by
  show (Host.argReduce _ _ _ _ _ _ _ z).2 = _
  rw [Ideal.argReduce_eq_reduce2, Host.reduce2_eq_foldl_fiber]
  have hl : Host.argReduceFiber s.main_v10_2 (b0 j s) reducesTo_S20000_S_d0 z
      = (List.range 20000).map fun i => ((f i : Ideal .f32), BitVec.ofNat 32 i) := by
    unfold Host.argReduceFiber
    rw [List.filter_eq_self.2 fun n _ => decide_eq_true (funext fun a => a.elim0), ← numel_eq, ← List.map_coe_finRange_eq_range,
      List.map_map]
    refine List.map_congr_left fun n _ => ?_
    refine Prod.ext ((hf _).trans ?_) ?_
    · show f (S20000.rowMajor.symm n 0).val = f n.val
      rw [row_symm]
    · show BitVec.ofNat 32 (S20000.rowMajor.symm n 0).val = BitVec.ofNat 32 n.val
      rw [row_symm]
  rw [hl]
  have hb : (b1 j s (Shape.Idx.first h_S_) : EReal) = ⊥ := bot_eq
  obtain ⟨k, hk, e⟩ := fold_eq f 19999 (by norm_num)
  rw [show b1 j s (Shape.Idx.first h_S_) = (⊥ : EReal) from hb, show b2 j s (Shape.Idx.first h_S_) = 0#32 from rfl]
  rw [show (20000 : ℕ) = 19999 + 1 from rfl, e, hk.unique (isFirst_first f)]

theorem word_toInt (n : ℕ) (h : n < 20000) : (BitVec.ofNat 32 n).toInt = n := by
  rw [BitVec.toInt_ofNat', Int.bmod_eq_of_le] <;> omega

theorem word_neg (n : ℕ) (h : n < 20000) : IntOp.cmpi .slt (BitVec.ofNat 32 n) 0#32 = 0#1 := by
  have hs : (BitVec.ofNat 32 n).slt 0#32 = false := by
    rw [Bool.eq_false_iff, ne_eq, BitVec.slt_iff_toInt_lt, word_toInt n h]
    simp
  show BitVec.ofBool ((BitVec.ofNat 32 n).slt 0#32) = 0#1
  rw [hs]; rfl

attribute [local irreducible] b4

/-- A pick is never negative, so counting it from the end changes nothing. -/
theorem b9_eq (j : ℕ) (s : State Ideal) (n : ℕ) (h : n < 20000) (h4 : ∀ z, b4 j s z = BitVec.ofNat 32 n) (z : S_.Idx) :
    b9 j s z = BitVec.ofNat 32 n := by
  have e : b9 j s z = if IntOp.cmpi .slt (b4 j s z) 0#32 = 1#1 then b8 j s z else b4 j s z := rfl
  rw [e, h4 z, word_neg n h, if_neg (by decide)]

theorem b95_eq (j : ℕ) (s : State Ideal) (n : ℕ) (h : n < 20000) (h4 : ∀ z, b4 j s z = BitVec.ofNat 32 n) (z : S_.Idx) :
    b95 j s z = BitVec.ofNat 32 n := by
  have e : b95 j s z = if IntOp.cmpi .slt (b4 j s z) 0#32 = 1#1 then b94 j s z else b4 j s z := rfl
  rw [e, h4 z, word_neg n h, if_neg (by decide)]

theorem b17_eq (j : ℕ) (s : State Ideal) (z : S_.Idx) : b17 j s z = 0#32 := by
  have e : b17 j s z = if IntOp.cmpi .slt 0#32 0#32 = 1#1 then b15 j s z else 0#32 := rfl
  rw [e, if_neg (by decide)]

/-- The row of the picked box. -/
theorem b19_eq (j : ℕ) (s : State Ideal) (n : Fin 20000) (h4 : ∀ z, b4 j s z = BitVec.ofNat 32 n.val) (i : Fin 4) :
    b19 j s (ix1 i) = s.main_v10_0 (ix2 n i) := by
  refine (shapeCast_apply (b18 j s) _ (ix1 i) (ix2 (0 : Fin 1) i) ?_).trans ?_
  · rw [Shape.rowMajor_val_two, Shape.rowMajor_val_one]
    show 0 * _ + i.val = i.val
    omega
  refine (Host.dynamicSlice_apply _ _ _ _).trans (congrArg s.main_v10_0 (funext fun a => Fin.ext ?_))
  match a with
  | ⟨0, _⟩ =>
    show Host.clampedStart S20000x4 S1x4 _ _ 0 + 0 = n.val
    rw [Host.clampedStart_of_le _ _ _ n.val ?_ (by show n.val + 1 ≤ 20000; omega), Nat.add_zero]
    show (b9 j s (Shape.Idx.first h_S_)).toInt = _
    rw [b9_eq j s n.val n.isLt h4, word_toInt _ n.isLt]
  | ⟨1, _⟩ =>
    show Host.clampedStart S20000x4 S1x4 _ _ 1 + i.val = i.val
    rw [Host.clampedStart_of_le _ _ _ 0 ?_ (by show 0 + 4 ≤ 4; omega), Nat.zero_add]
    show (b17 j s (Shape.Idx.first h_S_)).toInt = _
    rw [b17_eq]; rfl

/-- One entry of a row, taken as a slice of one and read as a scalar. -/
theorem entry_eq (x : S4.Idx → EReal) (o : ℕ) (h : S4.Slices ![o] S1) (h' : S1.ShapeCasts S_) (i : Fin 4) (hi : i.val = o)
    (z : S_.Idx) : shapeCast S_ (extractStridedSlice S1 ![o] x h) h' z = x (ix1 i) := by
  refine (shapeCast_apply _ h' z (ix1 (0 : Fin 1)) ?_).trans
    (extractStridedSlice_apply _ x h _ (ix1 i) fun a => ?_)
  · have h1 : (S1.rowMajor (ix1 (0 : Fin 1))).val < 1 := Fin.isLt _
    have h2 : (S_.rowMajor z).val < 1 := Fin.isLt _
    omega
  · match a with
    | ⟨0, _⟩ => exact hi

/-- A column of the boxes, read as a vector. -/
theorem column_eq (x : S20000x4.Idx → EReal) (o : ℕ) (h : S20000x4.Slices ![0, o] S20000x1) (h' : S20000x1.ShapeCasts S20000)
    (i : Fin 4) (hi : i.val = o) (k : Fin 20000) :
    shapeCast S20000 (extractStridedSlice S20000x1 ![0, o] x h) h' (ix1 k) = x (ix2 k i) := by
  refine (shapeCast_apply _ h' (ix1 k) (ix2 k (0 : Fin 1)) ?_).trans
    (extractStridedSlice_apply _ x h _ (ix2 k i) fun a => ?_)
  · rw [Shape.rowMajor_val_two, Shape.rowMajor_val_one]
    show k.val * 1 + 0 = k.val
    omega
  · match a with
    | ⟨0, _⟩ => show k.val = 0 + k.val; omega
    | ⟨1, _⟩ => show i.val = o + 0; omega

/-- A scalar spread over the boxes. -/
theorem spread_eq (x : S_.Idx → EReal) (h : S_.BroadcastsInDim S20000 ![]) (k : S20000.Idx) (v : EReal) (hv : ∀ z, x z = v) :
    broadcastInDim S20000 ![] h x k = v := hv _

section trip
variable (j : ℕ) (s : State Ideal) (Q : ℕ → Quad) (m0 : ℕ → EReal) (t : ℕ)

/-- What a state of the loop holds before trip `t`: the scores of `Cert.Pick.scores`, and the boxes of `Q`. -/
structure Reads : Prop where
  ms : ∀ k : S20000.Idx, s.main_v10_2 k = scores Q m0 t (k 0).val
  box : ∀ k : Fin 20000, Q k.val = quad (s.main_v10_0 (ix2 k 0)) (s.main_v10_0 (ix2 k 1)) (s.main_v10_0 (ix2 k 2))
    (s.main_v10_0 (ix2 k 3))

variable {s Q m0 t}

theorem Reads.b4 (h : Reads s Q m0 t) (z : S_.Idx) : b4 j s z = BitVec.ofNat 32 (pick Q m0 t) :=
  b4_eq j s _ h.ms z

theorem Reads.row (h : Reads s Q m0 t) (i : Fin 4) :
    b19 j s (ix1 i) = s.main_v10_0 (ix2 (⟨pick Q m0 t, pick_lt Q m0 t⟩ : Fin 20000) i) :=
  b19_eq j s ⟨pick Q m0 t, pick_lt Q m0 t⟩ (h.b4 j) i

/-- The overlap of the picked box with box `k`. -/
theorem Reads.inter (h : Reads s Q m0 t) (k : Fin 20000) : b54 j s (ix1 k) = inter (Q (pick Q m0 t)) (Q k.val) := by
  have e21 : ∀ z, b21 j s z = (Q (pick Q m0 t)).x1 := fun z => by
    rw [show b21 j s z = _ from entry_eq (b19 j s) 0 _ _ 0 rfl z, h.row, h.box ⟨pick Q m0 t, pick_lt Q m0 t⟩]; rfl
  have e27 : ∀ z, b27 j s z = (Q (pick Q m0 t)).y1 := fun z => by
    rw [show b27 j s z = _ from entry_eq (b19 j s) 1 _ _ 1 rfl z, h.row, h.box ⟨pick Q m0 t, pick_lt Q m0 t⟩]; rfl
  have e33 : ∀ z, b33 j s z = (Q (pick Q m0 t)).x2 := fun z => by
    rw [show b33 j s z = _ from entry_eq (b19 j s) 2 _ _ 2 rfl z, h.row, h.box ⟨pick Q m0 t, pick_lt Q m0 t⟩]; rfl
  have e39 : ∀ z, b39 j s z = (Q (pick Q m0 t)).y2 := fun z => by
    rw [show b39 j s z = _ from entry_eq (b19 j s) 3 _ _ 3 rfl z, h.row, h.box ⟨pick Q m0 t, pick_lt Q m0 t⟩]; rfl
  have c23 : b23 j s (ix1 k) = (Q k.val).x1 := (column_eq s.main_v10_0 0 _ _ 0 rfl k).trans (by rw [h.box k]; rfl)
  have c29 : b29 j s (ix1 k) = (Q k.val).y1 := (column_eq s.main_v10_0 1 _ _ 1 rfl k).trans (by rw [h.box k]; rfl)
  have c35 : b35 j s (ix1 k) = (Q k.val).x2 := (column_eq s.main_v10_0 2 _ _ 2 rfl k).trans (by rw [h.box k]; rfl)
  have c41 : b41 j s (ix1 k) = (Q k.val).y2 := (column_eq s.main_v10_0 3 _ _ 3 rfl k).trans (by rw [h.box k]; rfl)
  have s24 : b24 j s (ix1 k) = (Q (pick Q m0 t)).x1 := spread_eq _ _ _ _ e21
  have s30 : b30 j s (ix1 k) = (Q (pick Q m0 t)).y1 := spread_eq _ _ _ _ e27
  have s36 : b36 j s (ix1 k) = (Q (pick Q m0 t)).x2 := spread_eq _ _ _ _ e33
  have s42 : b42 j s (ix1 k) = (Q (pick Q m0 t)).y2 := spread_eq _ _ _ _ e39
  have e : b54 j s (ix1 k) = max (Ideal.ofBits .f32 0x00000000#32)
        (min (b36 j s (ix1 k)) (b35 j s (ix1 k)) - max (b24 j s (ix1 k)) (b23 j s (ix1 k)))
      * max (Ideal.ofBits .f32 0x00000000#32)
        (min (b42 j s (ix1 k)) (b41 j s (ix1 k)) - max (b30 j s (ix1 k)) (b29 j s (ix1 k))) := rfl
  rw [e, s24, s30, s36, s42, c23, c29, c35, c41, max_comm (Ideal.ofBits .f32 0x00000000#32), max_comm (Ideal.ofBits .f32 0x00000000#32)]
  rfl

/-- The areas. -/
theorem Reads.area (h : Reads s Q m0 t) (k : Fin 20000) : b76 j s (ix1 k) = (Q k.val).area := by
  have c67 : b67 j s (ix1 k) = (Q k.val).x2 := (column_eq s.main_v10_0 2 _ _ 2 rfl k).trans (by rw [h.box k]; rfl)
  have c69 : b69 j s (ix1 k) = (Q k.val).x1 := (column_eq s.main_v10_0 0 _ _ 0 rfl k).trans (by rw [h.box k]; rfl)
  have c72 : b72 j s (ix1 k) = (Q k.val).y2 := (column_eq s.main_v10_0 3 _ _ 3 rfl k).trans (by rw [h.box k]; rfl)
  have c74 : b74 j s (ix1 k) = (Q k.val).y1 := (column_eq s.main_v10_0 1 _ _ 1 rfl k).trans (by rw [h.box k]; rfl)
  have e : b76 j s (ix1 k) = (b67 j s (ix1 k) - b69 j s (ix1 k)) * (b72 j s (ix1 k) - b74 j s (ix1 k)) := rfl
  rw [e, c67, c69, c72, c74, h.box k]
  rfl

theorem Reads.pickArea (h : Reads s Q m0 t) (z : S_.Idx) : b65 j s z = (Q (pick Q m0 t)).area := by
  have e56 : b56 j s z = (Q (pick Q m0 t)).x2 := by
    rw [show b56 j s z = _ from entry_eq (b19 j s) 2 _ _ 2 rfl z, h.row, h.box ⟨pick Q m0 t, pick_lt Q m0 t⟩]; rfl
  have e58 : b58 j s z = (Q (pick Q m0 t)).x1 := by
    rw [show b58 j s z = _ from entry_eq (b19 j s) 0 _ _ 0 rfl z, h.row, h.box ⟨pick Q m0 t, pick_lt Q m0 t⟩]; rfl
  have e61 : b61 j s z = (Q (pick Q m0 t)).y2 := by
    rw [show b61 j s z = _ from entry_eq (b19 j s) 3 _ _ 3 rfl z, h.row, h.box ⟨pick Q m0 t, pick_lt Q m0 t⟩]; rfl
  have e63 : b63 j s z = (Q (pick Q m0 t)).y1 := by
    rw [show b63 j s z = _ from entry_eq (b19 j s) 1 _ _ 1 rfl z, h.row, h.box ⟨pick Q m0 t, pick_lt Q m0 t⟩]; rfl
  have e : b65 j s z = (b56 j s z - b58 j s z) * (b61 j s z - b63 j s z) := rfl
  rw [e, e56, e58, e61, e63, h.box ⟨pick Q m0 t, pick_lt Q m0 t⟩]
  rfl

/-- The scores after the boxes that overlap the picked one too much are struck out. -/
theorem Reads.struck (h : Reads s Q m0 t) (k : Fin 20000) : b90 j s (ix1 k) = scores Q m0 (t + 1) k.val := by
  have s77 : b77 j s (ix1 k) = (Q (pick Q m0 t)).area := spread_eq _ _ _ _ (h.pickArea j)
  have e83 : b83 j s (ix1 k) = over (Q (pick Q m0 t)) (Q k.val) := by
    have e : b83 j s (ix1 k) = Ideal.div (b54 j s (ix1 k))
      (b77 j s (ix1 k) + b76 j s (ix1 k) - b54 j s (ix1 k) + Ideal.ofBits .f32 0x3089705F#32) := rfl
    rw [e, s77, h.inter j k, h.area j k]
    rfl
  have e : b90 j s (ix1 k) = if BitVec.ofBool (decide (Ideal.ofBits .f32 0x3F19999A#32 < b83 j s (ix1 k))) = 1#1 then low
      else s.main_v10_2 (ix1 k) := rfl
  rw [e, e83, h.ms]
  show _ = if Hit (Q (pick Q m0 t)) (Q k.val) then low else scores Q m0 t k.val
  by_cases g : Hit (Q (pick Q m0 t)) (Q k.val)
  · rw [if_pos g, decide_eq_true (show Ideal.ofBits .f32 0x3F19999A#32 < over _ _ from g),
      if_pos (show BitVec.ofBool true = 1#1 from rfl)]
  · rw [if_neg g, decide_eq_false (show ¬ Ideal.ofBits .f32 0x3F19999A#32 < over _ _ from g), if_neg (by decide)]

/-- The scores the trip leaves. -/
theorem Reads.left (h : Reads s Q m0 t) (hh : ∀ k < 20000, Hit (Q k) (Q k)) (k : Fin 20000) :
    b98 j s (ix1 k) = scores Q m0 (t + 1) k.val := by
  have hidx : (b96 j s (ix1 (0 : Fin 1))).toInt = ((⟨pick Q m0 t, pick_lt Q m0 t⟩ : Fin 20000).val : ℤ) := by
    show (b95 j s _).toInt = _
    rw [b95_eq j s _ (pick_lt Q m0 t) (h.b4 j), word_toInt _ (pick_lt Q m0 t)]
  have lands := Routing.lands_one scatter_S20000_S1_S__n_0_0_0 rfl rfl (b96 j s) _ hidx k
  by_cases g : k = ⟨pick Q m0 t, pick_lt Q m0 t⟩
  · refine (Routing.scatter_set_hit _ _ _ _ _ low (fun _ _ => rfl) ix0 (lands.2 g)).trans ?_
    rw [g]
    exact (scores_pick Q m0 hh t).symm
  · refine (Routing.scatter_set_miss _ _ _ _ _ fun z hz => g (lands.1 ?_)).trans (h.struck j k)
    rw [← hz, show ix0 = z from funext fun a => a.elim0]

/-- The list of picks after the trip: its own entry is the pick, the others are as they were. -/
theorem Reads.list (h : Reads s Q m0 t) (hj : j < 100) (i : Fin 100) :
    b100 j s (ix1 i) = if i.val = j then BitVec.ofNat 32 (pick Q m0 t) else s.main_v10_3 (ix1 i) := by
  unfold b100
  refine (Host.dynamicUpdateSlice_apply _ _ _ _ _).trans ?_
  have hc : Host.clampedStart S100 S1 updateFits_S100_S1.1 (fun k => (((![(constantI S_ 32 (BitVec.ofNat 32 j) : (⟨S_, .i32⟩ : BufTy).Contents (Elt Ideal))] : Fin 1 → (⟨S_, .i32⟩ : BufTy).Contents (Elt Ideal))) k (Shape.Idx.first h_S_)).toInt) 0 = j :=
    Host.clampedStart_of_le _ _ _ j (word_toInt j (by omega)) (by show j + 1 ≤ 100; omega)
  by_cases g : i.val = j
  · rw [dif_pos, if_pos g]
    · exact h.b4 j _
    · intro a
      match a with
      | ⟨0, _⟩ =>
        refine ⟨hc.le.trans g.ge, ?_⟩
        show i.val < Host.clampedStart S100 S1 _ _ 0 + 1
        rw [hc]; omega
  · rw [dif_neg, if_neg g]
    intro hin
    have h0 := hin 0
    rw [hc] at h0
    have h1 : i.val < j + 1 := h0.2
    have h2 : j ≤ i.val := h0.1
    omega

end trip

end Cert.ReferenceIdeal.Step

end
-- ==== Proof.RefPicks.lean ====
/-
  The reference's results on extended reals: its list of picks is the picks of `Cert.Pick` (`ref_keep`), and its rows are
  the corners and scores of the picked boxes (`ref_rows`).
-/
module

public import proofs.«01_k».proof.Proof.RefRead
public import proofs.«01_k».proof.Proof.Inputs
public import proofs.«01_k».proof.Proof.Frames

@[expose] public section

set_option maxRecDepth 8192

noncomputable section

open Idealize.ShloMosaic hiding ix0 ix1 ix2
open Idealize.ShloMosaic.TcCoe Idealize.ShloMosaic.ValueIdx

namespace Cert.ReferenceIdeal.Step

open Cert.ReferenceIdeal Cert.ReferenceIdeal.Gen Cert.Pick

section results
variable (x0 : (⟨S20000x4, .f32⟩ : BufTy).Contents (Elt Ideal)) (x1 : (⟨S20000, .f32⟩ : BufTy).Contents (Elt Ideal))
  (x2 : (⟨S20000, .i32⟩ : BufTy).Contents (Elt Ideal))

theorem moved_eq (k : Fin 20000) (i : Fin 4) : A_main_v5 x0 x1 x2 (ix2 k i) = corner x0 i k.val + offset x2 k.val := by
  unfold corner offset
  rw [dif_pos k.isLt, dif_pos k.isLt]
  refine congrArg (x0 (ix2 k i) + ·) ?_
  refine (broadcastInDim_apply _ _ (A_main_v3 x0 x1 x2) _ (ix2 k (0 : Fin 1)) fun a => ?_).trans ?_
  · match a with
    | ⟨0, _⟩ => rfl
    | ⟨1, _⟩ => rfl
  refine congrArg (· * Ideal.ofBits .f32 0x457A0000#32) ?_
  exact broadcastInDim_apply _ _ (A_main_v0 x0 x1 x2) _ (ix1 k) fun a => by
    match a with
    | ⟨0, _⟩ => rfl

theorem start_eq (k : Fin 20000) : A_main_v8 x0 x1 x2 (ix1 k) = startOf x1 k.val := by
  unfold startOf
  rw [dif_pos k.isLt]
  have e : A_main_v8 x0 x1 x2 (ix1 k)
    = if BitVec.ofBool (decide (Ideal.ofBits .f32 0x3DCCCCCD#32 < x1 (ix1 k))) = 1#1 then x1 (ix1 k) else low := rfl
  rw [e]
  by_cases g : Ideal.ofBits .f32 0x3DCCCCCD#32 < x1 (ix1 k)
  · rw [decide_eq_true g, if_pos (show BitVec.ofBool true = 1#1 from rfl)]
    exact (if_pos g).symm
  · rw [decide_eq_false g, if_neg (by decide)]
    exact (if_neg g).symm

/-- What every state of the loop holds. -/
theorem reads (hh : ∀ k < 20000, Hit (boxOf x0 x2 k) (boxOf x0 x2 k)) (t : ℕ) :
    Reads (Cert.Proof.refIter x0 x1 x2 t) (boxOf x0 x2) (startOf x1) t := by
  induction t with
  | zero =>
    refine ⟨fun k => ?_, fun k => ?_⟩
    · rw [show k = ix1 (k 0) from funext fun a => by rw [Fin.eq_zero a]]
      exact start_eq x0 x1 x2 (k 0)
    · show _ = quad (A_main_v5 x0 x1 x2 _) (A_main_v5 x0 x1 x2 _) (A_main_v5 x0 x1 x2 _) (A_main_v5 x0 x1 x2 _)
      rw [moved_eq, moved_eq, moved_eq, moved_eq]
      rfl
  | succ t ih =>
    refine ⟨fun k => ?_, ?_⟩
    · show (step t (Cert.Proof.refIter x0 x1 x2 t)).main_v10_2 k = _
      rw [step_main_v10_2, show k = ix1 (k 0) from funext fun a => by rw [Fin.eq_zero a]]
      exact ih.left t hh (k 0)
    · have e : (Cert.Proof.refIter x0 x1 x2 (t + 1)).main_v10_0 = (Cert.Proof.refIter x0 x1 x2 t).main_v10_0 := by
        show (step t _).main_v10_0 = _
        delta Cert.ReferenceIdeal.Step.step; dsimp only
      rw [e]
      exact ih.box

theorem keeps (hh : ∀ k < 20000, Hit (boxOf x0 x2 k) (boxOf x0 x2 k)) (t : ℕ) (ht : t ≤ 100) (i : Fin 100) (hi : i.val < t) :
    (Cert.Proof.refIter x0 x1 x2 t).main_v10_3 (ix1 i) = BitVec.ofNat 32 (pick (boxOf x0 x2) (startOf x1) i.val) := by
  induction t with
  | zero => omega
  | succ t ih =>
    show (step t (Cert.Proof.refIter x0 x1 x2 t)).main_v10_3 _ = _
    rw [step_main_v10_3, (reads x0 x1 x2 hh t).list t (by omega)]
    by_cases g : i.val = t
    · rw [if_pos g, g]
    · rw [if_neg g]
      exact ih (by omega) (by omega)

/-- The list of picks. -/
theorem ref_keep (hh : ∀ k < 20000, Hit (boxOf x0 x2 k) (boxOf x0 x2 k)) (i : Fin 100) :
    (Cert.Proof.refIter x0 x1 x2 100).main_v10_3 (ix1 i) = BitVec.ofNat 32 (pick (boxOf x0 x2) (startOf x1) i.val) :=
  keeps x0 x1 x2 hh 100 le_rfl i i.isLt

/-- The rows: the corners and the score of each pick. -/
theorem ref_rows (hh : ∀ k < 20000, Hit (boxOf x0 x2 k) (boxOf x0 x2 k)) (i : Fin 100) :
    (∀ c : Fin 4, R_main_v26 (Cert.Proof.refIter x0 x1 x2 100) x0 x1 (ix2 i (⟨c.val, by omega⟩ : Fin 5))
        = corner x0 c (pick (boxOf x0 x2) (startOf x1) i.val))
      ∧ R_main_v26 (Cert.Proof.refIter x0 x1 x2 100) x0 x1 (ix2 i (4 : Fin 5))
        = score x1 (pick (boxOf x0 x2) (startOf x1) i.val) := by
  have hk := ref_keep x0 x1 x2 hh i
  have hp := pick_lt (boxOf x0 x2) (startOf x1) i.val
  generalize Cert.Proof.refIter x0 x1 x2 100 = s at hk ⊢
  generalize pick (boxOf x0 x2) (startOf x1) i.val = n at hk hp ⊢
  have hidx : ∀ (h : S100.BroadcastsInDim S100x1 ![0]) (h' : S_.BroadcastsInDim S100 ![]),
      broadcastInDim S100x1 ![0] h (select (cmpi .slt s.main_v10_3 (broadcastInDim S100 ![] h' (constantI S_ 32 0#32)))
        (addi s.main_v10_3 (broadcastInDim S100 ![] h' (constantI S_ 32 20000#32))) s.main_v10_3) (ix2 i (0 : Fin 1))
      = BitVec.ofNat 32 (⟨n, hp⟩ : Fin 20000).val := by
    intro h h'
    refine (broadcastInDim_apply _ _ _ _ (ix1 i) fun a => ?_).trans ?_
    · match a with
      | ⟨0, _⟩ => rfl
    have e : ∀ y : BitVec 32, (if IntOp.cmpi .slt (s.main_v10_3 (ix1 i)) 0#32 = 1#1 then y else s.main_v10_3 (ix1 i))
      = BitVec.ofNat 32 n := fun y => by rw [hk, word_neg n hp, if_neg (by decide)]
    exact e _
  unfold corner score
  rw [dif_pos hp]
  refine ⟨fun c => ?_, ?_⟩
  · rw [dif_pos hp]
    refine (concatenate_pair_apply_left _ _ _ concatenates_S100x4_S100x1_S100x5_d1 _ rfl (ix2 i c) fun b => ?_).trans ?_
    · match b with
      | ⟨0, _⟩ => rfl
      | ⟨1, _⟩ => rfl
    exact Routing.gather_row _ rfl rfl rfl rfl rfl x0 _ i c ⟨n, hp⟩ (hidx _ _) (by norm_num)
  · refine (concatenate_pair_apply_right _ _ _ concatenates_S100x4_S100x1_S100x5_d1 _ rfl rfl (ix2 i (0 : Fin 1)) (fun b hb => ?_) ?_).trans ?_
    · match b with
      | ⟨0, _⟩ => rfl
      | ⟨1, _⟩ => exact absurd rfl hb
    · rfl
    refine (broadcastInDim_apply _ _ _ _ (ix1 i) fun a => ?_).trans ?_
    · match a with
      | ⟨0, _⟩ => rfl
    exact Routing.gather_take1 _ rfl rfl rfl rfl x1 _ i ⟨n, hp⟩ (hidx _ _) (by norm_num)

end results

end Cert.ReferenceIdeal.Step

end
-- ==== Proof.Precond.lean ====
/-
  What the precondition says of the boxes, one by one (`Cert.Pick.hit_all`'s hypotheses): its shape relations (`facts`),
  and its four results being all ones, read entry by entry (`hits`).
-/
module

public import proofs.«01_k».proof.Pre_boxes_have_area
public import proofs.«01_k».proof.Proof.Inputs
public import Idealize.ShloMosaic.Lib.Pointwise

@[expose] public section

set_option maxRecDepth 16384

noncomputable section

open Idealize.ShloMosaic hiding ix0 ix1 ix2
open Idealize.ShloMosaic.ValueIdx

namespace Cert.Pre_boxes_have_area

/-- The precondition's shape relations. -/
instance facts : Facts where
  slices_S20000x4_S20000x1_0_2 := by decide
  shapeCasts_S20000x1_S20000 := by decide
  slices_S20000x4_S20000x1_0_0 := by decide
  bcast_S_S20000 := by decide
  slices_S20000x4_S20000x1_0_3 := by decide
  slices_S20000x4_S20000x1_0_1 := by decide
  bcast_S_S20000x4 := by decide

/-- A column of the boxes, read as a vector. -/
theorem column (x : S20000x4.Idx → EReal) (o : ℕ) (h : S20000x4.Slices ![0, o] S20000x1) (h' : S20000x1.ShapeCasts S20000)
    (i : Fin 4) (hi : i.val = o) (k : Fin 20000) :
    shapeCast S20000 (extractStridedSlice S20000x1 ![0, o] x h) h' (ix1 k) = x (ix2 k i) := by
  refine (shapeCast_apply _ h' (ix1 k) (ix2 k (0 : Fin 1)) ?_).trans
    (extractStridedSlice_apply _ x h _ (ix2 k i) fun a => ?_)
  · rw [Shape.rowMajor_val_two, Shape.rowMajor_val_one]
    show k.val * 1 + 0 = k.val
    omega
  · match a with
    | ⟨0, _⟩ => show k.val = 0 + k.val; omega
    | ⟨1, _⟩ => show i.val = o + 0; omega

/-- A one that records whether `p` says `p`. -/
theorem of_bit {p : Prop} [Decidable p] (h : BitVec.ofBool (decide p) = 1#1) : p := by
  by_contra hp
  rw [decide_eq_false hp] at h
  exact absurd h (by decide)

theorem inf_eq : Ideal.ofBits .f32 0x7F800000#32 = ⊤ := by simp [Ideal.ofBits, Ideal.ieee]

/-- An extended real of magnitude below infinity is a real. -/
theorem real_of_abs (a : EReal) (h : max a (-a) < ⊤) : ∃ r : ℝ, a = (r : EReal) := by
  induction a with
  | bot => simp at h
  | top => simp at h
  | coe r => exact ⟨r, rfl⟩

/-- Under the precondition every box overlaps itself enough to be struck out. -/
theorem hits (x0 : FVec Ideal S20000x4 .f32) (x1 : FVec Ideal S20000 .f32) (x2 : IVec S20000 32)
    (hw : (fn (F := Ideal) x0 x1 x2).1 = fun _ => 1#1) (hh : (fn (F := Ideal) x0 x1 x2).2.1 = fun _ => 1#1)
    (ha : (fn (F := Ideal) x0 x1 x2).2.2.1 = fun _ => 1#1) (hf : (fn (F := Ideal) x0 x1 x2).2.2.2 = fun _ => 1#1) :
    ∀ k < 20000, Cert.Pick.Hit (Cert.Pick.boxOf x0 x2 k) (Cert.Pick.boxOf x0 x2 k) := by
  refine Cert.Pick.hit_all x0 x2 (fun k i => ?_) (fun k => ?_) (fun k => ?_) fun k => ?_
  · have h := of_bit (congrFun hf (ix2 k i))
    exact real_of_abs _ (inf_eq ▸ h)
  · have h := of_bit (congrFun hw (ix1 k))
    rw [← column x0 2 Facts.slices_S20000x4_S20000x1_0_2 Facts.shapeCasts_S20000x1_S20000 2 rfl k,
      ← column x0 0 Facts.slices_S20000x4_S20000x1_0_0 Facts.shapeCasts_S20000x1_S20000 0 rfl k, ← Ideal.ofBits_zero_f32]
    exact h
  · have h := of_bit (congrFun hh (ix1 k))
    rw [← column x0 3 Facts.slices_S20000x4_S20000x1_0_3 Facts.shapeCasts_S20000x1_S20000 3 rfl k,
      ← column x0 1 Facts.slices_S20000x4_S20000x1_0_1 Facts.shapeCasts_S20000x1_S20000 1 rfl k, ← Ideal.ofBits_zero_f32]
    exact h
  · have h := of_bit (congrFun ha (ix1 k))
    rw [← column x0 2 Facts.slices_S20000x4_S20000x1_0_2 Facts.shapeCasts_S20000x1_S20000 2 rfl k,
      ← column x0 0 Facts.slices_S20000x4_S20000x1_0_0 Facts.shapeCasts_S20000x1_S20000 0 rfl k,
      ← column x0 3 Facts.slices_S20000x4_S20000x1_0_3 Facts.shapeCasts_S20000x1_S20000 3 rfl k,
      ← column x0 1 Facts.slices_S20000x4_S20000x1_0_1 Facts.shapeCasts_S20000x1_S20000 1 rfl k]
    exact h

end Cert.Pre_boxes_have_area

end
-- ==== Proof.Match.lean ====
/-
  The kernel and the reference side by side: under the precondition each returns the same picks, corners and scores
  (`same_keep`, `same_rows`), so the two runs end with equal results (`algebraic`).
-/
module

public import proofs.«01_k».proof.Defs
public import proofs.«01_k».proof.Proof.Frames
public import proofs.«01_k».proof.Proof.HostRes
public import proofs.«01_k».proof.Proof.RefPicks
public import proofs.«01_k».proof.Proof.Precond

@[expose] public section

set_option maxRecDepth 16384

noncomputable section

open Idealize.ShloMosaic hiding ix0 ix1 ix2
open Idealize.ShloMosaic.TcCoe Idealize.ShloMosaic.ValueIdx Idealize.SL.Sem

namespace Cert.Proof

open Cert.KernelIdeal Cert.KernelIdeal.Host Cert.Pick

variable (m : (ℓ : Loc nD τ sig) → Buf (Elt Ideal) ℓ) (c : Dev nD)

/-- The picks are the same. -/
theorem same_keep (hh : ∀ k < 20000, Hit (boxOf (arg0 m c) (arg2 m c) k) (boxOf (arg0 m c) (arg2 m c) k)) :
    (StableHlo.after Gen.hostOps1 (held m c) (Proc.devRef .tc main_v0_1) : S100.Idx → BitVec 32)
      = (refIter (F := Ideal) (arg0 m c) (arg1 m c) (arg2 m c) 100).main_v10_3 := by
  funext j
  rw [ValueIdx.eq_ix1 j]
  exact (kernel_keep m c (j 0)).trans (Cert.ReferenceIdeal.Step.ref_keep (arg0 m c) (arg1 m c) (arg2 m c) hh (j 0)).symm

/-- The rows are the same. -/
theorem same_rows (hh : ∀ k < 20000, Hit (boxOf (arg0 m c) (arg2 m c) k) (boxOf (arg0 m c) (arg2 m c) k)) :
    (StableHlo.after Gen.hostOps1 (held m c) (Proc.devRef .tc main_v0_0) : S100x5.Idx → EReal)
      = Cert.ReferenceIdeal.Step.R_main_v26 (refIter (F := Ideal) (arg0 m c) (arg1 m c) (arg2 m c) 100) (arg0 m c) (arg1 m c) := by
  funext j
  rw [ValueIdx.eq_ix2 j]
  obtain ⟨hk, hk4⟩ := kernel_rows m c (j 0)
  obtain ⟨hr, hr4⟩ := Cert.ReferenceIdeal.Step.ref_rows (arg0 m c) (arg1 m c) (arg2 m c) hh (j 0)
  generalize j 1 = q at *
  match q with
  | ⟨0, _⟩ => exact (hk 0).trans (hr 0).symm
  | ⟨1, _⟩ => exact (hk 1).trans (hr 1).symm
  | ⟨2, _⟩ => exact (hk 2).trans (hr 2).symm
  | ⟨3, _⟩ => exact (hk 3).trans (hr 3).symm
  | ⟨4, _⟩ => exact hk4.trans hr4.symm

/-- The kernel's run, its results what the host operations cut, its arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = StableHlo.after Gen.hostOps1 (held m c) (Proc.devRef .tc main_v0_0)
      ∧ r.2.mem ((c.tc : Thread nD τ).loc main_v0_1) = StableHlo.after Gen.hostOps1 (held m c) (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).2 main_v0_0 (Pipeline.mem_restRefs_of main_v0_0 (by decide) (by decide)),
       (h c).2 main_v0_1 (Pipeline.mem_restRefs_of main_v0_1 (by decide) (by decide)),
       ((h c).2 main_arg0 (Pipeline.mem_restRefs_of main_arg0 (by decide) (by decide))).trans (Gen.W_main_arg0 m (Gen.dats m) c),
       ((h c).2 main_arg1 (Pipeline.mem_restRefs_of main_arg1 (by decide) (by decide))).trans (Gen.W_main_arg1 m (Gen.dats m) c),
       ((h c).2 main_arg2 (Pipeline.mem_restRefs_of main_arg2 (by decide) (by decide))).trans (Gen.W_main_arg2 m (Gen.dats m) c)⟩)
    (Gen.run_main m ρ)

/-- The two runs end with equal results. -/
theorem algebraic : Cert.algebraic_KernelIdeal_ReferenceIdeal_pre_boxes_have_area := by
  intro m ρ m' ρ' hpre hag
  have hits : ∀ c, ∀ k < 20000, Hit (boxOf (arg0 m c) (arg2 m c) k) (boxOf (arg0 m c) (arg2 m c) k) := fun c =>
    Cert.Pre_boxes_have_area.hits (arg0 m c) (arg1 m c) (arg2 m c) (hpre c).1 (hpre c).2.1 (hpre c).2.2.1 (hpre c).2.2.2
  refine ⟨fun c => Cert.ReferenceIdeal.Step.R_main_v26 (refIter (F := Ideal) (arg0 m c) (arg1 m c) (arg2 m c) 100) (arg0 m c) (arg1 m c),
    fun c => (refIter (F := Ideal) (arg0 m c) (arg1 m c) (arg2 m c) 100).main_v10_3, ?_, ?_⟩
  · exact (θ_run defs _ _).mono (fun _ h c =>
      ⟨(h c).1.trans (same_rows m c (hits c)), (h c).2.1.trans (same_keep m c (hits c)), (h c).2.2⟩) (kernel_run m ρ)
  · refine (θ_run Cert.ReferenceIdeal.defs _ _).mono (fun _ h c => ?_) (ref_run m' ρ')
    obtain ⟨a0, a1, a2⟩ := hag c
    obtain ⟨h0, h1, h2⟩ := h c
    refine ⟨h0.trans ?_, h1.trans ?_, h2⟩
    · unfold refState
      rw [a0, a1, a2]
    · unfold refState
      rw [a0, a1, a2]

end Cert.Proof

end
-- ==== Proof.lean ====
/-
  The certificate's claims, together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Match

@[expose] public section

noncomputable section

namespace Cert.Proof

/-- The frames, with and without the precondition; the idealized kernel being the kernel's own text; and the idealized
    kernel and the reference ending with equal results. -/
theorem claim : Cert.Claim := ⟨Cert.Kernel.Gen.facts, Cert.KernelIdeal.Gen.facts, Cert.ReferenceIdeal.Gen.facts,
  Cert.Pre_boxes_have_area.facts, frame_kernel, frame_kernelIdeal, fun m ρ _ => frame_kernelIdeal m ρ trivial,
  frame_reference, fun m ρ _ => frame_reference m ρ trivial, trivial, algebraic⟩

end Cert.Proof

end
